-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pack.Statement Cert.KernelIdeal.S128x128
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pack.Statement Cert.KernelIdeal.S256x128
  ∧ IdealRules.bf16_pair.Statement Cert.KernelIdeal.S4x128 Cert.KernelIdeal.S2x128
  ∧ IdealRules.bf16_pack.Statement Cert.KernelIdeal.S2x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_v195) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x80x128 : Shape := ⟨4, ![2, 896, 80, 128]⟩
abbrev S80x128 : Shape := ⟨2, ![80, 128]⟩
abbrev S2x896 : Shape := ⟨2, ![2, 896]⟩
abbrev S64 : Shape := ⟨1, ![64]⟩
abbrev S_ : Shape := ⟨0, ![]⟩
abbrev S128 : Shape := ⟨1, ![128]⟩
abbrev S1x128 : Shape := ⟨2, ![1, 128]⟩
abbrev S2x56x16x80x128 : Shape := ⟨5, ![2, 56, 16, 80, 128]⟩
abbrev S1792 : Shape := ⟨1, ![1792]⟩
abbrev S8x80x64x128 : Shape := ⟨4, ![8, 80, 64, 128]⟩
abbrev S8x80x4x128 : Shape := ⟨4, ![8, 80, 4, 128]⟩
abbrev S16x128 : Shape := ⟨2, ![16, 128]⟩
abbrev S2x16x64x128 : Shape := ⟨4, ![2, 16, 64, 128]⟩
abbrev S2x16x4x128 : Shape := ⟨4, ![2, 16, 4, 128]⟩
abbrev S2x256x24x128 : Shape := ⟨4, ![2, 256, 24, 128]⟩
abbrev S4x256x128 : Shape := ⟨3, ![4, 256, 128]⟩
abbrev S16x3x8x128 : Shape := ⟨4, ![16, 3, 8, 128]⟩
abbrev S8x128x128 : Shape := ⟨3, ![8, 128, 128]⟩
abbrev S128x256 : Shape := ⟨2, ![128, 256]⟩
abbrev S16x128x384 : Shape := ⟨3, ![16, 128, 384]⟩
abbrev S2x2 : Shape := ⟨2, ![2, 2]⟩
abbrev S1 : Shape := ⟨1, ![1]⟩
abbrev S1x1 : Shape := ⟨2, ![1, 1]⟩
abbrev S1x56x16x128 : Shape := ⟨4, ![1, 56, 16, 128]⟩
abbrev S56x16x128 : Shape := ⟨3, ![56, 16, 128]⟩
abbrev S1x56x1x16x128 : Shape := ⟨5, ![1, 56, 1, 16, 128]⟩
abbrev S1x8x16x128 : Shape := ⟨4, ![1, 8, 16, 128]⟩
abbrev S8x16x128 : Shape := ⟨3, ![8, 16, 128]⟩
abbrev S1x8x1x16x128 : Shape := ⟨5, ![1, 8, 1, 16, 128]⟩
abbrev S128x128 : Shape := ⟨2, ![128, 128]⟩
abbrev S64x128 : Shape := ⟨2, ![64, 128]⟩
abbrev S1x64x128 : Shape := ⟨3, ![1, 64, 128]⟩
abbrev S1x128x128 : Shape := ⟨3, ![1, 128, 128]⟩
abbrev S8x128 : Shape := ⟨2, ![8, 128]⟩
abbrev S1x8x128 : Shape := ⟨3, ![1, 8, 128]⟩
abbrev S2x256x12x128 : Shape := ⟨4, ![2, 256, 12, 128]⟩
abbrev S1x8x1x128 : Shape := ⟨4, ![1, 8, 1, 128]⟩
abbrev S1x8x2x128 : Shape := ⟨4, ![1, 8, 2, 128]⟩
abbrev S256x128 : Shape := ⟨2, ![256, 128]⟩
abbrev S256x256 : Shape := ⟨2, ![256, 256]⟩
abbrev S2x128 : Shape := ⟨2, ![2, 128]⟩
abbrev S32x128 : Shape := ⟨2, ![32, 128]⟩
abbrev S1x1x32x128 : Shape := ⟨4, ![1, 1, 32, 128]⟩
abbrev S4x128 : Shape := ⟨2, ![4, 128]⟩
abbrev S1x1x4x128 : Shape := ⟨4, ![1, 1, 4, 128]⟩
abbrev S1x128x256 : Shape := ⟨3, ![1, 128, 256]⟩

abbrev nBuf : Space → Nat
  | .hbm => 25
  | .vmem => 21
  | .smem => 2
  | _ => 0

abbrev bufTy : (tb : Table) → Fin (tcTables nBuf tb) → BufTy
  | .hbm, ⟨0, _⟩ => ⟨S2x896x80x128, .bf16⟩
  | .hbm, ⟨1, _⟩ => ⟨S2x896x80x128, .bf16⟩
  | .hbm, ⟨2, _⟩ => ⟨S80x128, .f32⟩
  | .hbm, ⟨3, _⟩ => ⟨S80x128, .f32⟩
  | .hbm, ⟨4, _⟩ => ⟨S2x896, .i32⟩
  | .hbm, ⟨5, _⟩ => ⟨S2x896, .i32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S128, .f32⟩
  | .hbm, ⟨18, _⟩ => ⟨S1x128, .f32⟩
  | .hbm, ⟨19, _⟩ => ⟨S2x56x16x80x128, .bf16⟩
  | .hbm, ⟨20, _⟩ => ⟨S2x56x16x80x128, .bf16⟩
  | .hbm, ⟨21, _⟩ => ⟨S8x80x64x128, .i8⟩
  | .hbm, ⟨22, _⟩ => ⟨S8x80x4x128, .bf16⟩
  | .hbm, ⟨23, _⟩ => ⟨S8x80x64x128, .i8⟩
  | .hbm, ⟨24, _⟩ => ⟨S8x80x4x128, .bf16⟩
  | .local _ .vmem, ⟨0, _⟩ => ⟨S1x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S2x16x64x128, .i8⟩
  | .local _ .vmem, ⟨6, _⟩ => ⟨S2x16x64x128, .i8⟩
  | .local _ .vmem, ⟨7, _⟩ => ⟨S2x16x4x128, .bf16⟩
  | .local _ .vmem, ⟨8, _⟩ => ⟨S2x16x4x128, .bf16⟩
  | .local _ .vmem, ⟨9, _⟩ => ⟨S2x16x64x128, .i8⟩
  | .local _ .vmem, ⟨10, _⟩ => ⟨S2x16x64x128, .i8⟩
  | .local _ .vmem, ⟨11, _⟩ => ⟨S2x16x4x128, .bf16⟩
  | .local _ .vmem, ⟨12, _⟩ => ⟨S2x16x4x128, .bf16⟩
  | .local _ .vmem, ⟨13, _⟩ => ⟨S2x256x24x128, .bf16⟩
  | .local _ .vmem, ⟨14, _⟩ => ⟨S2x256x24x128, .bf16⟩
  | .local _ .vmem, ⟨15, _⟩ => ⟨S4x256x128, .f32⟩
  | .local _ .vmem, ⟨16, _⟩ => ⟨S4x256x128, .f32⟩
  | .local _ .vmem, ⟨17, _⟩ => ⟨S16x3x8x128, .i32⟩
  | .local _ .vmem, ⟨18, _⟩ => ⟨S8x128x128, .i32⟩
  | .local _ .vmem, ⟨19, _⟩ => ⟨S128x256, .bf16⟩
  | .local _ .vmem, ⟨20, _⟩ => ⟨S16x128x384, .bf16⟩
  | .local _ .smem, ⟨0, _⟩ => ⟨S1792, .i32⟩
  | .local _ .smem, ⟨1, _⟩ => ⟨S1792, .i32⟩
  | _, _ => ⟨S2x896x80x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v12 : Ref sig .tc := ⟨.smem, 0, rfl⟩
abbrev main_v13 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨2, ![5, 4], ![false, false]⟩

abbrev pre0 : Pipeline.Prefetch sig := ⟨2, ![main_v12.idx, main_v13.idx], fun | 0 => main_v12.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (v2 : BitVec 32) : Fin 1 → Nat :=
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let c896_i32 : BitVec 32 := 896#32
  let v6 : BitVec 32 := Scalar.muli v4 c896_i32
  let v7 : Index := Scalar.indexCast v6
  ![v7.toNat]

def k0_off2 (v2 : BitVec 32) : Fin 1 → Nat :=
  let c1_i32_1 : BitVec 32 := 1#32
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let v5 : BitVec 32 := Scalar.subi c1_i32_1 v4
  let c896_i32_2 : BitVec 32 := 896#32
  let v9 : BitVec 32 := Scalar.muli v5 c896_i32_2
  let v10 : Index := Scalar.indexCast v9
  ![v10.toNat]

def k0_chk1 (v2 : BitVec 32) : Prop :=
  (∀ a, (k0_off1 v2) a + S1.size a ≤ S1792.size a) ∧
  (∀ a, (k0_off2 v2) a + S1.size a ≤ S1792.size a)
theorem k0_off1_inb : ∀ (v2 : BitVec 32) (k0_hw1 : k0_chk1 v2), ∀ a, (k0_off1 v2) a + S1.size a ≤ S1792.size a := fun v2 k0_hw1 => k0_hw1.1
theorem k0_off2_inb : ∀ (v2 : BitVec 32) (k0_hw1 : k0_chk1 v2), ∀ a, (k0_off2 v2) a + S1.size a ≤ S1792.size a := fun v2 k0_hw1 => k0_hw1.2

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_3 : BitVec 32 := 0#32
  let v12 : BitVec 1 := Scalar.cmpi .eq v1 c0_i32_3
  let v13 : BitVec 32 := Scalar.extui v12
  let c0_i32_4 : BitVec 32 := 0#32
  let v14 : BitVec 1 := Scalar.cmpi .ne v13 c0_i32_4
  v14

def k0_off3 (i : grid0.Coords) : Fin 2 → Nat :=
  let c0_i32_172 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  ![0, v172.toNat]
def k0_off4 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c0_i32_173 : BitVec 32 := 0#32
  let c0_i32_174 : BitVec 32 := 0#32
  let c0_i32_175 : BitVec 32 := 0#32
  ![v172.toNat, 0, 0, 0]
def k0_off5 (i : grid0.Coords) (v2 : BitVec 32) (v8 : BitVec 32) : Fin 5 → Nat :=
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let c0_i32_176 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_138 : BitVec 32 := 4#32
  let v171 : BitVec 32 := Scalar.remsi v1 c4_i32_138
  let c4_i32_140 : BitVec 32 := 4#32
  let v173 : BitVec 32 := Scalar.muli v171 c4_i32_140
  let c0_i32_141 : BitVec 32 := 0#32
  let v174 : BitVec 32 := Scalar.addi v173 c0_i32_141
  let v175 : BitVec 32 := Scalar.subi v174 v8
  let c15_i32_142 : BitVec 32 := 15#32
  let v176 : BitVec 32 := Scalar.andi v175 c15_i32_142
  let c4_i32_137 : BitVec 32 := 4#32
  let v170 : BitVec 32 := Scalar.divsi v1 c4_i32_137
  let c16_i32_143 : BitVec 32 := 16#32
  let v177 : BitVec 32 := Scalar.muli v170 c16_i32_143
  let c0_i32_177 : BitVec 32 := 0#32
  ![v4.toNat, 0, v176.toNat, v177.toNat, 0]

def k0_off6 (i : grid0.Coords) : Fin 2 → Nat :=
  let c1_i32_178 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  ![1, v172.toNat]
def k0_off7 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c0_i32_179 : BitVec 32 := 0#32
  let c0_i32_180 : BitVec 32 := 0#32
  let c0_i32_181 : BitVec 32 := 0#32
  ![v172.toNat, 0, 0, 0]
def k0_off8 (i : grid0.Coords) : Fin 2 → Nat :=
  let c0_i32_184 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  ![0, v172.toNat]
def k0_off9 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c56_i32_185 : BitVec 32 := 56#32
  let c0_i32_186 : BitVec 32 := 0#32
  let c0_i32_187 : BitVec 32 := 0#32
  ![v172.toNat, 56, 0, 0]
def k0_off10 (i : grid0.Coords) (v2 : BitVec 32) (v11 : BitVec 32) (c0_i32_141 : BitVec 32) : Fin 5 → Nat :=
  let c1_i32_1 : BitVec 32 := 1#32
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let v5 : BitVec 32 := Scalar.subi c1_i32_1 v4
  let c0_i32_188 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_138 : BitVec 32 := 4#32
  let v171 : BitVec 32 := Scalar.remsi v1 c4_i32_138
  let c4_i32_140 : BitVec 32 := 4#32
  let v173 : BitVec 32 := Scalar.muli v171 c4_i32_140
  let v174 : BitVec 32 := Scalar.addi v173 c0_i32_141
  let v179 : BitVec 32 := Scalar.subi v174 v11
  let c15_i32_145 : BitVec 32 := 15#32
  let v180 : BitVec 32 := Scalar.andi v179 c15_i32_145
  let c4_i32_137 : BitVec 32 := 4#32
  let v170 : BitVec 32 := Scalar.divsi v1 c4_i32_137
  let c16_i32_146 : BitVec 32 := 16#32
  let v181 : BitVec 32 := Scalar.muli v170 c16_i32_146
  let c0_i32_189 : BitVec 32 := 0#32
  ![v5.toNat, 0, v180.toNat, v181.toNat, 0]

def k0_off11 (i : grid0.Coords) : Fin 2 → Nat :=
  let c1_i32_190 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  ![1, v172.toNat]
def k0_off12 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c56_i32_191 : BitVec 32 := 56#32
  let c0_i32_192 : BitVec 32 := 0#32
  let c0_i32_193 : BitVec 32 := 0#32
  ![v172.toNat, 56, 0, 0]
def k0_off13 (i : grid0.Coords) : Fin 2 → Nat :=
  let c0_i32_196 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  ![0, v172.toNat]
def k0_off14 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c64_i32_197 : BitVec 32 := 64#32
  let c0_i32_198 : BitVec 32 := 0#32
  let c0_i32_199 : BitVec 32 := 0#32
  ![v172.toNat, 64, 0, 0]
def k0_off15 (i : grid0.Coords) (v2 : BitVec 32) (v8 : BitVec 32) (c1_i32_149 : BitVec 32) : Fin 5 → Nat :=
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let c0_i32_200 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_138 : BitVec 32 := 4#32
  let v171 : BitVec 32 := Scalar.remsi v1 c4_i32_138
  let c4_i32_148 : BitVec 32 := 4#32
  let v183 : BitVec 32 := Scalar.muli v171 c4_i32_148
  let v184 : BitVec 32 := Scalar.addi v183 c1_i32_149
  let v185 : BitVec 32 := Scalar.subi v184 v8
  let c15_i32_150 : BitVec 32 := 15#32
  let v186 : BitVec 32 := Scalar.andi v185 c15_i32_150
  let c4_i32_137 : BitVec 32 := 4#32
  let v170 : BitVec 32 := Scalar.divsi v1 c4_i32_137
  let c16_i32_151 : BitVec 32 := 16#32
  let v187 : BitVec 32 := Scalar.muli v170 c16_i32_151
  let c0_i32_201 : BitVec 32 := 0#32
  ![v4.toNat, 0, v186.toNat, v187.toNat, 0]
def k0_off16 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c120_i32_209 : BitVec 32 := 120#32
  let c0_i32_210 : BitVec 32 := 0#32
  let c0_i32_211 : BitVec 32 := 0#32
  ![v172.toNat, 120, 0, 0]
def k0_off17 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c128_i32_221 : BitVec 32 := 128#32
  let c0_i32_222 : BitVec 32 := 0#32
  let c0_i32_223 : BitVec 32 := 0#32
  ![v172.toNat, 128, 0, 0]
def k0_off18 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c184_i32_233 : BitVec 32 := 184#32
  let c0_i32_234 : BitVec 32 := 0#32
  let c0_i32_235 : BitVec 32 := 0#32
  ![v172.toNat, 184, 0, 0]
def k0_off19 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c192_i32_245 : BitVec 32 := 192#32
  let c0_i32_246 : BitVec 32 := 0#32
  let c0_i32_247 : BitVec 32 := 0#32
  ![v172.toNat, 192, 0, 0]
def k0_off20 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_139 : BitVec 32 := 2#32
  let v172 : BitVec 32 := Scalar.remsi v1 c2_i32_139
  let c248_i32_257 : BitVec 32 := 248#32
  let c0_i32_258 : BitVec 32 := 0#32
  let c0_i32_259 : BitVec 32 := 0#32
  ![v172.toNat, 248, 0, 0]
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_5 : BitVec 32 := 1#32
  let v15 : BitVec 32 := Scalar.addi v1 c1_i32_5
  let c20_i32 : BitVec 32 := 20#32
  let v16 : BitVec 1 := Scalar.cmpi .slt v15 c20_i32
  let v17 : BitVec 32 := Scalar.extui v16
  let c0_i32_6 : BitVec 32 := 0#32
  let v18 : BitVec 1 := Scalar.cmpi .ne v17 c0_i32_6
  v18

def k0_off21 (i : grid0.Coords) : Fin 2 → Nat :=
  let c0_i32_173 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  ![0, v173.toNat]
def k0_off22 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  let c0_i32_174 : BitVec 32 := 0#32
  let c0_i32_175 : BitVec 32 := 0#32
  let c0_i32_176 : BitVec 32 := 0#32
  ![v173.toNat, 0, 0, 0]
def k0_off23 (i : grid0.Coords) (v2 : BitVec 32) (v8 : BitVec 32) (c0_i32_142 : BitVec 32) : Fin 5 → Nat :=
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let c0_i32_177 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c4_i32_139 : BitVec 32 := 4#32
  let v172 : BitVec 32 := Scalar.remsi v170 c4_i32_139
  let c4_i32_141 : BitVec 32 := 4#32
  let v174 : BitVec 32 := Scalar.muli v172 c4_i32_141
  let v175 : BitVec 32 := Scalar.addi v174 c0_i32_142
  let v176 : BitVec 32 := Scalar.subi v175 v8
  let c15_i32_143 : BitVec 32 := 15#32
  let v177 : BitVec 32 := Scalar.andi v176 c15_i32_143
  let c4_i32_138 : BitVec 32 := 4#32
  let v171 : BitVec 32 := Scalar.divsi v170 c4_i32_138
  let c16_i32_144 : BitVec 32 := 16#32
  let v178 : BitVec 32 := Scalar.muli v171 c16_i32_144
  let c0_i32_178 : BitVec 32 := 0#32
  ![v4.toNat, 0, v177.toNat, v178.toNat, 0]
def k0_off24 (i : grid0.Coords) : Fin 2 → Nat :=
  let c1_i32_179 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  ![1, v173.toNat]
def k0_off25 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  let c56_i32_186 : BitVec 32 := 56#32
  let c0_i32_187 : BitVec 32 := 0#32
  let c0_i32_188 : BitVec 32 := 0#32
  ![v173.toNat, 56, 0, 0]
def k0_off26 (i : grid0.Coords) (v2 : BitVec 32) (v11 : BitVec 32) (c0_i32_142 : BitVec 32) : Fin 5 → Nat :=
  let c1_i32_1 : BitVec 32 := 1#32
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let v5 : BitVec 32 := Scalar.subi c1_i32_1 v4
  let c0_i32_189 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c4_i32_139 : BitVec 32 := 4#32
  let v172 : BitVec 32 := Scalar.remsi v170 c4_i32_139
  let c4_i32_141 : BitVec 32 := 4#32
  let v174 : BitVec 32 := Scalar.muli v172 c4_i32_141
  let v175 : BitVec 32 := Scalar.addi v174 c0_i32_142
  let v180 : BitVec 32 := Scalar.subi v175 v11
  let c15_i32_146 : BitVec 32 := 15#32
  let v181 : BitVec 32 := Scalar.andi v180 c15_i32_146
  let c4_i32_138 : BitVec 32 := 4#32
  let v171 : BitVec 32 := Scalar.divsi v170 c4_i32_138
  let c16_i32_147 : BitVec 32 := 16#32
  let v182 : BitVec 32 := Scalar.muli v171 c16_i32_147
  let c0_i32_190 : BitVec 32 := 0#32
  ![v5.toNat, 0, v181.toNat, v182.toNat, 0]
def k0_off27 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  let c64_i32_198 : BitVec 32 := 64#32
  let c0_i32_199 : BitVec 32 := 0#32
  let c0_i32_200 : BitVec 32 := 0#32
  ![v173.toNat, 64, 0, 0]
def k0_off28 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  let c120_i32_210 : BitVec 32 := 120#32
  let c0_i32_211 : BitVec 32 := 0#32
  let c0_i32_212 : BitVec 32 := 0#32
  ![v173.toNat, 120, 0, 0]
def k0_off29 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  let c128_i32_222 : BitVec 32 := 128#32
  let c0_i32_223 : BitVec 32 := 0#32
  let c0_i32_224 : BitVec 32 := 0#32
  ![v173.toNat, 128, 0, 0]
def k0_off30 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  let c184_i32_234 : BitVec 32 := 184#32
  let c0_i32_235 : BitVec 32 := 0#32
  let c0_i32_236 : BitVec 32 := 0#32
  ![v173.toNat, 184, 0, 0]
def k0_off31 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  let c192_i32_246 : BitVec 32 := 192#32
  let c0_i32_247 : BitVec 32 := 0#32
  let c0_i32_248 : BitVec 32 := 0#32
  ![v173.toNat, 192, 0, 0]
def k0_off32 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_137 : BitVec 32 := 1#32
  let v170 : BitVec 32 := Scalar.addi v1 c1_i32_137
  let c2_i32_140 : BitVec 32 := 2#32
  let v173 : BitVec 32 := Scalar.remsi v170 c2_i32_140
  let c248_i32_258 : BitVec 32 := 248#32
  let c0_i32_259 : BitVec 32 := 0#32
  let c0_i32_260 : BitVec 32 := 0#32
  ![v173.toNat, 248, 0, 0]
def k0_cond4 (i : grid0.Coords) : BitVec 1 :=
  let arg0 : BitVec 32 := BitVec.ofNat 32 (i 0).val
  let c0_i32_9 : BitVec 32 := 0#32
  let v22 : BitVec 1 := Scalar.cmpi .eq arg0 c0_i32_9
  let v23 : BitVec 32 := Scalar.extui v22
  let c0_i32_10 : BitVec 32 := 0#32
  let v24 : BitVec 1 := Scalar.cmpi .ne v23 c0_i32_10
  v24

def k0_off33 (i : grid0.Coords) : Fin 3 → Nat :=
  let arg1 : BitVec 32 := BitVec.ofNat 32 (i 1).val
  let v199 : Index := Scalar.indexCast arg1
  let c0_146 : Index := 0#32
  let c0_147 : Index := 0#32
  ![v199.toNat, 0, 0]
def k0_off34 (i : grid0.Coords) : Fin 3 → Nat :=
  let arg1 : BitVec 32 := BitVec.ofNat 32 (i 1).val
  let v242 : Index := Scalar.indexCast arg1
  let c64 : Index := 64#32
  let c0_161 : Index := 0#32
  ![v242.toNat, 64, 0]
def k0_off35 (i : grid0.Coords) : Fin 3 → Nat :=
  let arg1 : BitVec 32 := BitVec.ofNat 32 (i 1).val
  let v285 : Index := Scalar.indexCast arg1
  let c128 : Index := 128#32
  let c0_176 : Index := 0#32
  ![v285.toNat, 128, 0]
def k0_off36 (i : grid0.Coords) : Fin 3 → Nat :=
  let arg1 : BitVec 32 := BitVec.ofNat 32 (i 1).val
  let v328 : Index := Scalar.indexCast arg1
  let c192 : Index := 192#32
  let c0_191 : Index := 0#32
  ![v328.toNat, 192, 0]
def k0_cond5 (i : grid0.Coords) : BitVec 1 :=
  let arg1 : BitVec 32 := BitVec.ofNat 32 (i 1).val
  let c0_i32_11 : BitVec 32 := 0#32
  let v25 : BitVec 1 := Scalar.cmpi .eq arg1 c0_i32_11
  let v26 : BitVec 32 := Scalar.extui v25
  let c0_i32_12 : BitVec 32 := 0#32
  let v27 : BitVec 1 := Scalar.cmpi .ne v26 c0_i32_12
  v27

@[reducible] def k0_t1_loop : Scf.Loop 32 :=
  let c0_i32_147 : BitVec 32 := 0#32
  let c16_i32_148 : BitVec 32 := 16#32
  let v201 : BitVec 32 := Scalar.addi c0_i32_147 c16_i32_148
  let c1_i32_149 : BitVec 32 := 1#32
  ⟨c0_i32_147, v201, c1_i32_149⟩
def k0_off37 (k0_t1 : Fin k0_t1_loop.trips) : Fin 2 → Nat :=
  let c0_i32_147 : BitVec 32 := 0#32
  let c1_i32_149 : BitVec 32 := 1#32
  let arg22 : BitVec 32 := Scf.iv c0_i32_147 c1_i32_149 k0_t1
  let v202 : Index := Scalar.indexCast arg22
  let c0 : Index := 0#32
  ![v202.toNat, 0]
def k0_off38 (k0_t1 : Fin k0_t1_loop.trips) : Fin 3 → Nat :=
  let c0_i32_147 : BitVec 32 := 0#32
  let c1_i32_149 : BitVec 32 := 1#32
  let arg22 : BitVec 32 := Scf.iv c0_i32_147 c1_i32_149 k0_t1
  let v219 : Index := Scalar.indexCast arg22
  let c0_152 : Index := 0#32
  let c0_153 : Index := 0#32
  ![v219.toNat, 0, 0]
def k0_off39 (k0_t1 : Fin k0_t1_loop.trips) : Fin 3 → Nat :=
  let c0_i32_147 : BitVec 32 := 0#32
  let c1_i32_149 : BitVec 32 := 1#32
  let arg22 : BitVec 32 := Scf.iv c0_i32_147 c1_i32_149 k0_t1
  let v223 : Index := Scalar.indexCast arg22
  let c0_154 : Index := 0#32
  let c128 : Index := 128#32
  ![v223.toNat, 0, 128]
def k0_off40 (k0_t1 : Fin k0_t1_loop.trips) : Fin 3 → Nat :=
  let c0_i32_147 : BitVec 32 := 0#32
  let c1_i32_149 : BitVec 32 := 1#32
  let arg22 : BitVec 32 := Scf.iv c0_i32_147 c1_i32_149 k0_t1
  let v227 : Index := Scalar.indexCast arg22
  let c0_155 : Index := 0#32
  let c256 : Index := 256#32
  ![v227.toNat, 0, 256]
def k0_off41 (i : grid0.Coords) : Fin 2 → Nat :=
  let c0_i32_44 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  ![0, v30.toNat]
def k0_off42 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  let c0_i32_45 : BitVec 32 := 0#32
  let c0_i32_46 : BitVec 32 := 0#32
  let c0_i32_47 : BitVec 32 := 0#32
  ![v30.toNat, 0, 0, 0]
def k0_off43 (i : grid0.Coords) (v2 : BitVec 32) (v8 : BitVec 32) (c0_i32_16 : BitVec 32) : Fin 5 → Nat :=
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let c0_i32_48 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v29 : BitVec 32 := Scalar.remsi v1 c4_i32_14
  let c4_i32_15 : BitVec 32 := 4#32
  let v31 : BitVec 32 := Scalar.muli v29 c4_i32_15
  let v32 : BitVec 32 := Scalar.addi v31 c0_i32_16
  let v33 : BitVec 32 := Scalar.subi v32 v8
  let c15_i32 : BitVec 32 := 15#32
  let v34 : BitVec 32 := Scalar.andi v33 c15_i32
  let c4_i32_13 : BitVec 32 := 4#32
  let v28 : BitVec 32 := Scalar.divsi v1 c4_i32_13
  let c16_i32 : BitVec 32 := 16#32
  let v35 : BitVec 32 := Scalar.muli v28 c16_i32
  let c0_i32_49 : BitVec 32 := 0#32
  ![v4.toNat, 0, v34.toNat, v35.toNat, 0]

def k0_chk2 (i : grid0.Coords) (v2 : BitVec 32) (v8 : BitVec 32) : Prop :=
  (∀ (k0_h1 : k0_cond1 i = 1#1), ∀ a, (k0_off5 i v2 v8) a + S1x56x1x16x128.size a ≤ S2x56x16x80x128.size a) ∧
  (∀ (k0_h1 : k0_cond1 i = 1#1), ∀ (hinb : ∀ a, (k0_off5 i v2 v8) a + S1x56x1x16x128.size a ≤ S2x56x16x80x128.size a), (Rect.unit (s := S2x56x16x80x128) (k0_off5 i v2 v8) S1x56x1x16x128.size hinb).WholeWords (EltTy.packing .bf16)) ∧
  (∀ (k0_h1 : k0_cond1 i = 1#1), ∀ (r : Fin 3), ∀ a, (k0_off15 i v2 v8 (BitVec.ofNat 32 (1 + r.val))) a + S1x56x1x16x128.size a ≤ S2x56x16x80x128.size a) ∧
  (∀ (k0_h1 : k0_cond1 i = 1#1), ∀ (r : Fin 3), ∀ (hinb : ∀ a, (k0_off15 i v2 v8 (BitVec.ofNat 32 (1 + r.val))) a + S1x56x1x16x128.size a ≤ S2x56x16x80x128.size a), (Rect.unit (s := S2x56x16x80x128) (k0_off15 i v2 v8 (BitVec.ofNat 32 (1 + r.val))) S1x56x1x16x128.size hinb).WholeWords (EltTy.packing .bf16)) ∧
  (∀ (k0_h2 : k0_cond2 i = 1#1), ∀ (r : Fin 4), ∀ a, (k0_off23 i v2 v8 (BitVec.ofNat 32 r.val)) a + S1x56x1x16x128.size a ≤ S2x56x16x80x128.size a) ∧
  (∀ (k0_h2 : k0_cond2 i = 1#1), ∀ (r : Fin 4), ∀ (hinb : ∀ a, (k0_off23 i v2 v8 (BitVec.ofNat 32 r.val)) a + S1x56x1x16x128.size a ≤ S2x56x16x80x128.size a), (Rect.unit (s := S2x56x16x80x128) (k0_off23 i v2 v8 (BitVec.ofNat 32 r.val)) S1x56x1x16x128.size hinb).WholeWords (EltTy.packing .bf16)) ∧
  (∀ (r : Fin 4), ∀ a, (k0_off43 i v2 v8 (BitVec.ofNat 32 r.val)) a + S1x56x1x16x128.size a ≤ S2x56x16x80x128.size a) ∧
  (∀ (r : Fin 4), ∀ (hinb : ∀ a, (k0_off43 i v2 v8 (BitVec.ofNat 32 r.val)) a + S1x56x1x16x128.size a ≤ S2x56x16x80x128.size a), (Rect.unit (s := S2x56x16x80x128) (k0_off43 i v2 v8 (BitVec.ofNat 32 r.val)) S1x56x1x16x128.size hinb).WholeWords (EltTy.packing .bf16))
theorem k0_off5_inb : ∀ (i : grid0.Coords) (v2 : BitVec 32) (v8 : BitVec 32) (k0_hw2 : k0_chk2 i v2 v8), ∀ (k0_h1 : k0_cond1 i = 1#1), ∀ a, (k0_off5 i v2 v8) a + S1x56x1x16x128.size a ≤ S2x56x16x80x128.size a := fun i v2 v8 k0_hw2 k0_h1 => k0_hw2.1 k0_h1
theorem k0_off5_wordsbf16 : ∀ (i : grid0.Coords) (v2 : BitVec 32) (v8 : BitVec 32) (k0_hw2 : k0_chk2 i v2 v8), ∀ (k0_h1 : k0_cond1 i = 1#1), (Rect.unit (s := S2x56x16x80x128) (k0_off5 i v2 v8) S1x56x1x16x128.size (k0_off5_inb i v2 v8 k0_hw2 k0_h1)).WholeWords (EltTy.packing .bf16) := fun i v2 v8 k0_hw2 k0_h1 => k0_hw2.2.1 k0_h1 (k0_off5_inb i v2 v8 k0_hw2 k0_h1)
theorem k0_off15_inb : ∀ (i : grid0.Coords) (v2 : BitVec 32) (v8 : BitVec 32) (k0_hw2 : k0_chk2 i v2 v8), ∀ (k0_h1 : k0_cond1 i = 1#1), ∀ (r : Fin 3), ∀ a, (k0_off15 i v2 v8 (BitVec.ofNat 32 (1 + r.val))) a + S1x56x1x16x128.size a ≤ S2x56x16x80x128.size a := fun i v2 v8 k0_hw2 k0_h1 r => k0_hw2.2.2.1 k0_h1 r
theorem k0_off15_wordsbf16 : ∀ (i : grid0.Coords) (v2 : BitVec 32) (v8 : BitVec 32) (k0_hw2 : k0_chk2 i v2 v8), ∀ (k0_h1 : k0_cond1 i = 1#1), ∀ (r : Fin 3), (Rect.unit (s := S2x56x16x80x128) (k0_off15 i v2 v8 (BitVec.ofNat 32 (1 + r.val))) S1x56x1x16x128.size (k0_off15_inb i v2 v8 k0_hw2 k0_h1 r)).WholeWords (EltTy.packing .bf16) := fun i v2 v8 k0_hw2 k0_h1 r => k0_hw2.2.2.2.1 k0_h1 r (k0_off15_inb i v2 v8 k0_hw2 k0_h1 r)
theorem k0_off23_inb : ∀ (i : grid0.Coords) (v2 : BitVec 32) (v8 : BitVec 32) (k0_hw2 : k0_chk2 i v2 v8), ∀ (k0_h2 : k0_cond2 i = 1#1), ∀ (r : Fin 4), ∀ a, (k0_off23 i v2 v8 (BitVec.ofNat 32 r.val)) a + S1x56x1x16x128.size a ≤ S2x56x16x80x128.size a := fun i v2 v8 k0_hw2 k0_h2 r => k0_hw2.2.2.2.2.1 k0_h2 r
theorem k0_off23_wordsbf16 : ∀ (i : grid0.Coords) (v2 : BitVec 32) (v8 : BitVec 32) (k0_hw2 : k0_chk2 i v2 v8), ∀ (k0_h2 : k0_cond2 i = 1#1), ∀ (r : Fin 4), (Rect.unit (s := S2x56x16x80x128) (k0_off23 i v2 v8 (BitVec.ofNat 32 r.val)) S1x56x1x16x128.size (k0_off23_inb i v2 v8 k0_hw2 k0_h2 r)).WholeWords (EltTy.packing .bf16) := fun i v2 v8 k0_hw2 k0_h2 r => k0_hw2.2.2.2.2.2.1 k0_h2 r (k0_off23_inb i v2 v8 k0_hw2 k0_h2 r)
theorem k0_off43_inb : ∀ (i : grid0.Coords) (v2 : BitVec 32) (v8 : BitVec 32) (k0_hw2 : k0_chk2 i v2 v8), ∀ (r : Fin 4), ∀ a, (k0_off43 i v2 v8 (BitVec.ofNat 32 r.val)) a + S1x56x1x16x128.size a ≤ S2x56x16x80x128.size a := fun i v2 v8 k0_hw2 r => k0_hw2.2.2.2.2.2.2.1 r
theorem k0_off43_wordsbf16 : ∀ (i : grid0.Coords) (v2 : BitVec 32) (v8 : BitVec 32) (k0_hw2 : k0_chk2 i v2 v8), ∀ (r : Fin 4), (Rect.unit (s := S2x56x16x80x128) (k0_off43 i v2 v8 (BitVec.ofNat 32 r.val)) S1x56x1x16x128.size (k0_off43_inb i v2 v8 k0_hw2 r)).WholeWords (EltTy.packing .bf16) := fun i v2 v8 k0_hw2 r => k0_hw2.2.2.2.2.2.2.2 r (k0_off43_inb i v2 v8 k0_hw2 r)

def k0_off44 (i : grid0.Coords) : Fin 2 → Nat :=
  let c1_i32_50 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  ![1, v30.toNat]
def k0_off45 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  let c56_i32 : BitVec 32 := 56#32
  let c0_i32_57 : BitVec 32 := 0#32
  let c0_i32_58 : BitVec 32 := 0#32
  ![v30.toNat, 56, 0, 0]
def k0_off46 (i : grid0.Coords) (v2 : BitVec 32) (v11 : BitVec 32) (c0_i32_16 : BitVec 32) : Fin 5 → Nat :=
  let c1_i32_1 : BitVec 32 := 1#32
  let c0_i32 : BitVec 32 := 0#32
  let v3 : BitVec 1 := Scalar.cmpi .sge v2 c0_i32
  let c0_i32_0 : BitVec 32 := 0#32
  let c1_i32 : BitVec 32 := 1#32
  let v4 : BitVec 32 := Scalar.select v3 c0_i32_0 c1_i32
  let v5 : BitVec 32 := Scalar.subi c1_i32_1 v4
  let c0_i32_59 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_14 : BitVec 32 := 4#32
  let v29 : BitVec 32 := Scalar.remsi v1 c4_i32_14
  let c4_i32_15 : BitVec 32 := 4#32
  let v31 : BitVec 32 := Scalar.muli v29 c4_i32_15
  let v32 : BitVec 32 := Scalar.addi v31 c0_i32_16
  let v37 : BitVec 32 := Scalar.subi v32 v11
  let c15_i32_18 : BitVec 32 := 15#32
  let v38 : BitVec 32 := Scalar.andi v37 c15_i32_18
  let c4_i32_13 : BitVec 32 := 4#32
  let v28 : BitVec 32 := Scalar.divsi v1 c4_i32_13
  let c16_i32_19 : BitVec 32 := 16#32
  let v39 : BitVec 32 := Scalar.muli v28 c16_i32_19
  let c0_i32_60 : BitVec 32 := 0#32
  ![v5.toNat, 0, v38.toNat, v39.toNat, 0]

def k0_chk3 (i : grid0.Coords) (v2 : BitVec 32) (v11 : BitVec 32) : Prop :=
  (∀ (k0_h1 : k0_cond1 i = 1#1), ∀ (r : Fin 4), ∀ a, (k0_off10 i v2 v11 (BitVec.ofNat 32 r.val)) a + S1x8x1x16x128.size a ≤ S2x56x16x80x128.size a) ∧
  (∀ (k0_h1 : k0_cond1 i = 1#1), ∀ (r : Fin 4), ∀ (hinb : ∀ a, (k0_off10 i v2 v11 (BitVec.ofNat 32 r.val)) a + S1x8x1x16x128.size a ≤ S2x56x16x80x128.size a), (Rect.unit (s := S2x56x16x80x128) (k0_off10 i v2 v11 (BitVec.ofNat 32 r.val)) S1x8x1x16x128.size hinb).WholeWords (EltTy.packing .bf16)) ∧
  (∀ (k0_h2 : k0_cond2 i = 1#1), ∀ (r : Fin 4), ∀ a, (k0_off26 i v2 v11 (BitVec.ofNat 32 r.val)) a + S1x8x1x16x128.size a ≤ S2x56x16x80x128.size a) ∧
  (∀ (k0_h2 : k0_cond2 i = 1#1), ∀ (r : Fin 4), ∀ (hinb : ∀ a, (k0_off26 i v2 v11 (BitVec.ofNat 32 r.val)) a + S1x8x1x16x128.size a ≤ S2x56x16x80x128.size a), (Rect.unit (s := S2x56x16x80x128) (k0_off26 i v2 v11 (BitVec.ofNat 32 r.val)) S1x8x1x16x128.size hinb).WholeWords (EltTy.packing .bf16)) ∧
  (∀ (r : Fin 4), ∀ a, (k0_off46 i v2 v11 (BitVec.ofNat 32 r.val)) a + S1x8x1x16x128.size a ≤ S2x56x16x80x128.size a) ∧
  (∀ (r : Fin 4), ∀ (hinb : ∀ a, (k0_off46 i v2 v11 (BitVec.ofNat 32 r.val)) a + S1x8x1x16x128.size a ≤ S2x56x16x80x128.size a), (Rect.unit (s := S2x56x16x80x128) (k0_off46 i v2 v11 (BitVec.ofNat 32 r.val)) S1x8x1x16x128.size hinb).WholeWords (EltTy.packing .bf16))
theorem k0_off10_inb : ∀ (i : grid0.Coords) (v2 : BitVec 32) (v11 : BitVec 32) (k0_hw3 : k0_chk3 i v2 v11), ∀ (k0_h1 : k0_cond1 i = 1#1), ∀ (r : Fin 4), ∀ a, (k0_off10 i v2 v11 (BitVec.ofNat 32 r.val)) a + S1x8x1x16x128.size a ≤ S2x56x16x80x128.size a := fun i v2 v11 k0_hw3 k0_h1 r => k0_hw3.1 k0_h1 r
theorem k0_off10_wordsbf16 : ∀ (i : grid0.Coords) (v2 : BitVec 32) (v11 : BitVec 32) (k0_hw3 : k0_chk3 i v2 v11), ∀ (k0_h1 : k0_cond1 i = 1#1), ∀ (r : Fin 4), (Rect.unit (s := S2x56x16x80x128) (k0_off10 i v2 v11 (BitVec.ofNat 32 r.val)) S1x8x1x16x128.size (k0_off10_inb i v2 v11 k0_hw3 k0_h1 r)).WholeWords (EltTy.packing .bf16) := fun i v2 v11 k0_hw3 k0_h1 r => k0_hw3.2.1 k0_h1 r (k0_off10_inb i v2 v11 k0_hw3 k0_h1 r)
theorem k0_off26_inb : ∀ (i : grid0.Coords) (v2 : BitVec 32) (v11 : BitVec 32) (k0_hw3 : k0_chk3 i v2 v11), ∀ (k0_h2 : k0_cond2 i = 1#1), ∀ (r : Fin 4), ∀ a, (k0_off26 i v2 v11 (BitVec.ofNat 32 r.val)) a + S1x8x1x16x128.size a ≤ S2x56x16x80x128.size a := fun i v2 v11 k0_hw3 k0_h2 r => k0_hw3.2.2.1 k0_h2 r
theorem k0_off26_wordsbf16 : ∀ (i : grid0.Coords) (v2 : BitVec 32) (v11 : BitVec 32) (k0_hw3 : k0_chk3 i v2 v11), ∀ (k0_h2 : k0_cond2 i = 1#1), ∀ (r : Fin 4), (Rect.unit (s := S2x56x16x80x128) (k0_off26 i v2 v11 (BitVec.ofNat 32 r.val)) S1x8x1x16x128.size (k0_off26_inb i v2 v11 k0_hw3 k0_h2 r)).WholeWords (EltTy.packing .bf16) := fun i v2 v11 k0_hw3 k0_h2 r => k0_hw3.2.2.2.1 k0_h2 r (k0_off26_inb i v2 v11 k0_hw3 k0_h2 r)
theorem k0_off46_inb : ∀ (i : grid0.Coords) (v2 : BitVec 32) (v11 : BitVec 32) (k0_hw3 : k0_chk3 i v2 v11), ∀ (r : Fin 4), ∀ a, (k0_off46 i v2 v11 (BitVec.ofNat 32 r.val)) a + S1x8x1x16x128.size a ≤ S2x56x16x80x128.size a := fun i v2 v11 k0_hw3 r => k0_hw3.2.2.2.2.1 r
theorem k0_off46_wordsbf16 : ∀ (i : grid0.Coords) (v2 : BitVec 32) (v11 : BitVec 32) (k0_hw3 : k0_chk3 i v2 v11), ∀ (r : Fin 4), (Rect.unit (s := S2x56x16x80x128) (k0_off46 i v2 v11 (BitVec.ofNat 32 r.val)) S1x8x1x16x128.size (k0_off46_inb i v2 v11 k0_hw3 r)).WholeWords (EltTy.packing .bf16) := fun i v2 v11 k0_hw3 r => k0_hw3.2.2.2.2.2 r (k0_off46_inb i v2 v11 k0_hw3 r)

def k0_off47 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  let c64_i32 : BitVec 32 := 64#32
  let c0_i32_68 : BitVec 32 := 0#32
  let c0_i32_69 : BitVec 32 := 0#32
  ![v30.toNat, 64, 0, 0]
def k0_off48 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  let c120_i32 : BitVec 32 := 120#32
  let c0_i32_79 : BitVec 32 := 0#32
  let c0_i32_80 : BitVec 32 := 0#32
  ![v30.toNat, 120, 0, 0]
def k0_off49 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  let c128_i32 : BitVec 32 := 128#32
  let c0_i32_90 : BitVec 32 := 0#32
  let c0_i32_91 : BitVec 32 := 0#32
  ![v30.toNat, 128, 0, 0]
def k0_off50 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  let c184_i32 : BitVec 32 := 184#32
  let c0_i32_101 : BitVec 32 := 0#32
  let c0_i32_102 : BitVec 32 := 0#32
  ![v30.toNat, 184, 0, 0]
def k0_off51 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  let c192_i32 : BitVec 32 := 192#32
  let c0_i32_112 : BitVec 32 := 0#32
  let c0_i32_113 : BitVec 32 := 0#32
  ![v30.toNat, 192, 0, 0]
def k0_off52 (i : grid0.Coords) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v30 : BitVec 32 := Scalar.remsi v1 c2_i32
  let c248_i32 : BitVec 32 := 248#32
  let c0_i32_123 : BitVec 32 := 0#32
  let c0_i32_124 : BitVec 32 := 0#32
  ![v30.toNat, 248, 0, 0]
@[reducible] def k0_t2_loop : Scf.Loop 32 :=
  let c0_i32_134 : BitVec 32 := 0#32
  let c8_i32 : BitVec 32 := 8#32
  let v169 : BitVec 32 := Scalar.addi c0_i32_134 c8_i32
  let c1_i32_135 : BitVec 32 := 1#32
  ⟨c0_i32_134, v169, c1_i32_135⟩
def k0_off53 (i : grid0.Coords) : Fin 3 → Nat :=
  let arg1 : BitVec 32 := BitVec.ofNat 32 (i 1).val
  let v172 : Index := Scalar.indexCast arg1
  let c0 : Index := 0#32
  let c0_139 : Index := 0#32
  ![v172.toNat, 0, 0]
def k0_off54 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v181 : Index := Scalar.indexCast v167
  let c0_144 : Index := 0#32
  let c0_i32_134 : BitVec 32 := 0#32
  let c1_i32_135 : BitVec 32 := 1#32
  let arg22 : BitVec 32 := Scf.iv c0_i32_134 c1_i32_135 k0_t2
  let c1_i32_142 : BitVec 32 := 1#32
  let v178 : BitVec 32 := Scalar.muli arg22 c1_i32_142
  let c0_i32_143 : BitVec 32 := 0#32
  let v179 : BitVec 32 := Scalar.addi v178 c0_i32_143
  let v182 : Index := Scalar.indexCast v179
  let c0_145 : Index := 0#32
  ![v181.toNat, 0, Nat.mul 2 v182.toNat, 0]
def k0_off55 (k0_t2 : Fin k0_t2_loop.trips) (c0_i32_151 : BitVec 32) : Fin 2 → Nat :=
  let c2_i32_150 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v201 : BitVec 32 := Scalar.muli c2_i32_150 v171
  let v202 : BitVec 32 := Scalar.addi v201 c0_i32_151
  let v203 : Index := Scalar.indexCast v202
  let c0_152 : Index := 0#32
  ![v203.toNat, 0]
def k0_off56 (i : grid0.Coords) : Fin 3 → Nat :=
  let arg1 : BitVec 32 := BitVec.ofNat 32 (i 1).val
  let v229 : Index := Scalar.indexCast arg1
  let c8 : Index := 8#32
  let c0_162 : Index := 0#32
  ![v229.toNat, 8, 0]
def k0_off57 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v238 : Index := Scalar.indexCast v167
  let c8_167 : Index := 8#32
  let c0_i32_134 : BitVec 32 := 0#32
  let c1_i32_135 : BitVec 32 := 1#32
  let arg22 : BitVec 32 := Scf.iv c0_i32_134 c1_i32_135 k0_t2
  let c1_i32_165 : BitVec 32 := 1#32
  let v235 : BitVec 32 := Scalar.muli arg22 c1_i32_165
  let c0_i32_166 : BitVec 32 := 0#32
  let v236 : BitVec 32 := Scalar.addi v235 c0_i32_166
  let v239 : Index := Scalar.indexCast v236
  let c0_168 : Index := 0#32
  ![v238.toNat, 8, Nat.mul 2 v239.toNat, 0]
def k0_off58 (i : grid0.Coords) : Fin 3 → Nat :=
  let arg1 : BitVec 32 := BitVec.ofNat 32 (i 1).val
  let v286 : Index := Scalar.indexCast arg1
  let c16 : Index := 16#32
  let c0_186 : Index := 0#32
  ![v286.toNat, 16, 0]
def k0_off59 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v295 : Index := Scalar.indexCast v167
  let c16_191 : Index := 16#32
  let c0_i32_134 : BitVec 32 := 0#32
  let c1_i32_135 : BitVec 32 := 1#32
  let arg22 : BitVec 32 := Scf.iv c0_i32_134 c1_i32_135 k0_t2
  let c1_i32_189 : BitVec 32 := 1#32
  let v292 : BitVec 32 := Scalar.muli arg22 c1_i32_189
  let c0_i32_190 : BitVec 32 := 0#32
  let v293 : BitVec 32 := Scalar.addi v292 c0_i32_190
  let v296 : Index := Scalar.indexCast v293
  let c0_192 : Index := 0#32
  ![v295.toNat, 16, Nat.mul 2 v296.toNat, 0]
def k0_off60 (i : grid0.Coords) : Fin 3 → Nat :=
  let arg1 : BitVec 32 := BitVec.ofNat 32 (i 1).val
  let v343 : Index := Scalar.indexCast arg1
  let c24 : Index := 24#32
  let c0_210 : Index := 0#32
  ![v343.toNat, 24, 0]
def k0_off61 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v352 : Index := Scalar.indexCast v167
  let c24_215 : Index := 24#32
  let c0_i32_134 : BitVec 32 := 0#32
  let c1_i32_135 : BitVec 32 := 1#32
  let arg22 : BitVec 32 := Scf.iv c0_i32_134 c1_i32_135 k0_t2
  let c1_i32_213 : BitVec 32 := 1#32
  let v349 : BitVec 32 := Scalar.muli arg22 c1_i32_213
  let c0_i32_214 : BitVec 32 := 0#32
  let v350 : BitVec 32 := Scalar.addi v349 c0_i32_214
  let v353 : Index := Scalar.indexCast v350
  let c0_216 : Index := 0#32
  ![v352.toNat, 24, Nat.mul 2 v353.toNat, 0]
def k0_off62 (i : grid0.Coords) : Fin 3 → Nat :=
  let arg1 : BitVec 32 := BitVec.ofNat 32 (i 1).val
  let v400 : Index := Scalar.indexCast arg1
  let c32 : Index := 32#32
  let c0_234 : Index := 0#32
  ![v400.toNat, 32, 0]
def k0_off63 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v409 : Index := Scalar.indexCast v167
  let c32_239 : Index := 32#32
  let c0_i32_134 : BitVec 32 := 0#32
  let c1_i32_135 : BitVec 32 := 1#32
  let arg22 : BitVec 32 := Scf.iv c0_i32_134 c1_i32_135 k0_t2
  let c1_i32_237 : BitVec 32 := 1#32
  let v406 : BitVec 32 := Scalar.muli arg22 c1_i32_237
  let c0_i32_238 : BitVec 32 := 0#32
  let v407 : BitVec 32 := Scalar.addi v406 c0_i32_238
  let v410 : Index := Scalar.indexCast v407
  let c0_240 : Index := 0#32
  ![v409.toNat, 32, Nat.mul 2 v410.toNat, 0]
def k0_off64 (i : grid0.Coords) : Fin 3 → Nat :=
  let arg1 : BitVec 32 := BitVec.ofNat 32 (i 1).val
  let v457 : Index := Scalar.indexCast arg1
  let c40 : Index := 40#32
  let c0_258 : Index := 0#32
  ![v457.toNat, 40, 0]
def k0_off65 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v466 : Index := Scalar.indexCast v167
  let c40_263 : Index := 40#32
  let c0_i32_134 : BitVec 32 := 0#32
  let c1_i32_135 : BitVec 32 := 1#32
  let arg22 : BitVec 32 := Scf.iv c0_i32_134 c1_i32_135 k0_t2
  let c1_i32_261 : BitVec 32 := 1#32
  let v463 : BitVec 32 := Scalar.muli arg22 c1_i32_261
  let c0_i32_262 : BitVec 32 := 0#32
  let v464 : BitVec 32 := Scalar.addi v463 c0_i32_262
  let v467 : Index := Scalar.indexCast v464
  let c0_264 : Index := 0#32
  ![v466.toNat, 40, Nat.mul 2 v467.toNat, 0]
def k0_off66 (i : grid0.Coords) : Fin 3 → Nat :=
  let arg1 : BitVec 32 := BitVec.ofNat 32 (i 1).val
  let v514 : Index := Scalar.indexCast arg1
  let c48 : Index := 48#32
  let c0_282 : Index := 0#32
  ![v514.toNat, 48, 0]
def k0_off67 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v523 : Index := Scalar.indexCast v167
  let c48_287 : Index := 48#32
  let c0_i32_134 : BitVec 32 := 0#32
  let c1_i32_135 : BitVec 32 := 1#32
  let arg22 : BitVec 32 := Scf.iv c0_i32_134 c1_i32_135 k0_t2
  let c1_i32_285 : BitVec 32 := 1#32
  let v520 : BitVec 32 := Scalar.muli arg22 c1_i32_285
  let c0_i32_286 : BitVec 32 := 0#32
  let v521 : BitVec 32 := Scalar.addi v520 c0_i32_286
  let v524 : Index := Scalar.indexCast v521
  let c0_288 : Index := 0#32
  ![v523.toNat, 48, Nat.mul 2 v524.toNat, 0]
def k0_off68 (i : grid0.Coords) : Fin 3 → Nat :=
  let arg1 : BitVec 32 := BitVec.ofNat 32 (i 1).val
  let v571 : Index := Scalar.indexCast arg1
  let c56 : Index := 56#32
  let c0_306 : Index := 0#32
  ![v571.toNat, 56, 0]
def k0_off69 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v580 : Index := Scalar.indexCast v167
  let c56_311 : Index := 56#32
  let c0_i32_134 : BitVec 32 := 0#32
  let c1_i32_135 : BitVec 32 := 1#32
  let arg22 : BitVec 32 := Scf.iv c0_i32_134 c1_i32_135 k0_t2
  let c1_i32_309 : BitVec 32 := 1#32
  let v577 : BitVec 32 := Scalar.muli arg22 c1_i32_309
  let c0_i32_310 : BitVec 32 := 0#32
  let v578 : BitVec 32 := Scalar.addi v577 c0_i32_310
  let v581 : Index := Scalar.indexCast v578
  let c0_312 : Index := 0#32
  ![v580.toNat, 56, Nat.mul 2 v581.toNat, 0]
def k0_off70 (i : grid0.Coords) : Fin 3 → Nat :=
  let arg1 : BitVec 32 := BitVec.ofNat 32 (i 1).val
  let v628 : Index := Scalar.indexCast arg1
  let c64 : Index := 64#32
  let c0_330 : Index := 0#32
  ![v628.toNat, 64, 0]
def k0_off71 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v637 : Index := Scalar.indexCast v167
  let c64_335 : Index := 64#32
  let c0_i32_134 : BitVec 32 := 0#32
  let c1_i32_135 : BitVec 32 := 1#32
  let arg22 : BitVec 32 := Scf.iv c0_i32_134 c1_i32_135 k0_t2
  let c1_i32_333 : BitVec 32 := 1#32
  let v634 : BitVec 32 := Scalar.muli arg22 c1_i32_333
  let c0_i32_334 : BitVec 32 := 0#32
  let v635 : BitVec 32 := Scalar.addi v634 c0_i32_334
  let v638 : Index := Scalar.indexCast v635
  let c0_336 : Index := 0#32
  ![v637.toNat, 64, Nat.mul 2 v638.toNat, 0]
def k0_off72 (i : grid0.Coords) : Fin 3 → Nat :=
  let arg1 : BitVec 32 := BitVec.ofNat 32 (i 1).val
  let v685 : Index := Scalar.indexCast arg1
  let c72 : Index := 72#32
  let c0_354 : Index := 0#32
  ![v685.toNat, 72, 0]
def k0_off73 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v694 : Index := Scalar.indexCast v167
  let c72_359 : Index := 72#32
  let c0_i32_134 : BitVec 32 := 0#32
  let c1_i32_135 : BitVec 32 := 1#32
  let arg22 : BitVec 32 := Scf.iv c0_i32_134 c1_i32_135 k0_t2
  let c1_i32_357 : BitVec 32 := 1#32
  let v691 : BitVec 32 := Scalar.muli arg22 c1_i32_357
  let c0_i32_358 : BitVec 32 := 0#32
  let v692 : BitVec 32 := Scalar.addi v691 c0_i32_358
  let v695 : Index := Scalar.indexCast v692
  let c0_360 : Index := 0#32
  ![v694.toNat, 72, Nat.mul 2 v695.toNat, 0]
def k0_off74 (i : grid0.Coords) : Fin 3 → Nat :=
  let arg1 : BitVec 32 := BitVec.ofNat 32 (i 1).val
  let v742 : Index := Scalar.indexCast arg1
  let c80 : Index := 80#32
  let c0_378 : Index := 0#32
  ![v742.toNat, 80, 0]
def k0_off75 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v751 : Index := Scalar.indexCast v167
  let c80_383 : Index := 80#32
  let c0_i32_134 : BitVec 32 := 0#32
  let c1_i32_135 : BitVec 32 := 1#32
  let arg22 : BitVec 32 := Scf.iv c0_i32_134 c1_i32_135 k0_t2
  let c1_i32_381 : BitVec 32 := 1#32
  let v748 : BitVec 32 := Scalar.muli arg22 c1_i32_381
  let c0_i32_382 : BitVec 32 := 0#32
  let v749 : BitVec 32 := Scalar.addi v748 c0_i32_382
  let v752 : Index := Scalar.indexCast v749
  let c0_384 : Index := 0#32
  ![v751.toNat, 80, Nat.mul 2 v752.toNat, 0]
def k0_off76 (i : grid0.Coords) : Fin 3 → Nat :=
  let arg1 : BitVec 32 := BitVec.ofNat 32 (i 1).val
  let v799 : Index := Scalar.indexCast arg1
  let c88 : Index := 88#32
  let c0_402 : Index := 0#32
  ![v799.toNat, 88, 0]
def k0_off77 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v808 : Index := Scalar.indexCast v167
  let c88_407 : Index := 88#32
  let c0_i32_134 : BitVec 32 := 0#32
  let c1_i32_135 : BitVec 32 := 1#32
  let arg22 : BitVec 32 := Scf.iv c0_i32_134 c1_i32_135 k0_t2
  let c1_i32_405 : BitVec 32 := 1#32
  let v805 : BitVec 32 := Scalar.muli arg22 c1_i32_405
  let c0_i32_406 : BitVec 32 := 0#32
  let v806 : BitVec 32 := Scalar.addi v805 c0_i32_406
  let v809 : Index := Scalar.indexCast v806
  let c0_408 : Index := 0#32
  ![v808.toNat, 88, Nat.mul 2 v809.toNat, 0]
def k0_off78 (i : grid0.Coords) : Fin 3 → Nat :=
  let arg1 : BitVec 32 := BitVec.ofNat 32 (i 1).val
  let v856 : Index := Scalar.indexCast arg1
  let c96 : Index := 96#32
  let c0_426 : Index := 0#32
  ![v856.toNat, 96, 0]
def k0_off79 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v865 : Index := Scalar.indexCast v167
  let c96_431 : Index := 96#32
  let c0_i32_134 : BitVec 32 := 0#32
  let c1_i32_135 : BitVec 32 := 1#32
  let arg22 : BitVec 32 := Scf.iv c0_i32_134 c1_i32_135 k0_t2
  let c1_i32_429 : BitVec 32 := 1#32
  let v862 : BitVec 32 := Scalar.muli arg22 c1_i32_429
  let c0_i32_430 : BitVec 32 := 0#32
  let v863 : BitVec 32 := Scalar.addi v862 c0_i32_430
  let v866 : Index := Scalar.indexCast v863
  let c0_432 : Index := 0#32
  ![v865.toNat, 96, Nat.mul 2 v866.toNat, 0]
def k0_off80 (i : grid0.Coords) : Fin 3 → Nat :=
  let arg1 : BitVec 32 := BitVec.ofNat 32 (i 1).val
  let v913 : Index := Scalar.indexCast arg1
  let c104 : Index := 104#32
  let c0_450 : Index := 0#32
  ![v913.toNat, 104, 0]
def k0_off81 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v922 : Index := Scalar.indexCast v167
  let c104_455 : Index := 104#32
  let c0_i32_134 : BitVec 32 := 0#32
  let c1_i32_135 : BitVec 32 := 1#32
  let arg22 : BitVec 32 := Scf.iv c0_i32_134 c1_i32_135 k0_t2
  let c1_i32_453 : BitVec 32 := 1#32
  let v919 : BitVec 32 := Scalar.muli arg22 c1_i32_453
  let c0_i32_454 : BitVec 32 := 0#32
  let v920 : BitVec 32 := Scalar.addi v919 c0_i32_454
  let v923 : Index := Scalar.indexCast v920
  let c0_456 : Index := 0#32
  ![v922.toNat, 104, Nat.mul 2 v923.toNat, 0]
def k0_off82 (i : grid0.Coords) : Fin 3 → Nat :=
  let arg1 : BitVec 32 := BitVec.ofNat 32 (i 1).val
  let v970 : Index := Scalar.indexCast arg1
  let c112 : Index := 112#32
  let c0_474 : Index := 0#32
  ![v970.toNat, 112, 0]
def k0_off83 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v979 : Index := Scalar.indexCast v167
  let c112_479 : Index := 112#32
  let c0_i32_134 : BitVec 32 := 0#32
  let c1_i32_135 : BitVec 32 := 1#32
  let arg22 : BitVec 32 := Scf.iv c0_i32_134 c1_i32_135 k0_t2
  let c1_i32_477 : BitVec 32 := 1#32
  let v976 : BitVec 32 := Scalar.muli arg22 c1_i32_477
  let c0_i32_478 : BitVec 32 := 0#32
  let v977 : BitVec 32 := Scalar.addi v976 c0_i32_478
  let v980 : Index := Scalar.indexCast v977
  let c0_480 : Index := 0#32
  ![v979.toNat, 112, Nat.mul 2 v980.toNat, 0]
def k0_off84 (i : grid0.Coords) : Fin 3 → Nat :=
  let arg1 : BitVec 32 := BitVec.ofNat 32 (i 1).val
  let v1027 : Index := Scalar.indexCast arg1
  let c120 : Index := 120#32
  let c0_498 : Index := 0#32
  ![v1027.toNat, 120, 0]
def k0_off85 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1036 : Index := Scalar.indexCast v167
  let c120_503 : Index := 120#32
  let c0_i32_134 : BitVec 32 := 0#32
  let c1_i32_135 : BitVec 32 := 1#32
  let arg22 : BitVec 32 := Scf.iv c0_i32_134 c1_i32_135 k0_t2
  let c1_i32_501 : BitVec 32 := 1#32
  let v1033 : BitVec 32 := Scalar.muli arg22 c1_i32_501
  let c0_i32_502 : BitVec 32 := 0#32
  let v1034 : BitVec 32 := Scalar.addi v1033 c0_i32_502
  let v1037 : Index := Scalar.indexCast v1034
  let c0_504 : Index := 0#32
  ![v1036.toNat, 120, Nat.mul 2 v1037.toNat, 0]
def k0_off86 (i : grid0.Coords) : Fin 3 → Nat :=
  let arg1 : BitVec 32 := BitVec.ofNat 32 (i 1).val
  let v1084 : Index := Scalar.indexCast arg1
  let c128 : Index := 128#32
  let c0_522 : Index := 0#32
  ![v1084.toNat, 128, 0]
def k0_off87 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1093 : Index := Scalar.indexCast v167
  let c128_527 : Index := 128#32
  let c0_i32_134 : BitVec 32 := 0#32
  let c1_i32_135 : BitVec 32 := 1#32
  let arg22 : BitVec 32 := Scf.iv c0_i32_134 c1_i32_135 k0_t2
  let c1_i32_525 : BitVec 32 := 1#32
  let v1090 : BitVec 32 := Scalar.muli arg22 c1_i32_525
  let c0_i32_526 : BitVec 32 := 0#32
  let v1091 : BitVec 32 := Scalar.addi v1090 c0_i32_526
  let v1094 : Index := Scalar.indexCast v1091
  let c0_528 : Index := 0#32
  ![v1093.toNat, 128, Nat.mul 2 v1094.toNat, 0]
def k0_off88 (i : grid0.Coords) : Fin 3 → Nat :=
  let arg1 : BitVec 32 := BitVec.ofNat 32 (i 1).val
  let v1141 : Index := Scalar.indexCast arg1
  let c136 : Index := 136#32
  let c0_546 : Index := 0#32
  ![v1141.toNat, 136, 0]
def k0_off89 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1150 : Index := Scalar.indexCast v167
  let c136_551 : Index := 136#32
  let c0_i32_134 : BitVec 32 := 0#32
  let c1_i32_135 : BitVec 32 := 1#32
  let arg22 : BitVec 32 := Scf.iv c0_i32_134 c1_i32_135 k0_t2
  let c1_i32_549 : BitVec 32 := 1#32
  let v1147 : BitVec 32 := Scalar.muli arg22 c1_i32_549
  let c0_i32_550 : BitVec 32 := 0#32
  let v1148 : BitVec 32 := Scalar.addi v1147 c0_i32_550
  let v1151 : Index := Scalar.indexCast v1148
  let c0_552 : Index := 0#32
  ![v1150.toNat, 136, Nat.mul 2 v1151.toNat, 0]
def k0_off90 (i : grid0.Coords) : Fin 3 → Nat :=
  let arg1 : BitVec 32 := BitVec.ofNat 32 (i 1).val
  let v1198 : Index := Scalar.indexCast arg1
  let c144 : Index := 144#32
  let c0_570 : Index := 0#32
  ![v1198.toNat, 144, 0]
def k0_off91 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1207 : Index := Scalar.indexCast v167
  let c144_575 : Index := 144#32
  let c0_i32_134 : BitVec 32 := 0#32
  let c1_i32_135 : BitVec 32 := 1#32
  let arg22 : BitVec 32 := Scf.iv c0_i32_134 c1_i32_135 k0_t2
  let c1_i32_573 : BitVec 32 := 1#32
  let v1204 : BitVec 32 := Scalar.muli arg22 c1_i32_573
  let c0_i32_574 : BitVec 32 := 0#32
  let v1205 : BitVec 32 := Scalar.addi v1204 c0_i32_574
  let v1208 : Index := Scalar.indexCast v1205
  let c0_576 : Index := 0#32
  ![v1207.toNat, 144, Nat.mul 2 v1208.toNat, 0]
def k0_off92 (i : grid0.Coords) : Fin 3 → Nat :=
  let arg1 : BitVec 32 := BitVec.ofNat 32 (i 1).val
  let v1255 : Index := Scalar.indexCast arg1
  let c152 : Index := 152#32
  let c0_594 : Index := 0#32
  ![v1255.toNat, 152, 0]
def k0_off93 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1264 : Index := Scalar.indexCast v167
  let c152_599 : Index := 152#32
  let c0_i32_134 : BitVec 32 := 0#32
  let c1_i32_135 : BitVec 32 := 1#32
  let arg22 : BitVec 32 := Scf.iv c0_i32_134 c1_i32_135 k0_t2
  let c1_i32_597 : BitVec 32 := 1#32
  let v1261 : BitVec 32 := Scalar.muli arg22 c1_i32_597
  let c0_i32_598 : BitVec 32 := 0#32
  let v1262 : BitVec 32 := Scalar.addi v1261 c0_i32_598
  let v1265 : Index := Scalar.indexCast v1262
  let c0_600 : Index := 0#32
  ![v1264.toNat, 152, Nat.mul 2 v1265.toNat, 0]
def k0_off94 (i : grid0.Coords) : Fin 3 → Nat :=
  let arg1 : BitVec 32 := BitVec.ofNat 32 (i 1).val
  let v1312 : Index := Scalar.indexCast arg1
  let c160 : Index := 160#32
  let c0_618 : Index := 0#32
  ![v1312.toNat, 160, 0]
def k0_off95 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1321 : Index := Scalar.indexCast v167
  let c160_623 : Index := 160#32
  let c0_i32_134 : BitVec 32 := 0#32
  let c1_i32_135 : BitVec 32 := 1#32
  let arg22 : BitVec 32 := Scf.iv c0_i32_134 c1_i32_135 k0_t2
  let c1_i32_621 : BitVec 32 := 1#32
  let v1318 : BitVec 32 := Scalar.muli arg22 c1_i32_621
  let c0_i32_622 : BitVec 32 := 0#32
  let v1319 : BitVec 32 := Scalar.addi v1318 c0_i32_622
  let v1322 : Index := Scalar.indexCast v1319
  let c0_624 : Index := 0#32
  ![v1321.toNat, 160, Nat.mul 2 v1322.toNat, 0]
def k0_off96 (i : grid0.Coords) : Fin 3 → Nat :=
  let arg1 : BitVec 32 := BitVec.ofNat 32 (i 1).val
  let v1369 : Index := Scalar.indexCast arg1
  let c168 : Index := 168#32
  let c0_642 : Index := 0#32
  ![v1369.toNat, 168, 0]
def k0_off97 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1378 : Index := Scalar.indexCast v167
  let c168_647 : Index := 168#32
  let c0_i32_134 : BitVec 32 := 0#32
  let c1_i32_135 : BitVec 32 := 1#32
  let arg22 : BitVec 32 := Scf.iv c0_i32_134 c1_i32_135 k0_t2
  let c1_i32_645 : BitVec 32 := 1#32
  let v1375 : BitVec 32 := Scalar.muli arg22 c1_i32_645
  let c0_i32_646 : BitVec 32 := 0#32
  let v1376 : BitVec 32 := Scalar.addi v1375 c0_i32_646
  let v1379 : Index := Scalar.indexCast v1376
  let c0_648 : Index := 0#32
  ![v1378.toNat, 168, Nat.mul 2 v1379.toNat, 0]
def k0_off98 (i : grid0.Coords) : Fin 3 → Nat :=
  let arg1 : BitVec 32 := BitVec.ofNat 32 (i 1).val
  let v1426 : Index := Scalar.indexCast arg1
  let c176 : Index := 176#32
  let c0_666 : Index := 0#32
  ![v1426.toNat, 176, 0]
def k0_off99 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1435 : Index := Scalar.indexCast v167
  let c176_671 : Index := 176#32
  let c0_i32_134 : BitVec 32 := 0#32
  let c1_i32_135 : BitVec 32 := 1#32
  let arg22 : BitVec 32 := Scf.iv c0_i32_134 c1_i32_135 k0_t2
  let c1_i32_669 : BitVec 32 := 1#32
  let v1432 : BitVec 32 := Scalar.muli arg22 c1_i32_669
  let c0_i32_670 : BitVec 32 := 0#32
  let v1433 : BitVec 32 := Scalar.addi v1432 c0_i32_670
  let v1436 : Index := Scalar.indexCast v1433
  let c0_672 : Index := 0#32
  ![v1435.toNat, 176, Nat.mul 2 v1436.toNat, 0]
def k0_off100 (i : grid0.Coords) : Fin 3 → Nat :=
  let arg1 : BitVec 32 := BitVec.ofNat 32 (i 1).val
  let v1483 : Index := Scalar.indexCast arg1
  let c184 : Index := 184#32
  let c0_690 : Index := 0#32
  ![v1483.toNat, 184, 0]
def k0_off101 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1492 : Index := Scalar.indexCast v167
  let c184_695 : Index := 184#32
  let c0_i32_134 : BitVec 32 := 0#32
  let c1_i32_135 : BitVec 32 := 1#32
  let arg22 : BitVec 32 := Scf.iv c0_i32_134 c1_i32_135 k0_t2
  let c1_i32_693 : BitVec 32 := 1#32
  let v1489 : BitVec 32 := Scalar.muli arg22 c1_i32_693
  let c0_i32_694 : BitVec 32 := 0#32
  let v1490 : BitVec 32 := Scalar.addi v1489 c0_i32_694
  let v1493 : Index := Scalar.indexCast v1490
  let c0_696 : Index := 0#32
  ![v1492.toNat, 184, Nat.mul 2 v1493.toNat, 0]
def k0_off102 (i : grid0.Coords) : Fin 3 → Nat :=
  let arg1 : BitVec 32 := BitVec.ofNat 32 (i 1).val
  let v1540 : Index := Scalar.indexCast arg1
  let c192 : Index := 192#32
  let c0_714 : Index := 0#32
  ![v1540.toNat, 192, 0]
def k0_off103 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1549 : Index := Scalar.indexCast v167
  let c192_719 : Index := 192#32
  let c0_i32_134 : BitVec 32 := 0#32
  let c1_i32_135 : BitVec 32 := 1#32
  let arg22 : BitVec 32 := Scf.iv c0_i32_134 c1_i32_135 k0_t2
  let c1_i32_717 : BitVec 32 := 1#32
  let v1546 : BitVec 32 := Scalar.muli arg22 c1_i32_717
  let c0_i32_718 : BitVec 32 := 0#32
  let v1547 : BitVec 32 := Scalar.addi v1546 c0_i32_718
  let v1550 : Index := Scalar.indexCast v1547
  let c0_720 : Index := 0#32
  ![v1549.toNat, 192, Nat.mul 2 v1550.toNat, 0]
def k0_off104 (i : grid0.Coords) : Fin 3 → Nat :=
  let arg1 : BitVec 32 := BitVec.ofNat 32 (i 1).val
  let v1597 : Index := Scalar.indexCast arg1
  let c200 : Index := 200#32
  let c0_738 : Index := 0#32
  ![v1597.toNat, 200, 0]
def k0_off105 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1606 : Index := Scalar.indexCast v167
  let c200_743 : Index := 200#32
  let c0_i32_134 : BitVec 32 := 0#32
  let c1_i32_135 : BitVec 32 := 1#32
  let arg22 : BitVec 32 := Scf.iv c0_i32_134 c1_i32_135 k0_t2
  let c1_i32_741 : BitVec 32 := 1#32
  let v1603 : BitVec 32 := Scalar.muli arg22 c1_i32_741
  let c0_i32_742 : BitVec 32 := 0#32
  let v1604 : BitVec 32 := Scalar.addi v1603 c0_i32_742
  let v1607 : Index := Scalar.indexCast v1604
  let c0_744 : Index := 0#32
  ![v1606.toNat, 200, Nat.mul 2 v1607.toNat, 0]
def k0_off106 (i : grid0.Coords) : Fin 3 → Nat :=
  let arg1 : BitVec 32 := BitVec.ofNat 32 (i 1).val
  let v1654 : Index := Scalar.indexCast arg1
  let c208 : Index := 208#32
  let c0_762 : Index := 0#32
  ![v1654.toNat, 208, 0]
def k0_off107 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1663 : Index := Scalar.indexCast v167
  let c208_767 : Index := 208#32
  let c0_i32_134 : BitVec 32 := 0#32
  let c1_i32_135 : BitVec 32 := 1#32
  let arg22 : BitVec 32 := Scf.iv c0_i32_134 c1_i32_135 k0_t2
  let c1_i32_765 : BitVec 32 := 1#32
  let v1660 : BitVec 32 := Scalar.muli arg22 c1_i32_765
  let c0_i32_766 : BitVec 32 := 0#32
  let v1661 : BitVec 32 := Scalar.addi v1660 c0_i32_766
  let v1664 : Index := Scalar.indexCast v1661
  let c0_768 : Index := 0#32
  ![v1663.toNat, 208, Nat.mul 2 v1664.toNat, 0]
def k0_off108 (i : grid0.Coords) : Fin 3 → Nat :=
  let arg1 : BitVec 32 := BitVec.ofNat 32 (i 1).val
  let v1711 : Index := Scalar.indexCast arg1
  let c216 : Index := 216#32
  let c0_786 : Index := 0#32
  ![v1711.toNat, 216, 0]
def k0_off109 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1720 : Index := Scalar.indexCast v167
  let c216_791 : Index := 216#32
  let c0_i32_134 : BitVec 32 := 0#32
  let c1_i32_135 : BitVec 32 := 1#32
  let arg22 : BitVec 32 := Scf.iv c0_i32_134 c1_i32_135 k0_t2
  let c1_i32_789 : BitVec 32 := 1#32
  let v1717 : BitVec 32 := Scalar.muli arg22 c1_i32_789
  let c0_i32_790 : BitVec 32 := 0#32
  let v1718 : BitVec 32 := Scalar.addi v1717 c0_i32_790
  let v1721 : Index := Scalar.indexCast v1718
  let c0_792 : Index := 0#32
  ![v1720.toNat, 216, Nat.mul 2 v1721.toNat, 0]
def k0_off110 (i : grid0.Coords) : Fin 3 → Nat :=
  let arg1 : BitVec 32 := BitVec.ofNat 32 (i 1).val
  let v1768 : Index := Scalar.indexCast arg1
  let c224 : Index := 224#32
  let c0_810 : Index := 0#32
  ![v1768.toNat, 224, 0]
def k0_off111 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1777 : Index := Scalar.indexCast v167
  let c224_815 : Index := 224#32
  let c0_i32_134 : BitVec 32 := 0#32
  let c1_i32_135 : BitVec 32 := 1#32
  let arg22 : BitVec 32 := Scf.iv c0_i32_134 c1_i32_135 k0_t2
  let c1_i32_813 : BitVec 32 := 1#32
  let v1774 : BitVec 32 := Scalar.muli arg22 c1_i32_813
  let c0_i32_814 : BitVec 32 := 0#32
  let v1775 : BitVec 32 := Scalar.addi v1774 c0_i32_814
  let v1778 : Index := Scalar.indexCast v1775
  let c0_816 : Index := 0#32
  ![v1777.toNat, 224, Nat.mul 2 v1778.toNat, 0]
def k0_off112 (i : grid0.Coords) : Fin 3 → Nat :=
  let arg1 : BitVec 32 := BitVec.ofNat 32 (i 1).val
  let v1825 : Index := Scalar.indexCast arg1
  let c232 : Index := 232#32
  let c0_834 : Index := 0#32
  ![v1825.toNat, 232, 0]
def k0_off113 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1834 : Index := Scalar.indexCast v167
  let c232_839 : Index := 232#32
  let c0_i32_134 : BitVec 32 := 0#32
  let c1_i32_135 : BitVec 32 := 1#32
  let arg22 : BitVec 32 := Scf.iv c0_i32_134 c1_i32_135 k0_t2
  let c1_i32_837 : BitVec 32 := 1#32
  let v1831 : BitVec 32 := Scalar.muli arg22 c1_i32_837
  let c0_i32_838 : BitVec 32 := 0#32
  let v1832 : BitVec 32 := Scalar.addi v1831 c0_i32_838
  let v1835 : Index := Scalar.indexCast v1832
  let c0_840 : Index := 0#32
  ![v1834.toNat, 232, Nat.mul 2 v1835.toNat, 0]
def k0_off114 (i : grid0.Coords) : Fin 3 → Nat :=
  let arg1 : BitVec 32 := BitVec.ofNat 32 (i 1).val
  let v1882 : Index := Scalar.indexCast arg1
  let c240 : Index := 240#32
  let c0_858 : Index := 0#32
  ![v1882.toNat, 240, 0]
def k0_off115 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1891 : Index := Scalar.indexCast v167
  let c240_863 : Index := 240#32
  let c0_i32_134 : BitVec 32 := 0#32
  let c1_i32_135 : BitVec 32 := 1#32
  let arg22 : BitVec 32 := Scf.iv c0_i32_134 c1_i32_135 k0_t2
  let c1_i32_861 : BitVec 32 := 1#32
  let v1888 : BitVec 32 := Scalar.muli arg22 c1_i32_861
  let c0_i32_862 : BitVec 32 := 0#32
  let v1889 : BitVec 32 := Scalar.addi v1888 c0_i32_862
  let v1892 : Index := Scalar.indexCast v1889
  let c0_864 : Index := 0#32
  ![v1891.toNat, 240, Nat.mul 2 v1892.toNat, 0]
def k0_off116 (i : grid0.Coords) : Fin 3 → Nat :=
  let arg1 : BitVec 32 := BitVec.ofNat 32 (i 1).val
  let v1939 : Index := Scalar.indexCast arg1
  let c248 : Index := 248#32
  let c0_882 : Index := 0#32
  ![v1939.toNat, 248, 0]
def k0_off117 (i : grid0.Coords) (k0_t2 : Fin k0_t2_loop.trips) : Fin 4 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_133 : BitVec 32 := 2#32
  let v167 : BitVec 32 := Scalar.remsi v1 c2_i32_133
  let v1948 : Index := Scalar.indexCast v167
  let c248_887 : Index := 248#32
  let c0_i32_134 : BitVec 32 := 0#32
  let c1_i32_135 : BitVec 32 := 1#32
  let arg22 : BitVec 32 := Scf.iv c0_i32_134 c1_i32_135 k0_t2
  let c1_i32_885 : BitVec 32 := 1#32
  let v1945 : BitVec 32 := Scalar.muli arg22 c1_i32_885
  let c0_i32_886 : BitVec 32 := 0#32
  let v1946 : BitVec 32 := Scalar.addi v1945 c0_i32_886
  let v1949 : Index := Scalar.indexCast v1946
  let c0_888 : Index := 0#32
  ![v1948.toNat, 248, Nat.mul 2 v1949.toNat, 0]
def k0_off118 (k0_t2 : Fin k0_t2_loop.trips) (c0_i32_907 : BitVec 32) : Fin 4 → Nat :=
  let c0_1030 : Index := 0#32
  let c2_i32_906 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v1996 : BitVec 32 := Scalar.muli c2_i32_906 v171
  let v1997 : BitVec 32 := Scalar.addi v1996 c0_i32_907
  let v2519 : Index := Scalar.indexCast v1997
  let c0_1031 : Index := 0#32
  let c0_1032 : Index := 0#32
  ![0, v2519.toNat, 0, 0]
def k0_off119 (k0_t2 : Fin k0_t2_loop.trips) (c0_i32_907 : BitVec 32) : Fin 4 → Nat :=
  let c0_1033 : Index := 0#32
  let c2_i32_906 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v1996 : BitVec 32 := Scalar.muli c2_i32_906 v171
  let v1997 : BitVec 32 := Scalar.addi v1996 c0_i32_907
  let v2524 : Index := Scalar.indexCast v1997
  let c32_1034 : Index := 32#32
  let c0_1035 : Index := 0#32
  ![0, v2524.toNat, 32, 0]
def k0_off120 (k0_t2 : Fin k0_t2_loop.trips) (c0_i32_907 : BitVec 32) : Fin 4 → Nat :=
  let c0_1036 : Index := 0#32
  let c2_i32_906 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v1996 : BitVec 32 := Scalar.muli c2_i32_906 v171
  let v1997 : BitVec 32 := Scalar.addi v1996 c0_i32_907
  let v2529 : Index := Scalar.indexCast v1997
  let c0_1037 : Index := 0#32
  let c0_1038 : Index := 0#32
  ![0, v2529.toNat, 0, 0]
def k0_off121 (k0_t2 : Fin k0_t2_loop.trips) (c0_i32_907 : BitVec 32) : Fin 4 → Nat :=
  let c1 : Index := 1#32
  let c2_i32_906 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v1996 : BitVec 32 := Scalar.muli c2_i32_906 v171
  let v1997 : BitVec 32 := Scalar.addi v1996 c0_i32_907
  let v2534 : Index := Scalar.indexCast v1997
  let c0_1039 : Index := 0#32
  let c0_1040 : Index := 0#32
  ![1, v2534.toNat, 0, 0]
def k0_off122 (k0_t2 : Fin k0_t2_loop.trips) (c0_i32_907 : BitVec 32) : Fin 4 → Nat :=
  let c1_1041 : Index := 1#32
  let c2_i32_906 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v1996 : BitVec 32 := Scalar.muli c2_i32_906 v171
  let v1997 : BitVec 32 := Scalar.addi v1996 c0_i32_907
  let v2539 : Index := Scalar.indexCast v1997
  let c32_1042 : Index := 32#32
  let c0_1043 : Index := 0#32
  ![1, v2539.toNat, 32, 0]
def k0_off123 (k0_t2 : Fin k0_t2_loop.trips) (c0_i32_907 : BitVec 32) : Fin 4 → Nat :=
  let c1_1044 : Index := 1#32
  let c2_i32_906 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v1996 : BitVec 32 := Scalar.muli c2_i32_906 v171
  let v1997 : BitVec 32 := Scalar.addi v1996 c0_i32_907
  let v2544 : Index := Scalar.indexCast v1997
  let c0_1045 : Index := 0#32
  let c0_1046 : Index := 0#32
  ![1, v2544.toNat, 0, 0]
def k0_off124 (k0_t2 : Fin k0_t2_loop.trips) (c0_i32_907 : BitVec 32) : Fin 3 → Nat :=
  let c2_i32_906 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v1996 : BitVec 32 := Scalar.muli c2_i32_906 v171
  let v1997 : BitVec 32 := Scalar.addi v1996 c0_i32_907
  let v2550 : Index := Scalar.indexCast v1997
  let c0_1047 : Index := 0#32
  let c0_1048 : Index := 0#32
  ![v2550.toNat, 0, 0]
def k0_off125 (k0_t2 : Fin k0_t2_loop.trips) (c0_i32_907 : BitVec 32) : Fin 3 → Nat :=
  let c2_i32_906 : BitVec 32 := 2#32
  let c0_i32_134 : BitVec 32 := 0#32
  let c1_i32_135 : BitVec 32 := 1#32
  let arg22 : BitVec 32 := Scf.iv c0_i32_134 c1_i32_135 k0_t2
  let c1_i32_137 : BitVec 32 := 1#32
  let v170 : BitVec 32 := Scalar.muli arg22 c1_i32_137
  let c0_i32_138 : BitVec 32 := 0#32
  let v171 : BitVec 32 := Scalar.addi v170 c0_i32_138
  let v1996 : BitVec 32 := Scalar.muli c2_i32_906 v171
  let v1997 : BitVec 32 := Scalar.addi v1996 c0_i32_907
  let v2555 : Index := Scalar.indexCast v1997
  let c0_1050 : Index := 0#32
  let c256 : Index := 256#32
  ![v2555.toNat, 0, 256]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x16x64x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x16x4x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x16x64x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x16x4x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F]
-- ==== ReferenceIdeal.lean ====
abbrev S2x896x80x128 : Shape := ⟨4, ![2, 896, 80, 128]⟩
abbrev S80x128 : Shape := ⟨2, ![80, 128]⟩
abbrev S2x896 : Shape := ⟨2, ![2, 896]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x1 : Shape := ⟨2, ![2, 1]⟩
abbrev S896 : Shape := ⟨1, ![896]⟩
abbrev S1x896 : Shape := ⟨2, ![1, 896]⟩
abbrev S64 : Shape := ⟨1, ![64]⟩
abbrev S2x896x1 : Shape := ⟨3, ![2, 896, 1]⟩
abbrev S1x1x64 : Shape := ⟨3, ![1, 1, 64]⟩
abbrev S2x896x64 : Shape := ⟨3, ![2, 896, 64]⟩
abbrev S2x896x1x64 : Shape := ⟨4, ![2, 896, 1, 64]⟩
abbrev S2x896x80x64 : Shape := ⟨4, ![2, 896, 80, 64]⟩
abbrev S1x1x80x128 : Shape := ⟨4, ![1, 1, 80, 128]⟩
abbrev S2x896x80x4x32 : Shape := ⟨5, ![2, 896, 80, 4, 32]⟩
abbrev S2x896x80x4 : Shape := ⟨4, ![2, 896, 80, 4]⟩
abbrev S2x896x80x4x1 : Shape := ⟨5, ![2, 896, 80, 4, 1]⟩
abbrev S16 : Shape := ⟨1, ![16]⟩
abbrev S16x1 : Shape := ⟨2, ![16, 1]⟩
abbrev S1x64 : Shape := ⟨2, ![1, 64]⟩
abbrev S1x1 : Shape := ⟨2, ![1, 1]⟩
abbrev S16x64 : Shape := ⟨2, ![16, 64]⟩
abbrev S1792x80x64 : Shape := ⟨3, ![1792, 80, 64]⟩
abbrev S16x64x1 : Shape := ⟨3, ![16, 64, 1]⟩
abbrev S16x64x80x64 : Shape := ⟨4, ![16, 64, 80, 64]⟩
abbrev S8x128x80x64 : Shape := ⟨4, ![8, 128, 80, 64]⟩
abbrev S8x80x64x128 : Shape := ⟨4, ![8, 80, 64, 128]⟩
abbrev S1792x80x4 : Shape := ⟨3, ![1792, 80, 4]⟩
abbrev S16x64x80x4 : Shape := ⟨4, ![16, 64, 80, 4]⟩
abbrev S8x128x80x4 : Shape := ⟨4, ![8, 128, 80, 4]⟩
abbrev S8x80x4x128 : Shape := ⟨4, ![8, 80, 4, 128]⟩

abbrev nBuf : Space → Nat
  | .hbm => 257
  | .vmem => 0
  | .smem => 0
  | _ => 0

abbrev hbmTy0_0 (i : Nat) : BufTy := match i % 128 with
  | 0 => ⟨S2x896x80x128, .bf16⟩
  | 1 => ⟨S2x896x80x128, .bf16⟩
  | 2 => ⟨S80x128, .f32⟩
  | 3 => ⟨S80x128, .f32⟩
  | 4 => ⟨S2x896, .i32⟩
  | 5 => ⟨S2x896, .i32⟩
  | 6 => ⟨S128, .i32⟩
  | 7 => ⟨S128x1, .i32⟩
  | 8 => ⟨S128, .i32⟩
  | 9 => ⟨S1x128, .i32⟩
  | 10 => ⟨S128x128, .i32⟩
  | 11 => ⟨S128x128, .i32⟩
  | 12 => ⟨S128x128, .i32⟩
  | 13 => ⟨S128x128, .i32⟩
  | 14 => ⟨S_, .i32⟩
  | 15 => ⟨S128x128, .i32⟩
  | 16 => ⟨S128x128, .i32⟩
  | 17 => ⟨S_, .i32⟩
  | 18 => ⟨S128x128, .i32⟩
  | 19 => ⟨S128x128, .i32⟩
  | 20 => ⟨S_, .i32⟩
  | 21 => ⟨S128x128, .i32⟩
  | 22 => ⟨S128x128, .i32⟩
  | 23 => ⟨S128x128, .f32⟩
  | 24 => ⟨S2x1, .i32⟩
  | 25 => ⟨S896, .i32⟩
  | 26 => ⟨S1x896, .i32⟩
  | 27 => ⟨S2x896, .i32⟩
  | 28 => ⟨S2x896, .i32⟩
  | 29 => ⟨S2x896, .i32⟩
  | 30 => ⟨S64, .f32⟩
  | 31 => ⟨S_, .f32⟩
  | 32 => ⟨S64, .f32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S2x896, .f32⟩
  | 42 => ⟨S2x896x1, .f32⟩
  | 43 => ⟨S1x1x64, .f32⟩
  | 44 => ⟨S2x896x64, .f32⟩
  | 45 => ⟨S2x896x64, .f32⟩
  | 46 => ⟨S2x896x64, .f32⟩
  | 47 => ⟨S2x896x64, .f32⟩
  | 48 => ⟨S2x896x1x64, .f32⟩
  | 49 => ⟨S2x896x64, .f32⟩
  | 50 => ⟨S2x896x1x64, .f32⟩
  | 51 => ⟨S2x896x80x128, .f32⟩
  | 52 => ⟨S2x896x80x64, .f32⟩
  | 53 => ⟨S2x896x80x64, .f32⟩
  | 54 => ⟨S2x896x80x64, .f32⟩
  | 55 => ⟨S2x896x80x64, .f32⟩
  | 56 => ⟨S2x896x80x64, .f32⟩
  | 57 => ⟨S2x896x80x64, .f32⟩
  | 58 => ⟨S2x896x80x64, .f32⟩
  | 59 => ⟨S2x896x80x64, .f32⟩
  | 60 => ⟨S2x896x80x64, .f32⟩
  | 61 => ⟨S2x896x80x64, .f32⟩
  | 62 => ⟨S2x896x80x64, .f32⟩
  | 63 => ⟨S2x896x80x64, .f32⟩
  | 64 => ⟨S2x896x80x128, .f32⟩
  | 65 => ⟨S1x1x80x128, .f32⟩
  | 66 => ⟨S2x896x80x128, .f32⟩
  | 67 => ⟨S2x896x80x128, .f32⟩
  | 68 => ⟨S2x896x80x128, .f32⟩
  | 69 => ⟨S_, .f32⟩
  | 70 => ⟨S2x896x80x128, .f32⟩
  | 71 => ⟨S2x896x80x128, .f32⟩
  | 72 => ⟨S2x896x80x128, .f32⟩
  | 73 => ⟨S1x1x80x128, .f32⟩
  | 74 => ⟨S2x896x80x128, .f32⟩
  | 75 => ⟨S2x896x80x128, .f32⟩
  | 76 => ⟨S2x896x80x128, .f32⟩
  | 77 => ⟨S_, .f32⟩
  | 78 => ⟨S2x896x80x128, .f32⟩
  | 79 => ⟨S2x896x80x128, .f32⟩
  | 80 => ⟨S2x896x80x4x32, .f32⟩
  | 81 => ⟨S2x896x80x4x32, .f32⟩
  | 82 => ⟨S_, .f32⟩
  | 83 => ⟨S2x896x80x4, .f32⟩
  | 84 => ⟨S_, .f32⟩
  | 85 => ⟨S2x896x80x4, .f32⟩
  | 86 => ⟨S2x896x80x4, .i1⟩
  | 87 => ⟨S_, .f32⟩
  | 88 => ⟨S2x896x80x4, .f32⟩
  | 89 => ⟨S2x896x80x4, .f32⟩
  | 90 => ⟨S_, .f32⟩
  | 91 => ⟨S_, .f32⟩
  | 92 => ⟨S2x896x80x4, .f32⟩
  | 93 => ⟨S2x896x80x4, .f32⟩
  | 94 => ⟨S2x896x80x4, .bf16⟩
  | 95 => ⟨S2x896x80x4, .f32⟩
  | 96 => ⟨S2x896x80x4x1, .f32⟩
  | 97 => ⟨S2x896x80x4x32, .f32⟩
  | 98 => ⟨S2x896x80x4x32, .f32⟩
  | 99 => ⟨S2x896x80x4x32, .f32⟩
  | 100 => ⟨S_, .i32⟩
  | 101 => ⟨S_, .i32⟩
  | 102 => ⟨S_, .f32⟩
  | 103 => ⟨S2x896x80x4x32, .f32⟩
  | 104 => ⟨S2x896x80x4x32, .f32⟩
  | 105 => ⟨S_, .f32⟩
  | 106 => ⟨S2x896x80x4x32, .f32⟩
  | 107 => ⟨S2x896x80x4x32, .f32⟩
  | 108 => ⟨S2x896x80x4x32, .i32⟩
  | 109 => ⟨S2x896x80x4x32, .i8⟩
  | 110 => ⟨S2x896x80x4x32, .i8⟩
  | 111 => ⟨S2x896x80x4, .bf16⟩
  | 112 => ⟨S2x896x80x4x32, .f32⟩
  | 113 => ⟨S2x896x80x4x32, .f32⟩
  | 114 => ⟨S_, .f32⟩
  | 115 => ⟨S2x896x80x4, .f32⟩
  | 116 => ⟨S_, .f32⟩
  | 117 => ⟨S2x896x80x4, .f32⟩
  | 118 => ⟨S2x896x80x4, .i1⟩
  | 119 => ⟨S_, .f32⟩
  | 120 => ⟨S2x896x80x4, .f32⟩
  | 121 => ⟨S2x896x80x4, .f32⟩
  | 122 => ⟨S_, .f32⟩
  | 123 => ⟨S_, .f32⟩
  | 124 => ⟨S2x896x80x4, .f32⟩
  | 125 => ⟨S2x896x80x4, .f32⟩
  | 126 => ⟨S2x896x80x4, .bf16⟩
  | 127 => ⟨S2x896x80x4, .f32⟩
  | _ => ⟨S2x896x80x128, .bf16⟩

abbrev hbmTy0_1 (i : Nat) : BufTy := match i % 128 with
  | 0 => ⟨S2x896x80x4x1, .f32⟩
  | 1 => ⟨S2x896x80x4x32, .f32⟩
  | 2 => ⟨S2x896x80x4x32, .f32⟩
  | 3 => ⟨S2x896x80x4x32, .f32⟩
  | 4 => ⟨S_, .i32⟩
  | 5 => ⟨S_, .i32⟩
  | 6 => ⟨S_, .f32⟩
  | 7 => ⟨S2x896x80x4x32, .f32⟩
  | 8 => ⟨S2x896x80x4x32, .f32⟩
  | 9 => ⟨S_, .f32⟩
  | 10 => ⟨S2x896x80x4x32, .f32⟩
  | 11 => ⟨S2x896x80x4x32, .f32⟩
  | 12 => ⟨S2x896x80x4x32, .i32⟩
  | 13 => ⟨S2x896x80x4x32, .i8⟩
  | 14 => ⟨S2x896x80x4x32, .i8⟩
  | 15 => ⟨S2x896x80x4, .bf16⟩
  | 16 => ⟨S2x896x80x128, .i8⟩
  | 17 => ⟨S2x896x80x128, .i32⟩
  | 18 => ⟨S2x896x80x64, .i32⟩
  | 19 => ⟨S2x896x80x64, .i32⟩
  | 20 => ⟨S_, .i32⟩
  | 21 => ⟨S2x896x80x64, .i32⟩
  | 22 => ⟨S2x896x80x64, .i32⟩
  | 23 => ⟨S_, .i32⟩
  | 24 => ⟨S2x896x80x64, .i32⟩
  | 25 => ⟨S2x896x80x64, .i32⟩
  | 26 => ⟨S_, .i32⟩
  | 27 => ⟨S2x896x80x64, .i32⟩
  | 28 => ⟨S2x896x80x64, .i32⟩
  | 29 => ⟨S2x896x80x64, .i32⟩
  | 30 => ⟨S2x896x80x64, .i8⟩
  | 31 => ⟨S2x896x80x128, .i8⟩
  | 32 => ⟨S2x896x80x128, .i32⟩
  | 33 => ⟨S2x896x80x64, .i32⟩
  | 34 => ⟨S2x896x80x64, .i32⟩
  | 35 => ⟨S_, .i32⟩
  | 36 => ⟨S2x896x80x64, .i32⟩
  | 37 => ⟨S2x896x80x64, .i32⟩
  | 38 => ⟨S_, .i32⟩
  | 39 => ⟨S2x896x80x64, .i32⟩
  | 40 => ⟨S2x896x80x64, .i32⟩
  | 41 => ⟨S_, .i32⟩
  | 42 => ⟨S2x896x80x64, .i32⟩
  | 43 => ⟨S2x896x80x64, .i32⟩
  | 44 => ⟨S2x896x80x64, .i32⟩
  | 45 => ⟨S2x896x80x64, .i8⟩
  | 46 => ⟨S16, .i32⟩
  | 47 => ⟨S16x1, .i32⟩
  | 48 => ⟨S64, .i32⟩
  | 49 => ⟨S1x64, .i32⟩
  | 50 => ⟨S1x1, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S1x1, .i32⟩
  | 58 => ⟨S_, .i32⟩
  | 59 => ⟨S1x1, .i32⟩
  | 60 => ⟨S_, .i32⟩
  | 61 => ⟨S_, .i32⟩
  | 62 => ⟨S1x1, .i32⟩
  | 63 => ⟨S_, .i32⟩
  | 64 => ⟨S1x1, .i32⟩
  | 65 => ⟨S_, .i32⟩
  | 66 => ⟨S_, .i32⟩
  | 67 => ⟨S_, .i32⟩
  | 68 => ⟨S1x64, .i32⟩
  | 69 => ⟨S1x64, .i1⟩
  | 70 => ⟨S_, .i32⟩
  | 71 => ⟨S_, .i32⟩
  | 72 => ⟨S_, .i32⟩
  | 73 => ⟨S1x64, .i32⟩
  | 74 => ⟨S1x64, .i32⟩
  | 75 => ⟨S_, .i32⟩
  | 76 => ⟨S1x64, .i32⟩
  | 77 => ⟨S1x64, .i32⟩
  | 78 => ⟨S16x1, .i32⟩
  | 79 => ⟨S16x1, .i32⟩
  | 80 => ⟨S_, .i32⟩
  | 81 => ⟨S16x1, .i32⟩
  | 82 => ⟨S16x1, .i32⟩
  | 83 => ⟨S16x64, .i32⟩
  | 84 => ⟨S16x64, .i32⟩
  | 85 => ⟨S16x64, .i32⟩
  | 86 => ⟨S_, .i32⟩
  | 87 => ⟨S_, .i32⟩
  | 88 => ⟨S_, .i32⟩
  | 89 => ⟨S_, .i32⟩
  | 90 => ⟨S_, .i32⟩
  | 91 => ⟨S1x64, .i32⟩
  | 92 => ⟨S1x64, .i32⟩
  | 93 => ⟨S_, .i32⟩
  | 94 => ⟨S1x64, .i32⟩
  | 95 => ⟨S1x64, .i32⟩
  | 96 => ⟨S_, .i32⟩
  | 97 => ⟨S1x64, .i32⟩
  | 98 => ⟨S1x64, .i32⟩
  | 99 => ⟨S16x1, .i32⟩
  | 100 => ⟨S16x1, .i32⟩
  | 101 => ⟨S_, .i32⟩
  | 102 => ⟨S16x1, .i32⟩
  | 103 => ⟨S16x1, .i32⟩
  | 104 => ⟨S16x64, .i32⟩
  | 105 => ⟨S16x64, .i32⟩
  | 106 => ⟨S16x64, .i32⟩
  | 107 => ⟨S16x64, .i1⟩
  | 108 => ⟨S16x64, .i32⟩
  | 109 => ⟨S1792x80x64, .i8⟩
  | 110 => ⟨S16x64x1, .i32⟩
  | 111 => ⟨S16x64x80x64, .i8⟩
  | 112 => ⟨S8x128x80x64, .i8⟩
  | 113 => ⟨S8x80x64x128, .i8⟩
  | 114 => ⟨S1792x80x4, .bf16⟩
  | 115 => ⟨S16x64x1, .i32⟩
  | 116 => ⟨S16x64x80x4, .bf16⟩
  | 117 => ⟨S8x128x80x4, .bf16⟩
  | 118 => ⟨S8x80x4x128, .bf16⟩
  | 119 => ⟨S1792x80x64, .i8⟩
  | 120 => ⟨S16x64x1, .i32⟩
  | 121 => ⟨S16x64x80x64, .i8⟩
  | 122 => ⟨S8x128x80x64, .i8⟩
  | 123 => ⟨S8x80x64x128, .i8⟩
  | 124 => ⟨S1792x80x4, .bf16⟩
  | 125 => ⟨S16x64x1, .i32⟩
  | 126 => ⟨S16x64x80x4, .bf16⟩
  | 127 => ⟨S8x128x80x4, .bf16⟩
  | _ => ⟨S2x896x80x128, .bf16⟩

abbrev hbmTy0_2 (i : Nat) : BufTy := match i % 128 with
  | 0 => ⟨S8x80x4x128, .bf16⟩
  | _ => ⟨S2x896x80x128, .bf16⟩

abbrev hbmTy (i : Nat) : BufTy := match i / 128 with
  | 0 => hbmTy0_0 i
  | 1 => hbmTy0_1 i
  | 2 => hbmTy0_2 i
  | _ => ⟨S2x896x80x128, .bf16⟩

abbrev bufTy : (tb : Table) → Fin (tcTables nBuf tb) → BufTy
  | .hbm, ⟨i, _⟩ => hbmTy i
  | _, _ => ⟨S2x896x80x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_5 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_6 : Ref sig .tc := ⟨.hbm, 82, rfl⟩
abbrev main_v68 : Ref sig .tc := ⟨.hbm, 83, rfl⟩
abbrev main_cst_7 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_call0_v0 : Ref sig .tc := ⟨.hbm, 91, rfl⟩
abbrev main_call0_v1 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_10 : Ref sig .tc := ⟨.hbm, 100, rfl⟩
abbrev main_c_11 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83_0 : Ref sig .tc := ⟨.hbm, 110, rfl⟩
abbrev main_v83_1 : Ref sig .tc := ⟨.hbm, 111, rfl⟩
abbrev main_v84 : Ref sig .tc := ⟨.hbm, 112, rfl⟩
abbrev main_v85 : Ref sig .tc := ⟨.hbm, 113, rfl⟩
abbrev main_cst_12 : Ref sig .tc := ⟨.hbm, 114, rfl⟩
abbrev main_v86 : Ref sig .tc := ⟨.hbm, 115, rfl⟩
abbrev main_cst_13 : Ref sig .tc := ⟨.hbm, 116, rfl⟩
abbrev main_v87 : Ref sig .tc := ⟨.hbm, 117, rfl⟩
abbrev main_v88 : Ref sig .tc := ⟨.hbm, 118, rfl⟩
abbrev main_cst_14 : Ref sig .tc := ⟨.hbm, 119, rfl⟩
abbrev main_v89 : Ref sig .tc := ⟨.hbm, 120, rfl⟩
abbrev main_v90 : Ref sig .tc := ⟨.hbm, 121, rfl⟩
abbrev main_cst_15 : Ref sig .tc := ⟨.hbm, 122, rfl⟩
abbrev main_call3_v0 : Ref sig .tc := ⟨.hbm, 123, rfl⟩
abbrev main_call3_v1 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_16 : Ref sig .tc := ⟨.hbm, 132, rfl⟩
abbrev main_c_17 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101_0 : Ref sig .tc := ⟨.hbm, 142, rfl⟩
abbrev main_v101_1 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_18 : Ref sig .tc := ⟨.hbm, 148, rfl⟩
abbrev main_v106 : Ref sig .tc := ⟨.hbm, 149, rfl⟩
abbrev main_v107 : Ref sig .tc := ⟨.hbm, 150, rfl⟩
abbrev main_c_19 : Ref sig .tc := ⟨.hbm, 151, rfl⟩
abbrev main_v108 : Ref sig .tc := ⟨.hbm, 152, rfl⟩
abbrev main_v109 : Ref sig .tc := ⟨.hbm, 153, rfl⟩
abbrev main_c_20 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_21 : Ref sig .tc := ⟨.hbm, 163, rfl⟩
abbrev main_v118 : Ref sig .tc := ⟨.hbm, 164, rfl⟩
abbrev main_v119 : Ref sig .tc := ⟨.hbm, 165, rfl⟩
abbrev main_c_22 : Ref sig .tc := ⟨.hbm, 166, rfl⟩
abbrev main_v120 : Ref sig .tc := ⟨.hbm, 167, rfl⟩
abbrev main_v121 : Ref sig .tc := ⟨.hbm, 168, rfl⟩
abbrev main_c_23 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_24 : Ref sig .tc := ⟨.hbm, 180, rfl⟩
abbrev main_v132 : Ref sig .tc := ⟨.hbm, 181, rfl⟩
abbrev main_c_25 : Ref sig .tc := ⟨.hbm, 182, rfl⟩
abbrev main_c_26 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_c_27 : Ref sig .tc := ⟨.hbm, 195, rfl⟩
abbrev main_v144 : Ref sig .tc := ⟨.hbm, 196, rfl⟩
abbrev main_v145 : Ref sig .tc := ⟨.hbm, 197, rfl⟩
abbrev main_c_28 : Ref sig .tc := ⟨.hbm, 198, rfl⟩
abbrev main_v146 : Ref sig .tc := ⟨.hbm, 199, rfl⟩
abbrev main_c_29 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_30 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_c_31 : Ref sig .tc := ⟨.hbm, 214, rfl⟩
abbrev main_v159 : Ref sig .tc := ⟨.hbm, 215, rfl⟩
abbrev main_c_32 : Ref sig .tc := ⟨.hbm, 216, rfl⟩
abbrev main_v160 : Ref sig .tc := ⟨.hbm, 217, rfl⟩
abbrev main_c_33 : Ref sig .tc := ⟨.hbm, 218, rfl⟩
abbrev main_v161 : Ref sig .tc := ⟨.hbm, 219, rfl⟩
abbrev main_v162 : Ref sig .tc := ⟨.hbm, 220, rfl⟩
abbrev main_c_34 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_c_35 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_call9_v0 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩

abbrev nD : Nat := 1
abbrev τ : Topo := Topo.v7x

variable {F : FTy → Type} [FloatOps F]
-- ==== Proof.Trip.lean ====
module

public import proofs.«01_k».proof.Proof.Gen.KernelIdeal.Skeleton
public import proofs.«01_k».proof.Proof.Gen.KernelIdeal.Loops
public import proofs.«01_k».proof.Proof.Gen.KernelIdeal.Launch
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch buffers and the operands left in HBM. -/
abbrev slotM : Memref sig .tc .smem S1792 .i32 := Memref.whole main_v12
abbrev posM : Memref sig .tc .smem S1792 .i32 := Memref.whole main_v13
abbrev k5M : Memref sig .tc .hbm S2x56x16x80x128 .bf16 := Memref.whole main_v10
abbrev v5M : Memref sig .tc .hbm S2x56x16x80x128 .bf16 := Memref.whole main_v11
abbrev xkM : Memref sig .tc .vmem S2x256x24x128 .bf16 := Memref.whole cc0_scratch0
abbrev xvM : Memref sig .tc .vmem S2x256x24x128 .bf16 := Memref.whole cc0_scratch1
abbrev cosM : Memref sig .tc .vmem S4x256x128 .f32 := Memref.whole cc0_scratch2
abbrev sinM : Memref sig .tc .vmem S4x256x128 .f32 := Memref.whole cc0_scratch3
abbrev idxM : Memref sig .tc .vmem S16x3x8x128 .i32 := Memref.whole cc0_scratch4
abbrev sltM : Memref sig .tc .vmem S8x128x128 .i32 := Memref.whole cc0_scratch5
abbrev hadM : Memref sig .tc .vmem S128x256 .bf16 := Memref.whole cc0_scratch6
abbrev wvM : Memref sig .tc .vmem S16x128x384 .bf16 := Memref.whole cc0_scratch7

/-- The rectangle of one slot of a ring. -/
theorem slotR_inb (s : ℕ) (hs : s < 2) : ∀ a, (![s, 0, 0, 0] : Fin 4 → ℕ) a + (![1, 256, 24, 128] : Fin 4 → ℕ) a ≤ S2x256x24x128.size a := by
  intro a; fin_cases a <;> simp [S2x256x24x128] <;> omega
abbrev slotR (s : ℕ) (hs : s < 2) : Rect S2x256x24x128 := Rect.unit (s := S2x256x24x128) ![s, 0, 0, 0] ![1, 256, 24, 128] (slotR_inb s hs)
theorem mod2_lt (t : ℕ) : t % 2 < 2 := Nat.mod_lt _ (by decide)

/-- One trip's resources: the two rings' slots being read, the rotary tables, k's signs, the Hadamard and the sign tables, the four result blocks. -/
abbrev TripR (c : Dev nD) (i : grid0.Coords) (arg7 : Memref sig .tc .vmem S16x128 .f32) (arg9 : Memref sig .tc .vmem S2x16x64x128 .i8) (arg10 : Memref sig .tc .vmem S2x16x4x128 .bf16)
    (arg11 : Memref sig .tc .vmem S2x16x64x128 .i8) (arg12 : Memref sig .tc .vmem S2x16x4x128 .bf16)
    (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty)
    (f9 : BufTy.Contents (Elt F) arg9.view.ty) (f10 : BufTy.Contents (Elt F) arg10.view.ty) (f7 : BufTy.Contents (Elt F) arg11.view.ty) (f8 : BufTy.Contents (Elt F) arg12.view.ty) : sProp 𝕄 :=
  iprop((xkM.view.loc (c : Thread nD τ) ↦[xkM.view.setOn (slotR ((4 * (i 0).val + (i 1).val) % 2) (mod2_lt _)).set]{fullShare} Xk)
    ∗ (xvM.view.loc (c : Thread nD τ) ↦[xvM.view.setOn (slotR ((4 * (i 0).val + (i 1).val) % 2) (mod2_lt _)).set]{fullShare} X)
    ∗ (cosM.view.loc (c : Thread nD τ) ↦[cosM.view.set]{fullShare} Co) ∗ (sinM.view.loc (c : Thread nD τ) ↦[sinM.view.set]{fullShare} Si)
    ∗ (arg7.view.loc (c : Thread nD τ) ↦[arg7.view.set]{fullShare} X7)
    ∗ (hadM.view.loc (c : Thread nD τ) ↦[hadM.view.set]{fullShare} Hd) ∗ (wvM.view.loc (c : Thread nD τ) ↦[wvM.view.set]{fullShare} Wv)
    ∗ (arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f7) ∗ (arg12.view.loc (c : Thread nD τ) ↦[arg12.view.set]{fullShare} f8))

abbrev t2body (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (a1 v161 : BitVec 32) (v162 : IVec S8x128 32) :=
  k0_t2_body (F := F) i slotM (Memref.isWhole_whole _) posM (Memref.isWhole_whole _) k5M (Memref.isWhole_whole _) v5M (Memref.isWhole_whole _)
    arg6 harg6 arg7 harg7 arg8 harg8 arg9 harg9 arg10 harg10 arg11 harg11 arg12 harg12 xkM (Memref.isWhole_whole _) xvM (Memref.isWhole_whole _) cosM (Memref.isWhole_whole _) sinM (Memref.isWhole_whole _)
    idxM (Memref.isWhole_whole _) sltM (Memref.isWhole_whole _) hadM (Memref.isWhole_whole _) wvM (Memref.isWhole_whole _) cc0_scratch8 a1 v161 v162

/-- One trip of the head-pair loop: the pieces it writes are the run's own finds. -/
@[irreducible] def trip (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)
    (v161 : BitVec 32) (v162 : IVec S8x128 32)
    (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (k : Fin k0_t2_loop.trips) :
    Σ' (L9 : List (View.Piece (Elt F) S2x16x64x128 .i8)), Σ' (L10 : List (View.Piece (Elt F) S2x16x4x128 .bf16)),
    Σ' (L7 : List (View.Piece (Elt F) S2x16x64x128 .i8)), { L8 : List (View.Piece (Elt F) S2x16x4x128 .bf16) //
      ∀ (f9 : BufTy.Contents (Elt F) arg9.view.ty) (f10 : BufTy.Contents (Elt F) arg10.view.ty) (f7 : BufTy.Contents (Elt F) arg11.view.ty) (f8 : BufTy.Contents (Elt F) arg12.view.ty),
      TripR (F := F) c i arg7 arg9 arg10 arg11 arg12 Xk X Co Si X7 Hd Wv f9 f10 f7 f8
      ⊢ wp frame (wpE (defs₀ (F := F)) Variants.none (c : Thread nD τ) none) Set.univ (t2body (F := F) i arg6 harg6 arg7 harg7 arg8 harg8 arg9 harg9 arg10 harg10 arg11 harg11 arg12 harg12 (BitVec.ofNat 32 (i 1).val) v161 v162 k PUnit.unit)
          (fun _ => TripR (F := F) c i arg7 arg9 arg10 arg11 arg12 Xk X Co Si X7 Hd Wv (arg9.view.writes (Elt F) f9 L9) (arg10.view.writes (Elt F) f10 L10)
            (arg11.view.writes (Elt F) f7 L7) (arg12.view.writes (Elt F) f8 L8)) } := by
  have hk : k.val < 8 := Nat.lt_of_lt_of_le k.isLt k0_t2_abs.2.1
  have hi0 : (i 0).val < 5 := (i 0).isLt
  have hi1 : (i 1).val < 4 := (i 1).isLt
  refine ⟨?_, ?_, ?_, ?_, fun f9 f10 f7 f8 => ?run⟩
  case run =>
    unfold t2body k0_t2_body
    iintro ⟨HXk, HX, HCo, HSi, HS7, HHd, HW, H9, H10, H7, H8⟩
    sl_exec
    sl_step
    sl_close

end Cert.KernelIdeal.Hand

end
-- ==== Proof.Offs.lean ====
module

public import proofs.«01_k».proof.Proof.Trip
public import Idealize.ShloMosaic.Lib.Affine

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The transfers' offsets in closed form -/

/-- The longer sequence's number, from the first sequence's last slot word. -/
abbrev bL (w : BitVec 32) : BitVec 32 := Scalar.select (Scalar.cmpi .sge w 0#32) 0#32 1#32
/-- The page offset `o` of a sequence of context length `ctx`, as a row within the sixteen. -/
abbrev rowOf (o ctx : BitVec 32) : ℕ := (Scalar.andi (Scalar.subi o ctx) 15#32).toNat

theorem bL_cases (w : BitVec 32) : bL w = 0#32 ∨ bL w = 1#32 := by
  unfold bL Scalar.select; split <;> simp
theorem bL_lt (w : BitVec 32) : (bL w).toNat < 2 := by
  rcases bL_cases w with h | h <;> rw [h] <;> decide
theorem bS_lt (w : BitVec 32) : (Scalar.subi 1#32 (bL w)).toNat < 2 := by
  rcases bL_cases w with h | h <;> rw [h] <;> decide
theorem rowOf_lt (o ctx : BitVec 32) : rowOf o ctx < 16 := by
  show (Scalar.subi o ctx &&& 15#32).toNat < 16
  rw [BitVec.toNat_and]; exact Nat.lt_succ_of_le Nat.and_le_right

/-- The source of step `t`'s transfer of page offset `4(t % 4) + j` out of the longer sequence's pages. -/
def srcL (w cL : BitVec 32) (t j : ℕ) : Fin 5 → ℕ := ![(bL w).toNat, 0, rowOf (BitVec.ofNat 32 (4 * (t % 4) + j)) cL, 16 * (t / 4), 0]
/-- The same out of the shorter sequence's. -/
def srcS (w cS : BitVec 32) (t j : ℕ) : Fin 5 → ℕ := ![(Scalar.subi 1#32 (bL w)).toNat, 0, rowOf (BitVec.ofNat 32 (4 * (t % 4) + j)) cS, 16 * (t / 4), 0]

/-- The step's number, as the kernel computes it. -/
abbrev stepW (i : grid0.Coords) : BitVec 32 := Scalar.addi (Scalar.muli (BitVec.ofNat 32 (i 0).val) 4#32) (BitVec.ofNat 32 (i 1).val)
abbrev stepN (i : grid0.Coords) : ℕ := 4 * (i 0).val + (i 1).val

theorem now_q : ∀ (i : grid0.Coords) (j : Fin 4), Scalar.addi (Scalar.muli (Scalar.remsi (stepW i) 4#32) 4#32) (BitVec.ofNat 32 j.val) = BitVec.ofNat 32 (4 * (stepN i % 4) + j.val) := by decide +kernel
theorem now_h : ∀ (i : grid0.Coords), (Scalar.muli (Scalar.divsi (stepW i) 4#32) 16#32).toNat = 16 * (stepN i / 4) := by decide +kernel
theorem next_q : ∀ (i : grid0.Coords) (j : Fin 4), Scalar.addi (Scalar.muli (Scalar.remsi (Scalar.addi (stepW i) 1#32) 4#32) 4#32) (BitVec.ofNat 32 j.val) = BitVec.ofNat 32 (4 * ((stepN i + 1) % 4) + j.val) := by decide +kernel
theorem next_h : ∀ (i : grid0.Coords), (Scalar.muli (Scalar.divsi (Scalar.addi (stepW i) 1#32) 4#32) 16#32).toNat = 16 * ((stepN i + 1) / 4) := by decide +kernel

theorem off43_eq (i : grid0.Coords) (w cL : BitVec 32) (j : Fin 4) : k0_off43 i w cL (BitVec.ofNat 32 j.val) = srcL w cL (stepN i) j.val := by
  unfold k0_off43 srcL; dsimp only; rw [now_q i j, now_h i]
theorem off46_eq (i : grid0.Coords) (w cS : BitVec 32) (j : Fin 4) : k0_off46 i w cS (BitVec.ofNat 32 j.val) = srcS w cS (stepN i) j.val := by
  unfold k0_off46 srcS; dsimp only; rw [now_q i j, now_h i]
theorem off23_eq (i : grid0.Coords) (w cL : BitVec 32) (j : Fin 4) : k0_off23 i w cL (BitVec.ofNat 32 j.val) = srcL w cL (stepN i + 1) j.val := by
  unfold k0_off23 srcL; dsimp only; rw [next_q i j, next_h i]
theorem off26_eq (i : grid0.Coords) (w cS : BitVec 32) (j : Fin 4) : k0_off26 i w cS (BitVec.ofNat 32 j.val) = srcS w cS (stepN i + 1) j.val := by
  unfold k0_off26 srcS; dsimp only; rw [next_q i j, next_h i]
theorem off5_eq (i : grid0.Coords) (w cL : BitVec 32) : k0_off5 i w cL = srcL w cL (stepN i) 0 := by
  unfold k0_off5 srcL; dsimp only; rw [show (0#32 : BitVec 32) = BitVec.ofNat 32 (0 : Fin 4).val from rfl, now_q i 0, now_h i]; rfl
theorem off15_eq (i : grid0.Coords) (w cL : BitVec 32) (j : Fin 3) : k0_off15 i w cL (BitVec.ofNat 32 (1 + j.val)) = srcL w cL (stepN i) (1 + j.val) := by
  have hj : 1 + j.val < 4 := by omega
  unfold k0_off15 srcL; dsimp only; rw [now_q i ⟨1 + j.val, hj⟩, now_h i]
theorem off10_eq (i : grid0.Coords) (w cS : BitVec 32) (j : Fin 4) : k0_off10 i w cS (BitVec.ofNat 32 j.val) = srcS w cS (stepN i) j.val := by
  unfold k0_off10 srcS; dsimp only; rw [now_q i j, now_h i]

theorem srcL_inb (w cL : BitVec 32) (t j : ℕ) (ht : t < 20) : ∀ a, srcL w cL t j a + S1x56x1x16x128.size a ≤ S2x56x16x80x128.size a := by
  intro a
  have h1 := bL_lt w
  have h2 := rowOf_lt (BitVec.ofNat 32 (4 * (t % 4) + j)) cL
  fin_cases a <;> simp [srcL, S1x56x1x16x128, S2x56x16x80x128] <;> omega
theorem srcS_inb (w cS : BitVec 32) (t j : ℕ) (ht : t < 20) : ∀ a, srcS w cS t j a + S1x8x1x16x128.size a ≤ S2x56x16x80x128.size a := by
  intro a
  have h1 := bS_lt w
  have h2 := rowOf_lt (BitVec.ofNat 32 (4 * (t % 4) + j)) cS
  fin_cases a <;> simp [srcS, S1x8x1x16x128, S2x56x16x80x128] <;> omega

theorem stepN_lt (i : grid0.Coords) : stepN i < 20 := by
  have h0 : (i 0).val < 5 := (i 0).isLt
  have h1 : (i 1).val < 4 := (i 1).isLt
  unfold stepN; omega
theorem stepN_next : ∀ (i : grid0.Coords), k0_cond2 i = 1#1 → stepN i + 1 < 20 := by decide +kernel

theorem words_L (w cL : BitVec 32) (t j : ℕ) (h : ∀ a, srcL w cL t j a + S1x56x1x16x128.size a ≤ S2x56x16x80x128.size a) :
    (Rect.unit (s := S2x56x16x80x128) (srcL w cL t j) S1x56x1x16x128.size h).WholeWords (EltTy.packing .bf16) := by
  exact Affine.words_of_packed (Affine.packed_dvd (by decide) (Dvd.intro (8 * (t / 4)) (by show 2 * (8 * (t / 4)) = 16 * (t / 4); omega)) (by decide))
theorem words_S (w cS : BitVec 32) (t j : ℕ) (h : ∀ a, srcS w cS t j a + S1x8x1x16x128.size a ≤ S2x56x16x80x128.size a) :
    (Rect.unit (s := S2x56x16x80x128) (srcS w cS t j) S1x8x1x16x128.size h).WholeWords (EltTy.packing .bf16) := by
  exact Affine.words_of_packed (Affine.packed_dvd (by decide) (Dvd.intro (8 * (t / 4)) (by show 2 * (8 * (t / 4)) = 16 * (t / 4); omega)) (by decide))

theorem chk1 (w : BitVec 32) : k0_chk1 w := by
  have hb := bL_cases w
  unfold bL at hb
  unfold k0_chk1 k0_off1 k0_off2; dsimp only
  rcases hb with h | h <;> rw [h] <;> constructor <;> intro a <;> fin_cases a <;> decide

theorem chk2 (i : grid0.Coords) (w cL : BitVec 32) : k0_chk2 i w cL := by
  unfold k0_chk2
  simp only [off43_eq, off23_eq, off5_eq, off15_eq]
  exact ⟨fun _ => srcL_inb _ _ _ _ (stepN_lt i), fun _ h => words_L _ _ _ _ h, fun _ r => srcL_inb _ _ _ _ (stepN_lt i), fun _ r h => words_L _ _ _ _ h,
    fun hc r => srcL_inb _ _ _ _ (stepN_next i hc), fun _ r h => words_L _ _ _ _ h, fun r => srcL_inb _ _ _ _ (stepN_lt i), fun r h => words_L _ _ _ _ h⟩
theorem chk3 (i : grid0.Coords) (w cS : BitVec 32) : k0_chk3 i w cS := by
  unfold k0_chk3
  simp only [off46_eq, off26_eq, off10_eq]
  exact ⟨fun _ r => srcS_inb _ _ _ _ (stepN_lt i), fun _ r h => words_S _ _ _ _ h,
    fun hc r => srcS_inb _ _ _ _ (stepN_next i hc), fun _ r h => words_S _ _ _ _ h, fun r => srcS_inb _ _ _ _ (stepN_lt i), fun r h => words_S _ _ _ _ h⟩

end Cert.KernelIdeal.Hand

end
-- ==== Proof.Ring.lean ====
module

public import proofs.«01_k».proof.Proof.Offs
public import Idealize.ShloMosaic.Lib.MixedBatch
public import Idealize.ShloMosaic.Lib.ShareLeaves

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev RingM := Memref sig .tc .vmem S2x256x24x128 .bf16
abbrev PageM := Memref sig .tc .hbm S2x56x16x80x128 .bf16

/-! ## One ring slot's eight blocks of rows, and the transfers that fill them -/

/-- The longer sequence's destination window of a transfer, and the shorter one's. -/
abbrev dLm (M : RingM) (off : Fin 4 → ℕ) (inb : ∀ a, off a + S1x56x16x128.size a ≤ S2x256x24x128.size a) : Memref sig .tc .vmem S56x16x128 .bf16 :=
  (M.slice (Rect.unit (s := S2x256x24x128) off S1x56x16x128.size inb) (fun _ => rfl)).squeeze S56x16x128 squeezes_S1x56x16x128_S56x16x128
abbrev dSm (M : RingM) (off : Fin 4 → ℕ) (inb : ∀ a, off a + S1x8x16x128.size a ≤ S2x256x24x128.size a) : Memref sig .tc .vmem S8x16x128 .bf16 :=
  (M.slice (Rect.unit (s := S2x256x24x128) off S1x8x16x128.size inb) (fun _ => rfl)).squeeze S8x16x128 squeezes_S1x8x16x128_S8x16x128
abbrev sLm (H : PageM) (off : Fin 5 → ℕ) (inb : ∀ a, off a + S1x56x1x16x128.size a ≤ S2x56x16x80x128.size a) : Memref sig .tc .hbm S56x16x128 .bf16 :=
  (H.slice (Rect.unit (s := S2x56x16x80x128) off S1x56x1x16x128.size inb) (fun _ => rfl)).squeeze S56x16x128 squeezes_S1x56x1x16x128_S56x16x128
abbrev sSm (H : PageM) (off : Fin 5 → ℕ) (inb : ∀ a, off a + S1x8x1x16x128.size a ≤ S2x56x16x80x128.size a) : Memref sig .tc .hbm S8x16x128 .bf16 :=
  (H.slice (Rect.unit (s := S2x56x16x80x128) off S1x8x1x16x128.size inb) (fun _ => rfl)).squeeze S8x16x128 squeezes_S1x8x1x16x128_S8x16x128
/-- The transfer's cell: row 0 for k, row 1 for v; the column is the ring slot. -/
abbrev cellM (off : Fin 2 → ℕ) (inb : ∀ a, off a + S1x1.size a ≤ S2x2.size a) : DmaSem sig :=
  ((cc0_scratch8.slice (Rect.unit (s := S2x2) off S1x1.size inb)).squeeze S_ squeezes_S1x1_S_).sem

abbrev dLo (s oi : ℕ) : Fin 4 → ℕ := ![s, 64 * oi, 0, 0]
abbrev dSo (s oi : ℕ) : Fin 4 → ℕ := ![s, 64 * oi + 56, 0, 0]
theorem dLo_inb (s oi : ℕ) (hs : s < 2) (ho : oi < 4) : ∀ a, dLo s oi a + S1x56x16x128.size a ≤ S2x256x24x128.size a := by
  intro a; fin_cases a <;> simp [dLo, S1x56x16x128, S2x256x24x128] <;> omega
theorem dSo_inb (s oi : ℕ) (hs : s < 2) (ho : oi < 4) : ∀ a, dSo s oi a + S1x8x16x128.size a ≤ S2x256x24x128.size a := by
  intro a; fin_cases a <;> simp [dSo, S1x8x16x128, S2x256x24x128] <;> omega
theorem cell_inb (a s : ℕ) (ha : a < 2) (hs : s < 2) : ∀ x, (![a, s] : Fin 2 → ℕ) x + S1x1.size x ≤ S2x2.size x := by
  intro x; fin_cases x <;> simp [S1x1, S2x2] <;> omega

/-- The rows of transfer `j` of a slot: 56 of the longer sequence, then 8 of the shorter, at each of the four page offsets. -/
abbrev row0 (j : ℕ) : ℕ := 64 * (j / 2) + 56 * (j % 2)
abbrev rows (j : ℕ) : ℕ := 56 - 48 * (j % 2)
theorem regR_inb (s : ℕ) (hs : s < 2) (j : Fin 8) : ∀ a, (![s, row0 j.val, 0, 0] : Fin 4 → ℕ) a + (![1, rows j.val, 24, 128] : Fin 4 → ℕ) a ≤ S2x256x24x128.size a := by
  have hj := j.isLt
  intro a; fin_cases a <;> simp [S2x256x24x128, row0, rows] <;> omega
abbrev regR (s : ℕ) (hs : s < 2) (j : Fin 8) : Rect S2x256x24x128 :=
  Rect.unit (s := S2x256x24x128) ![s, row0 j.val, 0, 0] ![1, rows j.val, 24, 128] (regR_inb s hs j)

theorem slot_eq (M : RingM) (s : ℕ) (hs : s < 2) : Finset.univ.biUnion (fun j : Fin 8 => M.view.setOn (regR s hs j).set) = M.view.setOn (slotR s hs).set := by
  ext x
  simp only [Finset.mem_biUnion, Finset.mem_univ, true_and, View.setOn, Finset.mem_map]
  constructor
  · rintro ⟨j, y, hy, rfl⟩
    refine ⟨y, ?_, rfl⟩
    rw [Rect.mem_set_unit] at hy ⊢
    have hj := j.isLt
    intro a
    have h := hy a
    fin_cases a <;> simp [row0, rows] at h ⊢ <;> omega
  · rintro ⟨y, hy, rfl⟩
    rw [Rect.mem_set_unit] at hy
    have h1 : (y 1).val < 256 := by have := (hy 1).2; simpa using this
    refine ⟨⟨2 * ((y 1).val / 64) + ((y 1).val % 64) / 56, by omega⟩, y, ?_, rfl⟩
    rw [Rect.mem_set_unit]
    have e1 : (2 * ((y 1).val / 64) + ((y 1).val % 64) / 56) / 2 = (y 1).val / 64 := by omega
    have e2 : (2 * ((y 1).val / 64) + ((y 1).val % 64) / 56) % 2 = ((y 1).val % 64) / 56 := by omega
    intro a
    have h := hy a
    fin_cases a <;> simp [row0, rows, e1, e2] at h ⊢ <;> omega

theorem reg_disj (M : RingM) (s : ℕ) (hs : s < 2) (j j' : Fin 8) (hne : j ≠ j') : Disjoint (M.view.setOn (regR s hs j).set) (M.view.setOn (regR s hs j').set) := by
  unfold View.setOn
  rw [Finset.disjoint_map, Finset.disjoint_left]
  intro y hy hy'
  rw [Rect.mem_set_unit] at hy hy'
  have h := hy 1; have h' := hy' 1
  have hj := j.isLt; have hj' := j'.isLt
  have : j.val ≠ j'.val := fun e => hne (Fin.ext e)
  simp [row0, rows] at h h'
  omega

theorem dL_sub (M : RingM) (s : ℕ) (hs : s < 2) (oi : ℕ) (ho : oi < 4) (j : Fin 8) (hj : j.val = 2 * oi) :
    (dLm M (dLo s oi) (dLo_inb s oi hs ho)).view.set ⊆ M.view.setOn (regR s hs j).set := by
  rw [Memref.set_view_squeeze]
  refine Memref.set_slice_subset_setOn_of_within M _ _ _ (decide_eq_true ?_)
  intro a
  fin_cases a <;> simp [row0, rows, dLo, S1x56x16x128, hj] <;> omega
theorem dS_sub (M : RingM) (s : ℕ) (hs : s < 2) (oi : ℕ) (ho : oi < 4) (j : Fin 8) (hj : j.val = 2 * oi + 1) :
    (dSm M (dSo s oi) (dSo_inb s oi hs ho)).view.set ⊆ M.view.setOn (regR s hs j).set := by
  rw [Memref.set_view_squeeze]
  refine Memref.set_slice_subset_setOn_of_within M _ _ _ (decide_eq_true ?_)
  intro a
  fin_cases a <;> simp [row0, rows, dSo, S1x8x16x128, hj] <;> omega

/-! ## The cells' transfers -/

/-- Transfer `j` of slot `s` reads through a share of its own of the pages. -/
abbrev tok (s : ℕ) (hs : s < 2) (j : Fin 8) : PosShare TreeShare := ShareLeaves.leaf 4 fullShare ⟨8 * s + j.val, by have := j.isLt; omega⟩

section Cells

variable (c : Dev nD) (M : RingM) (H : PageM) (w cL cS : BitVec 32) (V : BufTy.Contents (Elt F) H.view.ty)

theorem half_lt (j : Fin 8) : j.val / 2 < 4 := by have := j.isLt; omega

/-- The pages' elements transfer `j` of step `t` reads. -/
def srcSet (t : ℕ) (ht : t < 20) (j : Fin 8) : Finset H.view.ty.Idx :=
  if j.val % 2 = 0 then H.view.setOn (Rect.unit (s := S2x56x16x80x128) (srcL w cL t (j.val / 2)) S1x56x1x16x128.size (srcL_inb w cL t _ ht)).set
  else H.view.setOn (Rect.unit (s := S2x56x16x80x128) (srcS w cS t (j.val / 2)) S1x8x1x16x128.size (srcS_inb w cS t _ ht)).set

theorem srcSet_L (t : ℕ) (ht : t < 20) (j : Fin 8) (oi : ℕ) (hj : j.val = 2 * oi) (inb) :
    (sLm H (srcL w cL t oi) inb).view.set = srcSet H w cL cS t ht j := by
  have hd : j.val / 2 = oi := by omega
  subst hd
  rw [Memref.set_view_squeeze]
  unfold srcSet; rw [if_pos (by omega)]; exact View.set_slice _ _
theorem srcSet_S (t : ℕ) (ht : t < 20) (j : Fin 8) (oi : ℕ) (hj : j.val = 2 * oi + 1) (inb) :
    (sSm H (srcS w cS t oi) inb).view.set = srcSet H w cL cS t ht j := by
  have hd : j.val / 2 = oi := by omega
  subst hd
  rw [Memref.set_view_squeeze]
  unfold srcSet; rw [if_neg (by omega)]; exact View.set_slice _ _

/-- What transfer `j` of step `t` leaves in slot `s`. -/
def good (t : ℕ) (ht : t < 20) (s : ℕ) (hs : s < 2) (j : Fin 8) (f : BufTy.Contents (Elt F) M.view.ty) : Prop :=
  (j.val % 2 = 0 → (dLm M (dLo s (j.val / 2)) (dLo_inb s _ hs (half_lt j))).view.read (Elt F) f = (sLm H (srcL w cL t (j.val / 2)) (srcL_inb w cL t _ ht)).view.read (Elt F) V)
  ∧ (j.val % 2 = 1 → (dSm M (dSo s (j.val / 2)) (dSo_inb s _ hs (half_lt j))).view.read (Elt F) f = (sSm H (srcS w cS t (j.val / 2)) (srcS_inb w cS t _ ht)).view.read (Elt F) V)

theorem good_L (t : ℕ) (ht : t < 20) (s : ℕ) (hs : s < 2) (j : Fin 8) (oi : ℕ) (ho : oi < 4) (hj : j.val = 2 * oi) (f : BufTy.Contents (Elt F) M.view.ty)
    (h : (dLm M (dLo s oi) (dLo_inb s oi hs ho)).view.read (Elt F) f = (sLm H (srcL w cL t oi) (srcL_inb w cL t oi ht)).view.read (Elt F) V) :
    good M H w cL cS V t ht s hs j f := by
  have hd : j.val / 2 = oi := by omega
  subst hd
  exact ⟨fun _ => h, fun h' => by omega⟩
theorem good_S (t : ℕ) (ht : t < 20) (s : ℕ) (hs : s < 2) (j : Fin 8) (oi : ℕ) (ho : oi < 4) (hj : j.val = 2 * oi + 1) (f : BufTy.Contents (Elt F) M.view.ty)
    (h : (dSm M (dSo s oi) (dSo_inb s oi hs ho)).view.read (Elt F) f = (sSm H (srcS w cS t oi) (srcS_inb w cS t oi ht)).view.read (Elt F) V) :
    good M H w cL cS V t ht s hs j f := by
  have hd : j.val / 2 = oi := by omega
  subst hd
  exact ⟨fun h' => by omega, fun _ => h⟩

/-- Its delivery: the rows at what it read, and the share of the pages it read through. -/
def deliv (t : ℕ) (ht : t < 20) (s : ℕ) (hs : s < 2) (j : Fin 8) : sProp 𝕄 :=
  iprop(∃ f, (M.view.loc (c : Thread nD τ) ↦[M.view.setOn (regR s hs j).set]{fullShare} f) ∗ ⌜good M H w cL cS V t ht s hs j f⌝
    ∗ (H.view.loc (c : Thread nD τ) ↦[srcSet H w cL cS t ht j]{tok s hs j} V))

instance (t : ℕ) (ht : t < 20) (s : ℕ) (hs : s < 2) (j : Fin 8) : Storable (upEmb : UEmb _ 𝕄) (deliv (F := F) c M H w cL cS V t ht s hs j) := by
  unfold deliv; infer_instance

/-- What stays with the core of the share while the transfer flies. -/
def restOf (t : ℕ) (ht : t < 20) (s : ℕ) (hs : s < 2) (j : Fin 8) : sProp 𝕄 :=
  (H.view.loc (c : Thread nD τ) ↦[Finset.univ \ srcSet H w cL cS t ht j]{tok s hs j} V)

/-- The rows and the share before the transfer. -/
def freeOf (s : ℕ) (hs : s < 2) (j : Fin 8) : sProp 𝕄 :=
  iprop((∃ f, M.view.loc (c : Thread nD τ) ↦[M.view.setOn (regR s hs j).set]{fullShare} f) ∗ (H.view.loc (c : Thread nD τ) ↦{tok s hs j} V))

/-- The transfers' amounts. -/
def amt (j : Fin 8) : ℕ := if j.val % 2 = 0 then M.view.ref.dmaCredit S56x16x128 .bf16 else M.view.ref.dmaCredit S8x16x128 .bf16

/-- A cell of slot `s` with `n` of step `t`'s transfers issued and the units of the first `u` consumed. -/
def RingI (sm : DmaSem sig) (t : ℕ) (ht : t < 20) (s : ℕ) (hs : s < 2) (n u : ℕ) : sProp 𝕄 :=
  iprop(MixedBatch (countersEmb (U := Pipeline.UD sig nD τ)) (c : Thread nD τ) (.dma sm) () (amt M) (deliv (F := F) c M H w cL cS V t ht s hs) n (sumTo (amt M) u)
    ∗ bigSep Finset.univ fun j : Fin 8 => if j.val < n then restOf c H w cL cS V t ht s hs j else freeOf c M H V s hs j)

theorem sumTo_mono {n : ℕ} (A : Fin n → ℕ) (a b : ℕ) (h : a ≤ b) : sumTo A a ≤ sumTo A b := by
  induction b, h using Nat.le_induction with
  | base => exact le_rfl
  | succ b _ ih => exact ih.trans (Nat.le_add_right _ _)

theorem bigSep_take {I : Type} [DecidableEq I] {s : Finset I} {i : I} (h : i ∈ s) (Φ : I → sProp 𝕄) : bigSep s Φ = iprop(Φ i ∗ bigSep (s.erase i) Φ) :=
  bigSep_erase h

/-- One transfer's components exchanged in the family over all eight. -/
theorem family_step (Φ Ψ : Fin 8 → sProp 𝕄) (j : ℕ) (hj : j < 8) :
    (bigSep Finset.univ fun i : Fin 8 => if i.val < j then Φ i else Ψ i) ⊢ iprop(Ψ ⟨j, hj⟩ ∗ (Φ ⟨j, hj⟩ -∗ bigSep Finset.univ fun i : Fin 8 => if i.val < j + 1 then Φ i else Ψ i)) := by
  rw [bigSep_take (Finset.mem_univ (⟨j, hj⟩ : Fin 8)) (fun i : Fin 8 => if i.val < j then Φ i else Ψ i),
    bigSep_take (Finset.mem_univ (⟨j, hj⟩ : Fin 8)) (fun i : Fin 8 => if i.val < j + 1 then Φ i else Ψ i)]
  rw [if_neg (Nat.lt_irrefl j), if_pos (Nat.lt_succ_self j)]
  rw [bigSep_congr (Φ := fun i : Fin 8 => if i.val < j then Φ i else Ψ i) (Ψ := fun i : Fin 8 => if i.val < j + 1 then Φ i else Ψ i)]
  · iintro ⟨H1, H2⟩
    isplitl [H1]; · iexact H1
    iintro H3
    isplitl [H3] <;> iassumption
  · intro i hi
    have hne : i.val ≠ j := fun e => (Finset.mem_erase.mp hi).1 (Fin.ext e)
    by_cases h : i.val < j
    · rw [if_pos h, if_pos (by omega)]
    · rw [if_neg h, if_neg (by omega)]

variable {𝒱 : Variants} (bd : Option 𝒱.V)

/-- The issue of a slot's next transfer out of the longer sequence's pages. -/
theorem issueL (t : ℕ) (ht : t < 20) (s : ℕ) (hs : s < 2) (oi : ℕ) (ho : oi < 4) (n : ℕ) (hn : n = 2 * oi)
    {so : Fin 2 → ℕ} {soi} {da : Fin 4 → ℕ} {dai} {sa : Fin 5 → ℕ} {sai} (a : ℕ) (ha : a < 2)
    (hso : so = ![a, s]) (hda : da = dLo s oi) (hsa : sa = srcL w cL t oi) {hsrc hdst hsem} {Q : PUnit → sProp 𝕄} :
    RingI c M H w cL cS V (cellM ![a, s] (cell_inb a s ha hs)) t ht s hs n 0
      ⊢ iprop((RingI c M H w cL cS V (cellM ![a, s] (cell_inb a s ha hs)) t ht s hs (n + 1) 0 -∗ Q ⟨⟩)
        -∗ wp frame (wpE (defs₀ (F := F)) 𝒱 (c : Thread nD τ) bd) Set.univ
          (Prog.lift (.enqueueDma (sLm H sa sai) (.here (dLm M da dai)) (.dma (cellM so soi)) hsrc hdst hsem)) Q) := by
  subst hso hda hsa
  have hj : n < 8 := by omega
  have hset := srcSet_L H w cL cS t ht ⟨n, hj⟩ oi hn sai
  unfold RingI
  iintro ⟨HB, HF⟩ HK
  ihave HF := (family_step _ _ n hj) $$ HF
  icases HF with ⟨Hf, HF⟩
  unfold freeOf
  icases Hf with ⟨⟨%f, Hf⟩, Ht⟩
  ihave Ht := (pointsTo_split_subset (Finset.subset_univ (srcSet H w cL cS t ht ⟨n, hj⟩))).1 $$ Ht
  icases Ht with ⟨Hs, Hr⟩
  unfold Prog.lift
  iapply (wp_dmaMixedBatch (src := sLm H (srcL w cL t oi) sai) (dst := dLm M (dLo s oi) dai) (sm := .dma (cellM ![a, s] soi)) (countersEmb (U := Pipeline.UD sig nD τ)) 𝒱 (c : Thread nD τ) bd (q := tok s hs ⟨n, hj⟩) (fs := V)
    (Sd := M.view.setOn (regR s hs ⟨n, hj⟩).set) (fd := f) (D := deliv (F := F) c M H w cL cS V t ht s hs) (j := n) (u := sumTo (amt M) 0) () (amt M)
    (dL_sub M s hs oi ho ⟨n, hj⟩ hn) hj ?hA ?hu ?hD) $$ [Hs Hf HB]
  case hA => unfold amt; rw [if_pos (by show n % 2 = 0; omega)]
  case hu => exact sumTo_mono _ _ _ (Nat.zero_le _)
  case hD =>
    unfold deliv
    rw [← hset]
    iintro ⟨H1, H2⟩
    iexists _
    isplitl [H1]; · iexact H1
    isplitr
    · ipureintro
      exact good_L M H w cL cS V t ht s hs ⟨n, hj⟩ oi ho hn _ (View.read_write_univ _ _)
    iexact H2
  · isplitl [Hs]; · rw [hset]; iexact Hs
    isplitl [Hf]; · iexact Hf
    iexact HB
  iintro HB
  rw [show (Prog.ret : PUnit → Prog (TpuEff nD τ sig (Elt F) Λ₀ .tc) PUnit) PUnit.unit = pure PUnit.unit from rfl, wp_pure]
  imodintro
  iapply HK
  isplitl [HB]; · iexact HB
  iapply HF
  unfold restOf
  iexact Hr

/-- The issue of a slot's next transfer out of the shorter sequence's pages. -/
theorem issueS (t : ℕ) (ht : t < 20) (s : ℕ) (hs : s < 2) (oi : ℕ) (ho : oi < 4) (n : ℕ) (hn : n = 2 * oi + 1)
    {so : Fin 2 → ℕ} {soi} {da : Fin 4 → ℕ} {dai} {sa : Fin 5 → ℕ} {sai} (a : ℕ) (ha : a < 2)
    (hso : so = ![a, s]) (hda : da = dSo s oi) (hsa : sa = srcS w cS t oi) {hsrc hdst hsem} {Q : PUnit → sProp 𝕄} :
    RingI c M H w cL cS V (cellM ![a, s] (cell_inb a s ha hs)) t ht s hs n 0
      ⊢ iprop((RingI c M H w cL cS V (cellM ![a, s] (cell_inb a s ha hs)) t ht s hs (n + 1) 0 -∗ Q ⟨⟩)
        -∗ wp frame (wpE (defs₀ (F := F)) 𝒱 (c : Thread nD τ) bd) Set.univ
          (Prog.lift (.enqueueDma (sSm H sa sai) (.here (dSm M da dai)) (.dma (cellM so soi)) hsrc hdst hsem)) Q) := by
  subst hso hda hsa
  have hj : n < 8 := by omega
  have hset := srcSet_S H w cL cS t ht ⟨n, hj⟩ oi hn sai
  unfold RingI
  iintro ⟨HB, HF⟩ HK
  ihave HF := (family_step _ _ n hj) $$ HF
  icases HF with ⟨Hf, HF⟩
  unfold freeOf
  icases Hf with ⟨⟨%f, Hf⟩, Ht⟩
  ihave Ht := (pointsTo_split_subset (Finset.subset_univ (srcSet H w cL cS t ht ⟨n, hj⟩))).1 $$ Ht
  icases Ht with ⟨Hs, Hr⟩
  unfold Prog.lift
  iapply (wp_dmaMixedBatch (src := sSm H (srcS w cS t oi) sai) (dst := dSm M (dSo s oi) dai) (sm := .dma (cellM ![a, s] soi)) (countersEmb (U := Pipeline.UD sig nD τ)) 𝒱 (c : Thread nD τ) bd (q := tok s hs ⟨n, hj⟩) (fs := V)
    (Sd := M.view.setOn (regR s hs ⟨n, hj⟩).set) (fd := f) (D := deliv (F := F) c M H w cL cS V t ht s hs) (j := n) (u := sumTo (amt M) 0) () (amt M)
    (dS_sub M s hs oi ho ⟨n, hj⟩ hn) hj ?hA ?hu ?hD) $$ [Hs Hf HB]
  case hA => unfold amt; rw [if_neg (by show ¬ n % 2 = 0; omega)]
  case hu => exact sumTo_mono _ _ _ (Nat.zero_le _)
  case hD =>
    unfold deliv
    rw [← hset]
    iintro ⟨H1, H2⟩
    iexists _
    isplitl [H1]; · iexact H1
    isplitr
    · ipureintro
      exact good_S M H w cL cS V t ht s hs ⟨n, hj⟩ oi ho hn _ (View.read_write_univ _ _)
    iexact H2
  · isplitl [Hs]; · rw [hset]; iexact Hs
    isplitl [Hf]; · iexact Hf
    iexact HB
  iintro HB
  rw [show (Prog.ret : PUnit → Prog (TpuEff nD τ sig (Elt F) Λ₀ .tc) PUnit) PUnit.unit = pure PUnit.unit from rfl, wp_pure]
  imodintro
  iapply HK
  isplitl [HB]; · iexact HB
  iapply HF
  unfold restOf
  iexact Hr

/-- A wait for the units of the next transfer. -/
theorem waitOne (sm : DmaSem sig) (t : ℕ) (ht : t < 20) (s : ℕ) (hs : s < 2) (u : ℕ) (hu : u < 8) {S : Shape} {sm' : DmaSem sig} (hsm : sm' = sm)
    {src : Memref sig .tc .hbm S .bf16} {dst : Memref sig .tc .vmem S .bf16} (hJ : dst.view.dmaCredit = amt M ⟨u, hu⟩) {hsrc hdst} {Q : PUnit → sProp 𝕄} :
    iprop(RingI c M H w cL cS V sm t ht s hs 8 u ∗ (∃ W, owes (c : Thread nD τ) 0 W))
      ⊢ iprop(((RingI c M H w cL cS V sm t ht s hs 8 (u + 1) ∗ (∃ W, owes (c : Thread nD τ) 0 W)) -∗ Q ⟨⟩)
        -∗ wp frame (wpE (defs₀ (F := F)) 𝒱 (c : Thread nD τ) bd) Set.univ (Prog.lift (.waitDma2 sm' src dst hsrc hdst)) Q) := by
  subst hsm
  unfold RingI
  iintro ⟨⟨HB, HF⟩, ⟨%W, HW⟩⟩ HK
  unfold Prog.lift
  iapply (wp_waitMixedBatch (j := 8) (D := deliv (F := F) c M H w cL cS V t ht s hs) (srcw := src) (dstw := dst) (sem := sm') (countersEmb (U := Pipeline.UD sig nD τ)) 𝒱 (c : Thread nD τ) bd () hJ
    (by rw [← sumTo_succ (amt M) hu]; exact sumTo_mono _ _ _ hu) (W := W)) $$ [HB HW]
  · isplitl [HB]; · iexact HB
    iexact HW
  iintro ⟨HB, HW⟩
  rw [show (Prog.ret : PUnit → Prog (TpuEff nD τ sig (Elt F) Λ₀ .tc) PUnit) PUnit.unit = pure PUnit.unit from rfl, wp_pure]
  imodintro
  iapply HK
  isplitr [HW]
  · isplitl [HB]; · rw [sumTo_succ (amt M) hu]; iexact HB
    iexact HF
  iexists _; iexact HW

theorem good_congr (t : ℕ) (ht : t < 20) (s : ℕ) (hs : s < 2) (j : Fin 8) (f g : BufTy.Contents (Elt F) M.view.ty)
    (h : ∀ i ∈ M.view.setOn (regR s hs j).set, g i = f i) (hf : good M H w cL cS V t ht s hs j f) : good M H w cL cS V t ht s hs j g := by
  refine ⟨fun e => ?_, fun e => ?_⟩
  · rw [← hf.1 e]
    exact View.read_congr (fun i hi => h i (dL_sub M s hs _ (half_lt j) j (by omega) hi))
  · rw [← hf.2 e]
    exact View.read_congr (fun i hi => h i (dS_sub M s hs _ (half_lt j) j (by omega) hi))

/-- The shares a slot's transfers read the pages through. -/
def toks (s : ℕ) (hs : s < 2) : sProp 𝕄 := bigSep Finset.univ fun j : Fin 8 => (H.view.loc (c : Thread nD τ) ↦{tok s hs j} V)

/-- A slot none of whose transfers flies, its cell at zero. -/
def Idle (sm : DmaSem sig) (s : ℕ) (hs : s < 2) : sProp 𝕄 :=
  iprop((∃ f, M.view.loc (c : Thread nD τ) ↦[M.view.setOn (slotR s hs).set]{fullShare} f) ∗ toks c H V s hs ∗ semVal ((c : Thread nD τ), .dma sm) 0)

/-- A slot just filled with step `t`'s rows. -/
def Filled (sm : DmaSem sig) (t : ℕ) (ht : t < 20) (s : ℕ) (hs : s < 2) : sProp 𝕄 :=
  iprop((∃ X, (M.view.loc (c : Thread nD τ) ↦[M.view.setOn (slotR s hs).set]{fullShare} X) ∗ ⌜∀ j, good M H w cL cS V t ht s hs j X⌝)
    ∗ toks c H V s hs ∗ semVal ((c : Thread nD τ), .dma sm) 0)

theorem filled_idle (sm : DmaSem sig) (t : ℕ) (ht : t < 20) (s : ℕ) (hs : s < 2) : Filled c M H w cL cS V sm t ht s hs ⊢ Idle c M H V sm s hs := by
  unfold Filled Idle
  iintro ⟨⟨%X, HX, -⟩, Ht, Hq⟩
  isplitl [HX]; · iexists X; iexact HX
  isplitl [Ht] <;> iassumption

theorem ring_start (sm : DmaSem sig) (t : ℕ) (ht : t < 20) (s : ℕ) (hs : s < 2) :
    Idle c M H V sm s hs ⊢ iprop(|={Set.univ}=> RingI c M H w cL cS V sm t ht s hs 0 0) := by
  unfold Idle toks
  iintro ⟨⟨%f, Hf⟩, Ht, Hq⟩
  imod (Transfers.mixedBatch_alloc' (Lvl := ℕ) (countersEmb (U := Pipeline.UD sig nD τ)) (c : Thread nD τ) () (amt M)
    (deliv (F := F) c M H w cL cS V t ht s hs) (sm := SemLoc.dma sm) (E := Set.univ)) $$ Hq with HB
  imodintro
  unfold RingI
  isplitl [HB]; · iexact HB
  simp only [Nat.not_lt_zero, if_false]
  unfold freeOf
  rw [bigSep_sep' (Finset.univ : Finset (Fin 8))]
  isplitl [Hf]
  · rw [← slot_eq M s hs, pointsTo_biUnion _ _ (fun a _ b _ h => reg_disj M s hs a b h)]
    have h : ∀ j : Fin 8, (M.view.loc (c : Thread nD τ) ↦[M.view.setOn (regR s hs j).set]{fullShare} f : sProp 𝕄)
        ⊢ iprop(∃ f, M.view.loc (c : Thread nD τ) ↦[M.view.setOn (regR s hs j).set]{fullShare} f) := fun j => by iintro Hf; iexists f; iexact Hf
    exact bigSep_mono fun j _ => h j
  iexact Ht

theorem amt_pos (j : Fin 8) : 0 < amt M j := by
  unfold amt
  split <;> exact sig.dmaCredit_pos _ _ _ _ _ (by decide)

theorem deliv_split (t : ℕ) (ht : t < 20) (s : ℕ) (hs : s < 2) (j : Fin 8) :
    iprop(deliv (F := F) c M H w cL cS V t ht s hs j ∗ restOf c H w cL cS V t ht s hs j)
      ⊢ iprop((∃ f, ⌜good M H w cL cS V t ht s hs j f⌝ ∗ (M.view.loc (c : Thread nD τ) ↦[M.view.setOn (regR s hs j).set]{fullShare} f))
        ∗ (H.view.loc (c : Thread nD τ) ↦{tok s hs j} V)) := by
  unfold deliv restOf
  iintro ⟨⟨%f, Hf, %hg, Hs⟩, Hr⟩
  isplitl [Hf]
  · iexists f
    isplitr; · ipureintro; exact hg
    iexact Hf
  iapply (pointsTo_split_subset (Finset.subset_univ (srcSet H w cL cS t ht j))).2
  isplitl [Hs] <;> iassumption

theorem ring_finish (sm : DmaSem sig) (t : ℕ) (ht : t < 20) (s : ℕ) (hs : s < 2) :
    RingI c M H w cL cS V sm t ht s hs 8 8 ⊢ iprop(|={Set.univ}=> Filled c M H w cL cS V sm t ht s hs) := by
  unfold RingI Filled toks
  iintro ⟨HB, HF⟩
  imod (Transfers.mixedBatch_collect' (Lvl := ℕ) (countersEmb (U := Pipeline.UD sig nD τ)) (c : Thread nD τ) (amt_pos M)) $$ HB with ⟨HD, Hq⟩
  imodintro
  ihave HA := (show iprop((bigSep Finset.univ (deliv (F := F) c M H w cL cS V t ht s hs)) ∗ (bigSep Finset.univ fun j : Fin 8 => if j.val < 8 then restOf c H w cL cS V t ht s hs j else freeOf c M H V s hs j))
      ⊢ iprop((bigSep Finset.univ fun j : Fin 8 => iprop(∃ f, ⌜good M H w cL cS V t ht s hs j f⌝ ∗ (M.view.loc (c : Thread nD τ) ↦[M.view.setOn (regR s hs j).set]{fullShare} f)))
        ∗ (bigSep Finset.univ fun j : Fin 8 => (H.view.loc (c : Thread nD τ) ↦{tok s hs j} V))) from by
    rw [← bigSep_sep' (Finset.univ : Finset (Fin 8)), ← bigSep_sep' (Finset.univ : Finset (Fin 8))]
    refine bigSep_mono fun j _ => ?_
    rw [if_pos j.isLt]
    exact deliv_split c M H w cL cS V t ht s hs j) $$ [HD HF]
  · isplitl [HD] <;> iassumption
  icases HA with ⟨HM, Ht⟩
  isplitl [HM]
  · haveI : Nonempty (Buf (Elt F) (M.view.loc (c : Thread nD τ))) := ⟨M.view.junk⟩
    ihave HM := (bigSep_exists_pi Finset.univ (fun (j : Fin 8) (f : Buf (Elt F) (M.view.loc (c : Thread nD τ))) =>
      iprop(⌜good M H w cL cS V t ht s hs j f⌝ ∗ (M.view.loc (c : Thread nD τ) ↦[M.view.setOn (regR s hs j).set]{fullShare} f)))) $$ HM
    icases HM with ⟨%fs, HM⟩
    ihave HM := (bigSep_pure_sep Finset.univ (fun j : Fin 8 => good M H w cL cS V t ht s hs j (fs j)) _) $$ HM
    icases HM with ⟨%hg, HM⟩
    ihave HM := (pointsTo_biUnion_join Finset.univ (fun j : Fin 8 => M.view.setOn (regR s hs j).set) fs M.view.junk (fun a _ b _ h => reg_disj M s hs a b h)) $$ HM
    icases HM with ⟨%X, %hX, HM⟩
    iexists X
    rw [slot_eq M s hs]
    isplitl [HM]; · iexact HM
    ipureintro
    exact fun j => good_congr M H w cL cS V t ht s hs j (fs j) X (hX j (Finset.mem_univ j)) (hg j (Finset.mem_univ j))
  isplitl [Ht] <;> iassumption

end Cells

end Cert.KernelIdeal.Hand

end
-- ==== Proof.Parts.lean ====
module

public import proofs.«01_k».proof.Proof.Ring
public import proofs.«01_k».proof.Proof.Trip

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (w cL cS : BitVec 32) (Vk : BufTy.Contents (Elt F) k5M.view.ty) (Vv : BufTy.Contents (Elt F) v5M.view.ty)

/-- Step `t`'s transfers of k's rows, `n` issued and `u` waited for, and of v's rows. -/
abbrev kR (t : ℕ) (ht : t < 20) (n u : ℕ) : sProp 𝕄 :=
  RingI c xkM k5M w cL cS Vk (cellM ![0, t % 2] (cell_inb 0 _ (by decide) (mod2_lt t))) t ht (t % 2) (mod2_lt t) n u
abbrev vR (t : ℕ) (ht : t < 20) (n u : ℕ) : sProp 𝕄 :=
  RingI c xvM v5M w cL cS Vv (cellM ![1, t % 2] (cell_inb 1 _ (by decide) (mod2_lt t))) t ht (t % 2) (mod2_lt t) n u
/-- What the device's thread has waited for so far. -/
abbrev Ow : sProp 𝕄 := iprop(∃ W, owes (c : Thread nD τ) 0 W)

theorem cell_congr {o o' : Fin 2 → ℕ} (h : o = o') (i : ∀ a, o a + S1x1.size a ≤ S2x2.size a) (i' : ∀ a, o' a + S1x1.size a ≤ S2x2.size a) : cellM o i = cellM o' i' := by
  subst h; rfl
theorem amt_L (M : RingM) (u : ℕ) (hu : u < 8) (he : u % 2 = 0) {off inb} : (dLm M off inb).view.dmaCredit = amt M ⟨u, hu⟩ := by
  unfold amt; rw [if_pos he]
theorem amt_S (M : RingM) (u : ℕ) (hu : u < 8) (he : u % 2 = 1) {off inb} : (dSm M off inb).view.dmaCredit = amt M ⟨u, hu⟩ := by
  unfold amt; rw [if_neg (by show ¬ u % 2 = 0; omega)]

variable (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)

/-! ## Issuing a step's transfers -/

theorem part2_spec (h2 : k0_chk2 i w cL) (h3 : k0_chk3 i w cS) (h : k0_cond1 i = 1#1) (x y : BitVec 32) {Q : PUnit → sProp 𝕄} :
    iprop(kR c w cL cS Vk (stepN i) (stepN_lt i) 0 0 ∗ vR c w cL cS Vv (stepN i) (stepN_lt i) 0 0)
      ⊢ iprop(((kR c w cL cS Vk (stepN i) (stepN_lt i) 2 0 ∗ vR c w cL cS Vv (stepN i) (stepN_lt i) 1 0) -∗ Q ⟨⟩)
        -∗ wp frame (wpE (defs₀ (F := F)) Variants.none (c : Thread nD τ) none) Set.univ
          (k0_part2 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h x y) Q) := by
  rw [k0_part2_eq_skeleton]
  unfold k0_part2_skel
  dsimp only
  iintro ⟨HK, HV⟩ HQ
  rw [wp_bind]
  iapply (issueL c xkM k5M w cL cS Vk none (stepN i) (stepN_lt i) (stepN i % 2) (mod2_lt _) 0 (by decide) 0 rfl 0 (by decide)
    (k0_off3_eq i) (k0_off4_eq i) (off5_eq i w cL)) $$ HK
  iintro HK
  rw [wp_bind]
  iapply (issueL c xvM v5M w cL cS Vv none (stepN i) (stepN_lt i) (stepN i % 2) (mod2_lt _) 0 (by decide) 0 rfl 1 (by decide)
    (k0_off6_eq i) (k0_off7_eq i) (off5_eq i w cL)) $$ HV
  iintro HV
  rw [wp_bind]
  iapply (issueS c xkM k5M w cL cS Vk none (stepN i) (stepN_lt i) (stepN i % 2) (mod2_lt _) 0 (by decide) 1 rfl 0 (by decide)
    (k0_off8_eq i) (k0_off9_eq i) (off10_eq i w cS 0)) $$ HK
  iintro HK
  rw [wp_pure]
  imodintro
  iapply HQ
  isplitl [HK] <;> iassumption

theorem part3_spec (h2 : k0_chk2 i w cL) (h3 : k0_chk3 i w cS) (h : k0_cond1 i = 1#1) {Q : PUnit → sProp 𝕄} :
    iprop(kR c w cL cS Vk (stepN i) (stepN_lt i) 2 0 ∗ vR c w cL cS Vv (stepN i) (stepN_lt i) 1 0)
      ⊢ iprop(((kR c w cL cS Vk (stepN i) (stepN_lt i) 4 0 ∗ vR c w cL cS Vv (stepN i) (stepN_lt i) 3 0) -∗ Q ⟨⟩)
        -∗ wp frame (wpE (defs₀ (F := F)) Variants.none (c : Thread nD τ) none) Set.univ
          (k0_part3 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h) Q) := by
  rw [k0_part3_eq_skeleton]
  unfold k0_part3_skel
  dsimp only
  iintro ⟨HK, HV⟩ HQ
  rw [wp_bind]
  iapply (issueS c xvM v5M w cL cS Vv none (stepN i) (stepN_lt i) (stepN i % 2) (mod2_lt _) 0 (by decide) 1 rfl 1 (by decide)
    (k0_off11_eq i) (k0_off12_eq i) (off10_eq i w cS 0)) $$ HV
  iintro HV
  rw [wp_bind]
  iapply (issueL c xkM k5M w cL cS Vk none (stepN i) (stepN_lt i) (stepN i % 2) (mod2_lt _) 1 (by decide) 2 rfl 0 (by decide)
    (k0_off13_eq i) (k0_off14_eq i) (off15_eq i w cL 0)) $$ HK
  iintro HK
  rw [wp_bind]
  iapply (issueL c xvM v5M w cL cS Vv none (stepN i) (stepN_lt i) (stepN i % 2) (mod2_lt _) 1 (by decide) 2 rfl 1 (by decide)
    (k0_off11_eq i) (k0_off14_eq i) (off15_eq i w cL 0)) $$ HV
  iintro HV
  rw [wp_bind]
  iapply (issueS c xkM k5M w cL cS Vk none (stepN i) (stepN_lt i) (stepN i % 2) (mod2_lt _) 1 (by decide) 3 rfl 0 (by decide)
    (k0_off13_eq i) (k0_off16_eq i) (off10_eq i w cS 1)) $$ HK
  iintro HK
  rw [wp_pure]
  imodintro
  iapply HQ
  isplitl [HK] <;> iassumption

theorem part4_spec (h2 : k0_chk2 i w cL) (h3 : k0_chk3 i w cS) (h : k0_cond1 i = 1#1) {Q : PUnit → sProp 𝕄} :
    iprop(kR c w cL cS Vk (stepN i) (stepN_lt i) 4 0 ∗ vR c w cL cS Vv (stepN i) (stepN_lt i) 3 0)
      ⊢ iprop(((kR c w cL cS Vk (stepN i) (stepN_lt i) 6 0 ∗ vR c w cL cS Vv (stepN i) (stepN_lt i) 6 0) -∗ Q ⟨⟩)
        -∗ wp frame (wpE (defs₀ (F := F)) Variants.none (c : Thread nD τ) none) Set.univ
          (k0_part4 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h) Q) := by
  rw [k0_part4_eq_skeleton]
  unfold k0_part4_skel
  dsimp only
  iintro ⟨HK, HV⟩ HQ
  rw [wp_bind]
  iapply (issueS c xvM v5M w cL cS Vv none (stepN i) (stepN_lt i) (stepN i % 2) (mod2_lt _) 1 (by decide) 3 rfl 1 (by decide)
    (k0_off11_eq i) (k0_off16_eq i) (off10_eq i w cS 1)) $$ HV
  iintro HV
  rw [wp_bind]
  iapply (issueL c xkM k5M w cL cS Vk none (stepN i) (stepN_lt i) (stepN i % 2) (mod2_lt _) 2 (by decide) 4 rfl 0 (by decide)
    (k0_off13_eq i) (k0_off17_eq i) (off15_eq i w cL 1)) $$ HK
  iintro HK
  rw [wp_bind]
  iapply (issueL c xvM v5M w cL cS Vv none (stepN i) (stepN_lt i) (stepN i % 2) (mod2_lt _) 2 (by decide) 4 rfl 1 (by decide)
    (k0_off11_eq i) (k0_off17_eq i) (off15_eq i w cL 1)) $$ HV
  iintro HV
  rw [wp_bind]
  iapply (issueS c xkM k5M w cL cS Vk none (stepN i) (stepN_lt i) (stepN i % 2) (mod2_lt _) 2 (by decide) 5 rfl 0 (by decide)
    (k0_off13_eq i) (k0_off18_eq i) (off10_eq i w cS 2)) $$ HK
  iintro HK
  rw [wp_bind]
  iapply (issueS c xvM v5M w cL cS Vv none (stepN i) (stepN_lt i) (stepN i % 2) (mod2_lt _) 2 (by decide) 5 rfl 1 (by decide)
    (k0_off11_eq i) (k0_off18_eq i) (off10_eq i w cS 2)) $$ HV
  iintro HV
  rw [wp_pure]
  imodintro
  iapply HQ
  isplitl [HK] <;> iassumption

theorem part6_spec (h2 : k0_chk2 i w cL) (h3 : k0_chk3 i w cS) (h : k0_cond2 i = 1#1) (x y : BitVec 32) {Q : PUnit → sProp 𝕄} :
    iprop(kR c w cL cS Vk (stepN i + 1) (stepN_next i h) 0 0 ∗ vR c w cL cS Vv (stepN i + 1) (stepN_next i h) 0 0)
      ⊢ iprop(((kR c w cL cS Vk (stepN i + 1) (stepN_next i h) 2 0 ∗ vR c w cL cS Vv (stepN i + 1) (stepN_next i h) 1 0) -∗ Q ⟨⟩)
        -∗ wp frame (wpE (defs₀ (F := F)) Variants.none (c : Thread nD τ) none) Set.univ
          (k0_part6 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h x y) Q) := by
  rw [k0_part6_eq_skeleton]
  unfold k0_part6_skel
  dsimp only
  iintro ⟨HK, HV⟩ HQ
  rw [wp_bind]
  iapply (issueL c xkM k5M w cL cS Vk none (stepN i + 1) (stepN_next i h) ((stepN i + 1) % 2) (mod2_lt _) 0 (by decide) 0 rfl 0 (by decide)
    (k0_off21_eq i) (k0_off22_eq i) (off23_eq i w cL 0)) $$ HK
  iintro HK
  rw [wp_bind]
  iapply (issueL c xvM v5M w cL cS Vv none (stepN i + 1) (stepN_next i h) ((stepN i + 1) % 2) (mod2_lt _) 0 (by decide) 0 rfl 1 (by decide)
    (k0_off24_eq i) (k0_off22_eq i) (off23_eq i w cL 0)) $$ HV
  iintro HV
  rw [wp_bind]
  iapply (issueS c xkM k5M w cL cS Vk none (stepN i + 1) (stepN_next i h) ((stepN i + 1) % 2) (mod2_lt _) 0 (by decide) 1 rfl 0 (by decide)
    (k0_off21_eq i) (k0_off25_eq i) (off26_eq i w cS 0)) $$ HK
  iintro HK
  rw [wp_pure]
  imodintro
  iapply HQ
  isplitl [HK] <;> iassumption

theorem part7_spec (h2 : k0_chk2 i w cL) (h3 : k0_chk3 i w cS) (h : k0_cond2 i = 1#1) {Q : PUnit → sProp 𝕄} :
    iprop(kR c w cL cS Vk (stepN i + 1) (stepN_next i h) 2 0 ∗ vR c w cL cS Vv (stepN i + 1) (stepN_next i h) 1 0)
      ⊢ iprop(((kR c w cL cS Vk (stepN i + 1) (stepN_next i h) 4 0 ∗ vR c w cL cS Vv (stepN i + 1) (stepN_next i h) 3 0) -∗ Q ⟨⟩)
        -∗ wp frame (wpE (defs₀ (F := F)) Variants.none (c : Thread nD τ) none) Set.univ
          (k0_part7 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h) Q) := by
  rw [k0_part7_eq_skeleton]
  unfold k0_part7_skel
  dsimp only
  iintro ⟨HK, HV⟩ HQ
  rw [wp_bind]
  iapply (issueS c xvM v5M w cL cS Vv none (stepN i + 1) (stepN_next i h) ((stepN i + 1) % 2) (mod2_lt _) 0 (by decide) 1 rfl 1 (by decide)
    (k0_off24_eq i) (k0_off25_eq i) (off26_eq i w cS 0)) $$ HV
  iintro HV
  rw [wp_bind]
  iapply (issueL c xkM k5M w cL cS Vk none (stepN i + 1) (stepN_next i h) ((stepN i + 1) % 2) (mod2_lt _) 1 (by decide) 2 rfl 0 (by decide)
    (k0_off21_eq i) (k0_off27_eq i) (off23_eq i w cL 1)) $$ HK
  iintro HK
  rw [wp_bind]
  iapply (issueL c xvM v5M w cL cS Vv none (stepN i + 1) (stepN_next i h) ((stepN i + 1) % 2) (mod2_lt _) 1 (by decide) 2 rfl 1 (by decide)
    (k0_off24_eq i) (k0_off27_eq i) (off23_eq i w cL 1)) $$ HV
  iintro HV
  rw [wp_bind]
  iapply (issueS c xkM k5M w cL cS Vk none (stepN i + 1) (stepN_next i h) ((stepN i + 1) % 2) (mod2_lt _) 1 (by decide) 3 rfl 0 (by decide)
    (k0_off21_eq i) (k0_off28_eq i) (off26_eq i w cS 1)) $$ HK
  iintro HK
  rw [wp_pure]
  imodintro
  iapply HQ
  isplitl [HK] <;> iassumption

theorem part8_spec (h2 : k0_chk2 i w cL) (h3 : k0_chk3 i w cS) (h : k0_cond2 i = 1#1) {Q : PUnit → sProp 𝕄} :
    iprop(kR c w cL cS Vk (stepN i + 1) (stepN_next i h) 4 0 ∗ vR c w cL cS Vv (stepN i + 1) (stepN_next i h) 3 0)
      ⊢ iprop(((kR c w cL cS Vk (stepN i + 1) (stepN_next i h) 6 0 ∗ vR c w cL cS Vv (stepN i + 1) (stepN_next i h) 6 0) -∗ Q ⟨⟩)
        -∗ wp frame (wpE (defs₀ (F := F)) Variants.none (c : Thread nD τ) none) Set.univ
          (k0_part8 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h) Q) := by
  rw [k0_part8_eq_skeleton]
  unfold k0_part8_skel
  dsimp only
  iintro ⟨HK, HV⟩ HQ
  rw [wp_bind]
  iapply (issueS c xvM v5M w cL cS Vv none (stepN i + 1) (stepN_next i h) ((stepN i + 1) % 2) (mod2_lt _) 1 (by decide) 3 rfl 1 (by decide)
    (k0_off24_eq i) (k0_off28_eq i) (off26_eq i w cS 1)) $$ HV
  iintro HV
  rw [wp_bind]
  iapply (issueL c xkM k5M w cL cS Vk none (stepN i + 1) (stepN_next i h) ((stepN i + 1) % 2) (mod2_lt _) 2 (by decide) 4 rfl 0 (by decide)
    (k0_off21_eq i) (k0_off29_eq i) (off23_eq i w cL 2)) $$ HK
  iintro HK
  rw [wp_bind]
  iapply (issueL c xvM v5M w cL cS Vv none (stepN i + 1) (stepN_next i h) ((stepN i + 1) % 2) (mod2_lt _) 2 (by decide) 4 rfl 1 (by decide)
    (k0_off24_eq i) (k0_off29_eq i) (off23_eq i w cL 2)) $$ HV
  iintro HV
  rw [wp_bind]
  iapply (issueS c xkM k5M w cL cS Vk none (stepN i + 1) (stepN_next i h) ((stepN i + 1) % 2) (mod2_lt _) 2 (by decide) 5 rfl 0 (by decide)
    (k0_off21_eq i) (k0_off30_eq i) (off26_eq i w cS 2)) $$ HK
  iintro HK
  rw [wp_bind]
  iapply (issueS c xvM v5M w cL cS Vv none (stepN i + 1) (stepN_next i h) ((stepN i + 1) % 2) (mod2_lt _) 2 (by decide) 5 rfl 1 (by decide)
    (k0_off24_eq i) (k0_off30_eq i) (off26_eq i w cS 2)) $$ HV
  iintro HV
  rw [wp_pure]
  imodintro
  iapply HQ
  isplitl [HK] <;> iassumption

/-! ## Waiting for a step's transfers -/

theorem part105_spec (h2 : k0_chk2 i w cL) (h3 : k0_chk3 i w cS) (x y z : BitVec 32) {Q : PUnit → sProp 𝕄} :
    iprop(kR c w cL cS Vk (stepN i) (stepN_lt i) 8 0 ∗ vR c w cL cS Vv (stepN i) (stepN_lt i) 8 0 ∗ Ow c)
      ⊢ iprop(((kR c w cL cS Vk (stepN i) (stepN_lt i) 8 2 ∗ vR c w cL cS Vv (stepN i) (stepN_lt i) 8 1 ∗ Ow c) -∗ Q ⟨⟩)
        -∗ wp frame (wpE (defs₀ (F := F)) Variants.none (c : Thread nD τ) none) Set.univ
          (k0_part105 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 x y z) Q) := by
  rw [k0_part105_eq_skeleton]
  unfold k0_part105_skel
  dsimp only
  iintro ⟨HK, HV, HO⟩ HQ
  rw [wp_bind]
  iapply (waitOne c xkM k5M w cL cS Vk none _ (stepN i) (stepN_lt i) (stepN i % 2) (mod2_lt _) 0 (by decide) (cell_congr (k0_off41_eq i) _ _)
    (amt_L xkM 0 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 0 (by decide) (cell_congr (k0_off44_eq i) _ _)
    (amt_L xvM 0 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 1 (by decide) (cell_congr (k0_off41_eq i) _ _)
    (amt_S xkM 1 (by decide) rfl)) $$ [HK HO]
  · isplitl [HK] <;> iassumption
  iintro ⟨HK, HO⟩
  rw [wp_pure]
  imodintro
  iapply HQ
  isplitl [HK]; · iassumption
  isplitl [HV] <;> iassumption

theorem part106_spec (h2 : k0_chk2 i w cL) (h3 : k0_chk3 i w cS) {Q : PUnit → sProp 𝕄} :
    iprop(kR c w cL cS Vk (stepN i) (stepN_lt i) 8 2 ∗ vR c w cL cS Vv (stepN i) (stepN_lt i) 8 1 ∗ Ow c)
      ⊢ iprop(((kR c w cL cS Vk (stepN i) (stepN_lt i) 8 4 ∗ vR c w cL cS Vv (stepN i) (stepN_lt i) 8 4 ∗ Ow c) -∗ Q ⟨⟩)
        -∗ wp frame (wpE (defs₀ (F := F)) Variants.none (c : Thread nD τ) none) Set.univ
          (k0_part106 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3) Q) := by
  rw [k0_part106_eq_skeleton]
  unfold k0_part106_skel
  dsimp only
  iintro ⟨HK, HV, HO⟩ HQ
  rw [wp_bind]
  iapply (waitOne c xvM v5M w cL cS Vv none _ (stepN i) (stepN_lt i) (stepN i % 2) (mod2_lt _) 1 (by decide) (cell_congr (k0_off44_eq i) _ _)
    (amt_S xvM 1 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 2 (by decide) (cell_congr (k0_off41_eq i) _ _)
    (amt_L xkM 2 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 2 (by decide) (cell_congr (k0_off44_eq i) _ _)
    (amt_L xvM 2 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 3 (by decide) (cell_congr (k0_off41_eq i) _ _)
    (amt_S xkM 3 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 3 (by decide) (cell_congr (k0_off44_eq i) _ _)
    (amt_S xvM 3 (by decide) rfl)) $$ [HV HO]
  · isplitl [HV] <;> iassumption
  iintro ⟨HV, HO⟩
  rw [wp_pure]
  imodintro
  iapply HQ
  isplitl [HK]; · iassumption
  isplitl [HV] <;> iassumption

theorem part107_spec (h2 : k0_chk2 i w cL) (h3 : k0_chk3 i w cS) {Q : PUnit → sProp 𝕄} :
    iprop(kR c w cL cS Vk (stepN i) (stepN_lt i) 8 4 ∗ vR c w cL cS Vv (stepN i) (stepN_lt i) 8 4 ∗ Ow c)
      ⊢ iprop(((kR c w cL cS Vk (stepN i) (stepN_lt i) 8 6 ∗ vR c w cL cS Vv (stepN i) (stepN_lt i) 8 6 ∗ Ow c) -∗ Q ⟨⟩)
        -∗ wp frame (wpE (defs₀ (F := F)) Variants.none (c : Thread nD τ) none) Set.univ
          (k0_part107 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3) Q) := by
  rw [k0_part107_eq_skeleton]
  unfold k0_part107_skel
  dsimp only
  iintro ⟨HK, HV, HO⟩ HQ
  rw [wp_bind]
  iapply (waitOne c xkM k5M w cL cS Vk none _ (stepN i) (stepN_lt i) (stepN i % 2) (mod2_lt _) 4 (by decide) (cell_congr (k0_off41_eq i) _ _)
    (amt_L xkM 4 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 4 (by decide) (cell_congr (k0_off44_eq i) _ _)
    (amt_L xvM 4 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 5 (by decide) (cell_congr (k0_off41_eq i) _ _)
    (amt_S xkM 5 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 5 (by decide) (cell_congr (k0_off44_eq i) _ _)
    (amt_S xvM 5 (by decide) rfl)) $$ [HV HO]
  · isplitl [HV] <;> iassumption
  iintro ⟨HV, HO⟩
  rw [wp_pure]
  imodintro
  iapply HQ
  isplitl [HK]; · iassumption
  isplitl [HV] <;> iassumption

end Cert.KernelIdeal.Hand

end
-- ==== Proof.Loops.lean ====
module

public import proofs.«01_k».proof.Proof.Trip

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)

/-! ## The sign tables' loop -/

abbrev t1body (h3 : k0_cond5 i = 1#1) := k0_t1_body (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 h3

abbrev Trip1R (X6 : BufTy.Contents (Elt F) arg8.view.ty) (f : BufTy.Contents (Elt F) wvM.view.ty) : sProp 𝕄 :=
  iprop((arg8.view.loc (c : Thread nD τ) ↦[arg8.view.set]{fullShare} X6) ∗ (wvM.view.loc (c : Thread nD τ) ↦[wvM.view.set]{fullShare} f))

/-- One trip: one head's three tables. -/
@[irreducible] def trip1 (h3 : k0_cond5 i = 1#1) (X6 : BufTy.Contents (Elt F) arg8.view.ty) (k : Fin k0_t1_loop.trips) :
    { L : List (View.Piece (Elt F) S16x128x384 .bf16) // ∀ f : BufTy.Contents (Elt F) wvM.view.ty,
      Trip1R (F := F) c arg8 X6 f
      ⊢ wp frame (wpE (defs₀ (F := F)) Variants.none (c : Thread nD τ) none) Set.univ
          (t1body (F := F) i arg6 harg6 arg7 harg7 arg8 harg8 arg9 harg9 arg10 harg10 arg11 harg11 arg12 harg12 h3 k PUnit.unit) (fun _ => Trip1R (F := F) c arg8 X6 (wvM.view.writes (Elt F) f L)) } := by
  have hk : k.val < 16 := Nat.lt_of_lt_of_le k.isLt k0_t1_abs.2.1
  refine ⟨?_, fun f => ?run⟩
  case run =>
    unfold t1body k0_t1_body
    iintro ⟨H6, HW⟩
    sl_exec
    sl_step
    sl_close

/-- The pieces of the trips before `k`, last first. -/
def pb1 (h3 : k0_cond5 i = 1#1) (X6 : BufTy.Contents (Elt F) arg8.view.ty) : ℕ → List (View.Piece (Elt F) S16x128x384 .bf16)
  | 0 => []
  | k + 1 => if h : k < k0_t1_loop.trips then (trip1 (F := F) c i arg6 harg6 arg7 harg7 arg8 harg8 arg9 harg9 arg10 harg10 arg11 harg11 arg12 harg12 h3 X6 ⟨k, h⟩).1 ++ pb1 h3 X6 k else pb1 h3 X6 k

theorem pb1_succ (h3 : k0_cond5 i = 1#1) (X6 : BufTy.Contents (Elt F) arg8.view.ty) (k : Fin k0_t1_loop.trips) :
    pb1 (F := F) c i arg6 harg6 arg7 harg7 arg8 harg8 arg9 harg9 arg10 harg10 arg11 harg11 arg12 harg12 h3 X6 (k.val + 1)
      = (trip1 (F := F) c i arg6 harg6 arg7 harg7 arg8 harg8 arg9 harg9 arg10 harg10 arg11 harg11 arg12 harg12 h3 X6 k).1 ++ pb1 (F := F) c i arg6 harg6 arg7 harg7 arg8 harg8 arg9 harg9 arg10 harg10 arg11 harg11 arg12 harg12 h3 X6 k.val := by
  rw [pb1.eq_2]; exact dif_pos k.isLt

theorem loop1 (h3 : k0_cond5 i = 1#1) (X6 : BufTy.Contents (Elt F) arg8.view.ty) (G : BufTy.Contents (Elt F) wvM.view.ty) {Q : Unit → sProp 𝕄} :
    Trip1R (F := F) c arg8 X6 G
      ⊢ iprop((Trip1R (F := F) c arg8 X6 (wvM.view.writes (Elt F) G (pb1 (F := F) c i arg6 harg6 arg7 harg7 arg8 harg8 arg9 harg9 arg10 harg10 arg11 harg11 arg12 harg12 h3 X6 k0_t1_loop.trips)) -∗ Q ⟨⟩)
        -∗ wp frame (wpE (defs₀ (F := F)) Variants.none (c : Thread nD τ) none) Set.univ
          (Scf.Loop.for k0_t1_loop (k0_t1_ok i h3) ⟨⟩ (t1body (F := F) i arg6 harg6 arg7 harg7 arg8 harg8 arg9 harg9 arg10 harg10 arg11 harg11 arg12 harg12 h3)) Q) := by
  iintro HI HK
  iapply (Scf.wp_for frame (wpE (defs₀ (F := F)) Variants.none (c : Thread nD τ) none) Set.univ k0_t1_loop.lb k0_t1_loop.ub k0_t1_loop.st (k0_t1_ok i h3) ⟨⟩
    (t1body (F := F) i arg6 harg6 arg7 harg7 arg8 harg8 arg9 harg9 arg10 harg10 arg11 harg11 arg12 harg12 h3)
    (fun k _ => Trip1R (F := F) c arg8 X6 (wvM.view.writes (Elt F) G (pb1 (F := F) c i arg6 harg6 arg7 harg7 arg8 harg8 arg9 harg9 arg10 harg10 arg11 harg11 arg12 harg12 h3 X6 k))) (fun k acc => ?_))
  · rw [pb1_succ, View.writes_append]
    exact (trip1 (F := F) c i arg6 harg6 arg7 harg7 arg8 harg8 arg9 harg9 arg10 harg10 arg11 harg11 arg12 harg12 h3 X6 k).2 _
  · isplitl [HI]; · iexact HI
    iintro %_ HI
    iapply HK $$ HI

/-! ## The Hadamard table, and the rotary tables of one page pair -/

abbrev HadR (f : BufTy.Contents (Elt F) hadM.view.ty) : sProp 𝕄 := iprop((hadM.view.loc (c : Thread nD τ) ↦[hadM.view.set]{fullShare} f))
def hadProg : Prog (TpuEff nD τ sig (Elt F) Λ₀ .tc) PUnit := do
  let v202 : Vec F S128x128 .bf16 ← Prog.lift (.load hadM (Rect.unit (s := S128x256) ![0, 0] S128x128.size inb_S128x256_S128x128_0_0).toLoadRect (View.loadsAt_vmem h_S128x128))
  Prog.lift (.store hadM (Rect.unit (s := S128x256) ![0, 0] S128x128.size inb_S128x256_S128x128_0_0) (k0_pay611 (F := F)) Finset.univ (View.stores_vmem h_S128x128 ((Memref.isWhole_whole _).storeExact_slice rfl _ packedbf16_S128x256_S128x128_0_0) (fun _ => rfl)) (.inl rfl))
  let v205 : Vec F S128x128 .bf16 ← Prog.lift (.load hadM (Rect.unit (s := S128x256) ![0, 128] S128x128.size inb_S128x256_S128x128_0_128).toLoadRect (View.loadsAt_vmem h_S128x128))
  Prog.lift (.store hadM (Rect.unit (s := S128x256) ![0, 128] S128x128.size inb_S128x256_S128x128_0_128) (k0_pay612 (F := F)) Finset.univ (View.stores_vmem h_S128x128 ((Memref.isWhole_whole _).storeExact_slice rfl _ packedbf16_S128x256_S128x128_0_128) (fun _ => rfl)) (.inl rfl))

@[irreducible] def hadRun :
    { L : List (View.Piece (Elt F) S128x256 .bf16) // ∀ f : BufTy.Contents (Elt F) hadM.view.ty,
      HadR (F := F) c f ⊢ wp frame (wpE (defs₀ (F := F)) Variants.none (c : Thread nD τ) none) Set.univ (hadProg (F := F)) (fun _ => HadR (F := F) c (hadM.view.writes (Elt F) f L)) } := by
  refine ⟨?_, fun f => ?run⟩
  case run =>
    unfold hadProg
    iintro H
    sl_exec
    sl_step
    sl_close

abbrev RotR (X6 : BufTy.Contents (Elt F) arg6.view.ty) (fc : BufTy.Contents (Elt F) cosM.view.ty) (fs : BufTy.Contents (Elt F) sinM.view.ty) : sProp 𝕄 :=
  iprop((arg6.view.loc (c : Thread nD τ) ↦[arg6.view.set]{fullShare} X6) ∗ (cosM.view.loc (c : Thread nD τ) ↦[cosM.view.set]{fullShare} fc)
    ∗ (sinM.view.loc (c : Thread nD τ) ↦[sinM.view.set]{fullShare} fs))
def rotProg (h4 : k0_cond4 i = 1#1) (a1 cL cS : BitVec 32) : Prog (TpuEff nD τ sig (Elt F) Λ₀ .tc) PUnit := do
  let v212 : FVec F S1x64x128 .f32 ← k0_part9 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4
  let v251 : FVec F S64x128 .f32 ← k0_part10 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v212
  let ⟨v294, v296⟩ : Σ' (v294 : FVec F S64x128 .f32), Vec F S1x64x128 .f32 ← k0_part11 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v251
  let v337 : FVec F S64x128 .f32 ← k0_part12 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v294 v296
  let v339 : Vec F S1x64x128 .f32 ← Prog.lift (.load sinM (Rect.unit (s := S4x256x128) (k0_off36 i) S1x64x128.size (k0_off36_inb i h4)).toLoadRect (View.loadsAt_vmem h_S1x64x128))
  Prog.lift (.store sinM (Rect.unit (s := S4x256x128) (k0_off36 i) S1x64x128.size (k0_off36_inb i h4)) (k0_pay613 v337) Finset.univ (View.stores_vmem_bits_univ h_S1x64x128 rfl) (.inl rfl))

@[irreducible] def rotRun (h4 : k0_cond4 i = 1#1) (a1 cL cS : BitVec 32) (X6 : BufTy.Contents (Elt F) arg6.view.ty) :
    Σ' (Lc : List (View.Piece (Elt F) S4x256x128 .f32)), { Ls : List (View.Piece (Elt F) S4x256x128 .f32) // ∀ (fc : BufTy.Contents (Elt F) cosM.view.ty) (fs : BufTy.Contents (Elt F) sinM.view.ty),
      RotR (F := F) c arg6 X6 fc fs
      ⊢ wp frame (wpE (defs₀ (F := F)) Variants.none (c : Thread nD τ) none) Set.univ (rotProg (F := F) i arg6 harg6 arg7 harg7 arg8 harg8 arg9 harg9 arg10 harg10 arg11 harg11 arg12 harg12 h4 a1 cL cS) (fun _ => RotR (F := F) c arg6 X6 (cosM.view.writes (Elt F) fc Lc) (sinM.view.writes (Elt F) fs Ls)) } := by
  refine ⟨?_, ?_, fun fc fs => ?run⟩
  case run =>
    unfold rotProg
    iintro ⟨H6, HC, HS⟩
    sl_exec
    sl_step
    sl_close

/-! ## The head pairs' loop -/

variable (v161 : BitVec 32) (v162 : IVec S8x128 32) (Xk : BufTy.Contents (Elt F) xkM.view.ty) (X : BufTy.Contents (Elt F) xvM.view.ty) (Co : BufTy.Contents (Elt F) cosM.view.ty) (Si : BufTy.Contents (Elt F) sinM.view.ty)
  (X7 : BufTy.Contents (Elt F) arg7.view.ty) (Hd : BufTy.Contents (Elt F) hadM.view.ty) (Wv : BufTy.Contents (Elt F) wvM.view.ty)

/-- The pieces of the trips before `k`, last first: k's codes and scales, v's codes and scales. -/
def pb2 : ℕ → List (View.Piece (Elt F) S2x16x64x128 .i8) × List (View.Piece (Elt F) S2x16x4x128 .bf16) × List (View.Piece (Elt F) S2x16x64x128 .i8) × List (View.Piece (Elt F) S2x16x4x128 .bf16)
  | 0 => ([], [], [], [])
  | k + 1 => if h : k < k0_t2_loop.trips then
      ((trip (F := F) c i arg6 harg6 arg7 harg7 arg8 harg8 arg9 harg9 arg10 harg10 arg11 harg11 arg12 harg12 v161 v162 Xk X Co Si X7 Hd Wv ⟨k, h⟩).1 ++ (pb2 k).1,
        (trip (F := F) c i arg6 harg6 arg7 harg7 arg8 harg8 arg9 harg9 arg10 harg10 arg11 harg11 arg12 harg12 v161 v162 Xk X Co Si X7 Hd Wv ⟨k, h⟩).2.1 ++ (pb2 k).2.1,
        (trip (F := F) c i arg6 harg6 arg7 harg7 arg8 harg8 arg9 harg9 arg10 harg10 arg11 harg11 arg12 harg12 v161 v162 Xk X Co Si X7 Hd Wv ⟨k, h⟩).2.2.1 ++ (pb2 k).2.2.1,
        (trip (F := F) c i arg6 harg6 arg7 harg7 arg8 harg8 arg9 harg9 arg10 harg10 arg11 harg11 arg12 harg12 v161 v162 Xk X Co Si X7 Hd Wv ⟨k, h⟩).2.2.2.1 ++ (pb2 k).2.2.2) else pb2 k

theorem pb2_succ (k : Fin k0_t2_loop.trips) :
    pb2 (F := F) c i arg6 harg6 arg7 harg7 arg8 harg8 arg9 harg9 arg10 harg10 arg11 harg11 arg12 harg12 v161 v162 Xk X Co Si X7 Hd Wv (k.val + 1)
      = ((trip (F := F) c i arg6 harg6 arg7 harg7 arg8 harg8 arg9 harg9 arg10 harg10 arg11 harg11 arg12 harg12 v161 v162 Xk X Co Si X7 Hd Wv k).1 ++ (pb2 (F := F) c i arg6 harg6 arg7 harg7 arg8 harg8 arg9 harg9 arg10 harg10 arg11 harg11 arg12 harg12 v161 v162 Xk X Co Si X7 Hd Wv k.val).1,
        (trip (F := F) c i arg6 harg6 arg7 harg7 arg8 harg8 arg9 harg9 arg10 harg10 arg11 harg11 arg12 harg12 v161 v162 Xk X Co Si X7 Hd Wv k).2.1 ++ (pb2 (F := F) c i arg6 harg6 arg7 harg7 arg8 harg8 arg9 harg9 arg10 harg10 arg11 harg11 arg12 harg12 v161 v162 Xk X Co Si X7 Hd Wv k.val).2.1,
        (trip (F := F) c i arg6 harg6 arg7 harg7 arg8 harg8 arg9 harg9 arg10 harg10 arg11 harg11 arg12 harg12 v161 v162 Xk X Co Si X7 Hd Wv k).2.2.1 ++ (pb2 (F := F) c i arg6 harg6 arg7 harg7 arg8 harg8 arg9 harg9 arg10 harg10 arg11 harg11 arg12 harg12 v161 v162 Xk X Co Si X7 Hd Wv k.val).2.2.1,
        (trip (F := F) c i arg6 harg6 arg7 harg7 arg8 harg8 arg9 harg9 arg10 harg10 arg11 harg11 arg12 harg12 v161 v162 Xk X Co Si X7 Hd Wv k).2.2.2.1 ++ (pb2 (F := F) c i arg6 harg6 arg7 harg7 arg8 harg8 arg9 harg9 arg10 harg10 arg11 harg11 arg12 harg12 v161 v162 Xk X Co Si X7 Hd Wv k.val).2.2.2) := by
  rw [pb2.eq_2]; exact dif_pos k.isLt

theorem loop2 (G9 : BufTy.Contents (Elt F) arg9.view.ty) (G10 : BufTy.Contents (Elt F) arg10.view.ty) (G7 : BufTy.Contents (Elt F) arg11.view.ty) (G8 : BufTy.Contents (Elt F) arg12.view.ty) {Q : Unit → sProp 𝕄} :
    TripR (F := F) c i arg7 arg9 arg10 arg11 arg12 Xk X Co Si X7 Hd Wv G9 G10 G7 G8
      ⊢ iprop((TripR (F := F) c i arg7 arg9 arg10 arg11 arg12 Xk X Co Si X7 Hd Wv
            (arg9.view.writes (Elt F) G9 (pb2 (F := F) c i arg6 harg6 arg7 harg7 arg8 harg8 arg9 harg9 arg10 harg10 arg11 harg11 arg12 harg12 v161 v162 Xk X Co Si X7 Hd Wv k0_t2_loop.trips).1)
            (arg10.view.writes (Elt F) G10 (pb2 (F := F) c i arg6 harg6 arg7 harg7 arg8 harg8 arg9 harg9 arg10 harg10 arg11 harg11 arg12 harg12 v161 v162 Xk X Co Si X7 Hd Wv k0_t2_loop.trips).2.1)
            (arg11.view.writes (Elt F) G7 (pb2 (F := F) c i arg6 harg6 arg7 harg7 arg8 harg8 arg9 harg9 arg10 harg10 arg11 harg11 arg12 harg12 v161 v162 Xk X Co Si X7 Hd Wv k0_t2_loop.trips).2.2.1)
            (arg12.view.writes (Elt F) G8 (pb2 (F := F) c i arg6 harg6 arg7 harg7 arg8 harg8 arg9 harg9 arg10 harg10 arg11 harg11 arg12 harg12 v161 v162 Xk X Co Si X7 Hd Wv k0_t2_loop.trips).2.2.2) -∗ Q ⟨⟩)
        -∗ wp frame (wpE (defs₀ (F := F)) Variants.none (c : Thread nD τ) none) Set.univ
          (Scf.Loop.for k0_t2_loop k0_t2_ok ⟨⟩ (t2body (F := F) i arg6 harg6 arg7 harg7 arg8 harg8 arg9 harg9 arg10 harg10 arg11 harg11 arg12 harg12 (BitVec.ofNat 32 (i 1).val) v161 v162)) Q) := by
  iintro HI HK
  iapply (Scf.wp_for frame (wpE (defs₀ (F := F)) Variants.none (c : Thread nD τ) none) Set.univ k0_t2_loop.lb k0_t2_loop.ub k0_t2_loop.st k0_t2_ok ⟨⟩
    (t2body (F := F) i arg6 harg6 arg7 harg7 arg8 harg8 arg9 harg9 arg10 harg10 arg11 harg11 arg12 harg12 (BitVec.ofNat 32 (i 1).val) v161 v162)
    (fun k _ => TripR (F := F) c i arg7 arg9 arg10 arg11 arg12 Xk X Co Si X7 Hd Wv
            (arg9.view.writes (Elt F) G9 (pb2 (F := F) c i arg6 harg6 arg7 harg7 arg8 harg8 arg9 harg9 arg10 harg10 arg11 harg11 arg12 harg12 v161 v162 Xk X Co Si X7 Hd Wv k).1)
            (arg10.view.writes (Elt F) G10 (pb2 (F := F) c i arg6 harg6 arg7 harg7 arg8 harg8 arg9 harg9 arg10 harg10 arg11 harg11 arg12 harg12 v161 v162 Xk X Co Si X7 Hd Wv k).2.1)
            (arg11.view.writes (Elt F) G7 (pb2 (F := F) c i arg6 harg6 arg7 harg7 arg8 harg8 arg9 harg9 arg10 harg10 arg11 harg11 arg12 harg12 v161 v162 Xk X Co Si X7 Hd Wv k).2.2.1)
            (arg12.view.writes (Elt F) G8 (pb2 (F := F) c i arg6 harg6 arg7 harg7 arg8 harg8 arg9 harg9 arg10 harg10 arg11 harg11 arg12 harg12 v161 v162 Xk X Co Si X7 Hd Wv k).2.2.2)) (fun k acc => ?_))
  · rw [pb2_succ, View.writes_append, View.writes_append, View.writes_append, View.writes_append]
    exact (trip (F := F) c i arg6 harg6 arg7 harg7 arg8 harg8 arg9 harg9 arg10 harg10 arg11 harg11 arg12 harg12 v161 v162 Xk X Co Si X7 Hd Wv k).2.2.2.2 _ _ _ _
  · isplitl [HI]; · iexact HI
    iintro %_ HI
    iapply HK $$ HI

end Cert.KernelIdeal.Hand

end
-- ==== Proof.Body.lean ====
module

public import proofs.«01_k».proof.Proof.Parts
public import proofs.«01_k».proof.Proof.Loops

@[expose] public section

set_option maxRecDepth 16384
set_option maxHeartbeats 4000000
set_option pp.deepTerms false
set_option pp.maxSteps 400

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Branches, and the tables' words -/

/-- A branch whose two sides go on alike: from `A` the side taken reaches `B`, and the rest runs from `B`. -/
theorem wp_dite_of {α : Type} {P : Prop} [inst : Decidable P] (c : Dev nD) {f : P → Prog (TpuEff nD τ sig (Elt F) Λ₀ .tc) α} {jp : Prog (TpuEff nD τ sig (Elt F) Λ₀ .tc) α}
    (A B : sProp 𝕄) {Q : α → sProp 𝕄}
    (hf : ∀ h, A ⊢ iprop((B -∗ wp frame (wpE (defs₀ (F := F)) Variants.none (c : Thread nD τ) none) Set.univ jp Q)
      -∗ wp frame (wpE (defs₀ (F := F)) Variants.none (c : Thread nD τ) none) Set.univ (f h) Q))
    (hg : ¬ P → A ⊢ B) :
    A ⊢ iprop((B -∗ wp frame (wpE (defs₀ (F := F)) Variants.none (c : Thread nD τ) none) Set.univ jp Q)
      -∗ wp frame (wpE (defs₀ (F := F)) Variants.none (c : Thread nD τ) none) Set.univ (dite P f (fun _ => jp)) Q) := by
  by_cases hp : P
  · rw [dif_pos hp]; exact hf hp
  · rw [dif_neg hp]
    iintro HA HK
    iapply HK
    iapply (hg hp); iexact HA

theorem wp_bind_i {α β : Type} (c : Dev nD) (p : Prog (TpuEff nD τ sig (Elt F) Λ₀ .tc) α) (k : α → Prog (TpuEff nD τ sig (Elt F) Λ₀ .tc) β) {Q : β → sProp 𝕄} :
    wp frame (wpE (defs₀ (F := F)) Variants.none (c : Thread nD τ) none) Set.univ p (fun a => wp frame (wpE (defs₀ (F := F)) Variants.none (c : Thread nD τ) none) Set.univ (k a) Q)
      ⊢ wp frame (wpE (defs₀ (F := F)) Variants.none (c : Thread nD τ) none) Set.univ (p >>= k) Q := by
  rw [wp_bind]

/-- A side condition that holds is passed. -/
theorem wp_assume_i {β : Type} {P : Prop} (d : Decidable P) (h : P) (c : Dev nD) (k : PLift P → Prog (TpuEff nD τ sig (Elt F) Λ₀ .tc) β) {Q : β → sProp 𝕄} :
    wp frame (wpE (defs₀ (F := F)) Variants.none (c : Thread nD τ) none) Set.univ (k ⟨h⟩) Q
      ⊢ wp frame (wpE (defs₀ (F := F)) Variants.none (c : Thread nD τ) none) Set.univ (Prog.lift (TpuEff.assume P d) >>= k) Q := by
  rw [wp_bind]
  show _ ⊢ wp frame (wpE (defs₀ (F := F)) Variants.none (c : Thread nD τ) none) Set.univ (Prog.op (TpuEff.assume P d) fun x => pure x) _
  rw [wp_assume_of _ _ _ _ (d := d) h, wp_pure]
  iintro H
  imodintro
  iexact H

abbrev first1 : S1.Idx := Shape.Idx.first (numel1_S1.symm ▸ Nat.one_pos)
/-- The first sequence's last slot word. -/
def wOf (S : BufTy.Contents (Elt F) slotM.view.ty) : BitVec 32 :=
  (slotM.access (Rect.unit (s := S1792) ![895] S1.size inb_S1792_S1_895)).read (Elt F) S first1
/-- The longer sequence's context length, and the shorter one's. -/
def cLof (P : BufTy.Contents (Elt F) posM.view.ty) (w : BitVec 32) : BitVec 32 :=
  (posM.access (Rect.unit (s := S1792) (k0_off1 w) S1.size (k0_off1_inb w (chk1 w)))).read (Elt F) P first1
def cSof (P : BufTy.Contents (Elt F) posM.view.ty) (w : BitVec 32) : BitVec 32 :=
  (posM.access (Rect.unit (s := S1792) (k0_off2 w) S1.size (k0_off2_inb w (chk1 w)))).read (Elt F) P first1

theorem wp_table (c : Dev nD) (M : Memref sig .tc .smem S1792 .i32) (r : Rect S1792) (h1 : r.shape.numel = 1) (q : PosShare TreeShare)
    (f : BufTy.Contents (Elt F) M.view.ty) (v : Elt F .i32) (hv : (M.access r).read (Elt F) f (Shape.Idx.first (h1.symm ▸ Nat.one_pos)) = v) {Q : Elt F .i32 → sProp 𝕄} :
    (M.view.loc (c : Thread nD τ) ↦{q} f)
      ⊢ iprop(((M.view.loc (c : Thread nD τ) ↦{q} f) -∗ Q v)
        -∗ wp frame (wpE (defs₀ (F := F)) Variants.none (c : Thread nD τ) none) Set.univ (smemLoad M r h1 rfl) Q) := by
  subst hv
  unfold smemLoad
  iintro H HK
  iapply (wp_smemLoadElt Variants.none (c : Thread nD τ) none Set.univ (m := M) (r := r) (S := Finset.univ) (Finset.subset_univ _)) $$ H
  iintro H
  rw [show ∀ a, (Prog.ret a : Prog (TpuEff nD τ sig (Elt F) Λ₀ .tc) (Elt F .i32)) = pure a from fun _ => rfl, wp_pure]
  imodintro
  iapply HK $$ H

variable (c : Dev nD) (Vk : BufTy.Contents (Elt F) k5M.view.ty) (Vv : BufTy.Contents (Elt F) v5M.view.ty)
variable (S : BufTy.Contents (Elt F) slotM.view.ty) (P : BufTy.Contents (Elt F) posM.view.ty)

/-- Both rings idle on step `t`'s slot. -/
abbrev IdleKV (t : ℕ) : sProp 𝕄 :=
  iprop(Idle c xkM k5M Vk (cellM ![0, t % 2] (cell_inb 0 _ (by decide) (mod2_lt t))) (t % 2) (mod2_lt t)
    ∗ Idle c xvM v5M Vv (cellM ![1, t % 2] (cell_inb 1 _ (by decide) (mod2_lt t))) (t % 2) (mod2_lt t))
/-- Step `t`'s transfers all issued, none waited for. -/
abbrev Flying (w cL cS : BitVec 32) (t : ℕ) (ht : t < 20) : sProp 𝕄 := iprop(kR c w cL cS Vk t ht 8 0 ∗ vR c w cL cS Vv t ht 8 0)

theorem rings_start (w cL cS : BitVec 32) (t : ℕ) (ht : t < 20) :
    IdleKV (F := F) c Vk Vv t ⊢ iprop(|={Set.univ}=> (kR c w cL cS Vk t ht 0 0 ∗ vR c w cL cS Vv t ht 0 0)) := by
  iintro ⟨HK, HV⟩
  imod (ring_start c xkM k5M w cL cS Vk _ t ht _ _) $$ HK with HK
  imod (ring_start c xvM v5M w cL cS Vv _ t ht _ _) $$ HV with HV
  imodintro
  isplitl [HK] <;> iassumption

variable (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)

abbrev Tabs (q : PosShare TreeShare) : sProp 𝕄 := iprop((slotM.view.loc (c : Thread nD τ) ↦{q} S) ∗ (posM.view.loc (c : Thread nD τ) ↦{q} P))

/-- What the two issues are given: step 0's slots idle at the first point, else its transfers in flight; the other slot's idle. -/
def before1 : sProp 𝕄 :=
  if k0_cond1 i = 1#1 then IdleKV (F := F) c Vk Vv (stepN i) else Flying c Vk Vv (wOf S) (cLof P (wOf S)) (cSof P (wOf S)) (stepN i) (stepN_lt i)
def after2 : sProp 𝕄 :=
  if h : k0_cond2 i = 1#1 then Flying c Vk Vv (wOf S) (cLof P (wOf S)) (cSof P (wOf S)) (stepN i + 1) (stepN_next i h) else IdleKV (F := F) c Vk Vv (stepN i + 1)
/-- Whether the point is the first. -/
abbrev isFirst (i : grid0.Coords) : Prop := Scalar.cmpi .ne (Scalar.extui (Scalar.cmpi .eq (stepW i) 0#32) : BitVec 32) 0#32 = 1#1
/-- The Hadamard table and the rotary tables after the point's branches. -/
def hadAfter (fh : BufTy.Contents (Elt F) hadM.view.ty) : BufTy.Contents (Elt F) hadM.view.ty :=
  if isFirst i then hadM.view.writes (Elt F) fh (hadRun (F := F) c).1 else fh
def cosAfter (cL cS : BitVec 32) (X6 : BufTy.Contents (Elt F) arg6.view.ty) (f : BufTy.Contents (Elt F) cosM.view.ty) : BufTy.Contents (Elt F) cosM.view.ty :=
  if h4 : k0_cond4 i = 1#1 then cosM.view.writes (Elt F) f (rotRun (F := F) c i arg6 harg6 arg7 harg7 arg8 harg8 arg9 harg9 arg10 harg10 arg11 harg11 arg12 harg12 h4 (BitVec.ofNat 32 (i 1).val) cL cS X6).1 else f
def sinAfter (cL cS : BitVec 32) (X6 : BufTy.Contents (Elt F) arg6.view.ty) (f : BufTy.Contents (Elt F) sinM.view.ty) : BufTy.Contents (Elt F) sinM.view.ty :=
  if h4 : k0_cond4 i = 1#1 then sinM.view.writes (Elt F) f (rotRun (F := F) c i arg6 harg6 arg7 harg7 arg8 harg8 arg9 harg9 arg10 harg10 arg11 harg11 arg12 harg12 h4 (BitVec.ofNat 32 (i 1).val) cL cS X6).2.1 else f

theorem had_spec (fh : BufTy.Contents (Elt F) hadM.view.ty) {α : Type} (jp : Prog (TpuEff nD τ sig (Elt F) Λ₀ .tc) α) {Q : α → sProp 𝕄} :
    HadR (F := F) c fh ⊢ iprop((HadR (F := F) c (hadM.view.writes (Elt F) fh (hadRun (F := F) c).1) -∗ wp frame (wpE (defs₀ (F := F)) Variants.none (c : Thread nD τ) none) Set.univ jp Q)
      -∗ wp frame (wpE (defs₀ (F := F)) Variants.none (c : Thread nD τ) none) Set.univ (do
        let v202 : Vec F S128x128 .bf16 ← Prog.lift (.load hadM (Rect.unit (s := S128x256) ![0, 0] S128x128.size inb_S128x256_S128x128_0_0).toLoadRect (View.loadsAt_vmem h_S128x128))
        Prog.lift (.store hadM (Rect.unit (s := S128x256) ![0, 0] S128x128.size inb_S128x256_S128x128_0_0) (k0_pay611 (F := F)) Finset.univ (View.stores_vmem h_S128x128 ((Memref.isWhole_whole _).storeExact_slice rfl _ packedbf16_S128x256_S128x128_0_0) (fun _ => rfl)) (.inl rfl))
        let v205 : Vec F S128x128 .bf16 ← Prog.lift (.load hadM (Rect.unit (s := S128x256) ![0, 128] S128x128.size inb_S128x256_S128x128_0_128).toLoadRect (View.loadsAt_vmem h_S128x128))
        Prog.lift (.store hadM (Rect.unit (s := S128x256) ![0, 128] S128x128.size inb_S128x256_S128x128_0_128) (k0_pay612 (F := F)) Finset.univ (View.stores_vmem h_S128x128 ((Memref.isWhole_whole _).storeExact_slice rfl _ packedbf16_S128x256_S128x128_0_128) (fun _ => rfl)) (.inl rfl))
        jp) Q) := by
  have h : HadR (F := F) c fh ⊢ iprop((HadR (F := F) c (hadM.view.writes (Elt F) fh (hadRun (F := F) c).1) -∗ wp frame (wpE (defs₀ (F := F)) Variants.none (c : Thread nD τ) none) Set.univ jp Q)
      -∗ wp frame (wpE (defs₀ (F := F)) Variants.none (c : Thread nD τ) none) Set.univ (hadProg (F := F) >>= fun _ => jp) Q) := by
    iintro H HQ
    ihave HB := ((hadRun (F := F) c).2 fh) $$ H
    rw [wp_bind]
    iapply (wp_wand frame (wpE (defs₀ (F := F)) Variants.none (c : Thread nD τ) none) Set.univ) $$ HB
    iintro %_ H
    iapply HQ $$ H
  unfold hadProg at h
  simp only [bind_assoc] at h
  exact h

theorem rot_spec (h4 : k0_cond4 i = 1#1) (a1 cL cS : BitVec 32) (X6 : BufTy.Contents (Elt F) arg6.view.ty) (fc : BufTy.Contents (Elt F) cosM.view.ty) (fs : BufTy.Contents (Elt F) sinM.view.ty)
    {α : Type} (jp : Prog (TpuEff nD τ sig (Elt F) Λ₀ .tc) α) {Q : α → sProp 𝕄} :
    RotR (F := F) c arg6 X6 fc fs ⊢ iprop((RotR (F := F) c arg6 X6 (cosM.view.writes (Elt F) fc (rotRun (F := F) c i arg6 harg6 arg7 harg7 arg8 harg8 arg9 harg9 arg10 harg10 arg11 harg11 arg12 harg12 h4 a1 cL cS X6).1)
          (sinM.view.writes (Elt F) fs (rotRun (F := F) c i arg6 harg6 arg7 harg7 arg8 harg8 arg9 harg9 arg10 harg10 arg11 harg11 arg12 harg12 h4 a1 cL cS X6).2.1) -∗ wp frame (wpE (defs₀ (F := F)) Variants.none (c : Thread nD τ) none) Set.univ jp Q)
      -∗ wp frame (wpE (defs₀ (F := F)) Variants.none (c : Thread nD τ) none) Set.univ (do
        let v212 : FVec F S1x64x128 .f32 ← k0_part9 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4
        let v251 : FVec F S64x128 .f32 ← k0_part10 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v212
        let ⟨v294, v296⟩ : Σ' (v294 : FVec F S64x128 .f32), Vec F S1x64x128 .f32 ← k0_part11 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v251
        let v337 : FVec F S64x128 .f32 ← k0_part12 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v294 v296
        let v339 : Vec F S1x64x128 .f32 ← Prog.lift (.load sinM (Rect.unit (s := S4x256x128) (k0_off36 i) S1x64x128.size (k0_off36_inb i h4)).toLoadRect (View.loadsAt_vmem h_S1x64x128))
        Prog.lift (.store sinM (Rect.unit (s := S4x256x128) (k0_off36 i) S1x64x128.size (k0_off36_inb i h4)) (k0_pay613 v337) Finset.univ (View.stores_vmem_bits_univ h_S1x64x128 rfl) (.inl rfl))
        jp) Q) := by
  have h : RotR (F := F) c arg6 X6 fc fs ⊢ iprop((RotR (F := F) c arg6 X6 (cosM.view.writes (Elt F) fc (rotRun (F := F) c i arg6 harg6 arg7 harg7 arg8 harg8 arg9 harg9 arg10 harg10 arg11 harg11 arg12 harg12 h4 a1 cL cS X6).1)
          (sinM.view.writes (Elt F) fs (rotRun (F := F) c i arg6 harg6 arg7 harg7 arg8 harg8 arg9 harg9 arg10 harg10 arg11 harg11 arg12 harg12 h4 a1 cL cS X6).2.1) -∗ wp frame (wpE (defs₀ (F := F)) Variants.none (c : Thread nD τ) none) Set.univ jp Q)
      -∗ wp frame (wpE (defs₀ (F := F)) Variants.none (c : Thread nD τ) none) Set.univ (rotProg (F := F) i arg6 harg6 arg7 harg7 arg8 harg8 arg9 harg9 arg10 harg10 arg11 harg11 arg12 harg12 h4 a1 cL cS >>= fun _ => jp) Q) := by
    iintro H HQ
    ihave HB := ((rotRun (F := F) c i arg6 harg6 arg7 harg7 arg8 harg8 arg9 harg9 arg10 harg10 arg11 harg11 arg12 harg12 h4 a1 cL cS X6).2.2 fc fs) $$ H
    rw [wp_bind]
    iapply (wp_wand frame (wpE (defs₀ (F := F)) Variants.none (c : Thread nD τ) none) Set.univ) $$ HB
    iintro %_ H
    iapply HQ $$ H
  unfold rotProg at h
  simp only [bind_assoc] at h
  exact h

/-- The tables after the point's branch. -/
def wvAfter (X6 : BufTy.Contents (Elt F) arg8.view.ty) (f : BufTy.Contents (Elt F) wvM.view.ty) : BufTy.Contents (Elt F) wvM.view.ty :=
  if h3 : k0_cond5 i = 1#1 then wvM.view.writes (Elt F) f (pb1 (F := F) c i arg6 harg6 arg7 harg7 arg8 harg8 arg9 harg9 arg10 harg10 arg11 harg11 arg12 harg12 h3 X6 k0_t1_loop.trips) else f

theorem part103_spec (q : PosShare TreeShare) (fh : BufTy.Contents (Elt F) hadM.view.ty) (X6 : BufTy.Contents (Elt F) arg6.view.ty) (fc : BufTy.Contents (Elt F) cosM.view.ty) (fs : BufTy.Contents (Elt F) sinM.view.ty)
    (X8 : BufTy.Contents (Elt F) arg8.view.ty) (f : BufTy.Contents (Elt F) wvM.view.ty)
    {Q : (Σ' (arg1 : BitVec 32) (v1 : BitVec 32) (v2 : Elt F .i32) (v8 : Elt F .i32) (k0_hw2 : k0_chk2 i v2 v8) (v11 : Elt F .i32) (k0_hw3 : k0_chk3 i v2 v11) (v28 : BitVec 32), BitVec 32) → sProp 𝕄} :
    iprop(Tabs c S P q ∗ before1 c Vk Vv S P i ∗ IdleKV (F := F) c Vk Vv (stepN i + 1) ∗ HadR (F := F) c fh ∗ RotR (F := F) c arg6 X6 fc fs ∗ Trip1R (F := F) c arg8 X8 f)
      ⊢ iprop((∀ v28, (Tabs c S P q ∗ Flying c Vk Vv (wOf S) (cLof P (wOf S)) (cSof P (wOf S)) (stepN i) (stepN_lt i) ∗ after2 c Vk Vv S P i
          ∗ HadR (F := F) c (hadAfter c i fh)
          ∗ RotR (F := F) c arg6 X6 (cosAfter c i arg6 harg6 arg7 harg7 arg8 harg8 arg9 harg9 arg10 harg10 arg11 harg11 arg12 harg12 (cLof P (wOf S)) (cSof P (wOf S)) X6 fc) (sinAfter c i arg6 harg6 arg7 harg7 arg8 harg8 arg9 harg9 arg10 harg10 arg11 harg11 arg12 harg12 (cLof P (wOf S)) (cSof P (wOf S)) X6 fs)
          ∗ Trip1R (F := F) c arg8 X8 (wvAfter c i arg6 harg6 arg7 harg7 arg8 harg8 arg9 harg9 arg10 harg10 arg11 harg11 arg12 harg12 X8 f))
          -∗ Q ⟨BitVec.ofNat 32 (i 1).val, stepW i, wOf S, cLof P (wOf S), chk2 i _ _, cSof P (wOf S), chk3 i _ _, v28, 4#32⟩)
        -∗ wp frame (wpE (defs₀ (F := F)) Variants.none (c : Thread nD τ) none) Set.univ
          (k0_part103 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8) Q) := by
  rw [k0_part103_eq_skeleton]
  unfold k0_part103_skel
  dsimp only
  iintro ⟨⟨HS, HP⟩, H1, H2, HH, HR, HW⟩ HQ
  iapply (wp_bind_i c)
  iapply (wp_table c slotM _ _ q S (wOf S) rfl) $$ HS
  iintro HS
  iapply (wp_assume_i (k0_chk1.dec (wOf S)) (chk1 (wOf S)) c)
  iapply (wp_bind_i c)
  iapply (wp_table c posM _ _ q P (cLof P (wOf S)) rfl) $$ HP
  iintro HP
  iapply (wp_assume_i (k0_chk2.dec i (wOf S) (cLof P (wOf S))) (chk2 i (wOf S) (cLof P (wOf S))) c)
  iapply (wp_bind_i c)
  iapply (wp_table c posM _ _ q P (cSof P (wOf S)) rfl) $$ HP
  iintro HP
  iapply (wp_assume_i (k0_chk3.dec i (wOf S) (cSof P (wOf S))) (chk3 i (wOf S) (cSof P (wOf S))) c)
  generalize hw : wOf S = w
  generalize hcL : cLof P w = cL
  generalize hcS : cSof P w = cS
  iapply (wp_dite_of c (before1 c Vk Vv S P i) (Flying c Vk Vv w cL cS (stepN i) (stepN_lt i)) ?_ ?_) $$ H1
  · intro h
    unfold before1
    rw [if_pos h]
    iintro H HQ
    rw [k0_part1_eq_skeleton]
    unfold k0_part1_skel
    rw [wp_bind, wp_pure]
    imodintro
    dsimp only
    imod (rings_start c Vk Vv w cL cS (stepN i) (stepN_lt i)) $$ H with ⟨HK, HV⟩
    rw [wp_bind]
    iapply (part2_spec c w cL cS Vk Vv i arg6 harg6 arg7 harg7 arg8 harg8 arg9 harg9 arg10 harg10 arg11 harg11 arg12 harg12 _ _ h) $$ [HK HV]
    · isplitl [HK] <;> iassumption
    iintro H
    rw [wp_bind]
    iapply (part3_spec c w cL cS Vk Vv i arg6 harg6 arg7 harg7 arg8 harg8 arg9 harg9 arg10 harg10 arg11 harg11 arg12 harg12 _ _ h) $$ H
    iintro H
    rw [wp_bind]
    iapply (part4_spec c w cL cS Vk Vv i arg6 harg6 arg7 harg7 arg8 harg8 arg9 harg9 arg10 harg10 arg11 harg11 arg12 harg12 _ _ h) $$ H
    iintro ⟨HK, HV⟩
    rw [wp_bind]
    iapply (issueL c xkM k5M w cL cS Vk none (stepN i) (stepN_lt i) (stepN i % 2) (mod2_lt _) 3 (by decide) 6 rfl 0 (by decide)
      (k0_off13_eq i) (k0_off19_eq i) (off15_eq i w cL 2)) $$ HK
    iintro HK
    rw [wp_bind]
    iapply (issueL c xvM v5M w cL cS Vv none (stepN i) (stepN_lt i) (stepN i % 2) (mod2_lt _) 3 (by decide) 6 rfl 1 (by decide)
      (k0_off11_eq i) (k0_off19_eq i) (off15_eq i w cL 2)) $$ HV
    iintro HV
    rw [wp_bind]
    iapply (issueS c xkM k5M w cL cS Vk none (stepN i) (stepN_lt i) (stepN i % 2) (mod2_lt _) 3 (by decide) 7 rfl 0 (by decide)
      (k0_off13_eq i) (k0_off20_eq i) (off10_eq i w cS 3)) $$ HK
    iintro HK
    rw [wp_bind]
    iapply (issueS c xvM v5M w cL cS Vv none (stepN i) (stepN_lt i) (stepN i % 2) (mod2_lt _) 3 (by decide) 7 rfl 1 (by decide)
      (k0_off11_eq i) (k0_off20_eq i) (off10_eq i w cS 3)) $$ HV
    iintro HV
    iapply HQ
    isplitl [HK] <;> iassumption
  · intro h
    unfold before1
    rw [if_neg h, hw, hcL, hcS]
  iintro H1
  iapply (wp_dite_of c (IdleKV (F := F) c Vk Vv (stepN i + 1)) (after2 c Vk Vv S P i) ?_ ?_) $$ H2
  · intro h
    unfold after2
    rw [dif_pos h, hw, hcL, hcS]
    iintro H HQ
    rw [k0_part5_eq_skeleton]
    unfold k0_part5_skel
    rw [wp_bind, wp_pure]
    imodintro
    dsimp only
    imod (rings_start c Vk Vv w cL cS (stepN i + 1) (stepN_next i h)) $$ H with ⟨HK, HV⟩
    rw [wp_bind]
    iapply (part6_spec c w cL cS Vk Vv i arg6 harg6 arg7 harg7 arg8 harg8 arg9 harg9 arg10 harg10 arg11 harg11 arg12 harg12 _ _ h) $$ [HK HV]
    · isplitl [HK] <;> iassumption
    iintro H
    rw [wp_bind]
    iapply (part7_spec c w cL cS Vk Vv i arg6 harg6 arg7 harg7 arg8 harg8 arg9 harg9 arg10 harg10 arg11 harg11 arg12 harg12 _ _ h) $$ H
    iintro H
    rw [wp_bind]
    iapply (part8_spec c w cL cS Vk Vv i arg6 harg6 arg7 harg7 arg8 harg8 arg9 harg9 arg10 harg10 arg11 harg11 arg12 harg12 _ _ h) $$ H
    iintro ⟨HK, HV⟩
    rw [wp_bind]
    iapply (issueL c xkM k5M w cL cS Vk none (stepN i + 1) (stepN_next i h) ((stepN i + 1) % 2) (mod2_lt _) 3 (by decide) 6 rfl 0 (by decide)
      (k0_off21_eq i) (k0_off31_eq i) (off23_eq i w cL 3)) $$ HK
    iintro HK
    rw [wp_bind]
    iapply (issueL c xvM v5M w cL cS Vv none (stepN i + 1) (stepN_next i h) ((stepN i + 1) % 2) (mod2_lt _) 3 (by decide) 6 rfl 1 (by decide)
      (k0_off24_eq i) (k0_off31_eq i) (off23_eq i w cL 3)) $$ HV
    iintro HV
    rw [wp_bind]
    iapply (issueS c xkM k5M w cL cS Vk none (stepN i + 1) (stepN_next i h) ((stepN i + 1) % 2) (mod2_lt _) 3 (by decide) 7 rfl 0 (by decide)
      (k0_off21_eq i) (k0_off32_eq i) (off26_eq i w cS 3)) $$ HK
    iintro HK
    rw [wp_bind]
    iapply (issueS c xvM v5M w cL cS Vv none (stepN i + 1) (stepN_next i h) ((stepN i + 1) % 2) (mod2_lt _) 3 (by decide) 7 rfl 1 (by decide)
      (k0_off24_eq i) (k0_off32_eq i) (off26_eq i w cS 3)) $$ HV
    iintro HV
    iapply HQ
    isplitl [HK] <;> iassumption
  · intro h
    unfold after2
    rw [dif_neg h]
  iintro H2
  iapply (wp_dite_of c (HadR (F := F) c fh) (HadR (F := F) c (hadAfter c i fh)) ?_ ?_) $$ HH
  · intro h
    unfold hadAfter
    rw [if_pos h]
    exact had_spec c fh _
  · intro h
    unfold hadAfter
    rw [if_neg h]
  iintro HH
  iapply (wp_dite_of c (RotR (F := F) c arg6 X6 fc fs) (RotR (F := F) c arg6 X6 (cosAfter c i arg6 harg6 arg7 harg7 arg8 harg8 arg9 harg9 arg10 harg10 arg11 harg11 arg12 harg12 cL cS X6 fc) (sinAfter c i arg6 harg6 arg7 harg7 arg8 harg8 arg9 harg9 arg10 harg10 arg11 harg11 arg12 harg12 cL cS X6 fs)) ?_ ?_) $$ HR
  · intro h
    unfold cosAfter sinAfter
    rw [dif_pos h, dif_pos h]
    exact rot_spec c i arg6 harg6 arg7 harg7 arg8 harg8 arg9 harg9 arg10 harg10 arg11 harg11 arg12 harg12 h (BitVec.ofNat 32 (i 1).val) cL cS X6 fc fs _
  · intro h
    unfold cosAfter sinAfter
    rw [dif_neg h, dif_neg h]
  iintro HR
  iapply (wp_dite_of c (Trip1R (F := F) c arg8 X8 f) (Trip1R (F := F) c arg8 X8 (wvAfter c i arg6 harg6 arg7 harg7 arg8 harg8 arg9 harg9 arg10 harg10 arg11 harg11 arg12 harg12 X8 f)) ?_ ?_) $$ HW
  · intro h
    unfold wvAfter
    rw [dif_pos h]
    iintro H HQ
    rw [wp_bind]
    iapply (loop1 c i arg6 harg6 arg7 harg7 arg8 harg8 arg9 harg9 arg10 harg10 arg11 harg11 arg12 harg12 h X8 f) $$ H
    iintro H
    iapply HQ
    iexact H
  · intro h
    unfold wvAfter
    rw [dif_neg h]
  iintro HW
  rw [wp_pure]
  imodintro
  iapply HQ
  isplitl [HS HP]
  · isplitl [HS] <;> iassumption
  isplitl [H1]; · iexact H1
  isplitl [H2]; · iexact H2
  isplitl [HH]; · iexact HH
  isplitl [HR]; · iexact HR
  iexact HW

/-- The point's word of the ring slot, and the row numbers, as the head pairs' loop is given them. -/
abbrev slotW (i : grid0.Coords) : BitVec 32 := Scalar.remsi (stepW i) 2#32
abbrev rows8 : IVec S8x128 32 := iota .tc S8x128 32 [0] iota_S8x128_d0_w32

theorem rings_finish (w cL cS : BitVec 32) (t : ℕ) (ht : t < 20) :
    iprop(kR c w cL cS Vk t ht 8 8 ∗ vR c w cL cS Vv t ht 8 8)
      ⊢ iprop(|={Set.univ}=> (Filled c xkM k5M w cL cS Vk (cellM ![0, t % 2] (cell_inb 0 _ (by decide) (mod2_lt t))) t ht (t % 2) (mod2_lt t)
        ∗ Filled c xvM v5M w cL cS Vv (cellM ![1, t % 2] (cell_inb 1 _ (by decide) (mod2_lt t))) t ht (t % 2) (mod2_lt t))) := by
  iintro ⟨HK, HV⟩
  imod (ring_finish c xkM k5M w cL cS Vk _ t ht _ _) $$ HK with HK
  imod (ring_finish c xvM v5M w cL cS Vv _ t ht _ _) $$ HV with HV
  imodintro
  isplitl [HK] <;> iassumption

/-- What a point leaves in the four result blocks, out of the ring slots' contents and the tables. -/
def left (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G9 : BufTy.Contents (Elt F) arg9.view.ty) (G10 : BufTy.Contents (Elt F) arg10.view.ty) (G7 : BufTy.Contents (Elt F) arg11.view.ty) (G8 : BufTy.Contents (Elt F) arg12.view.ty) : sProp 𝕄 :=
  iprop((arg9.view.loc (c : Thread nD τ) ↦[arg9.view.set]{fullShare} (arg9.view.writes (Elt F) G9 (pb2 (F := F) c i arg6 harg6 arg7 harg7 arg8 harg8 arg9 harg9 arg10 harg10 arg11 harg11 arg12 harg12 (slotW i) rows8 Xk X Co Si X7 Hd Wv k0_t2_loop.trips).1))
    ∗ (arg10.view.loc (c : Thread nD τ) ↦[arg10.view.set]{fullShare} (arg10.view.writes (Elt F) G10 (pb2 (F := F) c i arg6 harg6 arg7 harg7 arg8 harg8 arg9 harg9 arg10 harg10 arg11 harg11 arg12 harg12 (slotW i) rows8 Xk X Co Si X7 Hd Wv k0_t2_loop.trips).2.1))
    ∗ (arg11.view.loc (c : Thread nD τ) ↦[arg11.view.set]{fullShare} (arg11.view.writes (Elt F) G7 (pb2 (F := F) c i arg6 harg6 arg7 harg7 arg8 harg8 arg9 harg9 arg10 harg10 arg11 harg11 arg12 harg12 (slotW i) rows8 Xk X Co Si X7 Hd Wv k0_t2_loop.trips).2.2.1))
    ∗ (arg12.view.loc (c : Thread nD τ) ↦[arg12.view.set]{fullShare} (arg12.view.writes (Elt F) G8 (pb2 (F := F) c i arg6 harg6 arg7 harg7 arg8 harg8 arg9 harg9 arg10 harg10 arg11 harg11 arg12 harg12 (slotW i) rows8 Xk X Co Si X7 Hd Wv k0_t2_loop.trips).2.2.2)))

theorem body_spec (q : PosShare TreeShare) (fh : BufTy.Contents (Elt F) hadM.view.ty) (X6 : BufTy.Contents (Elt F) arg6.view.ty) (fc : BufTy.Contents (Elt F) cosM.view.ty) (fs : BufTy.Contents (Elt F) sinM.view.ty)
    (X7 : BufTy.Contents (Elt F) arg7.view.ty) (X8 : BufTy.Contents (Elt F) arg8.view.ty) (f : BufTy.Contents (Elt F) wvM.view.ty)
    (G9 : BufTy.Contents (Elt F) arg9.view.ty) (G10 : BufTy.Contents (Elt F) arg10.view.ty) (G7 : BufTy.Contents (Elt F) arg11.view.ty) (G8 : BufTy.Contents (Elt F) arg12.view.ty) :
    iprop(Tabs c S P q ∗ before1 c Vk Vv S P i ∗ IdleKV (F := F) c Vk Vv (stepN i + 1) ∗ HadR (F := F) c fh ∗ RotR (F := F) c arg6 X6 fc fs ∗ Trip1R (F := F) c arg8 X8 f
        ∗ (arg7.view.loc (c : Thread nD τ) ↦[arg7.view.set]{fullShare} X7) ∗ (arg9.view.loc (c : Thread nD τ) ↦[arg9.view.set]{fullShare} G9)
        ∗ (arg10.view.loc (c : Thread nD τ) ↦[arg10.view.set]{fullShare} G10)
        ∗ (arg11.view.loc (c : Thread nD τ) ↦[arg11.view.set]{fullShare} G7)
        ∗ (arg12.view.loc (c : Thread nD τ) ↦[arg12.view.set]{fullShare} G8) ∗ Ow c)
      ⊢ wp frame (wpE (defs₀ (F := F)) Variants.none (c : Thread nD τ) none) Set.univ
          (cc0_rotated_int4_store (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8)
          fun _ => iprop(Tabs c S P q ∗ IdleKV (F := F) c Vk Vv (stepN i) ∗ after2 c Vk Vv S P i
            ∗ HadR (F := F) c (hadAfter c i fh)
            ∗ RotR (F := F) c arg6 X6 (cosAfter c i arg6 harg6 arg7 harg7 arg8 harg8 arg9 harg9 arg10 harg10 arg11 harg11 arg12 harg12 (cLof P (wOf S)) (cSof P (wOf S)) X6 fc) (sinAfter c i arg6 harg6 arg7 harg7 arg8 harg8 arg9 harg9 arg10 harg10 arg11 harg11 arg12 harg12 (cLof P (wOf S)) (cSof P (wOf S)) X6 fs)
            ∗ Trip1R (F := F) c arg8 X8 (wvAfter c i arg6 harg6 arg7 harg7 arg8 harg8 arg9 harg9 arg10 harg10 arg11 harg11 arg12 harg12 X8 f)
            ∗ (arg7.view.loc (c : Thread nD τ) ↦[arg7.view.set]{fullShare} X7)
            ∗ (∃ Xk, ∃ X, ⌜(∀ j, good xkM k5M (wOf S) (cLof P (wOf S)) (cSof P (wOf S)) Vk (stepN i) (stepN_lt i) (stepN i % 2) (mod2_lt _) j Xk) ∧ ∀ j, good xvM v5M (wOf S) (cLof P (wOf S)) (cSof P (wOf S)) Vv (stepN i) (stepN_lt i) (stepN i % 2) (mod2_lt _) j X⌝
                ∗ left c i arg6 harg6 arg7 harg7 arg8 harg8 arg9 harg9 arg10 harg10 arg11 harg11 arg12 harg12 Xk X (cosAfter c i arg6 harg6 arg7 harg7 arg8 harg8 arg9 harg9 arg10 harg10 arg11 harg11 arg12 harg12 (cLof P (wOf S)) (cSof P (wOf S)) X6 fc) (sinAfter c i arg6 harg6 arg7 harg7 arg8 harg8 arg9 harg9 arg10 harg10 arg11 harg11 arg12 harg12 (cLof P (wOf S)) (cSof P (wOf S)) X6 fs) X7 (hadAfter c i fh) (wvAfter c i arg6 harg6 arg7 harg7 arg8 harg8 arg9 harg9 arg10 harg10 arg11 harg11 arg12 harg12 X8 f) G9 G10 G7 G8)
            ∗ Ow c) := by
  rw [cc0_rotated_int4_store_eq_skeleton]
  unfold cc0_rotated_int4_store_skel
  dsimp only
  iintro ⟨HT, H1, H2, HH, HR, HW, HS7, H9, H10, H7, H8, HO⟩
  iapply (wp_bind_i c)
  iapply (part103_spec c Vk Vv S P i arg6 harg6 arg7 harg7 arg8 harg8 arg9 harg9 arg10 harg10 arg11 harg11 arg12 harg12 q fh X6 fc fs X8 f) $$ [HT H1 H2 HH HR HW]
  · isplitl [HT]; · iexact HT
    isplitl [H1]; · iexact H1
    isplitl [H2]; · iexact H2
    isplitl [HH]; · iexact HH
    isplitl [HR]; · iexact HR
    iexact HW
  iintro %v28 ⟨HT, ⟨HK, HV⟩, H2, HH, ⟨H6, HC, HS⟩, ⟨HS8, HW⟩⟩
  dsimp only
  generalize hw : wOf S = w
  generalize hcL : cLof P w = cL
  generalize hcS : cSof P w = cS
  rw [k0_part104_eq_skeleton]
  unfold k0_part104_skel
  rw [wp_bind, wp_pure]
  imodintro
  rw [wp_bind]
  iapply (part105_spec c w cL cS Vk Vv i arg6 harg6 arg7 harg7 arg8 harg8 arg9 harg9 arg10 harg10 arg11 harg11 arg12 harg12 _ _ _ _ _) $$ [HK HV HO]
  · isplitl [HK]; · iexact HK
    isplitl [HV] <;> iassumption
  iintro H
  rw [wp_bind]
  iapply (part106_spec c w cL cS Vk Vv i arg6 harg6 arg7 harg7 arg8 harg8 arg9 harg9 arg10 harg10 arg11 harg11 arg12 harg12 _ _) $$ H
  iintro H
  rw [wp_bind]
  iapply (part107_spec c w cL cS Vk Vv i arg6 harg6 arg7 harg7 arg8 harg8 arg9 harg9 arg10 harg10 arg11 harg11 arg12 harg12 _ _) $$ H
  iintro ⟨HK, HV, HO⟩
  rw [wp_bind]
  iapply (waitOne c xkM k5M w cL cS Vk none _ (stepN i) (stepN_lt i) (stepN i % 2) (mod2_lt _) 6 (by decide) (cell_congr (k0_off41_eq i) _ _)
    (amt_L xkM 6 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 6 (by decide) (cell_congr (k0_off44_eq i) _ _)
    (amt_L xvM 6 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 7 (by decide) (cell_congr (k0_off41_eq i) _ _)
    (amt_S xkM 7 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 7 (by decide) (cell_congr (k0_off44_eq i) _ _)
    (amt_S xvM 7 (by decide) rfl)) $$ [HV HO]
  · isplitl [HV] <;> iassumption
  iintro ⟨HV, HO⟩
  imod (rings_finish c Vk Vv w cL cS (stepN i) (stepN_lt i)) $$ [HK HV] with ⟨HK, HV⟩
  · isplitl [HK] <;> iassumption
  unfold Filled
  icases HK with ⟨⟨%Xk, HXk, %hXk⟩, Hrk⟩
  icases HV with ⟨⟨%X, HX, %hX⟩, Hrest⟩
  rw [wp_bind]
  iapply (loop2 c i arg6 harg6 arg7 harg7 arg8 harg8 arg9 harg9 arg10 harg10 arg11 harg11 arg12 harg12 (slotW i) rows8 Xk X (cosAfter c i arg6 harg6 arg7 harg7 arg8 harg8 arg9 harg9 arg10 harg10 arg11 harg11 arg12 harg12 cL cS X6 fc) (sinAfter c i arg6 harg6 arg7 harg7 arg8 harg8 arg9 harg9 arg10 harg10 arg11 harg11 arg12 harg12 cL cS X6 fs) X7 (hadAfter c i fh) (wvAfter c i arg6 harg6 arg7 harg7 arg8 harg8 arg9 harg9 arg10 harg10 arg11 harg11 arg12 harg12 X8 f) G9 G10 G7 G8) $$ [HXk HX HC HS HS7 HH HW H9 H10 H7 H8]
  · isplitl [HXk]; · iexact HXk
    isplitl [HX]; · iexact HX
    isplitl [HC]; · iexact HC
    isplitl [HS]; · iexact HS
    isplitl [HS7]; · iexact HS7
    isplitl [HH]; · iexact HH
    isplitl [HW]; · iexact HW
    isplitl [H9]; · iexact H9
    isplitl [H10]; · iexact H10
    isplitl [H7] <;> iassumption
  iintro ⟨HXk, HX, HC, HS, HS7, HH, HW, H9, H10, H7, H8⟩
  rw [wp_pure]
  imodintro
  isplitl [HT]; · iexact HT
  isplitl [HXk Hrk HX Hrest]
  · isplitl [HXk Hrk]
    · unfold Idle
      isplitl [HXk]
      · iexists Xk; iexact HXk
      · iexact Hrk
    unfold Idle
    isplitl [HX]
    · iexists X; iexact HX
    · iexact Hrest
  isplitl [H2]; · iexact H2
  isplitl [HH]; · iexact HH
  isplitl [H6 HC HS]
  · isplitl [H6]; · iexact H6
    isplitl [HC] <;> iassumption
  isplitl [HS8 HW]
  · isplitl [HS8] <;> iassumption
  isplitl [HS7]; · iexact HS7
  isplitr [HO]
  · iexists Xk, X
    isplitr
    · ipureintro; exact ⟨hXk, hX⟩
    · unfold left
      isplitl [H9]; · iexact H9
      isplitl [H10]; · iexact H10
      isplitl [H7] <;> iassumption
  · iexact HO

end Cert.KernelIdeal.Hand

end
-- ==== Proof.Start.lean ====
module

public import proofs.«01_k».proof.Proof.Body
public import proofs.«01_k».proof.Proof.Gen.KernelIdeal.Launch

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rings before the first point and after the last -/

/-- A ring slot is named by its parity. -/
theorem idleKV_congr (c : Dev nD) (Vk : BufTy.Contents (Elt F) k5M.view.ty) (Vv : BufTy.Contents (Elt F) v5M.view.ty) (t t' : ℕ) (h : t % 2 = t' % 2) :
    IdleKV (F := F) c Vk Vv t = IdleKV c Vk Vv t' := by
  have key : ∀ (a b : ℕ) (ha : a < 2) (hb : b < 2), a = b →
      (iprop(Idle (F := F) c xkM k5M Vk (cellM ![0, a] (cell_inb 0 _ (by decide) ha)) a ha ∗ Idle c xvM v5M Vv (cellM ![1, a] (cell_inb 1 _ (by decide) ha)) a ha) : sProp 𝕄)
        = iprop(Idle c xkM k5M Vk (cellM ![0, b] (cell_inb 0 _ (by decide) hb)) b hb ∗ Idle c xvM v5M Vv (cellM ![1, b] (cell_inb 1 _ (by decide) hb)) b hb) := by
    intro a b ha hb e; subst e; rfl
  exact key _ _ _ _ h

theorem slots_union (M : RingM) (hM : M.IsWhole) : M.view.setOn (slotR 0 (by decide)).set ∪ M.view.setOn (slotR 1 (by decide)).set = Finset.univ := by
  rw [← hM.set_eq_univ]
  ext x
  simp only [View.setOn, View.set, Finset.mem_union, Finset.mem_map, Finset.mem_univ, true_and]
  constructor
  · rintro (⟨y, -, rfl⟩ | ⟨y, -, rfl⟩) <;> exact ⟨y, rfl⟩
  · rintro ⟨y, rfl⟩
    have h0 : (y 0).val < 2 := (y 0).isLt
    have h1 : (y 1).val < 256 := (y 1).isLt
    have h2 : (y 2).val < 24 := (y 2).isLt
    have h3 : (y 3).val < 128 := (y 3).isLt
    by_cases e : (y 0).val = 0
    · left; refine ⟨y, ?_, rfl⟩; rw [Rect.mem_set_unit]; intro a; fin_cases a <;> simp <;> omega
    · right; refine ⟨y, ?_, rfl⟩; rw [Rect.mem_set_unit]; intro a; fin_cases a <;> simp <;> omega

theorem slots_disj (M : RingM) : Disjoint (M.view.setOn (slotR 0 (by decide)).set) (M.view.setOn (slotR 1 (by decide)).set) := by
  unfold View.setOn
  rw [Finset.disjoint_map, Finset.disjoint_left]
  intro y hy hy'
  rw [Rect.mem_set_unit] at hy hy'
  have h := hy 0; have h' := hy' 0
  simp at h h'
  omega

section
variable (c : Dev nD) (M : RingM) (hM : M.IsWhole) (H : PageM) (V : BufTy.Contents (Elt F) H.view.ty) (sm0 sm1 : DmaSem sig)

theorem toks_eq : (H.view.loc (c : Thread nD τ) ↦{fullShare} V : sProp 𝕄) = iprop(toks c H V 0 (by decide) ∗ toks c H V 1 (by decide)) := by
  refine (ShareLeaves.pointsTo_leaves (ℓ := H.view.loc (c : Thread nD τ)) Finset.univ V 4 fullShare).trans ?_
  unfold toks
  rw [bigSep_univ_equiv (finSumFinEquiv (m := 8) (n := 8)) (fun i : Fin (2 ^ 4) => (H.view.loc (c : Thread nD τ) ↦{ShareLeaves.leaf 4 fullShare i} V : sProp 𝕄)), bigSep_univ_sum]
  congr 1 <;> refine bigSep_congr fun j _ => ?_

include hM in
theorem idle_of : iprop((∃ f, M.view.loc (c : Thread nD τ) ↦{fullShare} f) ∗ (H.view.loc (c : Thread nD τ) ↦{fullShare} V)
      ∗ semVal ((c : Thread nD τ), .dma sm0) 0 ∗ semVal ((c : Thread nD τ), .dma sm1) 0)
    ⊢ iprop(Idle c M H V sm0 0 (by decide) ∗ Idle c M H V sm1 1 (by decide) : sProp 𝕄) := by
  rw [toks_eq]
  unfold Idle
  iintro ⟨⟨%f, Hf⟩, ⟨Ht0, Ht1⟩, Hs0, Hs1⟩
  rw [← slots_union M hM]
  ihave Hf := (pointsTo_union (slots_disj M)).1 $$ Hf
  icases Hf with ⟨Hf0, Hf1⟩
  isplitl [Hf0 Ht0 Hs0]
  · isplitl [Hf0]; · iexists f; iexact Hf0
    isplitl [Ht0] <;> iassumption
  · isplitl [Hf1]; · iexists f; iexact Hf1
    isplitl [Ht1] <;> iassumption

include hM in
theorem idle_to : iprop(Idle c M H V sm0 0 (by decide) ∗ Idle c M H V sm1 1 (by decide))
    ⊢ iprop((∃ f, M.view.loc (c : Thread nD τ) ↦{fullShare} f) ∗ (H.view.loc (c : Thread nD τ) ↦{fullShare} V)
      ∗ semVal ((c : Thread nD τ), .dma sm0) 0 ∗ semVal ((c : Thread nD τ), .dma sm1) 0 : sProp 𝕄) := by
  rw [toks_eq]
  unfold Idle
  iintro ⟨⟨⟨%f, Hf⟩, Ht0, Hs0⟩, ⟨⟨%g, Hg⟩, Ht1, Hs1⟩⟩
  isplitl [Hf Hg]
  · rw [← slots_union M hM]
    ihave HJ := (pointsTo_join (ℓ := M.view.loc (c : Thread nD τ)) (I := M.view.setOn (slotR 0 (by decide)).set) (J := M.view.setOn (slotR 1 (by decide)).set) (slots_disj M)) $$ [Hf Hg]
    · isplitl [Hf] <;> iassumption
    iexists _
    iexact HJ
  isplitl [Ht0 Ht1]; · isplitl [Ht0] <;> iassumption
  isplitl [Hs0] <;> iassumption
end

/-! ## The body's own cells -/

abbrev osem0 : Fin 4 → SemLoc sig := fun j => (![SemLoc.dma (cellM ![0, 0] (cell_inb 0 0 (by decide) (by decide))), SemLoc.dma (cellM ![0, 1] (cell_inb 0 1 (by decide) (by decide))),
  SemLoc.dma (cellM ![1, 0] (cell_inb 1 0 (by decide) (by decide))), SemLoc.dma (cellM ![1, 1] (cell_inb 1 1 (by decide) (by decide)))] : Fin 4 → SemLoc sig) j
theorem ownSemFacts0 : Pipeline.OwnSemFacts spec0 osem0 := by decide
theorem ownSems0_eq4 (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), osem0 0) 0 ∗ semVal ((c : Thread nD τ), osem0 1) 0
          ∗ semVal ((c : Thread nD τ), osem0 2) 0 ∗ semVal ((c : Thread nD τ), osem0 3) 0) := by
  rw [Pipeline.ownSems0_eq_of_list c osem0 [0, 1, 2, 3] (by decide) (by decide)]; rfl

def H0 : Finset (Ref sig .tc) := {main_v10, main_v11}
theorem H0_sub : H0 ⊆ Pipeline.restRefsP sig pre0 spec0 := by decide

end Cert.KernelIdeal.Hand

end
-- ==== Proof.Frame.lean ====
module

public import proofs.«01_k».proof.Proof.Start

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- The arrays as the region finds them. -/
def V (c : Dev nD) (b : Ref sig .tc) : Buf (Elt F) ((c : Thread nD τ).loc b) := StableHlo.after hostOps0 (fun b => m (c, b)) b

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix _ 0 defs₀ 𝒱₀ m main hostOps0 hostOps0_sub ⟨rfl, rfl, rfl, rfl, rfl, rfl, rfl, rfl, rfl, rfl, rfl, rfl, rfl, rfl, rfl, rfl, rfl⟩ main_chain

/-- The tables' contents, of which the index maps ask nothing. -/
def adm : (pcfg0 (F := F)).Adm := ⟨fun k => V m 0 (pre0.ref k), trivial⟩
theorem V_pre (c : Dev nD) (k : Fin pre0.K) : V m c (pre0.ref k) = (adm m).1 k := by
  obtain rfl : c = 0 := Subsingleton.elim _ _
  rfl

abbrev cfgA : Pipeline.Cfg sig Λ₀ := cfg0 (adm m)
abbrev Sm (c : Dev nD) : BufTy.Contents (Elt F) slotM.view.ty := V m c main_v12
abbrev Pm (c : Dev nD) : BufTy.Contents (Elt F) posM.view.ty := V m c main_v13
abbrev Km (c : Dev nD) : BufTy.Contents (Elt F) k5M.view.ty := V m c main_v10
abbrev Vm (c : Dev nD) : BufTy.Contents (Elt F) v5M.view.ty := V m c main_v11
abbrev ctxL (c : Dev nD) : BitVec 32 := cLof (Pm m c) (wOf (Sm m c))
abbrev ctxS (c : Dev nD) : BitVec 32 := cSof (Pm m c) (wOf (Sm m c))

/-! ## What a point leaves -/

/-- `X` is the table of frequencies. -/
def FreqBlk (c : Dev nD) (X : S1x128.Idx → Elt F .f32) : Prop := ∀ x, X x = (V m c main_v9 : S1x128.Idx → Elt F .f32) x
/-- `X` is head block `hb`'s part of v's signs. -/
def SignBlk (c : Dev nD) (hb : ℕ) (X : S16x128.Idx → Elt F .f32) : Prop :=
  ∀ (x : S16x128.Idx) (y : S80x128.Idx), (y 0).val = 16 * hb + (x 0).val → (y 1).val = (x 1).val → X x = (V m c main_arg3 : S80x128.Idx → Elt F .f32) y
/-- `X` is head block `hb`'s part of k's signs. -/
def SignBlkK (c : Dev nD) (hb : ℕ) (X : S16x128.Idx → Elt F .f32) : Prop :=
  ∀ (x : S16x128.Idx) (y : S80x128.Idx), (y 0).val = 16 * hb + (x 0).val → (y 1).val = (x 1).val → X x = (V m c main_arg2 : S80x128.Idx → Elt F .f32) y

/-- `f` is head block `hb`'s sign tables, as the loop writes them. -/
def WvGood (c : Dev nD) (hb : ℕ) (f : BufTy.Contents (Elt F) wvM.view.ty) : Prop :=
  ∃ (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (h3 : k0_cond5 i = 1#1) (X6 : BufTy.Contents (Elt F) arg8.view.ty) (f0 : BufTy.Contents (Elt F) wvM.view.ty),
    SignBlk m c hb (arg8.view.read (Elt F) X6) ∧ f = wvM.view.writes (Elt F) f0 (pb1 (F := F) c i arg6 harg6 arg7 harg7 arg8 harg8 arg9 harg9 arg10 harg10 arg11 harg11 arg12 harg12 h3 X6 k0_t1_loop.trips)
/-- `f` is the Hadamard table, as the first point writes it. -/
def HadGood (c : Dev nD) (f : BufTy.Contents (Elt F) hadM.view.ty) : Prop := ∃ f0, f = hadM.view.writes (Elt F) f0 (hadRun (F := F) c).1
/-- Row `q` of the rotary tables is as a point of page group `q` writes it. -/
def RotRow (c : Dev nD) (q : ℕ) (fc : BufTy.Contents (Elt F) cosM.view.ty) (fs : BufTy.Contents (Elt F) sinM.view.ty) : Prop :=
  ∃ (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (h4 : k0_cond4 i = 1#1) (X6 : BufTy.Contents (Elt F) arg6.view.ty) (fc0 : BufTy.Contents (Elt F) cosM.view.ty) (fs0 : BufTy.Contents (Elt F) sinM.view.ty),
    (i 1).val = q ∧ FreqBlk m c (arg6.view.read (Elt F) X6) ∧ ∀ y : S4x256x128.Idx, (y 0).val = q →
      cosM.view.read (Elt F) fc y = cosM.view.read (Elt F) (cosM.view.writes (Elt F) fc0 (rotRun (F := F) c i arg6 harg6 arg7 harg7 arg8 harg8 arg9 harg9 arg10 harg10 arg11 harg11 arg12 harg12 h4 (BitVec.ofNat 32 (i 1).val) (ctxL m c) (ctxS m c) X6).1) y
      ∧ sinM.view.read (Elt F) fs y = sinM.view.read (Elt F) (sinM.view.writes (Elt F) fs0 (rotRun (F := F) c i arg6 harg6 arg7 harg7 arg8 harg8 arg9 harg9 arg10 harg10 arg11 harg11 arg12 harg12 h4 (BitVec.ofNat 32 (i 1).val) (ctxL m c) (ctxS m c) X6).2.1) y
/-- The rows of the points before `n` are written. -/
def RotGood (c : Dev nD) (n : ℕ) (fc : BufTy.Contents (Elt F) cosM.view.ty) (fs : BufTy.Contents (Elt F) sinM.view.ty) : Prop := ∀ q, q < n → q < 4 → RotRow m c q fc fs

/-- The contents that point `i`'s results are computed from: the rings' slots, the rotary tables, k's signs, the Hadamard table and v's tables. -/
def FromOk (c : Dev nD) (i : grid0.Coords) (Xk : BufTy.Contents (Elt F) xkM.view.ty) (X : BufTy.Contents (Elt F) xvM.view.ty) (Co : BufTy.Contents (Elt F) cosM.view.ty) (Si : BufTy.Contents (Elt F) sinM.view.ty)
    (Y7 : S16x128.Idx → Elt F .f32) (Hd : BufTy.Contents (Elt F) hadM.view.ty) (Wv : BufTy.Contents (Elt F) wvM.view.ty) : Prop :=
  (∀ j, good xkM k5M (wOf (Sm m c)) (ctxL m c) (ctxS m c) (Km m c) (stepN i) (stepN_lt i) (stepN i % 2) (mod2_lt _) j Xk)
  ∧ (∀ j, good xvM v5M (wOf (Sm m c)) (ctxL m c) (ctxS m c) (Vm m c) (stepN i) (stepN_lt i) (stepN i % 2) (mod2_lt _) j X)
  ∧ RotRow m c (i 1).val Co Si ∧ SignBlkK m c (i 0).val Y7 ∧ HadGood c Hd ∧ WvGood m c (i 0).val Wv

def Res9 (c : Dev nD) (i : grid0.Coords) (Y : S2x16x64x128.Idx → Elt F .i8) : Prop :=
  ∃ (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G : BufTy.Contents (Elt F) arg9.view.ty),
    FromOk m c i Xk X Co Si (arg7.view.read (Elt F) X7) Hd Wv
      ∧ Y = arg9.view.read (Elt F) (arg9.view.writes (Elt F) G (pb2 (F := F) c i arg6 harg6 arg7 harg7 arg8 harg8 arg9 harg9 arg10 harg10 arg11 harg11 arg12 harg12 (slotW i) rows8 Xk X Co Si X7 Hd Wv k0_t2_loop.trips).1)
def Res10 (c : Dev nD) (i : grid0.Coords) (Y : S2x16x4x128.Idx → Elt F .bf16) : Prop :=
  ∃ (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G : BufTy.Contents (Elt F) arg10.view.ty),
    FromOk m c i Xk X Co Si (arg7.view.read (Elt F) X7) Hd Wv
      ∧ Y = arg10.view.read (Elt F) (arg10.view.writes (Elt F) G (pb2 (F := F) c i arg6 harg6 arg7 harg7 arg8 harg8 arg9 harg9 arg10 harg10 arg11 harg11 arg12 harg12 (slotW i) rows8 Xk X Co Si X7 Hd Wv k0_t2_loop.trips).2.1)
def Res7 (c : Dev nD) (i : grid0.Coords) (Y : S2x16x64x128.Idx → Elt F .i8) : Prop :=
  ∃ (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G : BufTy.Contents (Elt F) arg11.view.ty),
    FromOk m c i Xk X Co Si (arg7.view.read (Elt F) X7) Hd Wv
      ∧ Y = arg11.view.read (Elt F) (arg11.view.writes (Elt F) G (pb2 (F := F) c i arg6 harg6 arg7 harg7 arg8 harg8 arg9 harg9 arg10 harg10 arg11 harg11 arg12 harg12 (slotW i) rows8 Xk X Co Si X7 Hd Wv k0_t2_loop.trips).2.2.1)
def Res8 (c : Dev nD) (i : grid0.Coords) (Y : S2x16x4x128.Idx → Elt F .bf16) : Prop :=
  ∃ (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G : BufTy.Contents (Elt F) arg12.view.ty),
    FromOk m c i Xk X Co Si (arg7.view.read (Elt F) X7) Hd Wv
      ∧ Y = arg12.view.read (Elt F) (arg12.view.writes (Elt F) G (pb2 (F := F) c i arg6 harg6 arg7 harg7 arg8 harg8 arg9 harg9 arg10 harg10 arg11 harg11 arg12 harg12 (slotW i) rows8 Xk X Co Si X7 Hd Wv k0_t2_loop.trips).2.2.2)

/-! ## The invariant -/

/-- The rings before point `n`: its transfers in flight but at the two ends, the other slot idle. -/
def RingsAt (c : Dev nD) (n : ℕ) : sProp 𝕄 :=
  if h : 0 < n ∧ n < 20 then iprop(Flying c (Km m c) (Vm m c) (wOf (Sm m c)) (ctxL m c) (ctxS m c) n h.2 ∗ IdleKV c (Km m c) (Vm m c) (n + 1))
  else iprop(IdleKV c (Km m c) (Vm m c) n ∗ IdleKV c (Km m c) (Vm m c) (n + 1))

/-- The scratch buffers the body leaves alone. -/
def Others (c : Dev nD) : sProp 𝕄 :=
  iprop((∃ f, (c : Thread nD τ).loc cc0_scratch4 ↦{fullShare} f) ∗ (∃ f, (c : Thread nD τ).loc cc0_scratch5 ↦{fullShare} f))

def Φm (c : Dev nD) (n : ℕ) : sProp 𝕄 :=
  iprop(Tabs c (Sm m c) (Pm m c) fullShare.right ∗ RingsAt m c n
    ∗ (∃ f, ⌜n % 4 ≠ 0 → WvGood m c (n / 4) f⌝ ∗ (wvM.view.loc (c : Thread nD τ) ↦[wvM.view.set]{fullShare} f))
    ∗ (∃ f, ⌜n ≠ 0 → HadGood c f⌝ ∗ (hadM.view.loc (c : Thread nD τ) ↦[hadM.view.set]{fullShare} f))
    ∗ (∃ fc, ∃ fs, ⌜RotGood m c n fc fs⌝ ∗ (cosM.view.loc (c : Thread nD τ) ↦[cosM.view.set]{fullShare} fc) ∗ (sinM.view.loc (c : Thread nD τ) ↦[sinM.view.set]{fullShare} fs))
    ∗ Others c ∗ (∃ r, prngReg c r))

def rdat (c : Dev nD) : Pipeline.RDat τ (Elt F) Unit ℕ (Pipeline.UD sig nD τ) ℕ (cfgA m) c where
  A w := V m c (Pipeline.arrRef spec0 w)
  after w t Y X := match w with
    | 0 => X = Y
    | 1 => X = Y
    | 2 => X = Y
    | 3 => Res9 m c (grid0.coords t) X
    | 4 => Res10 m c (grid0.coords t) X
    | 5 => Res7 m c (grid0.coords t) X
    | 6 => Res8 m c (grid0.coords t) X
    | ⟨_ + 7, h⟩ => absurd h (Nat.not_lt.2 (Nat.le_add_left _ _))
  Φ t := Φm m c t.val
  q _ := fullShare
  owed _ := 0

/-! ## One point -/

theorem step_coords : ∀ t : Fin grid0.N, stepN (grid0.coords t) = t.val := by decide
theorem cond1_coords : ∀ t : Fin grid0.N, (k0_cond1 (grid0.coords t) = 1#1) ↔ t.val = 0 := by decide
theorem cond2_coords : ∀ t : Fin grid0.N, (k0_cond2 (grid0.coords t) = 1#1) ↔ t.val + 1 < 20 := by decide
theorem cond3_coords : ∀ t : Fin grid0.N, (k0_cond5 (grid0.coords t) = 1#1) ↔ t.val % 4 = 0 := by decide
theorem cond4_coords : ∀ t : Fin grid0.N, (k0_cond4 (grid0.coords t) = 1#1) ↔ t.val < 4 := by decide
theorem first_coords : ∀ t : Fin grid0.N, isFirst (grid0.coords t) ↔ t.val = 0 := by decide
theorem page_coords : ∀ t : Fin grid0.N, ((grid0.coords t) 1).val = t.val % 4 := by decide
theorem head_coords : ∀ t : Fin grid0.N, ((grid0.coords t) 0).val = t.val / 4 := by decide

theorem rings_in (c : Dev nD) (t : Fin grid0.N) :
    RingsAt m c t.val ⊢ iprop(before1 c (Km m c) (Vm m c) (Sm m c) (Pm m c) (grid0.coords t) ∗ IdleKV c (Km m c) (Vm m c) (stepN (grid0.coords t) + 1)) := by
  have key : ∀ n (hn : n < 20), n = t.val → RingsAt m c t.val
      ⊢ iprop((if k0_cond1 (grid0.coords t) = 1#1 then IdleKV (F := F) c (Km m c) (Vm m c) n else Flying c (Km m c) (Vm m c) (wOf (Sm m c)) (ctxL m c) (ctxS m c) n hn)
        ∗ IdleKV c (Km m c) (Vm m c) (n + 1)) := by
    rintro n hn rfl
    unfold RingsAt
    by_cases h : t.val = 0
    · rw [dif_neg (by omega), if_pos ((cond1_coords t).2 h)]
    · rw [dif_pos ⟨by omega, hn⟩, if_neg (fun h' => h ((cond1_coords t).1 h'))]
  exact key _ (stepN_lt _) (step_coords t)

theorem rings_out (c : Dev nD) (t : Fin grid0.N) :
    iprop(IdleKV c (Km m c) (Vm m c) (stepN (grid0.coords t)) ∗ after2 c (Km m c) (Vm m c) (Sm m c) (Pm m c) (grid0.coords t)) ⊢ RingsAt m c (t.val + 1) := by
  unfold after2
  have key : ∀ n, n = t.val → ∀ hn : k0_cond2 (grid0.coords t) = 1#1 → n + 1 < 20,
      iprop(IdleKV (F := F) c (Km m c) (Vm m c) n ∗ (if h : k0_cond2 (grid0.coords t) = 1#1 then Flying c (Km m c) (Vm m c) (wOf (Sm m c)) (ctxL m c) (ctxS m c) (n + 1) (hn h)
        else IdleKV (F := F) c (Km m c) (Vm m c) (n + 1))) ⊢ RingsAt m c (t.val + 1) := by
    rintro n rfl hn
    unfold RingsAt
    by_cases h : k0_cond2 (grid0.coords t) = 1#1
    · rw [dif_pos h, dif_pos ⟨by omega, hn h⟩, idleKV_congr c (Km m c) (Vm m c) t.val (t.val + 1 + 1) (by omega)]
      iintro ⟨H1, H2⟩
      isplitl [H2] <;> iassumption
    · rw [dif_neg h, dif_neg (fun h' => h ((cond2_coords t).2 h'.2)), idleKV_congr c (Km m c) (Vm m c) t.val (t.val + 1 + 1) (by omega)]
      iintro ⟨H1, H2⟩
      isplitl [H2] <;> iassumption
  exact key _ (step_coords t) (stepN_next _)

theorem wv_next (c : Dev nD) (t : Fin grid0.N) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (X6 : BufTy.Contents (Elt F) arg8.view.ty) (f : BufTy.Contents (Elt F) wvM.view.ty)
    (h6 : t.val % 4 = 0 → SignBlk m c (t.val / 4) (arg8.view.read (Elt F) X6)) (hf : t.val % 4 ≠ 0 → WvGood m c (t.val / 4) f) :
    WvGood m c (t.val / 4) (wvAfter c (grid0.coords t) arg6 harg6 arg7 harg7 arg8 harg8 arg9 harg9 arg10 harg10 arg11 harg11 arg12 harg12 X6 f) := by
  unfold wvAfter
  by_cases h : k0_cond5 (grid0.coords t) = 1#1
  · rw [dif_pos h]
    exact ⟨_, arg6, harg6, arg7, harg7, arg8, harg8, arg9, harg9, arg10, harg10, arg11, harg11, arg12, harg12, h, X6, f, h6 ((cond3_coords t).1 h), rfl⟩
  · rw [dif_neg h]
    exact hf fun h' => h ((cond3_coords t).2 h')

theorem had_next (c : Dev nD) (t : Fin grid0.N) (f : BufTy.Contents (Elt F) hadM.view.ty) (hf : t.val ≠ 0 → HadGood c f) : HadGood c (hadAfter c (grid0.coords t) f) := by
  unfold hadAfter
  by_cases h : isFirst (grid0.coords t)
  · rw [if_pos h]
    exact ⟨f, rfl⟩
  · rw [if_neg h]
    exact hf fun h' => h ((first_coords t).2 h')

theorem row_toNat : ∀ q : Fin 4, (Scalar.indexCast (BitVec.ofNat 32 q.val) : Index).toNat = q.val := by decide

theorem cos_pieces (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (h4 : k0_cond4 i = 1#1) (a1 cL cS : BitVec 32) (X6 : BufTy.Contents (Elt F) arg6.view.ty) :
    ∃ w1 w2 w3 w4, (rotRun (F := F) c i arg6 harg6 arg7 harg7 arg8 harg8 arg9 harg9 arg10 harg10 arg11 harg11 arg12 harg12 h4 a1 cL cS X6).1
      = [⟨Rect.unit (s := S4x256x128) (k0_off36 i) S1x64x128.size (k0_off36_inb i h4), w4⟩, ⟨Rect.unit (s := S4x256x128) (k0_off35 i) S1x64x128.size (k0_off35_inb i h4), w3⟩,
        ⟨Rect.unit (s := S4x256x128) (k0_off34 i) S1x64x128.size (k0_off34_inb i h4), w2⟩, ⟨Rect.unit (s := S4x256x128) (k0_off33 i) S1x64x128.size (k0_off33_inb i h4), w1⟩] := by
  unfold rotRun
  exact ⟨_, _, _, _, rfl⟩
theorem sin_pieces (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (h4 : k0_cond4 i = 1#1) (a1 cL cS : BitVec 32) (X6 : BufTy.Contents (Elt F) arg6.view.ty) :
    ∃ w1 w2 w3 w4, (rotRun (F := F) c i arg6 harg6 arg7 harg7 arg8 harg8 arg9 harg9 arg10 harg10 arg11 harg11 arg12 harg12 h4 a1 cL cS X6).2.1
      = [⟨Rect.unit (s := S4x256x128) (k0_off36 i) S1x64x128.size (k0_off36_inb i h4), w4⟩, ⟨Rect.unit (s := S4x256x128) (k0_off35 i) S1x64x128.size (k0_off35_inb i h4), w3⟩,
        ⟨Rect.unit (s := S4x256x128) (k0_off34 i) S1x64x128.size (k0_off34_inb i h4), w2⟩, ⟨Rect.unit (s := S4x256x128) (k0_off33 i) S1x64x128.size (k0_off33_inb i h4), w1⟩] := by
  unfold rotRun
  exact ⟨_, _, _, _, rfl⟩

theorem row_miss {sp : Space} (v : View sig .tc sp S4x256x128 .f32) (i : grid0.Coords) (h4 : k0_cond4 i = 1#1) (f : v.ty.Contents (Elt F)) (y : S4x256x128.Idx) (hy : (y 0).val ≠ (i 1).val) (w1 w2 w3 w4 : S1x64x128.Idx → Elt F .f32) :
    v.read (Elt F) (v.writes (Elt F) f [⟨Rect.unit (s := S4x256x128) (k0_off36 i) S1x64x128.size (k0_off36_inb i h4), w4⟩, ⟨Rect.unit (s := S4x256x128) (k0_off35 i) S1x64x128.size (k0_off35_inb i h4), w3⟩,
        ⟨Rect.unit (s := S4x256x128) (k0_off34 i) S1x64x128.size (k0_off34_inb i h4), w2⟩, ⟨Rect.unit (s := S4x256x128) (k0_off33 i) S1x64x128.size (k0_off33_inb i h4), w1⟩]) y = v.read (Elt F) f y := by
  have hy' : (y 0).val < (i 1).val ∨ (i 1).val + 1 ≤ (y 0).val := by omega
  refine (View.read_writes_cons_miss_of_axis v f _ _ y 0 (i 1).val 1 (row_toNat (i 1)) rfl rfl hy').trans ?_
  refine (View.read_writes_cons_miss_of_axis v f _ _ y 0 (i 1).val 1 (row_toNat (i 1)) rfl rfl hy').trans ?_
  refine (View.read_writes_cons_miss_of_axis v f _ _ y 0 (i 1).val 1 (row_toNat (i 1)) rfl rfl hy').trans ?_
  exact View.read_writes_cons_miss_of_axis v f _ _ y 0 (i 1).val 1 (row_toNat (i 1)) rfl rfl hy'

theorem rot_next (c : Dev nD) (t : Fin grid0.N) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (X6 : BufTy.Contents (Elt F) arg6.view.ty) (fc : BufTy.Contents (Elt F) cosM.view.ty) (fs : BufTy.Contents (Elt F) sinM.view.ty)
    (h6 : FreqBlk m c (arg6.view.read (Elt F) X6)) (hf : RotGood m c t.val fc fs) :
    RotGood m c (t.val + 1) (cosAfter c (grid0.coords t) arg6 harg6 arg7 harg7 arg8 harg8 arg9 harg9 arg10 harg10 arg11 harg11 arg12 harg12 (ctxL m c) (ctxS m c) X6 fc) (sinAfter c (grid0.coords t) arg6 harg6 arg7 harg7 arg8 harg8 arg9 harg9 arg10 harg10 arg11 harg11 arg12 harg12 (ctxL m c) (ctxS m c) X6 fs) := by
  intro q hq hq4
  unfold cosAfter sinAfter
  by_cases h : k0_cond4 (grid0.coords t) = 1#1
  · rw [dif_pos h, dif_pos h]
    have ht := (cond4_coords t).1 h
    have hp := page_coords t
    by_cases e : q = t.val
    · exact ⟨_, arg6, harg6, arg7, harg7, arg8, harg8, arg9, harg9, arg10, harg10, arg11, harg11, arg12, harg12, h, X6, fc, fs, by omega, h6, fun y _ => ⟨rfl, rfl⟩⟩
    · obtain ⟨i, a6, b6, a7, b7, a8, b8, a9, b9, a10, b10, a11, b11, a12, b12, h4, X, gc, gs, hi, hX, hy⟩ := hf q (by omega) hq4
      refine ⟨i, a6, b6, a7, b7, a8, b8, a9, b9, a10, b10, a11, b11, a12, b12, h4, X, gc, gs, hi, hX, fun y hyq => ⟨Eq.trans ?_ (hy y hyq).1, Eq.trans ?_ (hy y hyq).2⟩⟩
      · obtain ⟨w1, w2, w3, w4, hw⟩ := cos_pieces c (grid0.coords t) arg6 harg6 arg7 harg7 arg8 harg8 arg9 harg9 arg10 harg10 arg11 harg11 arg12 harg12 h (BitVec.ofNat 32 ((grid0.coords t) 1).val) (ctxL m c) (ctxS m c) X6
        rw [hw]
        exact row_miss cosM.view _ h fc y (by omega) w1 w2 w3 w4
      · obtain ⟨w1, w2, w3, w4, hw⟩ := sin_pieces c (grid0.coords t) arg6 harg6 arg7 harg7 arg8 harg8 arg9 harg9 arg10 harg10 arg11 harg11 arg12 harg12 h (BitVec.ofNat 32 ((grid0.coords t) 1).val) (ctxL m c) (ctxS m c) X6
        rw [hw]
        exact row_miss sinM.view _ h fs y (by omega) w1 w2 w3 w4
  · rw [dif_neg h, dif_neg h]
    have ht : ¬ t.val < 4 := fun h' => h ((cond4_coords t).2 h')
    exact hf q (by omega) hq4

theorem rot_row (c : Dev nD) (t : Fin grid0.N) (fc : BufTy.Contents (Elt F) cosM.view.ty) (fs : BufTy.Contents (Elt F) sinM.view.ty) (h : RotGood m c (t.val + 1) fc fs) :
    RotRow m c ((grid0.coords t) 1).val fc fs := by
  have hp := page_coords t
  exact h _ (by omega) (by omega)

theorem point (c : Dev nD) (t : Fin grid0.N) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Y6 : S1x128.Idx → Elt F .f32) (Yk Y8 : S16x128.Idx → Elt F .f32) (Y9 : S2x16x64x128.Idx → Elt F .i8) (Y10 : S2x16x4x128.Idx → Elt F .bf16) (Y11 : S2x16x64x128.Idx → Elt F .i8) (Y12 : S2x16x4x128.Idx → Elt F .bf16)
    (h6 : FreqBlk m c Y6) (h7 : SignBlkK m c (t.val / 4) Yk) (h8 : SignBlk m c (t.val / 4) Y8) :
    iprop(Φm m c t.val ∗ Ow c ∗ owns (c : Thread nD τ) arg6 fullShare Y6 ∗ owns (c : Thread nD τ) arg7 fullShare Yk ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12)
      ⊢ wp frame (wpE (defs₀ (F := F)) Variants.none (c : Thread nD τ) none) Set.univ
          (cc0_rotated_int4_store (F := F) (grid0.coords t) slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8)
          fun _ => iprop(Φm m c (t.val + 1) ∗ Ow c ∗ (∃ X, ⌜X = Y6⌝ ∗ owns (c : Thread nD τ) arg6 fullShare X) ∗ (∃ X, ⌜X = Yk⌝ ∗ owns (c : Thread nD τ) arg7 fullShare X) ∗ (∃ X, ⌜X = Y8⌝ ∗ owns (c : Thread nD τ) arg8 fullShare X)
            ∗ (∃ X, ⌜Res9 m c (grid0.coords t) X⌝ ∗ owns (c : Thread nD τ) arg9 fullShare X) ∗ (∃ X, ⌜Res10 m c (grid0.coords t) X⌝ ∗ owns (c : Thread nD τ) arg10 fullShare X)
            ∗ (∃ X, ⌜Res7 m c (grid0.coords t) X⌝ ∗ owns (c : Thread nD τ) arg11 fullShare X) ∗ (∃ X, ⌜Res8 m c (grid0.coords t) X⌝ ∗ owns (c : Thread nD τ) arg12 fullShare X)) := by
  unfold Φm owns
  iintro ⟨⟨HT, HR, ⟨%f, %hf, Hw⟩, ⟨%fh, %hfh, Hh⟩, ⟨%fc, %fs, %hfr, Hc, Hs⟩, HO, Hp⟩, HW, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩⟩
  subst e6 e7 e8 e9 e10 e11 e12
  ihave HR := (rings_in m c t) $$ HR
  icases HR with ⟨HR1, HR2⟩
  ihave HB := (body_spec c (Km m c) (Vm m c) (Sm m c) (Pm m c) (grid0.coords t) arg6 harg6 arg7 harg7 arg8 harg8 arg9 harg9 arg10 harg10 arg11 harg11 arg12 harg12 fullShare.right fh X6 fc fs X7 X8 f X9 X10 X11 X12) $$ [HT HR1 HR2 Hh H6 Hc Hs H8 Hw H7 H9 H10 H11 H12 HW]
  · isplitl [HT]; · iexact HT
    isplitl [HR1]; · iexact HR1
    isplitl [HR2]; · iexact HR2
    isplitl [Hh]; · iexact Hh
    isplitl [H6 Hc Hs]
    · isplitl [H6]; · iexact H6
      isplitl [Hc] <;> iassumption
    isplitl [H8 Hw]; · isplitl [H8] <;> iassumption
    isplitl [H7]; · iexact H7
    isplitl [H9]; · iexact H9
    isplitl [H10]; · iexact H10
    isplitl [H11]; · iexact H11
    isplitl [H12] <;> iassumption
  iapply (wp_wand frame (wpE (defs₀ (F := F)) Variants.none (c : Thread nD τ) none) Set.univ) $$ HB
  iintro %_ ⟨HT, HR1, HR2, Hh, ⟨H6, Hc, Hs⟩, ⟨H8, Hw⟩, H7, ⟨%Xk, %X, %hX, HL⟩, HW⟩
  have hwv := wv_next m c t arg6 harg6 arg7 harg7 arg8 harg8 arg9 harg9 arg10 harg10 arg11 harg11 arg12 harg12 X8 f (fun _ => h8) hf
  have hhd := had_next c t fh hfh
  have hrt := rot_next m c t arg6 harg6 arg7 harg7 arg8 harg8 arg9 harg9 arg10 harg10 arg11 harg11 arg12 harg12 X6 fc fs h6 hfr
  have hrow := rot_row m c t _ _ hrt
  have hfrom : FromOk m c (grid0.coords t) Xk X _ _ (arg7.view.read (Elt F) X7) _ _ := ⟨hX.1, hX.2, hrow, by rw [head_coords]; exact h7, hhd, by rw [head_coords]; exact hwv⟩
  isplitl [HT HR1 HR2 Hw Hh Hc Hs HO Hp]
  · isplitl [HT]; · iexact HT
    isplitl [HR1 HR2]
    · iapply (rings_out m c t)
      isplitl [HR1] <;> iassumption
    isplitl [Hw]
    · iexists _
      isplitr
      · ipureintro
        intro h
        have e : (t.val + 1) / 4 = t.val / 4 := by omega
        rw [e]; exact hwv
      · iexact Hw
    isplitl [Hh]
    · iexists _
      isplitr
      · ipureintro
        exact fun _ => hhd
      · iexact Hh
    isplitl [Hc Hs]
    · iexists _, _
      isplitr
      · ipureintro
        exact hrt
      · isplitl [Hc] <;> iassumption
    isplitl [HO] <;> iassumption
  isplitl [HW]; · iexact HW
  isplitl [H6]
  · iexists _
    isplitr
    · ipureintro; rfl
    · iexists X6
      isplitr
      · ipureintro; rfl
      · iexact H6
  isplitl [H7]
  · iexists _
    isplitr
    · ipureintro; rfl
    · iexists X7
      isplitr
      · ipureintro; rfl
      · iexact H7
  isplitl [H8]
  · iexists _
    isplitr
    · ipureintro; rfl
    · iexists X8
      isplitr
      · ipureintro; rfl
      · iexact H8
  unfold left
  icases HL with ⟨H9, H10, H11, H12⟩
  isplitl [H9]
  · iexists _
    isplitr
    · ipureintro; exact ⟨arg6, harg6, arg7, harg7, arg8, harg8, arg9, harg9, arg10, harg10, arg11, harg11, arg12, harg12, Xk, X, _, _, X7, _, _, X9, hfrom, rfl⟩
    · iexists _
      isplitr
      · ipureintro; rfl
      · iexact H9
  isplitl [H10]
  · iexists _
    isplitr
    · ipureintro; exact ⟨arg6, harg6, arg7, harg7, arg8, harg8, arg9, harg9, arg10, harg10, arg11, harg11, arg12, harg12, Xk, X, _, _, X7, _, _, X10, hfrom, rfl⟩
    · iexists _
      isplitr
      · ipureintro; rfl
      · iexact H10
  isplitl [H11]
  · iexists _
    isplitr
    · ipureintro; exact ⟨arg6, harg6, arg7, harg7, arg8, harg8, arg9, harg9, arg10, harg10, arg11, harg11, arg12, harg12, Xk, X, _, _, X7, _, _, X11, hfrom, rfl⟩
    · iexists _
      isplitr
      · ipureintro; rfl
      · iexact H11
  · iexists _
    isplitr
    · ipureintro; exact ⟨arg6, harg6, arg7, harg7, arg8, harg8, arg9, harg9, arg10, harg10, arg11, harg11, arg12, harg12, Xk, X, _, _, X7, _, _, X12, hfrom, rfl⟩
    · iexists _
      isplitr
      · ipureintro; rfl
      · iexact H12

/-! ## The body obligation -/

theorem tr2_coords : ∀ t : Fin grid0.N, cc0_transform_2 (grid0.coords t) = ![0, 0] := by decide
theorem tr3_coords : ∀ t : Fin grid0.N, cc0_transform_3 (grid0.coords t) = ![t.val / 4, 0] := by decide
theorem tr4_coords : ∀ t : Fin grid0.N, cc0_transform_4 (grid0.coords t) = ![t.val / 4, 0] := by decide

theorem freq_of_fetched (c : Dev nD) (t : Fin grid0.N) (d : S1x128.Idx → Elt F .f32) : FreqBlk m c ((rdat m c).fetched 0 t d) := by
  intro x
  have e : ∀ a, (((((cfgA m).win 0).blk t).view.emb x : S1x128.Idx) a).val = cc0_transform_2 (grid0.coords t) a * S1x128.size a + (x a).val := fun a => by
    show cc0_transform_2 (grid0.coords t) a * S1x128.size a + 1 * (x a).val = _
    rw [Nat.one_mul]
  refine Eq.trans (b := (V m c main_v9 : S1x128.Idx → Elt F .f32) ((((cfgA m).win 0).blk t).view.emb x)) rfl ?_
  refine congrArg (V m c main_v9 : S1x128.Idx → Elt F .f32) (funext fun a => Fin.ext ?_)
  rw [e a, tr2_coords]
  fin_cases a
  · show 0 * 1 + (x 0).val = (x 0).val
    omega
  · show 0 * 128 + (x 1).val = (x 1).val
    omega

theorem signK_of_fetched (c : Dev nD) (t : Fin grid0.N) (d : S16x128.Idx → Elt F .f32) : SignBlkK m c (t.val / 4) ((rdat m c).fetched 1 t d) := by
  intro x y h0 h1
  have e : ∀ a, (((((cfgA m).win 1).blk t).view.emb x : S80x128.Idx) a).val = cc0_transform_3 (grid0.coords t) a * S16x128.size a + (x a).val := fun a => by
    show cc0_transform_3 (grid0.coords t) a * S16x128.size a + 1 * (x a).val = _
    rw [Nat.one_mul]
  refine Eq.trans (b := (V m c main_arg2 : S80x128.Idx → Elt F .f32) ((((cfgA m).win 1).blk t).view.emb x)) rfl ?_
  refine congrArg (V m c main_arg2 : S80x128.Idx → Elt F .f32) (funext fun a => Fin.ext ?_)
  rw [e a, tr3_coords]
  fin_cases a
  · show t.val / 4 * 16 + (x 0).val = (y 0).val
    omega
  · show 0 * 128 + (x 1).val = (y 1).val
    omega

theorem sign_of_fetched (c : Dev nD) (t : Fin grid0.N) (d : S16x128.Idx → Elt F .f32) : SignBlk m c (t.val / 4) ((rdat m c).fetched 2 t d) := by
  intro x y h0 h1
  have e : ∀ a, (((((cfgA m).win 2).blk t).view.emb x : S80x128.Idx) a).val = cc0_transform_4 (grid0.coords t) a * S16x128.size a + (x a).val := fun a => by
    show cc0_transform_4 (grid0.coords t) a * S16x128.size a + 1 * (x a).val = _
    rw [Nat.one_mul]
  refine Eq.trans (b := (V m c main_arg3 : S80x128.Idx → Elt F .f32) ((((cfgA m).win 2).blk t).view.emb x)) rfl ?_
  refine congrArg (V m c main_arg3 : S80x128.Idx → Elt F .f32) (funext fun a => Fin.ext ?_)
  rw [e a, tr4_coords]
  fin_cases a
  · show t.val / 4 * 16 + (x 0).val = (y 0).val
    omega
  · show 0 * 128 + (x 1).val = (y 1).val
    omega

theorem defs₀_row (t : Fin grid0.N) :
    defs₀ (F := F) .tc (cfgA m).body ((cfgA m).bodyArgs t ((cfgA m).slots t))
      = cc0_rotated_int4_store (F := F) (grid0.coords t) slotM (Memref.isWhole_whole _) posM (Memref.isWhole_whole _) k5M (Memref.isWhole_whole _) v5M (Memref.isWhole_whole _)
          (spec0_0.stage ((cfgA m).slots t 0)) (hstage0_0 (((cfgA m).slots t 0).cast nbuf0_0)) (spec0_1.stage ((cfgA m).slots t 1)) (hstage0_1 (((cfgA m).slots t 1).cast nbuf0_1))
          (spec0_2.stage ((cfgA m).slots t 2)) (hstage0_2 (((cfgA m).slots t 2).cast nbuf0_2))
          (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6))
          xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 := by
  unfold defs₀; rw [Defs.onTc_tc]

theorem phi_cast (c : Dev nD) (t : Fin grid0.N) : (rdat m c).Φ t.castSucc = Φm m c t.val := rfl
theorem phi_succ (c : Dev nD) (t : Fin grid0.N) : (rdat m c).Φ t.succ = Φm m c (t.val + 1) := rfl
theorem owes_in (c : Dev nD) (t : Fin (grid0.N + 1)) : (rdat m c).owesAt () t ⊢ Ow (F := F) c := by
  unfold Pipeline.RDat.owesAt Pipeline.owesWithin
  iintro ⟨%W, -, HW⟩
  iexists W; iexact HW
theorem owes_out (c : Dev nD) (t : Fin (grid0.N + 1)) : Ow (F := F) c ⊢ (rdat m c).owesAt () t := by
  unfold Pipeline.RDat.owesAt Pipeline.owesWithin
  iintro ⟨%W, HW⟩
  iexists W
  isplitr
  · ipureintro; exact fun _ _ => Or.inl trivial
  · iexact HW

theorem body_obligation (c : Dev nD) : (rdat m c).BodyObligation (defs₀ (F := F)) Variants.none () Set.univ := fun t Y hY => by
  rw [bigSep_W0, bigSep_W0, defs₀_row]
  have h6 : FreqBlk m c (Y 0) := by
    obtain ⟨d, hd⟩ := Pipeline.RDat.finds_in_eq_fetched (rdat m c) 0 rfl (fun _ _ _ => rfl) (fun _ _ _ h => h) t (Y 0) (hY 0)
    rw [hd]
    exact freq_of_fetched m c t d
  have h7 : SignBlkK m c (t.val / 4) (Y 1) := by
    obtain ⟨d, hd⟩ := Pipeline.RDat.finds_in_eq_fetched (rdat m c) 1 rfl (fun _ _ _ => rfl) (fun _ _ _ h => h) t (Y 1) (hY 1)
    rw [hd]
    exact signK_of_fetched m c t d
  have h8 : SignBlk m c (t.val / 4) (Y 2) := by
    obtain ⟨d, hd⟩ := Pipeline.RDat.finds_in_eq_fetched (rdat m c) 2 rfl (fun _ _ _ => rfl) (fun _ _ _ h => h) t (Y 2) (hY 2)
    rw [hd]
    exact sign_of_fetched m c t d
  have hp := point m c t (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (Y 0) (Y 1) (Y 2) (Y 3) (Y 4) (Y 5) (Y 6) h6 h7 h8
  refine BIBase.Entails.trans ?_ (hp.trans (wp_mono _ _ _ fun _ => ?_))
  · rw [phi_cast]
    iintro ⟨HΦ, HW, HY⟩
    isplitl [HΦ]; · iexact HΦ
    isplitl [HW]; · iapply (owes_in m c t.castSucc); iexact HW
    iexact HY
  · rw [phi_succ]
    iintro ⟨HΦ, HW, HY⟩
    isplitl [HΦ]; · iexact HΦ
    isplitl [HW]; · iapply (owes_out m c t.succ); iexact HW
    iexact HY

/-! ## The run -/

theorem pages_eq (c : Dev nD) :
    (bigSep H0 (fun b => ((c : Thread nD τ).loc b) ↦{fullShare} V m c b) : sProp 𝕄)
      = iprop((k5M.view.loc (c : Thread nD τ) ↦{fullShare} Km m c) ∗ (v5M.view.loc (c : Thread nD τ) ↦{fullShare} Vm m c)) := by
  rw [BI.bigSep_eq_bigSepL_of_eq [main_v10, main_v11] (by decide) (by decide)]; rfl

theorem tabs_eq (c : Dev nD) : (Pipeline.ΦT pre0 (adm m).1 c : sProp 𝕄) = Tabs c (Sm m c) (Pm m c) fullShare.right := by
  unfold Pipeline.ΦT Pipeline.prefHeld
  rw [show (Finset.univ : Finset (Fin 2)) = insert 0 {1} from by decide, bigSep_insert (by decide), bigSep_singleton, ← V_pre m c 0, ← V_pre m c 1]
  rfl

theorem wv_eq (c : Dev nD) (f : BufTy.Contents (Elt F) wvM.view.ty) :
    (wvM.view.loc (c : Thread nD τ) ↦[wvM.view.set]{fullShare} f : sProp 𝕄) = ((c : Thread nD τ).loc cc0_scratch7 ↦{fullShare} f) := by
  rw [(Memref.isWhole_whole cc0_scratch7).set_eq_univ]

theorem cos_eq (c : Dev nD) (f : BufTy.Contents (Elt F) cosM.view.ty) :
    (cosM.view.loc (c : Thread nD τ) ↦[cosM.view.set]{fullShare} f : sProp 𝕄) = ((c : Thread nD τ).loc cc0_scratch2 ↦{fullShare} f) := by
  rw [(Memref.isWhole_whole cc0_scratch2).set_eq_univ]

theorem sin_eq (c : Dev nD) (f : BufTy.Contents (Elt F) sinM.view.ty) :
    (sinM.view.loc (c : Thread nD τ) ↦[sinM.view.set]{fullShare} f : sProp 𝕄) = ((c : Thread nD τ).loc cc0_scratch3 ↦{fullShare} f) := by
  rw [(Memref.isWhole_whole cc0_scratch3).set_eq_univ]

theorem had_eq (c : Dev nD) (f : BufTy.Contents (Elt F) hadM.view.ty) :
    (hadM.view.loc (c : Thread nD τ) ↦[hadM.view.set]{fullShare} f : sProp 𝕄) = ((c : Thread nD τ).loc cc0_scratch6 ↦{fullShare} f) := by
  rw [(Memref.isWhole_whole cc0_scratch6).set_eq_univ]

theorem hin (c : Dev nD) : iprop(Pipeline.ΦD osem0 spec0 H0 (V m) c ∗ Pipeline.ΦT pre0 (adm m).1 c) ⊢ (rdat m c).Φ 0 := by
  show _ ⊢ Φm m c 0
  rw [Pipeline.ΦD_eq, scopedRest0_eq, ownSems0_eq4, pages_eq, tabs_eq]
  unfold Φm RingsAt Others
  rw [dif_neg (by omega)]
  iintro ⟨⟨⟨H0, H1, ⟨%f2, H2⟩, ⟨%f3, H3⟩, H4, H5, ⟨%f6, H6⟩, ⟨%f, H7⟩⟩, Hp, ⟨Hs0, Hs1, Hs2, Hs3⟩, HK, HV⟩, HT⟩
  ihave HA := (idle_of c xkM (Memref.isWhole_whole _) k5M (Km m c) (cellM ![0, 0] (cell_inb 0 0 (by decide) (by decide))) (cellM ![0, 1] (cell_inb 0 1 (by decide) (by decide)))) $$ [H0 HK Hs0 Hs1]
  · isplitl [H0]; · iexact H0
    isplitl [HK]; · iexact HK
    isplitl [Hs0]; · iexact Hs0
    iexact Hs1
  ihave HB := (idle_of c xvM (Memref.isWhole_whole _) v5M (Vm m c) (cellM ![1, 0] (cell_inb 1 0 (by decide) (by decide))) (cellM ![1, 1] (cell_inb 1 1 (by decide) (by decide)))) $$ [H1 HV Hs2 Hs3]
  · isplitl [H1]; · iexact H1
    isplitl [HV]; · iexact HV
    isplitl [Hs2]; · iexact Hs2
    iexact Hs3
  icases HA with ⟨HA0, HA1⟩
  icases HB with ⟨HB0, HB1⟩
  isplitl [HT]; · iexact HT
  isplitl [HA0 HA1 HB0 HB1]
  · isplitl [HA0 HB0]
    · isplitl [HA0] <;> iassumption
    · isplitl [HA1] <;> iassumption
  isplitl [H7]
  · iexists f
    isplitr
    · ipureintro; exact fun h => absurd rfl h
    · rw [wv_eq]; iexact H7
  isplitl [H6]
  · iexists f6
    isplitr
    · ipureintro; exact fun h => absurd rfl h
    · rw [had_eq]; iexact H6
  isplitl [H2 H3]
  · iexists f2, f3
    isplitr
    · ipureintro; exact fun q hq => absurd hq (Nat.not_lt_zero _)
    · isplitl [H2]
      · rw [cos_eq]; iexact H2
      · rw [sin_eq]; iexact H3
  isplitl [H4 H5]
  · isplitl [H4] <;> iassumption
  iexact Hp

theorem hout (c : Dev nD) : (rdat m c).Φ (Fin.last (cfgA m).N) ⊢ Pipeline.ΦD osem0 spec0 H0 (V m) c := by
  show Φm m c 20 ⊢ _
  rw [Pipeline.ΦD_eq, scopedRest0_eq, ownSems0_eq4, pages_eq]
  unfold Φm RingsAt Others
  rw [dif_neg (by omega), idleKV_congr c (Km m c) (Vm m c) 20 0 rfl, idleKV_congr c (Km m c) (Vm m c) (20 + 1) 1 rfl]
  iintro ⟨HT, ⟨⟨HA0, HB0⟩, HA1, HB1⟩, ⟨%f, %hf, H7⟩, ⟨%f6, %hf6, H6⟩, ⟨%f2, %f3, %hf2, H2, H3⟩, ⟨H4, H5⟩, Hp⟩
  ihave HA := (idle_to c xkM (Memref.isWhole_whole _) k5M (Km m c) (cellM ![0, 0] (cell_inb 0 0 (by decide) (by decide))) (cellM ![0, 1] (cell_inb 0 1 (by decide) (by decide)))) $$ [HA0 HA1]
  · isplitl [HA0] <;> iassumption
  ihave HB := (idle_to c xvM (Memref.isWhole_whole _) v5M (Vm m c) (cellM ![1, 0] (cell_inb 1 0 (by decide) (by decide))) (cellM ![1, 1] (cell_inb 1 1 (by decide) (by decide)))) $$ [HB0 HB1]
  · isplitl [HB0] <;> iassumption
  icases HA with ⟨H0, HK, Hs0, Hs1⟩
  icases HB with ⟨H1, HV, Hs2, Hs3⟩
  iclear HT
  isplitl [H0 H1 H2 H3 H4 H5 H6 H7]
  · isplitl [H0]; · iexact H0
    isplitl [H1]; · iexact H1
    isplitl [H2]; · iexists f2; rw [← cos_eq]; iexact H2
    isplitl [H3]; · iexists f3; rw [← sin_eq]; iexact H3
    isplitl [H4]; · iexact H4
    isplitl [H5]; · iexact H5
    isplitl [H6]; · iexists f6; rw [← had_eq]; iexact H6
    iexists f
    rw [← wv_eq]; iexact H7
  isplitl [Hp]; · iexact Hp
  isplitl [Hs0 Hs1 Hs2 Hs3]
  · isplitl [Hs0]; · iexact Hs0
    isplitl [Hs1]; · iexact Hs1
    isplitl [Hs2]; · iexact Hs2
    iexact Hs3
  isplitl [HK] <;> iassumption

theorem run_main : θ_run defs (onTc (τ := τ) (main (F := F))) (s₀ m ρ) (fun r => Pipeline.RDat.FramePost (cfgA m) (rdat m) (V m) r ∧ r.2.sem = fun _ => 0) :=
  Pipeline.RDat.θ_run_frameP_dma (Q' := _) pcfgs (fun _ => adm m) (0 : Fin 1) launch0 osem0 defs₀ Variants.none (rdat m) ownSemFacts0 H0 H0_sub m ρ main
    (hbody := body_obligation m) (hshare := fun c w => by unfold Pipeline.RDat.share; split <;> rfl)
    (howed := fun _ _ => rfl) (V := V m) (hmain := hmain m Variants.none) (hA := fun _ _ => rfl) (hpf := V_pre m) (hin := hin m) (hout := hout m)

/-- What @main writes before the region, in order. -/
abbrev hostRefs : List (Ref sig .tc) := [main_v0, main_cst, main_v1, main_v2, main_v3, main_cst_0, main_v4, main_v5, main_cst_1, main_v6, main_v7, main_v8, main_v9, main_v10, main_v11, main_v12, main_v13]
theorem V_of_ne (c : Dev nD) (r : Ref sig .tc) (h : r ∉ hostRefs) : V m c r = m ((c : Thread nD τ).loc r) :=
  StableHlo.after_of_writes_sub hostOps0 _ (StableHlo.forall_writes_sub_of_map rfl) h

theorem rest_of (r : Ref sig .tc) (h : r ∈ Pipeline.restRefs sig spec0) {x : PUnit × MemSt nD τ sig (Elt F)} (hx : Pipeline.RDat.FramePost (cfgA m) (rdat m) (V m) x) (c : Dev nD) :
    x.2.mem ((c : Thread nD τ).loc r) = V m c r := (hx c).2 r h

/-- The run ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(rest_of m main_arg0 (by decide) h.1 c).trans (V_of_ne m c _ (by decide)),
      (rest_of m main_arg1 (by decide) h.1 c).trans (V_of_ne m c _ (by decide)),
      (Pipeline.RDat.FramePost.arr_in h.1 c 1 rfl).trans (V_of_ne m c main_arg2 (by decide)),
      (Pipeline.RDat.FramePost.arr_in h.1 c 2 rfl).trans (V_of_ne m c main_arg3 (by decide)),
      (rest_of m main_arg4 (by decide) h.1 c).trans (V_of_ne m c _ (by decide)),
      (rest_of m main_arg5 (by decide) h.1 c).trans (V_of_ne m c _ (by decide))⟩, h.2⟩) (run_main m ρ)

end Cert.KernelIdeal.Hand

end
-- ==== Proof.K.Trip.lean ====
module

public import proofs.«01_k».proof.Proof.Gen.Kernel.Skeleton
public import proofs.«01_k».proof.Proof.Gen.Kernel.Loops
public import proofs.«01_k».proof.Proof.Gen.Kernel.Launch
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The scratch buffers and the operands left in HBM. -/
abbrev slotM : Memref sig .tc .smem S1792 .i32 := Memref.whole main_v12
abbrev posM : Memref sig .tc .smem S1792 .i32 := Memref.whole main_v13
abbrev k5M : Memref sig .tc .hbm S2x56x16x80x128 .bf16 := Memref.whole main_v10
abbrev v5M : Memref sig .tc .hbm S2x56x16x80x128 .bf16 := Memref.whole main_v11
abbrev xkM : Memref sig .tc .vmem S2x256x24x128 .bf16 := Memref.whole cc0_scratch0
abbrev xvM : Memref sig .tc .vmem S2x256x24x128 .bf16 := Memref.whole cc0_scratch1
abbrev cosM : Memref sig .tc .vmem S4x256x128 .f32 := Memref.whole cc0_scratch2
abbrev sinM : Memref sig .tc .vmem S4x256x128 .f32 := Memref.whole cc0_scratch3
abbrev idxM : Memref sig .tc .vmem S16x3x8x128 .i32 := Memref.whole cc0_scratch4
abbrev sltM : Memref sig .tc .vmem S8x128x128 .i32 := Memref.whole cc0_scratch5
abbrev hadM : Memref sig .tc .vmem S128x256 .bf16 := Memref.whole cc0_scratch6
abbrev wvM : Memref sig .tc .vmem S16x128x384 .bf16 := Memref.whole cc0_scratch7

/-- The rectangle of one slot of a ring. -/
theorem slotR_inb (s : ℕ) (hs : s < 2) : ∀ a, (![s, 0, 0, 0] : Fin 4 → ℕ) a + (![1, 256, 24, 128] : Fin 4 → ℕ) a ≤ S2x256x24x128.size a := by
  intro a; fin_cases a <;> simp [S2x256x24x128] <;> omega
abbrev slotR (s : ℕ) (hs : s < 2) : Rect S2x256x24x128 := Rect.unit (s := S2x256x24x128) ![s, 0, 0, 0] ![1, 256, 24, 128] (slotR_inb s hs)
theorem mod2_lt (t : ℕ) : t % 2 < 2 := Nat.mod_lt _ (by decide)

/-- One trip's resources: the two rings' slots being read, the rotary tables, k's signs, the Hadamard and the sign tables, the four result blocks. -/
abbrev TripR (c : Dev nD) (i : grid0.Coords) (arg7 : Memref sig .tc .vmem S16x128 .f32) (arg9 : Memref sig .tc .vmem S2x16x64x128 .i8) (arg10 : Memref sig .tc .vmem S2x16x4x128 .bf16)
    (arg11 : Memref sig .tc .vmem S2x16x64x128 .i8) (arg12 : Memref sig .tc .vmem S2x16x4x128 .bf16)
    (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty)
    (f9 : BufTy.Contents (Elt F) arg9.view.ty) (f10 : BufTy.Contents (Elt F) arg10.view.ty) (f7 : BufTy.Contents (Elt F) arg11.view.ty) (f8 : BufTy.Contents (Elt F) arg12.view.ty) : sProp 𝕄 :=
  iprop((xkM.view.loc (c : Thread nD τ) ↦[xkM.view.setOn (slotR ((4 * (i 0).val + (i 1).val) % 2) (mod2_lt _)).set]{fullShare} Xk)
    ∗ (xvM.view.loc (c : Thread nD τ) ↦[xvM.view.setOn (slotR ((4 * (i 0).val + (i 1).val) % 2) (mod2_lt _)).set]{fullShare} X)
    ∗ (cosM.view.loc (c : Thread nD τ) ↦[cosM.view.set]{fullShare} Co) ∗ (sinM.view.loc (c : Thread nD τ) ↦[sinM.view.set]{fullShare} Si)
    ∗ (arg7.view.loc (c : Thread nD τ) ↦[arg7.view.set]{fullShare} X7)
    ∗ (hadM.view.loc (c : Thread nD τ) ↦[hadM.view.set]{fullShare} Hd) ∗ (wvM.view.loc (c : Thread nD τ) ↦[wvM.view.set]{fullShare} Wv)
    ∗ (arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f7) ∗ (arg12.view.loc (c : Thread nD τ) ↦[arg12.view.set]{fullShare} f8))

abbrev t2body (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (a1 v161 : BitVec 32) (v162 : IVec S8x128 32) :=
  k0_t2_body (F := F) i slotM (Memref.isWhole_whole _) posM (Memref.isWhole_whole _) k5M (Memref.isWhole_whole _) v5M (Memref.isWhole_whole _)
    arg6 harg6 arg7 harg7 arg8 harg8 arg9 harg9 arg10 harg10 arg11 harg11 arg12 harg12 xkM (Memref.isWhole_whole _) xvM (Memref.isWhole_whole _) cosM (Memref.isWhole_whole _) sinM (Memref.isWhole_whole _)
    idxM (Memref.isWhole_whole _) sltM (Memref.isWhole_whole _) hadM (Memref.isWhole_whole _) wvM (Memref.isWhole_whole _) cc0_scratch8 a1 v161 v162

/-- One trip of the head-pair loop: the pieces it writes are the run's own finds. -/
@[irreducible] def trip (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)
    (v161 : BitVec 32) (v162 : IVec S8x128 32)
    (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (k : Fin k0_t2_loop.trips) :
    Σ' (L9 : List (View.Piece (Elt F) S2x16x64x128 .i8)), Σ' (L10 : List (View.Piece (Elt F) S2x16x4x128 .bf16)),
    Σ' (L7 : List (View.Piece (Elt F) S2x16x64x128 .i8)), { L8 : List (View.Piece (Elt F) S2x16x4x128 .bf16) //
      ∀ (f9 : BufTy.Contents (Elt F) arg9.view.ty) (f10 : BufTy.Contents (Elt F) arg10.view.ty) (f7 : BufTy.Contents (Elt F) arg11.view.ty) (f8 : BufTy.Contents (Elt F) arg12.view.ty),
      TripR (F := F) c i arg7 arg9 arg10 arg11 arg12 Xk X Co Si X7 Hd Wv f9 f10 f7 f8
      ⊢ wp frame (wpE (defs₀ (F := F)) Variants.none (c : Thread nD τ) none) Set.univ (t2body (F := F) i arg6 harg6 arg7 harg7 arg8 harg8 arg9 harg9 arg10 harg10 arg11 harg11 arg12 harg12 (BitVec.ofNat 32 (i 1).val) v161 v162 k PUnit.unit)
          (fun _ => TripR (F := F) c i arg7 arg9 arg10 arg11 arg12 Xk X Co Si X7 Hd Wv (arg9.view.writes (Elt F) f9 L9) (arg10.view.writes (Elt F) f10 L10)
            (arg11.view.writes (Elt F) f7 L7) (arg12.view.writes (Elt F) f8 L8)) } := by
  have hk : k.val < 8 := Nat.lt_of_lt_of_le k.isLt k0_t2_abs.2.1
  have hi0 : (i 0).val < 5 := (i 0).isLt
  have hi1 : (i 1).val < 4 := (i 1).isLt
  refine ⟨?_, ?_, ?_, ?_, fun f9 f10 f7 f8 => ?run⟩
  case run =>
    unfold t2body k0_t2_body
    iintro ⟨HXk, HX, HCo, HSi, HS7, HHd, HW, H9, H10, H7, H8⟩
    sl_exec
    sl_step
    sl_close

end Cert.Kernel.Hand

end
-- ==== Proof.K.Offs.lean ====
module

public import proofs.«01_k».proof.Proof.K.Trip
public import Idealize.ShloMosaic.Lib.Affine

@[expose] public section

set_option maxRecDepth 16384

noncomputable section

namespace Cert.Kernel.Hand

open Cert.Kernel Cert.Kernel.Gen
open Idealize.ShloMosaic Idealize.ShloMosaic.TcCoe Idealize.ShloMosaic.Tactic

/-! ## The transfers' offsets in closed form -/

/-- The longer sequence's number, from the first sequence's last slot word. -/
abbrev bL (w : BitVec 32) : BitVec 32 := Scalar.select (Scalar.cmpi .sge w 0#32) 0#32 1#32
/-- The page offset `o` of a sequence of context length `ctx`, as a row within the sixteen. -/
abbrev rowOf (o ctx : BitVec 32) : ℕ := (Scalar.andi (Scalar.subi o ctx) 15#32).toNat

theorem bL_cases (w : BitVec 32) : bL w = 0#32 ∨ bL w = 1#32 := by
  unfold bL Scalar.select; split <;> simp
theorem bL_lt (w : BitVec 32) : (bL w).toNat < 2 := by
  rcases bL_cases w with h | h <;> rw [h] <;> decide
theorem bS_lt (w : BitVec 32) : (Scalar.subi 1#32 (bL w)).toNat < 2 := by
  rcases bL_cases w with h | h <;> rw [h] <;> decide
theorem rowOf_lt (o ctx : BitVec 32) : rowOf o ctx < 16 := by
  show (Scalar.subi o ctx &&& 15#32).toNat < 16
  rw [BitVec.toNat_and]; exact Nat.lt_succ_of_le Nat.and_le_right

/-- The source of step `t`'s transfer of page offset `4(t % 4) + j` out of the longer sequence's pages. -/
def srcL (w cL : BitVec 32) (t j : ℕ) : Fin 5 → ℕ := ![(bL w).toNat, 0, rowOf (BitVec.ofNat 32 (4 * (t % 4) + j)) cL, 16 * (t / 4), 0]
/-- The same out of the shorter sequence's. -/
def srcS (w cS : BitVec 32) (t j : ℕ) : Fin 5 → ℕ := ![(Scalar.subi 1#32 (bL w)).toNat, 0, rowOf (BitVec.ofNat 32 (4 * (t % 4) + j)) cS, 16 * (t / 4), 0]

/-- The step's number, as the kernel computes it. -/
abbrev stepW (i : grid0.Coords) : BitVec 32 := Scalar.addi (Scalar.muli (BitVec.ofNat 32 (i 0).val) 4#32) (BitVec.ofNat 32 (i 1).val)
abbrev stepN (i : grid0.Coords) : ℕ := 4 * (i 0).val + (i 1).val

theorem now_q : ∀ (i : grid0.Coords) (j : Fin 4), Scalar.addi (Scalar.muli (Scalar.remsi (stepW i) 4#32) 4#32) (BitVec.ofNat 32 j.val) = BitVec.ofNat 32 (4 * (stepN i % 4) + j.val) := by decide +kernel
theorem now_h : ∀ (i : grid0.Coords), (Scalar.muli (Scalar.divsi (stepW i) 4#32) 16#32).toNat = 16 * (stepN i / 4) := by decide +kernel
theorem next_q : ∀ (i : grid0.Coords) (j : Fin 4), Scalar.addi (Scalar.muli (Scalar.remsi (Scalar.addi (stepW i) 1#32) 4#32) 4#32) (BitVec.ofNat 32 j.val) = BitVec.ofNat 32 (4 * ((stepN i + 1) % 4) + j.val) := by decide +kernel
theorem next_h : ∀ (i : grid0.Coords), (Scalar.muli (Scalar.divsi (Scalar.addi (stepW i) 1#32) 4#32) 16#32).toNat = 16 * ((stepN i + 1) / 4) := by decide +kernel

theorem off43_eq (i : grid0.Coords) (w cL : BitVec 32) (j : Fin 4) : k0_off43 i w cL (BitVec.ofNat 32 j.val) = srcL w cL (stepN i) j.val := by
  unfold k0_off43 srcL; dsimp only; rw [now_q i j, now_h i]
theorem off46_eq (i : grid0.Coords) (w cS : BitVec 32) (j : Fin 4) : k0_off46 i w cS (BitVec.ofNat 32 j.val) = srcS w cS (stepN i) j.val := by
  unfold k0_off46 srcS; dsimp only; rw [now_q i j, now_h i]
theorem off23_eq (i : grid0.Coords) (w cL : BitVec 32) (j : Fin 4) : k0_off23 i w cL (BitVec.ofNat 32 j.val) = srcL w cL (stepN i + 1) j.val := by
  unfold k0_off23 srcL; dsimp only; rw [next_q i j, next_h i]
theorem off26_eq (i : grid0.Coords) (w cS : BitVec 32) (j : Fin 4) : k0_off26 i w cS (BitVec.ofNat 32 j.val) = srcS w cS (stepN i + 1) j.val := by
  unfold k0_off26 srcS; dsimp only; rw [next_q i j, next_h i]
theorem off5_eq (i : grid0.Coords) (w cL : BitVec 32) : k0_off5 i w cL = srcL w cL (stepN i) 0 := by
  unfold k0_off5 srcL; dsimp only; rw [show (0#32 : BitVec 32) = BitVec.ofNat 32 (0 : Fin 4).val from rfl, now_q i 0, now_h i]; rfl
theorem off15_eq (i : grid0.Coords) (w cL : BitVec 32) (j : Fin 3) : k0_off15 i w cL (BitVec.ofNat 32 (1 + j.val)) = srcL w cL (stepN i) (1 + j.val) := by
  have hj : 1 + j.val < 4 := by omega
  unfold k0_off15 srcL; dsimp only; rw [now_q i ⟨1 + j.val, hj⟩, now_h i]
theorem off10_eq (i : grid0.Coords) (w cS : BitVec 32) (j : Fin 4) : k0_off10 i w cS (BitVec.ofNat 32 j.val) = srcS w cS (stepN i) j.val := by
  unfold k0_off10 srcS; dsimp only; rw [now_q i j, now_h i]

theorem srcL_inb (w cL : BitVec 32) (t j : ℕ) (ht : t < 20) : ∀ a, srcL w cL t j a + S1x56x1x16x128.size a ≤ S2x56x16x80x128.size a := by
  intro a
  have h1 := bL_lt w
  have h2 := rowOf_lt (BitVec.ofNat 32 (4 * (t % 4) + j)) cL
  fin_cases a <;> simp [srcL, S1x56x1x16x128, S2x56x16x80x128] <;> omega
theorem srcS_inb (w cS : BitVec 32) (t j : ℕ) (ht : t < 20) : ∀ a, srcS w cS t j a + S1x8x1x16x128.size a ≤ S2x56x16x80x128.size a := by
  intro a
  have h1 := bS_lt w
  have h2 := rowOf_lt (BitVec.ofNat 32 (4 * (t % 4) + j)) cS
  fin_cases a <;> simp [srcS, S1x8x1x16x128, S2x56x16x80x128] <;> omega

theorem stepN_lt (i : grid0.Coords) : stepN i < 20 := by
  have h0 : (i 0).val < 5 := (i 0).isLt
  have h1 : (i 1).val < 4 := (i 1).isLt
  unfold stepN; omega
theorem stepN_next : ∀ (i : grid0.Coords), k0_cond2 i = 1#1 → stepN i + 1 < 20 := by decide +kernel

theorem words_L (w cL : BitVec 32) (t j : ℕ) (h : ∀ a, srcL w cL t j a + S1x56x1x16x128.size a ≤ S2x56x16x80x128.size a) :
    (Rect.unit (s := S2x56x16x80x128) (srcL w cL t j) S1x56x1x16x128.size h).WholeWords (EltTy.packing .bf16) := by
  exact Affine.words_of_packed (Affine.packed_dvd (by decide) (Dvd.intro (8 * (t / 4)) (by show 2 * (8 * (t / 4)) = 16 * (t / 4); omega)) (by decide))
theorem words_S (w cS : BitVec 32) (t j : ℕ) (h : ∀ a, srcS w cS t j a + S1x8x1x16x128.size a ≤ S2x56x16x80x128.size a) :
    (Rect.unit (s := S2x56x16x80x128) (srcS w cS t j) S1x8x1x16x128.size h).WholeWords (EltTy.packing .bf16) := by
  exact Affine.words_of_packed (Affine.packed_dvd (by decide) (Dvd.intro (8 * (t / 4)) (by show 2 * (8 * (t / 4)) = 16 * (t / 4); omega)) (by decide))

theorem chk1 (w : BitVec 32) : k0_chk1 w := by
  have hb := bL_cases w
  unfold bL at hb
  unfold k0_chk1 k0_off1 k0_off2; dsimp only
  rcases hb with h | h <;> rw [h] <;> constructor <;> intro a <;> fin_cases a <;> decide

theorem chk2 (i : grid0.Coords) (w cL : BitVec 32) : k0_chk2 i w cL := by
  unfold k0_chk2
  simp only [off43_eq, off23_eq, off5_eq, off15_eq]
  exact ⟨fun _ => srcL_inb _ _ _ _ (stepN_lt i), fun _ h => words_L _ _ _ _ h, fun _ r => srcL_inb _ _ _ _ (stepN_lt i), fun _ r h => words_L _ _ _ _ h,
    fun hc r => srcL_inb _ _ _ _ (stepN_next i hc), fun _ r h => words_L _ _ _ _ h, fun r => srcL_inb _ _ _ _ (stepN_lt i), fun r h => words_L _ _ _ _ h⟩
theorem chk3 (i : grid0.Coords) (w cS : BitVec 32) : k0_chk3 i w cS := by
  unfold k0_chk3
  simp only [off46_eq, off26_eq, off10_eq]
  exact ⟨fun _ r => srcS_inb _ _ _ _ (stepN_lt i), fun _ r h => words_S _ _ _ _ h,
    fun hc r => srcS_inb _ _ _ _ (stepN_next i hc), fun _ r h => words_S _ _ _ _ h, fun r => srcS_inb _ _ _ _ (stepN_lt i), fun r h => words_S _ _ _ _ h⟩

end Cert.Kernel.Hand

end
-- ==== Proof.K.Ring.lean ====
module

public import proofs.«01_k».proof.Proof.K.Offs
public import Idealize.ShloMosaic.Lib.MixedBatch
public import Idealize.ShloMosaic.Lib.ShareLeaves

@[expose] public section

set_option maxRecDepth 16384
set_option maxHeartbeats 1000000

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

abbrev RingM := Memref sig .tc .vmem S2x256x24x128 .bf16
abbrev PageM := Memref sig .tc .hbm S2x56x16x80x128 .bf16

/-! ## One ring slot's eight blocks of rows, and the transfers that fill them -/

/-- The longer sequence's destination window of a transfer, and the shorter one's. -/
abbrev dLm (M : RingM) (off : Fin 4 → ℕ) (inb : ∀ a, off a + S1x56x16x128.size a ≤ S2x256x24x128.size a) : Memref sig .tc .vmem S56x16x128 .bf16 :=
  (M.slice (Rect.unit (s := S2x256x24x128) off S1x56x16x128.size inb) (fun _ => rfl)).squeeze S56x16x128 squeezes_S1x56x16x128_S56x16x128
abbrev dSm (M : RingM) (off : Fin 4 → ℕ) (inb : ∀ a, off a + S1x8x16x128.size a ≤ S2x256x24x128.size a) : Memref sig .tc .vmem S8x16x128 .bf16 :=
  (M.slice (Rect.unit (s := S2x256x24x128) off S1x8x16x128.size inb) (fun _ => rfl)).squeeze S8x16x128 squeezes_S1x8x16x128_S8x16x128
abbrev sLm (H : PageM) (off : Fin 5 → ℕ) (inb : ∀ a, off a + S1x56x1x16x128.size a ≤ S2x56x16x80x128.size a) : Memref sig .tc .hbm S56x16x128 .bf16 :=
  (H.slice (Rect.unit (s := S2x56x16x80x128) off S1x56x1x16x128.size inb) (fun _ => rfl)).squeeze S56x16x128 squeezes_S1x56x1x16x128_S56x16x128
abbrev sSm (H : PageM) (off : Fin 5 → ℕ) (inb : ∀ a, off a + S1x8x1x16x128.size a ≤ S2x56x16x80x128.size a) : Memref sig .tc .hbm S8x16x128 .bf16 :=
  (H.slice (Rect.unit (s := S2x56x16x80x128) off S1x8x1x16x128.size inb) (fun _ => rfl)).squeeze S8x16x128 squeezes_S1x8x1x16x128_S8x16x128
/-- The transfer's cell: row 0 for k, row 1 for v; the column is the ring slot. -/
abbrev cellM (off : Fin 2 → ℕ) (inb : ∀ a, off a + S1x1.size a ≤ S2x2.size a) : DmaSem sig :=
  ((cc0_scratch8.slice (Rect.unit (s := S2x2) off S1x1.size inb)).squeeze S_ squeezes_S1x1_S_).sem

abbrev dLo (s oi : ℕ) : Fin 4 → ℕ := ![s, 64 * oi, 0, 0]
abbrev dSo (s oi : ℕ) : Fin 4 → ℕ := ![s, 64 * oi + 56, 0, 0]
theorem dLo_inb (s oi : ℕ) (hs : s < 2) (ho : oi < 4) : ∀ a, dLo s oi a + S1x56x16x128.size a ≤ S2x256x24x128.size a := by
  intro a; fin_cases a <;> simp [dLo, S1x56x16x128, S2x256x24x128] <;> omega
theorem dSo_inb (s oi : ℕ) (hs : s < 2) (ho : oi < 4) : ∀ a, dSo s oi a + S1x8x16x128.size a ≤ S2x256x24x128.size a := by
  intro a; fin_cases a <;> simp [dSo, S1x8x16x128, S2x256x24x128] <;> omega
theorem cell_inb (a s : ℕ) (ha : a < 2) (hs : s < 2) : ∀ x, (![a, s] : Fin 2 → ℕ) x + S1x1.size x ≤ S2x2.size x := by
  intro x; fin_cases x <;> simp [S1x1, S2x2] <;> omega

/-- The rows of transfer `j` of a slot: 56 of the longer sequence, then 8 of the shorter, at each of the four page offsets. -/
abbrev row0 (j : ℕ) : ℕ := 64 * (j / 2) + 56 * (j % 2)
abbrev rows (j : ℕ) : ℕ := 56 - 48 * (j % 2)
theorem regR_inb (s : ℕ) (hs : s < 2) (j : Fin 8) : ∀ a, (![s, row0 j.val, 0, 0] : Fin 4 → ℕ) a + (![1, rows j.val, 24, 128] : Fin 4 → ℕ) a ≤ S2x256x24x128.size a := by
  have hj := j.isLt
  intro a; fin_cases a <;> simp [S2x256x24x128, row0, rows] <;> omega
abbrev regR (s : ℕ) (hs : s < 2) (j : Fin 8) : Rect S2x256x24x128 :=
  Rect.unit (s := S2x256x24x128) ![s, row0 j.val, 0, 0] ![1, rows j.val, 24, 128] (regR_inb s hs j)

theorem slot_eq (M : RingM) (s : ℕ) (hs : s < 2) : Finset.univ.biUnion (fun j : Fin 8 => M.view.setOn (regR s hs j).set) = M.view.setOn (slotR s hs).set := by
  ext x
  simp only [Finset.mem_biUnion, Finset.mem_univ, true_and, View.setOn, Finset.mem_map]
  constructor
  · rintro ⟨j, y, hy, rfl⟩
    refine ⟨y, ?_, rfl⟩
    rw [Rect.mem_set_unit] at hy ⊢
    have hj := j.isLt
    intro a
    have h := hy a
    fin_cases a <;> simp [row0, rows] at h ⊢ <;> omega
  · rintro ⟨y, hy, rfl⟩
    rw [Rect.mem_set_unit] at hy
    have h1 : (y 1).val < 256 := by have := (hy 1).2; simpa using this
    refine ⟨⟨2 * ((y 1).val / 64) + ((y 1).val % 64) / 56, by omega⟩, y, ?_, rfl⟩
    rw [Rect.mem_set_unit]
    have e1 : (2 * ((y 1).val / 64) + ((y 1).val % 64) / 56) / 2 = (y 1).val / 64 := by omega
    have e2 : (2 * ((y 1).val / 64) + ((y 1).val % 64) / 56) % 2 = ((y 1).val % 64) / 56 := by omega
    intro a
    have h := hy a
    fin_cases a <;> simp [row0, rows, e1, e2] at h ⊢ <;> omega

theorem reg_disj (M : RingM) (s : ℕ) (hs : s < 2) (j j' : Fin 8) (hne : j ≠ j') : Disjoint (M.view.setOn (regR s hs j).set) (M.view.setOn (regR s hs j').set) := by
  unfold View.setOn
  rw [Finset.disjoint_map, Finset.disjoint_left]
  intro y hy hy'
  rw [Rect.mem_set_unit] at hy hy'
  have h := hy 1; have h' := hy' 1
  have hj := j.isLt; have hj' := j'.isLt
  have : j.val ≠ j'.val := fun e => hne (Fin.ext e)
  simp [row0, rows] at h h'
  omega

theorem dL_sub (M : RingM) (s : ℕ) (hs : s < 2) (oi : ℕ) (ho : oi < 4) (j : Fin 8) (hj : j.val = 2 * oi) :
    (dLm M (dLo s oi) (dLo_inb s oi hs ho)).view.set ⊆ M.view.setOn (regR s hs j).set := by
  rw [Memref.set_view_squeeze]
  refine Memref.set_slice_subset_setOn_of_within M _ _ _ (decide_eq_true ?_)
  intro a
  fin_cases a <;> simp [row0, rows, dLo, S1x56x16x128, hj] <;> omega
theorem dS_sub (M : RingM) (s : ℕ) (hs : s < 2) (oi : ℕ) (ho : oi < 4) (j : Fin 8) (hj : j.val = 2 * oi + 1) :
    (dSm M (dSo s oi) (dSo_inb s oi hs ho)).view.set ⊆ M.view.setOn (regR s hs j).set := by
  rw [Memref.set_view_squeeze]
  refine Memref.set_slice_subset_setOn_of_within M _ _ _ (decide_eq_true ?_)
  intro a
  fin_cases a <;> simp [row0, rows, dSo, S1x8x16x128, hj] <;> omega

/-! ## The cells' transfers -/

/-- Transfer `j` of slot `s` reads through a share of its own of the pages. -/
abbrev tok (s : ℕ) (hs : s < 2) (j : Fin 8) : PosShare TreeShare := ShareLeaves.leaf 4 fullShare ⟨8 * s + j.val, by have := j.isLt; omega⟩

section Cells

variable (c : Dev nD) (M : RingM) (H : PageM) (w cL cS : BitVec 32) (V : BufTy.Contents (Elt F) H.view.ty)

theorem half_lt (j : Fin 8) : j.val / 2 < 4 := by have := j.isLt; omega

/-- The pages' elements transfer `j` of step `t` reads. -/
def srcSet (t : ℕ) (ht : t < 20) (j : Fin 8) : Finset H.view.ty.Idx :=
  if j.val % 2 = 0 then H.view.setOn (Rect.unit (s := S2x56x16x80x128) (srcL w cL t (j.val / 2)) S1x56x1x16x128.size (srcL_inb w cL t _ ht)).set
  else H.view.setOn (Rect.unit (s := S2x56x16x80x128) (srcS w cS t (j.val / 2)) S1x8x1x16x128.size (srcS_inb w cS t _ ht)).set

theorem srcSet_L (t : ℕ) (ht : t < 20) (j : Fin 8) (oi : ℕ) (hj : j.val = 2 * oi) (inb) :
    (sLm H (srcL w cL t oi) inb).view.set = srcSet H w cL cS t ht j := by
  have hd : j.val / 2 = oi := by omega
  subst hd
  rw [Memref.set_view_squeeze]
  unfold srcSet; rw [if_pos (by omega)]; exact View.set_slice _ _
theorem srcSet_S (t : ℕ) (ht : t < 20) (j : Fin 8) (oi : ℕ) (hj : j.val = 2 * oi + 1) (inb) :
    (sSm H (srcS w cS t oi) inb).view.set = srcSet H w cL cS t ht j := by
  have hd : j.val / 2 = oi := by omega
  subst hd
  rw [Memref.set_view_squeeze]
  unfold srcSet; rw [if_neg (by omega)]; exact View.set_slice _ _

/-- What transfer `j` of step `t` leaves in slot `s`. -/
def good (t : ℕ) (ht : t < 20) (s : ℕ) (hs : s < 2) (j : Fin 8) (f : BufTy.Contents (Elt F) M.view.ty) : Prop :=
  (j.val % 2 = 0 → (dLm M (dLo s (j.val / 2)) (dLo_inb s _ hs (half_lt j))).view.read (Elt F) f = (sLm H (srcL w cL t (j.val / 2)) (srcL_inb w cL t _ ht)).view.read (Elt F) V)
  ∧ (j.val % 2 = 1 → (dSm M (dSo s (j.val / 2)) (dSo_inb s _ hs (half_lt j))).view.read (Elt F) f = (sSm H (srcS w cS t (j.val / 2)) (srcS_inb w cS t _ ht)).view.read (Elt F) V)

theorem good_L (t : ℕ) (ht : t < 20) (s : ℕ) (hs : s < 2) (j : Fin 8) (oi : ℕ) (ho : oi < 4) (hj : j.val = 2 * oi) (f : BufTy.Contents (Elt F) M.view.ty)
    (h : (dLm M (dLo s oi) (dLo_inb s oi hs ho)).view.read (Elt F) f = (sLm H (srcL w cL t oi) (srcL_inb w cL t oi ht)).view.read (Elt F) V) :
    good M H w cL cS V t ht s hs j f := by
  have hd : j.val / 2 = oi := by omega
  subst hd
  exact ⟨fun _ => h, fun h' => by omega⟩
theorem good_S (t : ℕ) (ht : t < 20) (s : ℕ) (hs : s < 2) (j : Fin 8) (oi : ℕ) (ho : oi < 4) (hj : j.val = 2 * oi + 1) (f : BufTy.Contents (Elt F) M.view.ty)
    (h : (dSm M (dSo s oi) (dSo_inb s oi hs ho)).view.read (Elt F) f = (sSm H (srcS w cS t oi) (srcS_inb w cS t oi ht)).view.read (Elt F) V) :
    good M H w cL cS V t ht s hs j f := by
  have hd : j.val / 2 = oi := by omega
  subst hd
  exact ⟨fun h' => by omega, fun _ => h⟩

/-- Its delivery: the rows at what it read, and the share of the pages it read through. -/
def deliv (t : ℕ) (ht : t < 20) (s : ℕ) (hs : s < 2) (j : Fin 8) : sProp 𝕄 :=
  iprop(∃ f, (M.view.loc (c : Thread nD τ) ↦[M.view.setOn (regR s hs j).set]{fullShare} f) ∗ ⌜good M H w cL cS V t ht s hs j f⌝
    ∗ (H.view.loc (c : Thread nD τ) ↦[srcSet H w cL cS t ht j]{tok s hs j} V))

instance (t : ℕ) (ht : t < 20) (s : ℕ) (hs : s < 2) (j : Fin 8) : Storable (upEmb : UEmb _ 𝕄) (deliv (F := F) c M H w cL cS V t ht s hs j) := by
  unfold deliv; infer_instance

/-- What stays with the core of the share while the transfer flies. -/
def restOf (t : ℕ) (ht : t < 20) (s : ℕ) (hs : s < 2) (j : Fin 8) : sProp 𝕄 :=
  (H.view.loc (c : Thread nD τ) ↦[Finset.univ \ srcSet H w cL cS t ht j]{tok s hs j} V)

/-- The rows and the share before the transfer. -/
def freeOf (s : ℕ) (hs : s < 2) (j : Fin 8) : sProp 𝕄 :=
  iprop((∃ f, M.view.loc (c : Thread nD τ) ↦[M.view.setOn (regR s hs j).set]{fullShare} f) ∗ (H.view.loc (c : Thread nD τ) ↦{tok s hs j} V))

/-- The transfers' amounts. -/
def amt (j : Fin 8) : ℕ := if j.val % 2 = 0 then M.view.ref.dmaCredit S56x16x128 .bf16 else M.view.ref.dmaCredit S8x16x128 .bf16

/-- A cell of slot `s` with `n` of step `t`'s transfers issued and the units of the first `u` consumed. -/
def RingI (sm : DmaSem sig) (t : ℕ) (ht : t < 20) (s : ℕ) (hs : s < 2) (n u : ℕ) : sProp 𝕄 :=
  iprop(MixedBatch (countersEmb (U := Pipeline.UD sig nD τ)) (c : Thread nD τ) (.dma sm) () (amt M) (deliv (F := F) c M H w cL cS V t ht s hs) n (sumTo (amt M) u)
    ∗ bigSep Finset.univ fun j : Fin 8 => if j.val < n then restOf c H w cL cS V t ht s hs j else freeOf c M H V s hs j)

theorem sumTo_mono {n : ℕ} (A : Fin n → ℕ) (a b : ℕ) (h : a ≤ b) : sumTo A a ≤ sumTo A b := by
  induction b, h using Nat.le_induction with
  | base => exact le_rfl
  | succ b _ ih => exact ih.trans (Nat.le_add_right _ _)

theorem bigSep_take {I : Type} [DecidableEq I] {s : Finset I} {i : I} (h : i ∈ s) (Φ : I → sProp 𝕄) : bigSep s Φ = iprop(Φ i ∗ bigSep (s.erase i) Φ) :=
  bigSep_erase h

/-- One transfer's components exchanged in the family over all eight. -/
theorem family_step (Φ Ψ : Fin 8 → sProp 𝕄) (j : ℕ) (hj : j < 8) :
    (bigSep Finset.univ fun i : Fin 8 => if i.val < j then Φ i else Ψ i) ⊢ iprop(Ψ ⟨j, hj⟩ ∗ (Φ ⟨j, hj⟩ -∗ bigSep Finset.univ fun i : Fin 8 => if i.val < j + 1 then Φ i else Ψ i)) := by
  rw [bigSep_take (Finset.mem_univ (⟨j, hj⟩ : Fin 8)) (fun i : Fin 8 => if i.val < j then Φ i else Ψ i),
    bigSep_take (Finset.mem_univ (⟨j, hj⟩ : Fin 8)) (fun i : Fin 8 => if i.val < j + 1 then Φ i else Ψ i)]
  rw [if_neg (Nat.lt_irrefl j), if_pos (Nat.lt_succ_self j)]
  rw [bigSep_congr (Φ := fun i : Fin 8 => if i.val < j then Φ i else Ψ i) (Ψ := fun i : Fin 8 => if i.val < j + 1 then Φ i else Ψ i)]
  · iintro ⟨H1, H2⟩
    isplitl [H1]; · iexact H1
    iintro H3
    isplitl [H3] <;> iassumption
  · intro i hi
    have hne : i.val ≠ j := fun e => (Finset.mem_erase.mp hi).1 (Fin.ext e)
    by_cases h : i.val < j
    · rw [if_pos h, if_pos (by omega)]
    · rw [if_neg h, if_neg (by omega)]

variable {𝒱 : Variants} (bd : Option 𝒱.V)

/-- The issue of a slot's next transfer out of the longer sequence's pages. -/
theorem issueL (t : ℕ) (ht : t < 20) (s : ℕ) (hs : s < 2) (oi : ℕ) (ho : oi < 4) (n : ℕ) (hn : n = 2 * oi)
    {so : Fin 2 → ℕ} {soi} {da : Fin 4 → ℕ} {dai} {sa : Fin 5 → ℕ} {sai} (a : ℕ) (ha : a < 2)
    (hso : so = ![a, s]) (hda : da = dLo s oi) (hsa : sa = srcL w cL t oi) {hsrc hdst hsem} {Q : PUnit → sProp 𝕄} :
    RingI c M H w cL cS V (cellM ![a, s] (cell_inb a s ha hs)) t ht s hs n 0
      ⊢ iprop((RingI c M H w cL cS V (cellM ![a, s] (cell_inb a s ha hs)) t ht s hs (n + 1) 0 -∗ Q ⟨⟩)
        -∗ wp frame (wpE (defs₀ (F := F)) 𝒱 (c : Thread nD τ) bd) Set.univ
          (Prog.lift (.enqueueDma (sLm H sa sai) (.here (dLm M da dai)) (.dma (cellM so soi)) hsrc hdst hsem)) Q) := by
  subst hso hda hsa
  have hj : n < 8 := by omega
  have hset := srcSet_L H w cL cS t ht ⟨n, hj⟩ oi hn sai
  unfold RingI
  iintro ⟨HB, HF⟩ HK
  ihave HF := (family_step _ _ n hj) $$ HF
  icases HF with ⟨Hf, HF⟩
  unfold freeOf
  icases Hf with ⟨⟨%f, Hf⟩, Ht⟩
  ihave Ht := (pointsTo_split_subset (Finset.subset_univ (srcSet H w cL cS t ht ⟨n, hj⟩))).1 $$ Ht
  icases Ht with ⟨Hs, Hr⟩
  unfold Prog.lift
  iapply (wp_dmaMixedBatch (src := sLm H (srcL w cL t oi) sai) (dst := dLm M (dLo s oi) dai) (sm := .dma (cellM ![a, s] soi)) (countersEmb (U := Pipeline.UD sig nD τ)) 𝒱 (c : Thread nD τ) bd (q := tok s hs ⟨n, hj⟩) (fs := V)
    (Sd := M.view.setOn (regR s hs ⟨n, hj⟩).set) (fd := f) (D := deliv (F := F) c M H w cL cS V t ht s hs) (j := n) (u := sumTo (amt M) 0) () (amt M)
    (dL_sub M s hs oi ho ⟨n, hj⟩ hn) hj ?hA ?hu ?hD) $$ [Hs Hf HB]
  case hA => unfold amt; rw [if_pos (by show n % 2 = 0; omega)]
  case hu => exact sumTo_mono _ _ _ (Nat.zero_le _)
  case hD =>
    unfold deliv
    rw [← hset]
    iintro ⟨H1, H2⟩
    iexists _
    isplitl [H1]; · iexact H1
    isplitr
    · ipureintro
      exact good_L M H w cL cS V t ht s hs ⟨n, hj⟩ oi ho hn _ (View.read_write_univ _ _)
    iexact H2
  · isplitl [Hs]; · rw [hset]; iexact Hs
    isplitl [Hf]; · iexact Hf
    iexact HB
  iintro HB
  rw [show (Prog.ret : PUnit → Prog (TpuEff nD τ sig (Elt F) Λ₀ .tc) PUnit) PUnit.unit = pure PUnit.unit from rfl, wp_pure]
  imodintro
  iapply HK
  isplitl [HB]; · iexact HB
  iapply HF
  unfold restOf
  iexact Hr

/-- The issue of a slot's next transfer out of the shorter sequence's pages. -/
theorem issueS (t : ℕ) (ht : t < 20) (s : ℕ) (hs : s < 2) (oi : ℕ) (ho : oi < 4) (n : ℕ) (hn : n = 2 * oi + 1)
    {so : Fin 2 → ℕ} {soi} {da : Fin 4 → ℕ} {dai} {sa : Fin 5 → ℕ} {sai} (a : ℕ) (ha : a < 2)
    (hso : so = ![a, s]) (hda : da = dSo s oi) (hsa : sa = srcS w cS t oi) {hsrc hdst hsem} {Q : PUnit → sProp 𝕄} :
    RingI c M H w cL cS V (cellM ![a, s] (cell_inb a s ha hs)) t ht s hs n 0
      ⊢ iprop((RingI c M H w cL cS V (cellM ![a, s] (cell_inb a s ha hs)) t ht s hs (n + 1) 0 -∗ Q ⟨⟩)
        -∗ wp frame (wpE (defs₀ (F := F)) 𝒱 (c : Thread nD τ) bd) Set.univ
          (Prog.lift (.enqueueDma (sSm H sa sai) (.here (dSm M da dai)) (.dma (cellM so soi)) hsrc hdst hsem)) Q) := by
  subst hso hda hsa
  have hj : n < 8 := by omega
  have hset := srcSet_S H w cL cS t ht ⟨n, hj⟩ oi hn sai
  unfold RingI
  iintro ⟨HB, HF⟩ HK
  ihave HF := (family_step _ _ n hj) $$ HF
  icases HF with ⟨Hf, HF⟩
  unfold freeOf
  icases Hf with ⟨⟨%f, Hf⟩, Ht⟩
  ihave Ht := (pointsTo_split_subset (Finset.subset_univ (srcSet H w cL cS t ht ⟨n, hj⟩))).1 $$ Ht
  icases Ht with ⟨Hs, Hr⟩
  unfold Prog.lift
  iapply (wp_dmaMixedBatch (src := sSm H (srcS w cS t oi) sai) (dst := dSm M (dSo s oi) dai) (sm := .dma (cellM ![a, s] soi)) (countersEmb (U := Pipeline.UD sig nD τ)) 𝒱 (c : Thread nD τ) bd (q := tok s hs ⟨n, hj⟩) (fs := V)
    (Sd := M.view.setOn (regR s hs ⟨n, hj⟩).set) (fd := f) (D := deliv (F := F) c M H w cL cS V t ht s hs) (j := n) (u := sumTo (amt M) 0) () (amt M)
    (dS_sub M s hs oi ho ⟨n, hj⟩ hn) hj ?hA ?hu ?hD) $$ [Hs Hf HB]
  case hA => unfold amt; rw [if_neg (by show ¬ n % 2 = 0; omega)]
  case hu => exact sumTo_mono _ _ _ (Nat.zero_le _)
  case hD =>
    unfold deliv
    rw [← hset]
    iintro ⟨H1, H2⟩
    iexists _
    isplitl [H1]; · iexact H1
    isplitr
    · ipureintro
      exact good_S M H w cL cS V t ht s hs ⟨n, hj⟩ oi ho hn _ (View.read_write_univ _ _)
    iexact H2
  · isplitl [Hs]; · rw [hset]; iexact Hs
    isplitl [Hf]; · iexact Hf
    iexact HB
  iintro HB
  rw [show (Prog.ret : PUnit → Prog (TpuEff nD τ sig (Elt F) Λ₀ .tc) PUnit) PUnit.unit = pure PUnit.unit from rfl, wp_pure]
  imodintro
  iapply HK
  isplitl [HB]; · iexact HB
  iapply HF
  unfold restOf
  iexact Hr

/-- A wait for the units of the next transfer. -/
theorem waitOne (sm : DmaSem sig) (t : ℕ) (ht : t < 20) (s : ℕ) (hs : s < 2) (u : ℕ) (hu : u < 8) {S : Shape} {sm' : DmaSem sig} (hsm : sm' = sm)
    {src : Memref sig .tc .hbm S .bf16} {dst : Memref sig .tc .vmem S .bf16} (hJ : dst.view.dmaCredit = amt M ⟨u, hu⟩) {hsrc hdst} {Q : PUnit → sProp 𝕄} :
    iprop(RingI c M H w cL cS V sm t ht s hs 8 u ∗ (∃ W, owes (c : Thread nD τ) 0 W))
      ⊢ iprop(((RingI c M H w cL cS V sm t ht s hs 8 (u + 1) ∗ (∃ W, owes (c : Thread nD τ) 0 W)) -∗ Q ⟨⟩)
        -∗ wp frame (wpE (defs₀ (F := F)) 𝒱 (c : Thread nD τ) bd) Set.univ (Prog.lift (.waitDma2 sm' src dst hsrc hdst)) Q) := by
  subst hsm
  unfold RingI
  iintro ⟨⟨HB, HF⟩, ⟨%W, HW⟩⟩ HK
  unfold Prog.lift
  iapply (wp_waitMixedBatch (j := 8) (D := deliv (F := F) c M H w cL cS V t ht s hs) (srcw := src) (dstw := dst) (sem := sm') (countersEmb (U := Pipeline.UD sig nD τ)) 𝒱 (c : Thread nD τ) bd () hJ
    (by rw [← sumTo_succ (amt M) hu]; exact sumTo_mono _ _ _ hu) (W := W)) $$ [HB HW]
  · isplitl [HB]; · iexact HB
    iexact HW
  iintro ⟨HB, HW⟩
  rw [show (Prog.ret : PUnit → Prog (TpuEff nD τ sig (Elt F) Λ₀ .tc) PUnit) PUnit.unit = pure PUnit.unit from rfl, wp_pure]
  imodintro
  iapply HK
  isplitr [HW]
  · isplitl [HB]; · rw [sumTo_succ (amt M) hu]; iexact HB
    iexact HF
  iexists _; iexact HW

theorem good_congr (t : ℕ) (ht : t < 20) (s : ℕ) (hs : s < 2) (j : Fin 8) (f g : BufTy.Contents (Elt F) M.view.ty)
    (h : ∀ i ∈ M.view.setOn (regR s hs j).set, g i = f i) (hf : good M H w cL cS V t ht s hs j f) : good M H w cL cS V t ht s hs j g := by
  refine ⟨fun e => ?_, fun e => ?_⟩
  · rw [← hf.1 e]
    exact View.read_congr (fun i hi => h i (dL_sub M s hs _ (half_lt j) j (by omega) hi))
  · rw [← hf.2 e]
    exact View.read_congr (fun i hi => h i (dS_sub M s hs _ (half_lt j) j (by omega) hi))

/-- The shares a slot's transfers read the pages through. -/
def toks (s : ℕ) (hs : s < 2) : sProp 𝕄 := bigSep Finset.univ fun j : Fin 8 => (H.view.loc (c : Thread nD τ) ↦{tok s hs j} V)

/-- A slot none of whose transfers flies, its cell at zero. -/
def Idle (sm : DmaSem sig) (s : ℕ) (hs : s < 2) : sProp 𝕄 :=
  iprop((∃ f, M.view.loc (c : Thread nD τ) ↦[M.view.setOn (slotR s hs).set]{fullShare} f) ∗ toks c H V s hs ∗ semVal ((c : Thread nD τ), .dma sm) 0)

/-- A slot just filled with step `t`'s rows. -/
def Filled (sm : DmaSem sig) (t : ℕ) (ht : t < 20) (s : ℕ) (hs : s < 2) : sProp 𝕄 :=
  iprop((∃ X, (M.view.loc (c : Thread nD τ) ↦[M.view.setOn (slotR s hs).set]{fullShare} X) ∗ ⌜∀ j, good M H w cL cS V t ht s hs j X⌝)
    ∗ toks c H V s hs ∗ semVal ((c : Thread nD τ), .dma sm) 0)

theorem filled_idle (sm : DmaSem sig) (t : ℕ) (ht : t < 20) (s : ℕ) (hs : s < 2) : Filled c M H w cL cS V sm t ht s hs ⊢ Idle c M H V sm s hs := by
  unfold Filled Idle
  iintro ⟨⟨%X, HX, -⟩, Ht, Hq⟩
  isplitl [HX]; · iexists X; iexact HX
  isplitl [Ht] <;> iassumption

theorem ring_start (sm : DmaSem sig) (t : ℕ) (ht : t < 20) (s : ℕ) (hs : s < 2) :
    Idle c M H V sm s hs ⊢ iprop(|={Set.univ}=> RingI c M H w cL cS V sm t ht s hs 0 0) := by
  unfold Idle toks
  iintro ⟨⟨%f, Hf⟩, Ht, Hq⟩
  imod (Transfers.mixedBatch_alloc' (Lvl := ℕ) (countersEmb (U := Pipeline.UD sig nD τ)) (c : Thread nD τ) () (amt M)
    (deliv (F := F) c M H w cL cS V t ht s hs) (sm := SemLoc.dma sm) (E := Set.univ)) $$ Hq with HB
  imodintro
  unfold RingI
  isplitl [HB]; · iexact HB
  simp only [Nat.not_lt_zero, if_false]
  unfold freeOf
  rw [bigSep_sep' (Finset.univ : Finset (Fin 8))]
  isplitl [Hf]
  · rw [← slot_eq M s hs, pointsTo_biUnion _ _ (fun a _ b _ h => reg_disj M s hs a b h)]
    have h : ∀ j : Fin 8, (M.view.loc (c : Thread nD τ) ↦[M.view.setOn (regR s hs j).set]{fullShare} f : sProp 𝕄)
        ⊢ iprop(∃ f, M.view.loc (c : Thread nD τ) ↦[M.view.setOn (regR s hs j).set]{fullShare} f) := fun j => by iintro Hf; iexists f; iexact Hf
    exact bigSep_mono fun j _ => h j
  iexact Ht

theorem amt_pos (j : Fin 8) : 0 < amt M j := by
  unfold amt
  split <;> exact sig.dmaCredit_pos _ _ _ _ _ (by decide)

theorem deliv_split (t : ℕ) (ht : t < 20) (s : ℕ) (hs : s < 2) (j : Fin 8) :
    iprop(deliv (F := F) c M H w cL cS V t ht s hs j ∗ restOf c H w cL cS V t ht s hs j)
      ⊢ iprop((∃ f, ⌜good M H w cL cS V t ht s hs j f⌝ ∗ (M.view.loc (c : Thread nD τ) ↦[M.view.setOn (regR s hs j).set]{fullShare} f))
        ∗ (H.view.loc (c : Thread nD τ) ↦{tok s hs j} V)) := by
  unfold deliv restOf
  iintro ⟨⟨%f, Hf, %hg, Hs⟩, Hr⟩
  isplitl [Hf]
  · iexists f
    isplitr; · ipureintro; exact hg
    iexact Hf
  iapply (pointsTo_split_subset (Finset.subset_univ (srcSet H w cL cS t ht j))).2
  isplitl [Hs] <;> iassumption

theorem ring_finish (sm : DmaSem sig) (t : ℕ) (ht : t < 20) (s : ℕ) (hs : s < 2) :
    RingI c M H w cL cS V sm t ht s hs 8 8 ⊢ iprop(|={Set.univ}=> Filled c M H w cL cS V sm t ht s hs) := by
  unfold RingI Filled toks
  iintro ⟨HB, HF⟩
  imod (Transfers.mixedBatch_collect' (Lvl := ℕ) (countersEmb (U := Pipeline.UD sig nD τ)) (c : Thread nD τ) (amt_pos M)) $$ HB with ⟨HD, Hq⟩
  imodintro
  ihave HA := (show iprop((bigSep Finset.univ (deliv (F := F) c M H w cL cS V t ht s hs)) ∗ (bigSep Finset.univ fun j : Fin 8 => if j.val < 8 then restOf c H w cL cS V t ht s hs j else freeOf c M H V s hs j))
      ⊢ iprop((bigSep Finset.univ fun j : Fin 8 => iprop(∃ f, ⌜good M H w cL cS V t ht s hs j f⌝ ∗ (M.view.loc (c : Thread nD τ) ↦[M.view.setOn (regR s hs j).set]{fullShare} f)))
        ∗ (bigSep Finset.univ fun j : Fin 8 => (H.view.loc (c : Thread nD τ) ↦{tok s hs j} V))) from by
    rw [← bigSep_sep' (Finset.univ : Finset (Fin 8)), ← bigSep_sep' (Finset.univ : Finset (Fin 8))]
    refine bigSep_mono fun j _ => ?_
    rw [if_pos j.isLt]
    exact deliv_split c M H w cL cS V t ht s hs j) $$ [HD HF]
  · isplitl [HD] <;> iassumption
  icases HA with ⟨HM, Ht⟩
  isplitl [HM]
  · haveI : Nonempty (Buf (Elt F) (M.view.loc (c : Thread nD τ))) := ⟨M.view.junk⟩
    ihave HM := (bigSep_exists_pi Finset.univ (fun (j : Fin 8) (f : Buf (Elt F) (M.view.loc (c : Thread nD τ))) =>
      iprop(⌜good M H w cL cS V t ht s hs j f⌝ ∗ (M.view.loc (c : Thread nD τ) ↦[M.view.setOn (regR s hs j).set]{fullShare} f)))) $$ HM
    icases HM with ⟨%fs, HM⟩
    ihave HM := (bigSep_pure_sep Finset.univ (fun j : Fin 8 => good M H w cL cS V t ht s hs j (fs j)) _) $$ HM
    icases HM with ⟨%hg, HM⟩
    ihave HM := (pointsTo_biUnion_join Finset.univ (fun j : Fin 8 => M.view.setOn (regR s hs j).set) fs M.view.junk (fun a _ b _ h => reg_disj M s hs a b h)) $$ HM
    icases HM with ⟨%X, %hX, HM⟩
    iexists X
    rw [slot_eq M s hs]
    isplitl [HM]; · iexact HM
    ipureintro
    exact fun j => good_congr M H w cL cS V t ht s hs j (fs j) X (hX j (Finset.mem_univ j)) (hg j (Finset.mem_univ j))
  isplitl [Ht] <;> iassumption

end Cells

end Cert.Kernel.Hand

end
-- ==== Proof.K.Parts.lean ====
module

public import proofs.«01_k».proof.Proof.K.Ring
public import proofs.«01_k».proof.Proof.K.Trip

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (w cL cS : BitVec 32) (Vk : BufTy.Contents (Elt F) k5M.view.ty) (Vv : BufTy.Contents (Elt F) v5M.view.ty)

/-- Step `t`'s transfers of k's rows, `n` issued and `u` waited for, and of v's rows. -/
abbrev kR (t : ℕ) (ht : t < 20) (n u : ℕ) : sProp 𝕄 :=
  RingI c xkM k5M w cL cS Vk (cellM ![0, t % 2] (cell_inb 0 _ (by decide) (mod2_lt t))) t ht (t % 2) (mod2_lt t) n u
abbrev vR (t : ℕ) (ht : t < 20) (n u : ℕ) : sProp 𝕄 :=
  RingI c xvM v5M w cL cS Vv (cellM ![1, t % 2] (cell_inb 1 _ (by decide) (mod2_lt t))) t ht (t % 2) (mod2_lt t) n u
/-- What the device's thread has waited for so far. -/
abbrev Ow : sProp 𝕄 := iprop(∃ W, owes (c : Thread nD τ) 0 W)

theorem cell_congr {o o' : Fin 2 → ℕ} (h : o = o') (i : ∀ a, o a + S1x1.size a ≤ S2x2.size a) (i' : ∀ a, o' a + S1x1.size a ≤ S2x2.size a) : cellM o i = cellM o' i' := by
  subst h; rfl
theorem amt_L (M : RingM) (u : ℕ) (hu : u < 8) (he : u % 2 = 0) {off inb} : (dLm M off inb).view.dmaCredit = amt M ⟨u, hu⟩ := by
  unfold amt; rw [if_pos he]
theorem amt_S (M : RingM) (u : ℕ) (hu : u < 8) (he : u % 2 = 1) {off inb} : (dSm M off inb).view.dmaCredit = amt M ⟨u, hu⟩ := by
  unfold amt; rw [if_neg (by show ¬ u % 2 = 0; omega)]

variable (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)

/-! ## Issuing a step's transfers -/

theorem part2_spec (h2 : k0_chk2 i w cL) (h3 : k0_chk3 i w cS) (h : k0_cond1 i = 1#1) (x y : BitVec 32) {Q : PUnit → sProp 𝕄} :
    iprop(kR c w cL cS Vk (stepN i) (stepN_lt i) 0 0 ∗ vR c w cL cS Vv (stepN i) (stepN_lt i) 0 0)
      ⊢ iprop(((kR c w cL cS Vk (stepN i) (stepN_lt i) 2 0 ∗ vR c w cL cS Vv (stepN i) (stepN_lt i) 1 0) -∗ Q ⟨⟩)
        -∗ wp frame (wpE (defs₀ (F := F)) Variants.none (c : Thread nD τ) none) Set.univ
          (k0_part2 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h x y) Q) := by
  rw [k0_part2_eq_skeleton]
  unfold k0_part2_skel
  dsimp only
  iintro ⟨HK, HV⟩ HQ
  rw [wp_bind]
  iapply (issueL c xkM k5M w cL cS Vk none (stepN i) (stepN_lt i) (stepN i % 2) (mod2_lt _) 0 (by decide) 0 rfl 0 (by decide)
    (k0_off3_eq i) (k0_off4_eq i) (off5_eq i w cL)) $$ HK
  iintro HK
  rw [wp_bind]
  iapply (issueL c xvM v5M w cL cS Vv none (stepN i) (stepN_lt i) (stepN i % 2) (mod2_lt _) 0 (by decide) 0 rfl 1 (by decide)
    (k0_off6_eq i) (k0_off7_eq i) (off5_eq i w cL)) $$ HV
  iintro HV
  rw [wp_bind]
  iapply (issueS c xkM k5M w cL cS Vk none (stepN i) (stepN_lt i) (stepN i % 2) (mod2_lt _) 0 (by decide) 1 rfl 0 (by decide)
    (k0_off8_eq i) (k0_off9_eq i) (off10_eq i w cS 0)) $$ HK
  iintro HK
  rw [wp_pure]
  imodintro
  iapply HQ
  isplitl [HK] <;> iassumption

theorem part3_spec (h2 : k0_chk2 i w cL) (h3 : k0_chk3 i w cS) (h : k0_cond1 i = 1#1) {Q : PUnit → sProp 𝕄} :
    iprop(kR c w cL cS Vk (stepN i) (stepN_lt i) 2 0 ∗ vR c w cL cS Vv (stepN i) (stepN_lt i) 1 0)
      ⊢ iprop(((kR c w cL cS Vk (stepN i) (stepN_lt i) 4 0 ∗ vR c w cL cS Vv (stepN i) (stepN_lt i) 3 0) -∗ Q ⟨⟩)
        -∗ wp frame (wpE (defs₀ (F := F)) Variants.none (c : Thread nD τ) none) Set.univ
          (k0_part3 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h) Q) := by
  rw [k0_part3_eq_skeleton]
  unfold k0_part3_skel
  dsimp only
  iintro ⟨HK, HV⟩ HQ
  rw [wp_bind]
  iapply (issueS c xvM v5M w cL cS Vv none (stepN i) (stepN_lt i) (stepN i % 2) (mod2_lt _) 0 (by decide) 1 rfl 1 (by decide)
    (k0_off11_eq i) (k0_off12_eq i) (off10_eq i w cS 0)) $$ HV
  iintro HV
  rw [wp_bind]
  iapply (issueL c xkM k5M w cL cS Vk none (stepN i) (stepN_lt i) (stepN i % 2) (mod2_lt _) 1 (by decide) 2 rfl 0 (by decide)
    (k0_off13_eq i) (k0_off14_eq i) (off15_eq i w cL 0)) $$ HK
  iintro HK
  rw [wp_bind]
  iapply (issueL c xvM v5M w cL cS Vv none (stepN i) (stepN_lt i) (stepN i % 2) (mod2_lt _) 1 (by decide) 2 rfl 1 (by decide)
    (k0_off11_eq i) (k0_off14_eq i) (off15_eq i w cL 0)) $$ HV
  iintro HV
  rw [wp_bind]
  iapply (issueS c xkM k5M w cL cS Vk none (stepN i) (stepN_lt i) (stepN i % 2) (mod2_lt _) 1 (by decide) 3 rfl 0 (by decide)
    (k0_off13_eq i) (k0_off16_eq i) (off10_eq i w cS 1)) $$ HK
  iintro HK
  rw [wp_pure]
  imodintro
  iapply HQ
  isplitl [HK] <;> iassumption

theorem part4_spec (h2 : k0_chk2 i w cL) (h3 : k0_chk3 i w cS) (h : k0_cond1 i = 1#1) {Q : PUnit → sProp 𝕄} :
    iprop(kR c w cL cS Vk (stepN i) (stepN_lt i) 4 0 ∗ vR c w cL cS Vv (stepN i) (stepN_lt i) 3 0)
      ⊢ iprop(((kR c w cL cS Vk (stepN i) (stepN_lt i) 6 0 ∗ vR c w cL cS Vv (stepN i) (stepN_lt i) 6 0) -∗ Q ⟨⟩)
        -∗ wp frame (wpE (defs₀ (F := F)) Variants.none (c : Thread nD τ) none) Set.univ
          (k0_part4 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h) Q) := by
  rw [k0_part4_eq_skeleton]
  unfold k0_part4_skel
  dsimp only
  iintro ⟨HK, HV⟩ HQ
  rw [wp_bind]
  iapply (issueS c xvM v5M w cL cS Vv none (stepN i) (stepN_lt i) (stepN i % 2) (mod2_lt _) 1 (by decide) 3 rfl 1 (by decide)
    (k0_off11_eq i) (k0_off16_eq i) (off10_eq i w cS 1)) $$ HV
  iintro HV
  rw [wp_bind]
  iapply (issueL c xkM k5M w cL cS Vk none (stepN i) (stepN_lt i) (stepN i % 2) (mod2_lt _) 2 (by decide) 4 rfl 0 (by decide)
    (k0_off13_eq i) (k0_off17_eq i) (off15_eq i w cL 1)) $$ HK
  iintro HK
  rw [wp_bind]
  iapply (issueL c xvM v5M w cL cS Vv none (stepN i) (stepN_lt i) (stepN i % 2) (mod2_lt _) 2 (by decide) 4 rfl 1 (by decide)
    (k0_off11_eq i) (k0_off17_eq i) (off15_eq i w cL 1)) $$ HV
  iintro HV
  rw [wp_bind]
  iapply (issueS c xkM k5M w cL cS Vk none (stepN i) (stepN_lt i) (stepN i % 2) (mod2_lt _) 2 (by decide) 5 rfl 0 (by decide)
    (k0_off13_eq i) (k0_off18_eq i) (off10_eq i w cS 2)) $$ HK
  iintro HK
  rw [wp_bind]
  iapply (issueS c xvM v5M w cL cS Vv none (stepN i) (stepN_lt i) (stepN i % 2) (mod2_lt _) 2 (by decide) 5 rfl 1 (by decide)
    (k0_off11_eq i) (k0_off18_eq i) (off10_eq i w cS 2)) $$ HV
  iintro HV
  rw [wp_pure]
  imodintro
  iapply HQ
  isplitl [HK] <;> iassumption

theorem part6_spec (h2 : k0_chk2 i w cL) (h3 : k0_chk3 i w cS) (h : k0_cond2 i = 1#1) (x y : BitVec 32) {Q : PUnit → sProp 𝕄} :
    iprop(kR c w cL cS Vk (stepN i + 1) (stepN_next i h) 0 0 ∗ vR c w cL cS Vv (stepN i + 1) (stepN_next i h) 0 0)
      ⊢ iprop(((kR c w cL cS Vk (stepN i + 1) (stepN_next i h) 2 0 ∗ vR c w cL cS Vv (stepN i + 1) (stepN_next i h) 1 0) -∗ Q ⟨⟩)
        -∗ wp frame (wpE (defs₀ (F := F)) Variants.none (c : Thread nD τ) none) Set.univ
          (k0_part6 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h x y) Q) := by
  rw [k0_part6_eq_skeleton]
  unfold k0_part6_skel
  dsimp only
  iintro ⟨HK, HV⟩ HQ
  rw [wp_bind]
  iapply (issueL c xkM k5M w cL cS Vk none (stepN i + 1) (stepN_next i h) ((stepN i + 1) % 2) (mod2_lt _) 0 (by decide) 0 rfl 0 (by decide)
    (k0_off21_eq i) (k0_off22_eq i) (off23_eq i w cL 0)) $$ HK
  iintro HK
  rw [wp_bind]
  iapply (issueL c xvM v5M w cL cS Vv none (stepN i + 1) (stepN_next i h) ((stepN i + 1) % 2) (mod2_lt _) 0 (by decide) 0 rfl 1 (by decide)
    (k0_off24_eq i) (k0_off22_eq i) (off23_eq i w cL 0)) $$ HV
  iintro HV
  rw [wp_bind]
  iapply (issueS c xkM k5M w cL cS Vk none (stepN i + 1) (stepN_next i h) ((stepN i + 1) % 2) (mod2_lt _) 0 (by decide) 1 rfl 0 (by decide)
    (k0_off21_eq i) (k0_off25_eq i) (off26_eq i w cS 0)) $$ HK
  iintro HK
  rw [wp_pure]
  imodintro
  iapply HQ
  isplitl [HK] <;> iassumption

theorem part7_spec (h2 : k0_chk2 i w cL) (h3 : k0_chk3 i w cS) (h : k0_cond2 i = 1#1) {Q : PUnit → sProp 𝕄} :
    iprop(kR c w cL cS Vk (stepN i + 1) (stepN_next i h) 2 0 ∗ vR c w cL cS Vv (stepN i + 1) (stepN_next i h) 1 0)
      ⊢ iprop(((kR c w cL cS Vk (stepN i + 1) (stepN_next i h) 4 0 ∗ vR c w cL cS Vv (stepN i + 1) (stepN_next i h) 3 0) -∗ Q ⟨⟩)
        -∗ wp frame (wpE (defs₀ (F := F)) Variants.none (c : Thread nD τ) none) Set.univ
          (k0_part7 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h) Q) := by
  rw [k0_part7_eq_skeleton]
  unfold k0_part7_skel
  dsimp only
  iintro ⟨HK, HV⟩ HQ
  rw [wp_bind]
  iapply (issueS c xvM v5M w cL cS Vv none (stepN i + 1) (stepN_next i h) ((stepN i + 1) % 2) (mod2_lt _) 0 (by decide) 1 rfl 1 (by decide)
    (k0_off24_eq i) (k0_off25_eq i) (off26_eq i w cS 0)) $$ HV
  iintro HV
  rw [wp_bind]
  iapply (issueL c xkM k5M w cL cS Vk none (stepN i + 1) (stepN_next i h) ((stepN i + 1) % 2) (mod2_lt _) 1 (by decide) 2 rfl 0 (by decide)
    (k0_off21_eq i) (k0_off27_eq i) (off23_eq i w cL 1)) $$ HK
  iintro HK
  rw [wp_bind]
  iapply (issueL c xvM v5M w cL cS Vv none (stepN i + 1) (stepN_next i h) ((stepN i + 1) % 2) (mod2_lt _) 1 (by decide) 2 rfl 1 (by decide)
    (k0_off24_eq i) (k0_off27_eq i) (off23_eq i w cL 1)) $$ HV
  iintro HV
  rw [wp_bind]
  iapply (issueS c xkM k5M w cL cS Vk none (stepN i + 1) (stepN_next i h) ((stepN i + 1) % 2) (mod2_lt _) 1 (by decide) 3 rfl 0 (by decide)
    (k0_off21_eq i) (k0_off28_eq i) (off26_eq i w cS 1)) $$ HK
  iintro HK
  rw [wp_pure]
  imodintro
  iapply HQ
  isplitl [HK] <;> iassumption

theorem part8_spec (h2 : k0_chk2 i w cL) (h3 : k0_chk3 i w cS) (h : k0_cond2 i = 1#1) {Q : PUnit → sProp 𝕄} :
    iprop(kR c w cL cS Vk (stepN i + 1) (stepN_next i h) 4 0 ∗ vR c w cL cS Vv (stepN i + 1) (stepN_next i h) 3 0)
      ⊢ iprop(((kR c w cL cS Vk (stepN i + 1) (stepN_next i h) 6 0 ∗ vR c w cL cS Vv (stepN i + 1) (stepN_next i h) 6 0) -∗ Q ⟨⟩)
        -∗ wp frame (wpE (defs₀ (F := F)) Variants.none (c : Thread nD τ) none) Set.univ
          (k0_part8 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 h) Q) := by
  rw [k0_part8_eq_skeleton]
  unfold k0_part8_skel
  dsimp only
  iintro ⟨HK, HV⟩ HQ
  rw [wp_bind]
  iapply (issueS c xvM v5M w cL cS Vv none (stepN i + 1) (stepN_next i h) ((stepN i + 1) % 2) (mod2_lt _) 1 (by decide) 3 rfl 1 (by decide)
    (k0_off24_eq i) (k0_off28_eq i) (off26_eq i w cS 1)) $$ HV
  iintro HV
  rw [wp_bind]
  iapply (issueL c xkM k5M w cL cS Vk none (stepN i + 1) (stepN_next i h) ((stepN i + 1) % 2) (mod2_lt _) 2 (by decide) 4 rfl 0 (by decide)
    (k0_off21_eq i) (k0_off29_eq i) (off23_eq i w cL 2)) $$ HK
  iintro HK
  rw [wp_bind]
  iapply (issueL c xvM v5M w cL cS Vv none (stepN i + 1) (stepN_next i h) ((stepN i + 1) % 2) (mod2_lt _) 2 (by decide) 4 rfl 1 (by decide)
    (k0_off24_eq i) (k0_off29_eq i) (off23_eq i w cL 2)) $$ HV
  iintro HV
  rw [wp_bind]
  iapply (issueS c xkM k5M w cL cS Vk none (stepN i + 1) (stepN_next i h) ((stepN i + 1) % 2) (mod2_lt _) 2 (by decide) 5 rfl 0 (by decide)
    (k0_off21_eq i) (k0_off30_eq i) (off26_eq i w cS 2)) $$ HK
  iintro HK
  rw [wp_bind]
  iapply (issueS c xvM v5M w cL cS Vv none (stepN i + 1) (stepN_next i h) ((stepN i + 1) % 2) (mod2_lt _) 2 (by decide) 5 rfl 1 (by decide)
    (k0_off24_eq i) (k0_off30_eq i) (off26_eq i w cS 2)) $$ HV
  iintro HV
  rw [wp_pure]
  imodintro
  iapply HQ
  isplitl [HK] <;> iassumption

/-! ## Waiting for a step's transfers -/

theorem part105_spec (h2 : k0_chk2 i w cL) (h3 : k0_chk3 i w cS) (x y z : BitVec 32) {Q : PUnit → sProp 𝕄} :
    iprop(kR c w cL cS Vk (stepN i) (stepN_lt i) 8 0 ∗ vR c w cL cS Vv (stepN i) (stepN_lt i) 8 0 ∗ Ow c)
      ⊢ iprop(((kR c w cL cS Vk (stepN i) (stepN_lt i) 8 2 ∗ vR c w cL cS Vv (stepN i) (stepN_lt i) 8 1 ∗ Ow c) -∗ Q ⟨⟩)
        -∗ wp frame (wpE (defs₀ (F := F)) Variants.none (c : Thread nD τ) none) Set.univ
          (k0_part107 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3 x y z) Q) := by
  rw [k0_part107_eq_skeleton]
  unfold k0_part107_skel
  dsimp only
  iintro ⟨HK, HV, HO⟩ HQ
  rw [wp_bind]
  iapply (waitOne c xkM k5M w cL cS Vk none _ (stepN i) (stepN_lt i) (stepN i % 2) (mod2_lt _) 0 (by decide) (cell_congr (k0_off41_eq i) _ _)
    (amt_L xkM 0 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 0 (by decide) (cell_congr (k0_off44_eq i) _ _)
    (amt_L xvM 0 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 1 (by decide) (cell_congr (k0_off41_eq i) _ _)
    (amt_S xkM 1 (by decide) rfl)) $$ [HK HO]
  · isplitl [HK] <;> iassumption
  iintro ⟨HK, HO⟩
  rw [wp_pure]
  imodintro
  iapply HQ
  isplitl [HK]; · iassumption
  isplitl [HV] <;> iassumption

theorem part106_spec (h2 : k0_chk2 i w cL) (h3 : k0_chk3 i w cS) {Q : PUnit → sProp 𝕄} :
    iprop(kR c w cL cS Vk (stepN i) (stepN_lt i) 8 2 ∗ vR c w cL cS Vv (stepN i) (stepN_lt i) 8 1 ∗ Ow c)
      ⊢ iprop(((kR c w cL cS Vk (stepN i) (stepN_lt i) 8 4 ∗ vR c w cL cS Vv (stepN i) (stepN_lt i) 8 4 ∗ Ow c) -∗ Q ⟨⟩)
        -∗ wp frame (wpE (defs₀ (F := F)) Variants.none (c : Thread nD τ) none) Set.univ
          (k0_part108 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3) Q) := by
  rw [k0_part108_eq_skeleton]
  unfold k0_part108_skel
  dsimp only
  iintro ⟨HK, HV, HO⟩ HQ
  rw [wp_bind]
  iapply (waitOne c xvM v5M w cL cS Vv none _ (stepN i) (stepN_lt i) (stepN i % 2) (mod2_lt _) 1 (by decide) (cell_congr (k0_off44_eq i) _ _)
    (amt_S xvM 1 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 2 (by decide) (cell_congr (k0_off41_eq i) _ _)
    (amt_L xkM 2 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 2 (by decide) (cell_congr (k0_off44_eq i) _ _)
    (amt_L xvM 2 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 3 (by decide) (cell_congr (k0_off41_eq i) _ _)
    (amt_S xkM 3 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 3 (by decide) (cell_congr (k0_off44_eq i) _ _)
    (amt_S xvM 3 (by decide) rfl)) $$ [HV HO]
  · isplitl [HV] <;> iassumption
  iintro ⟨HV, HO⟩
  rw [wp_pure]
  imodintro
  iapply HQ
  isplitl [HK]; · iassumption
  isplitl [HV] <;> iassumption

theorem part107_spec (h2 : k0_chk2 i w cL) (h3 : k0_chk3 i w cS) {Q : PUnit → sProp 𝕄} :
    iprop(kR c w cL cS Vk (stepN i) (stepN_lt i) 8 4 ∗ vR c w cL cS Vv (stepN i) (stepN_lt i) 8 4 ∗ Ow c)
      ⊢ iprop(((kR c w cL cS Vk (stepN i) (stepN_lt i) 8 6 ∗ vR c w cL cS Vv (stepN i) (stepN_lt i) 8 6 ∗ Ow c) -∗ Q ⟨⟩)
        -∗ wp frame (wpE (defs₀ (F := F)) Variants.none (c : Thread nD τ) none) Set.univ
          (k0_part109 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 w cL h2 cS h3) Q) := by
  rw [k0_part109_eq_skeleton]
  unfold k0_part109_skel
  dsimp only
  iintro ⟨HK, HV, HO⟩ HQ
  rw [wp_bind]
  iapply (waitOne c xkM k5M w cL cS Vk none _ (stepN i) (stepN_lt i) (stepN i % 2) (mod2_lt _) 4 (by decide) (cell_congr (k0_off41_eq i) _ _)
    (amt_L xkM 4 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 4 (by decide) (cell_congr (k0_off44_eq i) _ _)
    (amt_L xvM 4 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 5 (by decide) (cell_congr (k0_off41_eq i) _ _)
    (amt_S xkM 5 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 5 (by decide) (cell_congr (k0_off44_eq i) _ _)
    (amt_S xvM 5 (by decide) rfl)) $$ [HV HO]
  · isplitl [HV] <;> iassumption
  iintro ⟨HV, HO⟩
  rw [wp_pure]
  imodintro
  iapply HQ
  isplitl [HK]; · iassumption
  isplitl [HV] <;> iassumption

end Cert.Kernel.Hand

end
-- ==== Proof.K.Loops.lean ====
module

public import proofs.«01_k».proof.Proof.K.Trip

@[expose] public section

set_option maxRecDepth 16384
set_option maxHeartbeats 2000000

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)

/-! ## The sign tables' loop -/

abbrev t1body (h3 : k0_cond5 i = 1#1) := k0_t1_body (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 h3

abbrev Trip1R (X6 : BufTy.Contents (Elt F) arg8.view.ty) (f : BufTy.Contents (Elt F) wvM.view.ty) : sProp 𝕄 :=
  iprop((arg8.view.loc (c : Thread nD τ) ↦[arg8.view.set]{fullShare} X6) ∗ (wvM.view.loc (c : Thread nD τ) ↦[wvM.view.set]{fullShare} f))

/-- One trip: one head's three tables. -/
@[irreducible] def trip1 (h3 : k0_cond5 i = 1#1) (X6 : BufTy.Contents (Elt F) arg8.view.ty) (k : Fin k0_t1_loop.trips) :
    { L : List (View.Piece (Elt F) S16x128x384 .bf16) // ∀ f : BufTy.Contents (Elt F) wvM.view.ty,
      Trip1R (F := F) c arg8 X6 f
      ⊢ wp frame (wpE (defs₀ (F := F)) Variants.none (c : Thread nD τ) none) Set.univ
          (t1body (F := F) i arg6 harg6 arg7 harg7 arg8 harg8 arg9 harg9 arg10 harg10 arg11 harg11 arg12 harg12 h3 k PUnit.unit) (fun _ => Trip1R (F := F) c arg8 X6 (wvM.view.writes (Elt F) f L)) } := by
  have hk : k.val < 16 := Nat.lt_of_lt_of_le k.isLt k0_t1_abs.2.1
  refine ⟨?_, fun f => ?run⟩
  case run =>
    unfold t1body k0_t1_body
    iintro ⟨H6, HW⟩
    sl_exec
    sl_step
    sl_close

/-- The pieces of the trips before `k`, last first. -/
def pb1 (h3 : k0_cond5 i = 1#1) (X6 : BufTy.Contents (Elt F) arg8.view.ty) : ℕ → List (View.Piece (Elt F) S16x128x384 .bf16)
  | 0 => []
  | k + 1 => if h : k < k0_t1_loop.trips then (trip1 (F := F) c i arg6 harg6 arg7 harg7 arg8 harg8 arg9 harg9 arg10 harg10 arg11 harg11 arg12 harg12 h3 X6 ⟨k, h⟩).1 ++ pb1 h3 X6 k else pb1 h3 X6 k

theorem pb1_succ (h3 : k0_cond5 i = 1#1) (X6 : BufTy.Contents (Elt F) arg8.view.ty) (k : Fin k0_t1_loop.trips) :
    pb1 (F := F) c i arg6 harg6 arg7 harg7 arg8 harg8 arg9 harg9 arg10 harg10 arg11 harg11 arg12 harg12 h3 X6 (k.val + 1)
      = (trip1 (F := F) c i arg6 harg6 arg7 harg7 arg8 harg8 arg9 harg9 arg10 harg10 arg11 harg11 arg12 harg12 h3 X6 k).1 ++ pb1 (F := F) c i arg6 harg6 arg7 harg7 arg8 harg8 arg9 harg9 arg10 harg10 arg11 harg11 arg12 harg12 h3 X6 k.val := by
  rw [pb1.eq_2]; exact dif_pos k.isLt

theorem loop1 (h3 : k0_cond5 i = 1#1) (X6 : BufTy.Contents (Elt F) arg8.view.ty) (G : BufTy.Contents (Elt F) wvM.view.ty) {Q : Unit → sProp 𝕄} :
    Trip1R (F := F) c arg8 X6 G
      ⊢ iprop((Trip1R (F := F) c arg8 X6 (wvM.view.writes (Elt F) G (pb1 (F := F) c i arg6 harg6 arg7 harg7 arg8 harg8 arg9 harg9 arg10 harg10 arg11 harg11 arg12 harg12 h3 X6 k0_t1_loop.trips)) -∗ Q ⟨⟩)
        -∗ wp frame (wpE (defs₀ (F := F)) Variants.none (c : Thread nD τ) none) Set.univ
          (Scf.Loop.for k0_t1_loop (k0_t1_ok i h3) ⟨⟩ (t1body (F := F) i arg6 harg6 arg7 harg7 arg8 harg8 arg9 harg9 arg10 harg10 arg11 harg11 arg12 harg12 h3)) Q) := by
  iintro HI HK
  iapply (Scf.wp_for frame (wpE (defs₀ (F := F)) Variants.none (c : Thread nD τ) none) Set.univ k0_t1_loop.lb k0_t1_loop.ub k0_t1_loop.st (k0_t1_ok i h3) ⟨⟩
    (t1body (F := F) i arg6 harg6 arg7 harg7 arg8 harg8 arg9 harg9 arg10 harg10 arg11 harg11 arg12 harg12 h3)
    (fun k _ => Trip1R (F := F) c arg8 X6 (wvM.view.writes (Elt F) G (pb1 (F := F) c i arg6 harg6 arg7 harg7 arg8 harg8 arg9 harg9 arg10 harg10 arg11 harg11 arg12 harg12 h3 X6 k))) (fun k acc => ?_))
  · rw [pb1_succ, View.writes_append]
    exact (trip1 (F := F) c i arg6 harg6 arg7 harg7 arg8 harg8 arg9 harg9 arg10 harg10 arg11 harg11 arg12 harg12 h3 X6 k).2 _
  · isplitl [HI]; · iexact HI
    iintro %_ HI
    iapply HK $$ HI

/-! ## The Hadamard table, and the rotary tables of one page pair -/

abbrev HadR (f : BufTy.Contents (Elt F) hadM.view.ty) : sProp 𝕄 := iprop((hadM.view.loc (c : Thread nD τ) ↦[hadM.view.set]{fullShare} f))
def hadProg : Prog (TpuEff nD τ sig (Elt F) Λ₀ .tc) PUnit := do
  let v202 : Vec F S128x128 .bf16 ← Prog.lift (.load hadM (Rect.unit (s := S128x256) ![0, 0] S128x128.size inb_S128x256_S128x128_0_0).toLoadRect (View.loadsAt_vmem h_S128x128))
  Prog.lift (.store hadM (Rect.unit (s := S128x256) ![0, 0] S128x128.size inb_S128x256_S128x128_0_0) (k0_pay662 (F := F)) Finset.univ (View.stores_vmem h_S128x128 ((Memref.isWhole_whole _).storeExact_slice rfl _ packedbf16_S128x256_S128x128_0_0) (fun _ => rfl)) (.inl rfl))
  let v205 : Vec F S128x128 .bf16 ← Prog.lift (.load hadM (Rect.unit (s := S128x256) ![0, 128] S128x128.size inb_S128x256_S128x128_0_128).toLoadRect (View.loadsAt_vmem h_S128x128))
  Prog.lift (.store hadM (Rect.unit (s := S128x256) ![0, 128] S128x128.size inb_S128x256_S128x128_0_128) (k0_pay663 (F := F)) Finset.univ (View.stores_vmem h_S128x128 ((Memref.isWhole_whole _).storeExact_slice rfl _ packedbf16_S128x256_S128x128_0_128) (fun _ => rfl)) (.inl rfl))

@[irreducible] def hadRun :
    { L : List (View.Piece (Elt F) S128x256 .bf16) // ∀ f : BufTy.Contents (Elt F) hadM.view.ty,
      HadR (F := F) c f ⊢ wp frame (wpE (defs₀ (F := F)) Variants.none (c : Thread nD τ) none) Set.univ (hadProg (F := F)) (fun _ => HadR (F := F) c (hadM.view.writes (Elt F) f L)) } := by
  refine ⟨?_, fun f => ?run⟩
  case run =>
    unfold hadProg
    iintro H
    sl_exec
    sl_step
    sl_close

abbrev RotR (X6 : BufTy.Contents (Elt F) arg6.view.ty) (fc : BufTy.Contents (Elt F) cosM.view.ty) (fs : BufTy.Contents (Elt F) sinM.view.ty) : sProp 𝕄 :=
  iprop((arg6.view.loc (c : Thread nD τ) ↦[arg6.view.set]{fullShare} X6) ∗ (cosM.view.loc (c : Thread nD τ) ↦[cosM.view.set]{fullShare} fc)
    ∗ (sinM.view.loc (c : Thread nD τ) ↦[sinM.view.set]{fullShare} fs))
def rotProg (h4 : k0_cond4 i = 1#1) (a1 cL cS : BitVec 32) : Prog (TpuEff nD τ sig (Elt F) Λ₀ .tc) PUnit := do
  let v212 : FVec F S1x64x128 .f32 ← k0_part9 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4
  let v251 : FVec F S64x128 .f32 ← k0_part10 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v212
  let ⟨v294, v296⟩ : Σ' (v294 : FVec F S64x128 .f32), Vec F S1x64x128 .f32 ← k0_part11 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v251
  let v337 : FVec F S64x128 .f32 ← k0_part12 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v294 v296
  let v339 : Vec F S1x64x128 .f32 ← Prog.lift (.load sinM (Rect.unit (s := S4x256x128) (k0_off36 i) S1x64x128.size (k0_off36_inb i h4)).toLoadRect (View.loadsAt_vmem h_S1x64x128))
  Prog.lift (.store sinM (Rect.unit (s := S4x256x128) (k0_off36 i) S1x64x128.size (k0_off36_inb i h4)) (k0_pay664 v337) Finset.univ (View.stores_vmem_bits_univ h_S1x64x128 rfl) (.inl rfl))

@[irreducible] def rotRun (h4 : k0_cond4 i = 1#1) (a1 cL cS : BitVec 32) (X6 : BufTy.Contents (Elt F) arg6.view.ty) :
    Σ' (Lc : List (View.Piece (Elt F) S4x256x128 .f32)), { Ls : List (View.Piece (Elt F) S4x256x128 .f32) // ∀ (fc : BufTy.Contents (Elt F) cosM.view.ty) (fs : BufTy.Contents (Elt F) sinM.view.ty),
      RotR (F := F) c arg6 X6 fc fs
      ⊢ wp frame (wpE (defs₀ (F := F)) Variants.none (c : Thread nD τ) none) Set.univ (rotProg (F := F) i arg6 harg6 arg7 harg7 arg8 harg8 arg9 harg9 arg10 harg10 arg11 harg11 arg12 harg12 h4 a1 cL cS) (fun _ => RotR (F := F) c arg6 X6 (cosM.view.writes (Elt F) fc Lc) (sinM.view.writes (Elt F) fs Ls)) } := by
  refine ⟨?_, ?_, fun fc fs => ?run⟩
  case run =>
    unfold rotProg
    iintro ⟨H6, HC, HS⟩
    sl_exec
    sl_step
    sl_close

/-! ## The head pairs' loop -/

variable (v161 : BitVec 32) (v162 : IVec S8x128 32) (Xk : BufTy.Contents (Elt F) xkM.view.ty) (X : BufTy.Contents (Elt F) xvM.view.ty) (Co : BufTy.Contents (Elt F) cosM.view.ty) (Si : BufTy.Contents (Elt F) sinM.view.ty)
  (X7 : BufTy.Contents (Elt F) arg7.view.ty) (Hd : BufTy.Contents (Elt F) hadM.view.ty) (Wv : BufTy.Contents (Elt F) wvM.view.ty)

/-- The pieces of the trips before `k`, last first: k's codes and scales, v's codes and scales. -/
def pb2 : ℕ → List (View.Piece (Elt F) S2x16x64x128 .i8) × List (View.Piece (Elt F) S2x16x4x128 .bf16) × List (View.Piece (Elt F) S2x16x64x128 .i8) × List (View.Piece (Elt F) S2x16x4x128 .bf16)
  | 0 => ([], [], [], [])
  | k + 1 => if h : k < k0_t2_loop.trips then
      ((trip (F := F) c i arg6 harg6 arg7 harg7 arg8 harg8 arg9 harg9 arg10 harg10 arg11 harg11 arg12 harg12 v161 v162 Xk X Co Si X7 Hd Wv ⟨k, h⟩).1 ++ (pb2 k).1,
        (trip (F := F) c i arg6 harg6 arg7 harg7 arg8 harg8 arg9 harg9 arg10 harg10 arg11 harg11 arg12 harg12 v161 v162 Xk X Co Si X7 Hd Wv ⟨k, h⟩).2.1 ++ (pb2 k).2.1,
        (trip (F := F) c i arg6 harg6 arg7 harg7 arg8 harg8 arg9 harg9 arg10 harg10 arg11 harg11 arg12 harg12 v161 v162 Xk X Co Si X7 Hd Wv ⟨k, h⟩).2.2.1 ++ (pb2 k).2.2.1,
        (trip (F := F) c i arg6 harg6 arg7 harg7 arg8 harg8 arg9 harg9 arg10 harg10 arg11 harg11 arg12 harg12 v161 v162 Xk X Co Si X7 Hd Wv ⟨k, h⟩).2.2.2.1 ++ (pb2 k).2.2.2) else pb2 k

theorem pb2_succ (k : Fin k0_t2_loop.trips) :
    pb2 (F := F) c i arg6 harg6 arg7 harg7 arg8 harg8 arg9 harg9 arg10 harg10 arg11 harg11 arg12 harg12 v161 v162 Xk X Co Si X7 Hd Wv (k.val + 1)
      = ((trip (F := F) c i arg6 harg6 arg7 harg7 arg8 harg8 arg9 harg9 arg10 harg10 arg11 harg11 arg12 harg12 v161 v162 Xk X Co Si X7 Hd Wv k).1 ++ (pb2 (F := F) c i arg6 harg6 arg7 harg7 arg8 harg8 arg9 harg9 arg10 harg10 arg11 harg11 arg12 harg12 v161 v162 Xk X Co Si X7 Hd Wv k.val).1,
        (trip (F := F) c i arg6 harg6 arg7 harg7 arg8 harg8 arg9 harg9 arg10 harg10 arg11 harg11 arg12 harg12 v161 v162 Xk X Co Si X7 Hd Wv k).2.1 ++ (pb2 (F := F) c i arg6 harg6 arg7 harg7 arg8 harg8 arg9 harg9 arg10 harg10 arg11 harg11 arg12 harg12 v161 v162 Xk X Co Si X7 Hd Wv k.val).2.1,
        (trip (F := F) c i arg6 harg6 arg7 harg7 arg8 harg8 arg9 harg9 arg10 harg10 arg11 harg11 arg12 harg12 v161 v162 Xk X Co Si X7 Hd Wv k).2.2.1 ++ (pb2 (F := F) c i arg6 harg6 arg7 harg7 arg8 harg8 arg9 harg9 arg10 harg10 arg11 harg11 arg12 harg12 v161 v162 Xk X Co Si X7 Hd Wv k.val).2.2.1,
        (trip (F := F) c i arg6 harg6 arg7 harg7 arg8 harg8 arg9 harg9 arg10 harg10 arg11 harg11 arg12 harg12 v161 v162 Xk X Co Si X7 Hd Wv k).2.2.2.1 ++ (pb2 (F := F) c i arg6 harg6 arg7 harg7 arg8 harg8 arg9 harg9 arg10 harg10 arg11 harg11 arg12 harg12 v161 v162 Xk X Co Si X7 Hd Wv k.val).2.2.2) := by
  rw [pb2.eq_2]; exact dif_pos k.isLt

theorem loop2 (G9 : BufTy.Contents (Elt F) arg9.view.ty) (G10 : BufTy.Contents (Elt F) arg10.view.ty) (G7 : BufTy.Contents (Elt F) arg11.view.ty) (G8 : BufTy.Contents (Elt F) arg12.view.ty) {Q : Unit → sProp 𝕄} :
    TripR (F := F) c i arg7 arg9 arg10 arg11 arg12 Xk X Co Si X7 Hd Wv G9 G10 G7 G8
      ⊢ iprop((TripR (F := F) c i arg7 arg9 arg10 arg11 arg12 Xk X Co Si X7 Hd Wv
            (arg9.view.writes (Elt F) G9 (pb2 (F := F) c i arg6 harg6 arg7 harg7 arg8 harg8 arg9 harg9 arg10 harg10 arg11 harg11 arg12 harg12 v161 v162 Xk X Co Si X7 Hd Wv k0_t2_loop.trips).1)
            (arg10.view.writes (Elt F) G10 (pb2 (F := F) c i arg6 harg6 arg7 harg7 arg8 harg8 arg9 harg9 arg10 harg10 arg11 harg11 arg12 harg12 v161 v162 Xk X Co Si X7 Hd Wv k0_t2_loop.trips).2.1)
            (arg11.view.writes (Elt F) G7 (pb2 (F := F) c i arg6 harg6 arg7 harg7 arg8 harg8 arg9 harg9 arg10 harg10 arg11 harg11 arg12 harg12 v161 v162 Xk X Co Si X7 Hd Wv k0_t2_loop.trips).2.2.1)
            (arg12.view.writes (Elt F) G8 (pb2 (F := F) c i arg6 harg6 arg7 harg7 arg8 harg8 arg9 harg9 arg10 harg10 arg11 harg11 arg12 harg12 v161 v162 Xk X Co Si X7 Hd Wv k0_t2_loop.trips).2.2.2) -∗ Q ⟨⟩)
        -∗ wp frame (wpE (defs₀ (F := F)) Variants.none (c : Thread nD τ) none) Set.univ
          (Scf.Loop.for k0_t2_loop k0_t2_ok ⟨⟩ (t2body (F := F) i arg6 harg6 arg7 harg7 arg8 harg8 arg9 harg9 arg10 harg10 arg11 harg11 arg12 harg12 (BitVec.ofNat 32 (i 1).val) v161 v162)) Q) := by
  iintro HI HK
  iapply (Scf.wp_for frame (wpE (defs₀ (F := F)) Variants.none (c : Thread nD τ) none) Set.univ k0_t2_loop.lb k0_t2_loop.ub k0_t2_loop.st k0_t2_ok ⟨⟩
    (t2body (F := F) i arg6 harg6 arg7 harg7 arg8 harg8 arg9 harg9 arg10 harg10 arg11 harg11 arg12 harg12 (BitVec.ofNat 32 (i 1).val) v161 v162)
    (fun k _ => TripR (F := F) c i arg7 arg9 arg10 arg11 arg12 Xk X Co Si X7 Hd Wv
            (arg9.view.writes (Elt F) G9 (pb2 (F := F) c i arg6 harg6 arg7 harg7 arg8 harg8 arg9 harg9 arg10 harg10 arg11 harg11 arg12 harg12 v161 v162 Xk X Co Si X7 Hd Wv k).1)
            (arg10.view.writes (Elt F) G10 (pb2 (F := F) c i arg6 harg6 arg7 harg7 arg8 harg8 arg9 harg9 arg10 harg10 arg11 harg11 arg12 harg12 v161 v162 Xk X Co Si X7 Hd Wv k).2.1)
            (arg11.view.writes (Elt F) G7 (pb2 (F := F) c i arg6 harg6 arg7 harg7 arg8 harg8 arg9 harg9 arg10 harg10 arg11 harg11 arg12 harg12 v161 v162 Xk X Co Si X7 Hd Wv k).2.2.1)
            (arg12.view.writes (Elt F) G8 (pb2 (F := F) c i arg6 harg6 arg7 harg7 arg8 harg8 arg9 harg9 arg10 harg10 arg11 harg11 arg12 harg12 v161 v162 Xk X Co Si X7 Hd Wv k).2.2.2)) (fun k acc => ?_))
  · rw [pb2_succ, View.writes_append, View.writes_append, View.writes_append, View.writes_append]
    exact (trip (F := F) c i arg6 harg6 arg7 harg7 arg8 harg8 arg9 harg9 arg10 harg10 arg11 harg11 arg12 harg12 v161 v162 Xk X Co Si X7 Hd Wv k).2.2.2.2 _ _ _ _
  · isplitl [HI]; · iexact HI
    iintro %_ HI
    iapply HK $$ HI

end Cert.Kernel.Hand

end
-- ==== Proof.K.Body.lean ====
module

public import proofs.«01_k».proof.Proof.K.Parts
public import proofs.«01_k».proof.Proof.K.Loops

@[expose] public section

set_option maxRecDepth 16384
set_option maxHeartbeats 4000000
set_option pp.deepTerms false
set_option pp.maxSteps 400

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## Branches, and the tables' words -/

/-- A branch whose two sides go on alike: from `A` the side taken reaches `B`, and the rest runs from `B`. -/
theorem wp_dite_of {α : Type} {P : Prop} [inst : Decidable P] (c : Dev nD) {f : P → Prog (TpuEff nD τ sig (Elt F) Λ₀ .tc) α} {jp : Prog (TpuEff nD τ sig (Elt F) Λ₀ .tc) α}
    (A B : sProp 𝕄) {Q : α → sProp 𝕄}
    (hf : ∀ h, A ⊢ iprop((B -∗ wp frame (wpE (defs₀ (F := F)) Variants.none (c : Thread nD τ) none) Set.univ jp Q)
      -∗ wp frame (wpE (defs₀ (F := F)) Variants.none (c : Thread nD τ) none) Set.univ (f h) Q))
    (hg : ¬ P → A ⊢ B) :
    A ⊢ iprop((B -∗ wp frame (wpE (defs₀ (F := F)) Variants.none (c : Thread nD τ) none) Set.univ jp Q)
      -∗ wp frame (wpE (defs₀ (F := F)) Variants.none (c : Thread nD τ) none) Set.univ (dite P f (fun _ => jp)) Q) := by
  by_cases hp : P
  · rw [dif_pos hp]; exact hf hp
  · rw [dif_neg hp]
    iintro HA HK
    iapply HK
    iapply (hg hp); iexact HA

theorem wp_bind_i {α β : Type} (c : Dev nD) (p : Prog (TpuEff nD τ sig (Elt F) Λ₀ .tc) α) (k : α → Prog (TpuEff nD τ sig (Elt F) Λ₀ .tc) β) {Q : β → sProp 𝕄} :
    wp frame (wpE (defs₀ (F := F)) Variants.none (c : Thread nD τ) none) Set.univ p (fun a => wp frame (wpE (defs₀ (F := F)) Variants.none (c : Thread nD τ) none) Set.univ (k a) Q)
      ⊢ wp frame (wpE (defs₀ (F := F)) Variants.none (c : Thread nD τ) none) Set.univ (p >>= k) Q := by
  rw [wp_bind]

/-- A side condition that holds is passed. -/
theorem wp_assume_i {β : Type} {P : Prop} (d : Decidable P) (h : P) (c : Dev nD) (k : PLift P → Prog (TpuEff nD τ sig (Elt F) Λ₀ .tc) β) {Q : β → sProp 𝕄} :
    wp frame (wpE (defs₀ (F := F)) Variants.none (c : Thread nD τ) none) Set.univ (k ⟨h⟩) Q
      ⊢ wp frame (wpE (defs₀ (F := F)) Variants.none (c : Thread nD τ) none) Set.univ (Prog.lift (TpuEff.assume P d) >>= k) Q := by
  rw [wp_bind]
  show _ ⊢ wp frame (wpE (defs₀ (F := F)) Variants.none (c : Thread nD τ) none) Set.univ (Prog.op (TpuEff.assume P d) fun x => pure x) _
  rw [wp_assume_of _ _ _ _ (d := d) h, wp_pure]
  iintro H
  imodintro
  iexact H

abbrev first1 : S1.Idx := Shape.Idx.first (numel1_S1.symm ▸ Nat.one_pos)
/-- The first sequence's last slot word. -/
def wOf (S : BufTy.Contents (Elt F) slotM.view.ty) : BitVec 32 :=
  (slotM.access (Rect.unit (s := S1792) ![895] S1.size inb_S1792_S1_895)).read (Elt F) S first1
/-- The longer sequence's context length, and the shorter one's. -/
def cLof (P : BufTy.Contents (Elt F) posM.view.ty) (w : BitVec 32) : BitVec 32 :=
  (posM.access (Rect.unit (s := S1792) (k0_off1 w) S1.size (k0_off1_inb w (chk1 w)))).read (Elt F) P first1
def cSof (P : BufTy.Contents (Elt F) posM.view.ty) (w : BitVec 32) : BitVec 32 :=
  (posM.access (Rect.unit (s := S1792) (k0_off2 w) S1.size (k0_off2_inb w (chk1 w)))).read (Elt F) P first1

theorem wp_table (c : Dev nD) (M : Memref sig .tc .smem S1792 .i32) (r : Rect S1792) (h1 : r.shape.numel = 1) (q : PosShare TreeShare)
    (f : BufTy.Contents (Elt F) M.view.ty) (v : Elt F .i32) (hv : (M.access r).read (Elt F) f (Shape.Idx.first (h1.symm ▸ Nat.one_pos)) = v) {Q : Elt F .i32 → sProp 𝕄} :
    (M.view.loc (c : Thread nD τ) ↦{q} f)
      ⊢ iprop(((M.view.loc (c : Thread nD τ) ↦{q} f) -∗ Q v)
        -∗ wp frame (wpE (defs₀ (F := F)) Variants.none (c : Thread nD τ) none) Set.univ (smemLoad M r h1 rfl) Q) := by
  subst hv
  unfold smemLoad
  iintro H HK
  iapply (wp_smemLoadElt Variants.none (c : Thread nD τ) none Set.univ (m := M) (r := r) (S := Finset.univ) (Finset.subset_univ _)) $$ H
  iintro H
  rw [show ∀ a, (Prog.ret a : Prog (TpuEff nD τ sig (Elt F) Λ₀ .tc) (Elt F .i32)) = pure a from fun _ => rfl, wp_pure]
  imodintro
  iapply HK $$ H

variable (c : Dev nD) (Vk : BufTy.Contents (Elt F) k5M.view.ty) (Vv : BufTy.Contents (Elt F) v5M.view.ty)
variable (S : BufTy.Contents (Elt F) slotM.view.ty) (P : BufTy.Contents (Elt F) posM.view.ty)

/-- Both rings idle on step `t`'s slot. -/
abbrev IdleKV (t : ℕ) : sProp 𝕄 :=
  iprop(Idle c xkM k5M Vk (cellM ![0, t % 2] (cell_inb 0 _ (by decide) (mod2_lt t))) (t % 2) (mod2_lt t)
    ∗ Idle c xvM v5M Vv (cellM ![1, t % 2] (cell_inb 1 _ (by decide) (mod2_lt t))) (t % 2) (mod2_lt t))
/-- Step `t`'s transfers all issued, none waited for. -/
abbrev Flying (w cL cS : BitVec 32) (t : ℕ) (ht : t < 20) : sProp 𝕄 := iprop(kR c w cL cS Vk t ht 8 0 ∗ vR c w cL cS Vv t ht 8 0)

theorem rings_start (w cL cS : BitVec 32) (t : ℕ) (ht : t < 20) :
    IdleKV (F := F) c Vk Vv t ⊢ iprop(|={Set.univ}=> (kR c w cL cS Vk t ht 0 0 ∗ vR c w cL cS Vv t ht 0 0)) := by
  iintro ⟨HK, HV⟩
  imod (ring_start c xkM k5M w cL cS Vk _ t ht _ _) $$ HK with HK
  imod (ring_start c xvM v5M w cL cS Vv _ t ht _ _) $$ HV with HV
  imodintro
  isplitl [HK] <;> iassumption

variable (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)

abbrev Tabs (q : PosShare TreeShare) : sProp 𝕄 := iprop((slotM.view.loc (c : Thread nD τ) ↦{q} S) ∗ (posM.view.loc (c : Thread nD τ) ↦{q} P))

/-- What the two issues are given: step 0's slots idle at the first point, else its transfers in flight; the other slot's idle. -/
def before1 : sProp 𝕄 :=
  if k0_cond1 i = 1#1 then IdleKV (F := F) c Vk Vv (stepN i) else Flying c Vk Vv (wOf S) (cLof P (wOf S)) (cSof P (wOf S)) (stepN i) (stepN_lt i)
def after2 : sProp 𝕄 :=
  if h : k0_cond2 i = 1#1 then Flying c Vk Vv (wOf S) (cLof P (wOf S)) (cSof P (wOf S)) (stepN i + 1) (stepN_next i h) else IdleKV (F := F) c Vk Vv (stepN i + 1)
/-- Whether the point is the first. -/
abbrev isFirst (i : grid0.Coords) : Prop := Scalar.cmpi .ne (Scalar.extui (Scalar.cmpi .eq (stepW i) 0#32) : BitVec 32) 0#32 = 1#1
/-- The Hadamard table and the rotary tables after the point's branches. -/
def hadAfter (fh : BufTy.Contents (Elt F) hadM.view.ty) : BufTy.Contents (Elt F) hadM.view.ty :=
  if isFirst i then hadM.view.writes (Elt F) fh (hadRun (F := F) c).1 else fh
def cosAfter (cL cS : BitVec 32) (X6 : BufTy.Contents (Elt F) arg6.view.ty) (f : BufTy.Contents (Elt F) cosM.view.ty) : BufTy.Contents (Elt F) cosM.view.ty :=
  if h4 : k0_cond4 i = 1#1 then cosM.view.writes (Elt F) f (rotRun (F := F) c i arg6 harg6 arg7 harg7 arg8 harg8 arg9 harg9 arg10 harg10 arg11 harg11 arg12 harg12 h4 (BitVec.ofNat 32 (i 1).val) cL cS X6).1 else f
def sinAfter (cL cS : BitVec 32) (X6 : BufTy.Contents (Elt F) arg6.view.ty) (f : BufTy.Contents (Elt F) sinM.view.ty) : BufTy.Contents (Elt F) sinM.view.ty :=
  if h4 : k0_cond4 i = 1#1 then sinM.view.writes (Elt F) f (rotRun (F := F) c i arg6 harg6 arg7 harg7 arg8 harg8 arg9 harg9 arg10 harg10 arg11 harg11 arg12 harg12 h4 (BitVec.ofNat 32 (i 1).val) cL cS X6).2.1 else f

theorem had_spec (fh : BufTy.Contents (Elt F) hadM.view.ty) {α : Type} (jp : Prog (TpuEff nD τ sig (Elt F) Λ₀ .tc) α) {Q : α → sProp 𝕄} :
    HadR (F := F) c fh ⊢ iprop((HadR (F := F) c (hadM.view.writes (Elt F) fh (hadRun (F := F) c).1) -∗ wp frame (wpE (defs₀ (F := F)) Variants.none (c : Thread nD τ) none) Set.univ jp Q)
      -∗ wp frame (wpE (defs₀ (F := F)) Variants.none (c : Thread nD τ) none) Set.univ (do
        let v202 : Vec F S128x128 .bf16 ← Prog.lift (.load hadM (Rect.unit (s := S128x256) ![0, 0] S128x128.size inb_S128x256_S128x128_0_0).toLoadRect (View.loadsAt_vmem h_S128x128))
        Prog.lift (.store hadM (Rect.unit (s := S128x256) ![0, 0] S128x128.size inb_S128x256_S128x128_0_0) (k0_pay662 (F := F)) Finset.univ (View.stores_vmem h_S128x128 ((Memref.isWhole_whole _).storeExact_slice rfl _ packedbf16_S128x256_S128x128_0_0) (fun _ => rfl)) (.inl rfl))
        let v205 : Vec F S128x128 .bf16 ← Prog.lift (.load hadM (Rect.unit (s := S128x256) ![0, 128] S128x128.size inb_S128x256_S128x128_0_128).toLoadRect (View.loadsAt_vmem h_S128x128))
        Prog.lift (.store hadM (Rect.unit (s := S128x256) ![0, 128] S128x128.size inb_S128x256_S128x128_0_128) (k0_pay663 (F := F)) Finset.univ (View.stores_vmem h_S128x128 ((Memref.isWhole_whole _).storeExact_slice rfl _ packedbf16_S128x256_S128x128_0_128) (fun _ => rfl)) (.inl rfl))
        jp) Q) := by
  have h : HadR (F := F) c fh ⊢ iprop((HadR (F := F) c (hadM.view.writes (Elt F) fh (hadRun (F := F) c).1) -∗ wp frame (wpE (defs₀ (F := F)) Variants.none (c : Thread nD τ) none) Set.univ jp Q)
      -∗ wp frame (wpE (defs₀ (F := F)) Variants.none (c : Thread nD τ) none) Set.univ (hadProg (F := F) >>= fun _ => jp) Q) := by
    iintro H HQ
    ihave HB := ((hadRun (F := F) c).2 fh) $$ H
    rw [wp_bind]
    iapply (wp_wand frame (wpE (defs₀ (F := F)) Variants.none (c : Thread nD τ) none) Set.univ) $$ HB
    iintro %_ H
    iapply HQ $$ H
  unfold hadProg at h
  simp only [bind_assoc] at h
  exact h

theorem rot_spec (h4 : k0_cond4 i = 1#1) (a1 cL cS : BitVec 32) (X6 : BufTy.Contents (Elt F) arg6.view.ty) (fc : BufTy.Contents (Elt F) cosM.view.ty) (fs : BufTy.Contents (Elt F) sinM.view.ty)
    {α : Type} (jp : Prog (TpuEff nD τ sig (Elt F) Λ₀ .tc) α) {Q : α → sProp 𝕄} :
    RotR (F := F) c arg6 X6 fc fs ⊢ iprop((RotR (F := F) c arg6 X6 (cosM.view.writes (Elt F) fc (rotRun (F := F) c i arg6 harg6 arg7 harg7 arg8 harg8 arg9 harg9 arg10 harg10 arg11 harg11 arg12 harg12 h4 a1 cL cS X6).1)
          (sinM.view.writes (Elt F) fs (rotRun (F := F) c i arg6 harg6 arg7 harg7 arg8 harg8 arg9 harg9 arg10 harg10 arg11 harg11 arg12 harg12 h4 a1 cL cS X6).2.1) -∗ wp frame (wpE (defs₀ (F := F)) Variants.none (c : Thread nD τ) none) Set.univ jp Q)
      -∗ wp frame (wpE (defs₀ (F := F)) Variants.none (c : Thread nD τ) none) Set.univ (do
        let v212 : FVec F S1x64x128 .f32 ← k0_part9 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4
        let v251 : FVec F S64x128 .f32 ← k0_part10 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v212
        let ⟨v294, v296⟩ : Σ' (v294 : FVec F S64x128 .f32), Vec F S1x64x128 .f32 ← k0_part11 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v251
        let v337 : FVec F S64x128 .f32 ← k0_part12 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 a1 cL cS h4 v294 v296
        let v339 : Vec F S1x64x128 .f32 ← Prog.lift (.load sinM (Rect.unit (s := S4x256x128) (k0_off36 i) S1x64x128.size (k0_off36_inb i h4)).toLoadRect (View.loadsAt_vmem h_S1x64x128))
        Prog.lift (.store sinM (Rect.unit (s := S4x256x128) (k0_off36 i) S1x64x128.size (k0_off36_inb i h4)) (k0_pay664 v337) Finset.univ (View.stores_vmem_bits_univ h_S1x64x128 rfl) (.inl rfl))
        jp) Q) := by
  have h : RotR (F := F) c arg6 X6 fc fs ⊢ iprop((RotR (F := F) c arg6 X6 (cosM.view.writes (Elt F) fc (rotRun (F := F) c i arg6 harg6 arg7 harg7 arg8 harg8 arg9 harg9 arg10 harg10 arg11 harg11 arg12 harg12 h4 a1 cL cS X6).1)
          (sinM.view.writes (Elt F) fs (rotRun (F := F) c i arg6 harg6 arg7 harg7 arg8 harg8 arg9 harg9 arg10 harg10 arg11 harg11 arg12 harg12 h4 a1 cL cS X6).2.1) -∗ wp frame (wpE (defs₀ (F := F)) Variants.none (c : Thread nD τ) none) Set.univ jp Q)
      -∗ wp frame (wpE (defs₀ (F := F)) Variants.none (c : Thread nD τ) none) Set.univ (rotProg (F := F) i arg6 harg6 arg7 harg7 arg8 harg8 arg9 harg9 arg10 harg10 arg11 harg11 arg12 harg12 h4 a1 cL cS >>= fun _ => jp) Q) := by
    iintro H HQ
    ihave HB := ((rotRun (F := F) c i arg6 harg6 arg7 harg7 arg8 harg8 arg9 harg9 arg10 harg10 arg11 harg11 arg12 harg12 h4 a1 cL cS X6).2.2 fc fs) $$ H
    rw [wp_bind]
    iapply (wp_wand frame (wpE (defs₀ (F := F)) Variants.none (c : Thread nD τ) none) Set.univ) $$ HB
    iintro %_ H
    iapply HQ $$ H
  unfold rotProg at h
  simp only [bind_assoc] at h
  exact h

/-- The tables after the point's branch. -/
def wvAfter (X6 : BufTy.Contents (Elt F) arg8.view.ty) (f : BufTy.Contents (Elt F) wvM.view.ty) : BufTy.Contents (Elt F) wvM.view.ty :=
  if h3 : k0_cond5 i = 1#1 then wvM.view.writes (Elt F) f (pb1 (F := F) c i arg6 harg6 arg7 harg7 arg8 harg8 arg9 harg9 arg10 harg10 arg11 harg11 arg12 harg12 h3 X6 k0_t1_loop.trips) else f

theorem part103_spec (q : PosShare TreeShare) (fh : BufTy.Contents (Elt F) hadM.view.ty) (X6 : BufTy.Contents (Elt F) arg6.view.ty) (fc : BufTy.Contents (Elt F) cosM.view.ty) (fs : BufTy.Contents (Elt F) sinM.view.ty)
    (X8 : BufTy.Contents (Elt F) arg8.view.ty) (f : BufTy.Contents (Elt F) wvM.view.ty)
    {Q : (Σ' (arg1 : BitVec 32) (v1 : BitVec 32) (v2 : Elt F .i32) (v8 : Elt F .i32) (k0_hw2 : k0_chk2 i v2 v8) (v11 : Elt F .i32) (k0_hw3 : k0_chk3 i v2 v11) (v28 : BitVec 32), BitVec 32) → sProp 𝕄} :
    iprop(Tabs c S P q ∗ before1 c Vk Vv S P i ∗ IdleKV (F := F) c Vk Vv (stepN i + 1) ∗ HadR (F := F) c fh ∗ RotR (F := F) c arg6 X6 fc fs ∗ Trip1R (F := F) c arg8 X8 f)
      ⊢ iprop((∀ v28, (Tabs c S P q ∗ Flying c Vk Vv (wOf S) (cLof P (wOf S)) (cSof P (wOf S)) (stepN i) (stepN_lt i) ∗ after2 c Vk Vv S P i
          ∗ HadR (F := F) c (hadAfter c i fh)
          ∗ RotR (F := F) c arg6 X6 (cosAfter c i arg6 harg6 arg7 harg7 arg8 harg8 arg9 harg9 arg10 harg10 arg11 harg11 arg12 harg12 (cLof P (wOf S)) (cSof P (wOf S)) X6 fc) (sinAfter c i arg6 harg6 arg7 harg7 arg8 harg8 arg9 harg9 arg10 harg10 arg11 harg11 arg12 harg12 (cLof P (wOf S)) (cSof P (wOf S)) X6 fs)
          ∗ Trip1R (F := F) c arg8 X8 (wvAfter c i arg6 harg6 arg7 harg7 arg8 harg8 arg9 harg9 arg10 harg10 arg11 harg11 arg12 harg12 X8 f))
          -∗ Q ⟨BitVec.ofNat 32 (i 1).val, stepW i, wOf S, cLof P (wOf S), chk2 i _ _, cSof P (wOf S), chk3 i _ _, v28, 4#32⟩)
        -∗ wp frame (wpE (defs₀ (F := F)) Variants.none (c : Thread nD τ) none) Set.univ
          (k0_part105 (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8) Q) := by
  rw [k0_part105_eq_skeleton]
  unfold k0_part105_skel
  dsimp only
  iintro ⟨⟨HS, HP⟩, H1, H2, HH, HR, HW⟩ HQ
  iapply (wp_bind_i c)
  iapply (wp_table c slotM _ _ q S (wOf S) rfl) $$ HS
  iintro HS
  iapply (wp_assume_i (k0_chk1.dec (wOf S)) (chk1 (wOf S)) c)
  iapply (wp_bind_i c)
  iapply (wp_table c posM _ _ q P (cLof P (wOf S)) rfl) $$ HP
  iintro HP
  iapply (wp_assume_i (k0_chk2.dec i (wOf S) (cLof P (wOf S))) (chk2 i (wOf S) (cLof P (wOf S))) c)
  iapply (wp_bind_i c)
  iapply (wp_table c posM _ _ q P (cSof P (wOf S)) rfl) $$ HP
  iintro HP
  iapply (wp_assume_i (k0_chk3.dec i (wOf S) (cSof P (wOf S))) (chk3 i (wOf S) (cSof P (wOf S))) c)
  generalize hw : wOf S = w
  generalize hcL : cLof P w = cL
  generalize hcS : cSof P w = cS
  iapply (wp_dite_of c (before1 c Vk Vv S P i) (Flying c Vk Vv w cL cS (stepN i) (stepN_lt i)) ?_ ?_) $$ H1
  · intro h
    unfold before1
    rw [if_pos h]
    iintro H HQ
    rw [k0_part1_eq_skeleton]
    unfold k0_part1_skel
    rw [wp_bind, wp_pure]
    imodintro
    dsimp only
    imod (rings_start c Vk Vv w cL cS (stepN i) (stepN_lt i)) $$ H with ⟨HK, HV⟩
    rw [wp_bind]
    iapply (part2_spec c w cL cS Vk Vv i arg6 harg6 arg7 harg7 arg8 harg8 arg9 harg9 arg10 harg10 arg11 harg11 arg12 harg12 _ _ h) $$ [HK HV]
    · isplitl [HK] <;> iassumption
    iintro H
    rw [wp_bind]
    iapply (part3_spec c w cL cS Vk Vv i arg6 harg6 arg7 harg7 arg8 harg8 arg9 harg9 arg10 harg10 arg11 harg11 arg12 harg12 _ _ h) $$ H
    iintro H
    rw [wp_bind]
    iapply (part4_spec c w cL cS Vk Vv i arg6 harg6 arg7 harg7 arg8 harg8 arg9 harg9 arg10 harg10 arg11 harg11 arg12 harg12 _ _ h) $$ H
    iintro ⟨HK, HV⟩
    rw [wp_bind]
    iapply (issueL c xkM k5M w cL cS Vk none (stepN i) (stepN_lt i) (stepN i % 2) (mod2_lt _) 3 (by decide) 6 rfl 0 (by decide)
      (k0_off13_eq i) (k0_off19_eq i) (off15_eq i w cL 2)) $$ HK
    iintro HK
    rw [wp_bind]
    iapply (issueL c xvM v5M w cL cS Vv none (stepN i) (stepN_lt i) (stepN i % 2) (mod2_lt _) 3 (by decide) 6 rfl 1 (by decide)
      (k0_off11_eq i) (k0_off19_eq i) (off15_eq i w cL 2)) $$ HV
    iintro HV
    rw [wp_bind]
    iapply (issueS c xkM k5M w cL cS Vk none (stepN i) (stepN_lt i) (stepN i % 2) (mod2_lt _) 3 (by decide) 7 rfl 0 (by decide)
      (k0_off13_eq i) (k0_off20_eq i) (off10_eq i w cS 3)) $$ HK
    iintro HK
    rw [wp_bind]
    iapply (issueS c xvM v5M w cL cS Vv none (stepN i) (stepN_lt i) (stepN i % 2) (mod2_lt _) 3 (by decide) 7 rfl 1 (by decide)
      (k0_off11_eq i) (k0_off20_eq i) (off10_eq i w cS 3)) $$ HV
    iintro HV
    iapply HQ
    isplitl [HK] <;> iassumption
  · intro h
    unfold before1
    rw [if_neg h, hw, hcL, hcS]
  iintro H1
  iapply (wp_dite_of c (IdleKV (F := F) c Vk Vv (stepN i + 1)) (after2 c Vk Vv S P i) ?_ ?_) $$ H2
  · intro h
    unfold after2
    rw [dif_pos h, hw, hcL, hcS]
    iintro H HQ
    rw [k0_part5_eq_skeleton]
    unfold k0_part5_skel
    rw [wp_bind, wp_pure]
    imodintro
    dsimp only
    imod (rings_start c Vk Vv w cL cS (stepN i + 1) (stepN_next i h)) $$ H with ⟨HK, HV⟩
    rw [wp_bind]
    iapply (part6_spec c w cL cS Vk Vv i arg6 harg6 arg7 harg7 arg8 harg8 arg9 harg9 arg10 harg10 arg11 harg11 arg12 harg12 _ _ h) $$ [HK HV]
    · isplitl [HK] <;> iassumption
    iintro H
    rw [wp_bind]
    iapply (part7_spec c w cL cS Vk Vv i arg6 harg6 arg7 harg7 arg8 harg8 arg9 harg9 arg10 harg10 arg11 harg11 arg12 harg12 _ _ h) $$ H
    iintro H
    rw [wp_bind]
    iapply (part8_spec c w cL cS Vk Vv i arg6 harg6 arg7 harg7 arg8 harg8 arg9 harg9 arg10 harg10 arg11 harg11 arg12 harg12 _ _ h) $$ H
    iintro ⟨HK, HV⟩
    rw [wp_bind]
    iapply (issueL c xkM k5M w cL cS Vk none (stepN i + 1) (stepN_next i h) ((stepN i + 1) % 2) (mod2_lt _) 3 (by decide) 6 rfl 0 (by decide)
      (k0_off21_eq i) (k0_off31_eq i) (off23_eq i w cL 3)) $$ HK
    iintro HK
    rw [wp_bind]
    iapply (issueL c xvM v5M w cL cS Vv none (stepN i + 1) (stepN_next i h) ((stepN i + 1) % 2) (mod2_lt _) 3 (by decide) 6 rfl 1 (by decide)
      (k0_off24_eq i) (k0_off31_eq i) (off23_eq i w cL 3)) $$ HV
    iintro HV
    rw [wp_bind]
    iapply (issueS c xkM k5M w cL cS Vk none (stepN i + 1) (stepN_next i h) ((stepN i + 1) % 2) (mod2_lt _) 3 (by decide) 7 rfl 0 (by decide)
      (k0_off21_eq i) (k0_off32_eq i) (off26_eq i w cS 3)) $$ HK
    iintro HK
    rw [wp_bind]
    iapply (issueS c xvM v5M w cL cS Vv none (stepN i + 1) (stepN_next i h) ((stepN i + 1) % 2) (mod2_lt _) 3 (by decide) 7 rfl 1 (by decide)
      (k0_off24_eq i) (k0_off32_eq i) (off26_eq i w cS 3)) $$ HV
    iintro HV
    iapply HQ
    isplitl [HK] <;> iassumption
  · intro h
    unfold after2
    rw [dif_neg h]
  iintro H2
  iapply (wp_dite_of c (HadR (F := F) c fh) (HadR (F := F) c (hadAfter c i fh)) ?_ ?_) $$ HH
  · intro h
    unfold hadAfter
    rw [if_pos h]
    exact had_spec c fh _
  · intro h
    unfold hadAfter
    rw [if_neg h]
  iintro HH
  iapply (wp_dite_of c (RotR (F := F) c arg6 X6 fc fs) (RotR (F := F) c arg6 X6 (cosAfter c i arg6 harg6 arg7 harg7 arg8 harg8 arg9 harg9 arg10 harg10 arg11 harg11 arg12 harg12 cL cS X6 fc) (sinAfter c i arg6 harg6 arg7 harg7 arg8 harg8 arg9 harg9 arg10 harg10 arg11 harg11 arg12 harg12 cL cS X6 fs)) ?_ ?_) $$ HR
  · intro h
    unfold cosAfter sinAfter
    rw [dif_pos h, dif_pos h]
    exact rot_spec c i arg6 harg6 arg7 harg7 arg8 harg8 arg9 harg9 arg10 harg10 arg11 harg11 arg12 harg12 h (BitVec.ofNat 32 (i 1).val) cL cS X6 fc fs _
  · intro h
    unfold cosAfter sinAfter
    rw [dif_neg h, dif_neg h]
  iintro HR
  iapply (wp_dite_of c (Trip1R (F := F) c arg8 X8 f) (Trip1R (F := F) c arg8 X8 (wvAfter c i arg6 harg6 arg7 harg7 arg8 harg8 arg9 harg9 arg10 harg10 arg11 harg11 arg12 harg12 X8 f)) ?_ ?_) $$ HW
  · intro h
    unfold wvAfter
    rw [dif_pos h]
    iintro H HQ
    rw [wp_bind]
    iapply (loop1 c i arg6 harg6 arg7 harg7 arg8 harg8 arg9 harg9 arg10 harg10 arg11 harg11 arg12 harg12 h X8 f) $$ H
    iintro H
    iapply HQ
    iexact H
  · intro h
    unfold wvAfter
    rw [dif_neg h]
  iintro HW
  rw [wp_pure]
  imodintro
  iapply HQ
  isplitl [HS HP]
  · isplitl [HS] <;> iassumption
  isplitl [H1]; · iexact H1
  isplitl [H2]; · iexact H2
  isplitl [HH]; · iexact HH
  isplitl [HR]; · iexact HR
  iexact HW

/-- The point's word of the ring slot, and the row numbers, as the head pairs' loop is given them. -/
abbrev slotW (i : grid0.Coords) : BitVec 32 := Scalar.remsi (stepW i) 2#32
abbrev rows8 : IVec S8x128 32 := iota .tc S8x128 32 [0] iota_S8x128_d0_w32

theorem rings_finish (w cL cS : BitVec 32) (t : ℕ) (ht : t < 20) :
    iprop(kR c w cL cS Vk t ht 8 8 ∗ vR c w cL cS Vv t ht 8 8)
      ⊢ iprop(|={Set.univ}=> (Filled c xkM k5M w cL cS Vk (cellM ![0, t % 2] (cell_inb 0 _ (by decide) (mod2_lt t))) t ht (t % 2) (mod2_lt t)
        ∗ Filled c xvM v5M w cL cS Vv (cellM ![1, t % 2] (cell_inb 1 _ (by decide) (mod2_lt t))) t ht (t % 2) (mod2_lt t))) := by
  iintro ⟨HK, HV⟩
  imod (ring_finish c xkM k5M w cL cS Vk _ t ht _ _) $$ HK with HK
  imod (ring_finish c xvM v5M w cL cS Vv _ t ht _ _) $$ HV with HV
  imodintro
  isplitl [HK] <;> iassumption

/-- What a point leaves in the four result blocks, out of the ring slots' contents and the tables. -/
def left (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G9 : BufTy.Contents (Elt F) arg9.view.ty) (G10 : BufTy.Contents (Elt F) arg10.view.ty) (G7 : BufTy.Contents (Elt F) arg11.view.ty) (G8 : BufTy.Contents (Elt F) arg12.view.ty) : sProp 𝕄 :=
  iprop((arg9.view.loc (c : Thread nD τ) ↦[arg9.view.set]{fullShare} (arg9.view.writes (Elt F) G9 (pb2 (F := F) c i arg6 harg6 arg7 harg7 arg8 harg8 arg9 harg9 arg10 harg10 arg11 harg11 arg12 harg12 (slotW i) rows8 Xk X Co Si X7 Hd Wv k0_t2_loop.trips).1))
    ∗ (arg10.view.loc (c : Thread nD τ) ↦[arg10.view.set]{fullShare} (arg10.view.writes (Elt F) G10 (pb2 (F := F) c i arg6 harg6 arg7 harg7 arg8 harg8 arg9 harg9 arg10 harg10 arg11 harg11 arg12 harg12 (slotW i) rows8 Xk X Co Si X7 Hd Wv k0_t2_loop.trips).2.1))
    ∗ (arg11.view.loc (c : Thread nD τ) ↦[arg11.view.set]{fullShare} (arg11.view.writes (Elt F) G7 (pb2 (F := F) c i arg6 harg6 arg7 harg7 arg8 harg8 arg9 harg9 arg10 harg10 arg11 harg11 arg12 harg12 (slotW i) rows8 Xk X Co Si X7 Hd Wv k0_t2_loop.trips).2.2.1))
    ∗ (arg12.view.loc (c : Thread nD τ) ↦[arg12.view.set]{fullShare} (arg12.view.writes (Elt F) G8 (pb2 (F := F) c i arg6 harg6 arg7 harg7 arg8 harg8 arg9 harg9 arg10 harg10 arg11 harg11 arg12 harg12 (slotW i) rows8 Xk X Co Si X7 Hd Wv k0_t2_loop.trips).2.2.2)))

theorem body_spec (q : PosShare TreeShare) (fh : BufTy.Contents (Elt F) hadM.view.ty) (X6 : BufTy.Contents (Elt F) arg6.view.ty) (fc : BufTy.Contents (Elt F) cosM.view.ty) (fs : BufTy.Contents (Elt F) sinM.view.ty)
    (X7 : BufTy.Contents (Elt F) arg7.view.ty) (X8 : BufTy.Contents (Elt F) arg8.view.ty) (f : BufTy.Contents (Elt F) wvM.view.ty)
    (G9 : BufTy.Contents (Elt F) arg9.view.ty) (G10 : BufTy.Contents (Elt F) arg10.view.ty) (G7 : BufTy.Contents (Elt F) arg11.view.ty) (G8 : BufTy.Contents (Elt F) arg12.view.ty) :
    iprop(Tabs c S P q ∗ before1 c Vk Vv S P i ∗ IdleKV (F := F) c Vk Vv (stepN i + 1) ∗ HadR (F := F) c fh ∗ RotR (F := F) c arg6 X6 fc fs ∗ Trip1R (F := F) c arg8 X8 f
        ∗ (arg7.view.loc (c : Thread nD τ) ↦[arg7.view.set]{fullShare} X7) ∗ (arg9.view.loc (c : Thread nD τ) ↦[arg9.view.set]{fullShare} G9)
        ∗ (arg10.view.loc (c : Thread nD τ) ↦[arg10.view.set]{fullShare} G10)
        ∗ (arg11.view.loc (c : Thread nD τ) ↦[arg11.view.set]{fullShare} G7)
        ∗ (arg12.view.loc (c : Thread nD τ) ↦[arg12.view.set]{fullShare} G8) ∗ Ow c)
      ⊢ wp frame (wpE (defs₀ (F := F)) Variants.none (c : Thread nD τ) none) Set.univ
          (cc0_rotated_int4_store (F := F) i slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8)
          fun _ => iprop(Tabs c S P q ∗ IdleKV (F := F) c Vk Vv (stepN i) ∗ after2 c Vk Vv S P i
            ∗ HadR (F := F) c (hadAfter c i fh)
            ∗ RotR (F := F) c arg6 X6 (cosAfter c i arg6 harg6 arg7 harg7 arg8 harg8 arg9 harg9 arg10 harg10 arg11 harg11 arg12 harg12 (cLof P (wOf S)) (cSof P (wOf S)) X6 fc) (sinAfter c i arg6 harg6 arg7 harg7 arg8 harg8 arg9 harg9 arg10 harg10 arg11 harg11 arg12 harg12 (cLof P (wOf S)) (cSof P (wOf S)) X6 fs)
            ∗ Trip1R (F := F) c arg8 X8 (wvAfter c i arg6 harg6 arg7 harg7 arg8 harg8 arg9 harg9 arg10 harg10 arg11 harg11 arg12 harg12 X8 f)
            ∗ (arg7.view.loc (c : Thread nD τ) ↦[arg7.view.set]{fullShare} X7)
            ∗ (∃ Xk, ∃ X, ⌜(∀ j, good xkM k5M (wOf S) (cLof P (wOf S)) (cSof P (wOf S)) Vk (stepN i) (stepN_lt i) (stepN i % 2) (mod2_lt _) j Xk) ∧ ∀ j, good xvM v5M (wOf S) (cLof P (wOf S)) (cSof P (wOf S)) Vv (stepN i) (stepN_lt i) (stepN i % 2) (mod2_lt _) j X⌝
                ∗ left c i arg6 harg6 arg7 harg7 arg8 harg8 arg9 harg9 arg10 harg10 arg11 harg11 arg12 harg12 Xk X (cosAfter c i arg6 harg6 arg7 harg7 arg8 harg8 arg9 harg9 arg10 harg10 arg11 harg11 arg12 harg12 (cLof P (wOf S)) (cSof P (wOf S)) X6 fc) (sinAfter c i arg6 harg6 arg7 harg7 arg8 harg8 arg9 harg9 arg10 harg10 arg11 harg11 arg12 harg12 (cLof P (wOf S)) (cSof P (wOf S)) X6 fs) X7 (hadAfter c i fh) (wvAfter c i arg6 harg6 arg7 harg7 arg8 harg8 arg9 harg9 arg10 harg10 arg11 harg11 arg12 harg12 X8 f) G9 G10 G7 G8)
            ∗ Ow c) := by
  rw [cc0_rotated_int4_store_eq_skeleton]
  unfold cc0_rotated_int4_store_skel
  dsimp only
  iintro ⟨HT, H1, H2, HH, HR, HW, HS7, H9, H10, H7, H8, HO⟩
  iapply (wp_bind_i c)
  iapply (part103_spec c Vk Vv S P i arg6 harg6 arg7 harg7 arg8 harg8 arg9 harg9 arg10 harg10 arg11 harg11 arg12 harg12 q fh X6 fc fs X8 f) $$ [HT H1 H2 HH HR HW]
  · isplitl [HT]; · iexact HT
    isplitl [H1]; · iexact H1
    isplitl [H2]; · iexact H2
    isplitl [HH]; · iexact HH
    isplitl [HR]; · iexact HR
    iexact HW
  iintro %v28 ⟨HT, ⟨HK, HV⟩, H2, HH, ⟨H6, HC, HS⟩, ⟨HS8, HW⟩⟩
  dsimp only
  generalize hw : wOf S = w
  generalize hcL : cLof P w = cL
  generalize hcS : cSof P w = cS
  rw [k0_part106_eq_skeleton]
  unfold k0_part106_skel
  rw [wp_bind, wp_pure]
  imodintro
  rw [wp_bind]
  iapply (part105_spec c w cL cS Vk Vv i arg6 harg6 arg7 harg7 arg8 harg8 arg9 harg9 arg10 harg10 arg11 harg11 arg12 harg12 _ _ _ _ _) $$ [HK HV HO]
  · isplitl [HK]; · iexact HK
    isplitl [HV] <;> iassumption
  iintro H
  rw [wp_bind]
  iapply (part106_spec c w cL cS Vk Vv i arg6 harg6 arg7 harg7 arg8 harg8 arg9 harg9 arg10 harg10 arg11 harg11 arg12 harg12 _ _) $$ H
  iintro H
  rw [wp_bind]
  iapply (part107_spec c w cL cS Vk Vv i arg6 harg6 arg7 harg7 arg8 harg8 arg9 harg9 arg10 harg10 arg11 harg11 arg12 harg12 _ _) $$ H
  iintro ⟨HK, HV, HO⟩
  rw [wp_bind]
  iapply (waitOne c xkM k5M w cL cS Vk none _ (stepN i) (stepN_lt i) (stepN i % 2) (mod2_lt _) 6 (by decide) (cell_congr (k0_off41_eq i) _ _)
    (amt_L xkM 6 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 6 (by decide) (cell_congr (k0_off44_eq i) _ _)
    (amt_L xvM 6 (by decide) rfl)) $$ [HV HO]
  · isplitl [HV] <;> iassumption
  iintro ⟨HV, HO⟩
  rw [wp_bind]
  iapply (waitOne c xkM k5M w cL cS Vk none _ (stepN i) (stepN_lt i) (stepN i % 2) (mod2_lt _) 7 (by decide) (cell_congr (k0_off41_eq i) _ _)
    (amt_S xkM 7 (by decide) rfl)) $$ [HK HO]
  · isplitl [HK] <;> iassumption
  iintro ⟨HK, HO⟩
  rw [wp_bind]
  iapply (waitOne c xvM v5M w cL cS Vv none _ (stepN i) (stepN_lt i) (stepN i % 2) (mod2_lt _) 7 (by decide) (cell_congr (k0_off44_eq i) _ _)
    (amt_S xvM 7 (by decide) rfl)) $$ [HV HO]
  · isplitl [HV] <;> iassumption
  iintro ⟨HV, HO⟩
  imod (rings_finish c Vk Vv w cL cS (stepN i) (stepN_lt i)) $$ [HK HV] with ⟨HK, HV⟩
  · isplitl [HK] <;> iassumption
  unfold Filled
  icases HK with ⟨⟨%Xk, HXk, %hXk⟩, Hrk⟩
  icases HV with ⟨⟨%X, HX, %hX⟩, Hrest⟩
  rw [wp_bind]
  iapply (loop2 c i arg6 harg6 arg7 harg7 arg8 harg8 arg9 harg9 arg10 harg10 arg11 harg11 arg12 harg12 (slotW i) rows8 Xk X (cosAfter c i arg6 harg6 arg7 harg7 arg8 harg8 arg9 harg9 arg10 harg10 arg11 harg11 arg12 harg12 cL cS X6 fc) (sinAfter c i arg6 harg6 arg7 harg7 arg8 harg8 arg9 harg9 arg10 harg10 arg11 harg11 arg12 harg12 cL cS X6 fs) X7 (hadAfter c i fh) (wvAfter c i arg6 harg6 arg7 harg7 arg8 harg8 arg9 harg9 arg10 harg10 arg11 harg11 arg12 harg12 X8 f) G9 G10 G7 G8) $$ [HXk HX HC HS HS7 HH HW H9 H10 H7 H8]
  · isplitl [HXk]; · iexact HXk
    isplitl [HX]; · iexact HX
    isplitl [HC]; · iexact HC
    isplitl [HS]; · iexact HS
    isplitl [HS7]; · iexact HS7
    isplitl [HH]; · iexact HH
    isplitl [HW]; · iexact HW
    isplitl [H9]; · iexact H9
    isplitl [H10]; · iexact H10
    isplitl [H7] <;> iassumption
  iintro ⟨HXk, HX, HC, HS, HS7, HH, HW, H9, H10, H7, H8⟩
  rw [wp_pure]
  imodintro
  isplitl [HT]; · iexact HT
  isplitl [HXk Hrk HX Hrest]
  · isplitl [HXk Hrk]
    · unfold Idle
      isplitl [HXk]
      · iexists Xk; iexact HXk
      · iexact Hrk
    unfold Idle
    isplitl [HX]
    · iexists X; iexact HX
    · iexact Hrest
  isplitl [H2]; · iexact H2
  isplitl [HH]; · iexact HH
  isplitl [H6 HC HS]
  · isplitl [H6]; · iexact H6
    isplitl [HC] <;> iassumption
  isplitl [HS8 HW]
  · isplitl [HS8] <;> iassumption
  isplitl [HS7]; · iexact HS7
  isplitr [HO]
  · iexists Xk, X
    isplitr
    · ipureintro; exact ⟨hXk, hX⟩
    · unfold left
      isplitl [H9]; · iexact H9
      isplitl [H10]; · iexact H10
      isplitl [H7] <;> iassumption
  · iexact HO

end Cert.Kernel.Hand

end
-- ==== Proof.K.Start.lean ====
module

public import proofs.«01_k».proof.Proof.K.Body
public import proofs.«01_k».proof.Proof.Gen.Kernel.Launch

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-! ## The rings before the first point and after the last -/

/-- A ring slot is named by its parity. -/
theorem idleKV_congr (c : Dev nD) (Vk : BufTy.Contents (Elt F) k5M.view.ty) (Vv : BufTy.Contents (Elt F) v5M.view.ty) (t t' : ℕ) (h : t % 2 = t' % 2) :
    IdleKV (F := F) c Vk Vv t = IdleKV c Vk Vv t' := by
  have key : ∀ (a b : ℕ) (ha : a < 2) (hb : b < 2), a = b →
      (iprop(Idle (F := F) c xkM k5M Vk (cellM ![0, a] (cell_inb 0 _ (by decide) ha)) a ha ∗ Idle c xvM v5M Vv (cellM ![1, a] (cell_inb 1 _ (by decide) ha)) a ha) : sProp 𝕄)
        = iprop(Idle c xkM k5M Vk (cellM ![0, b] (cell_inb 0 _ (by decide) hb)) b hb ∗ Idle c xvM v5M Vv (cellM ![1, b] (cell_inb 1 _ (by decide) hb)) b hb) := by
    intro a b ha hb e; subst e; rfl
  exact key _ _ _ _ h

theorem slots_union (M : RingM) (hM : M.IsWhole) : M.view.setOn (slotR 0 (by decide)).set ∪ M.view.setOn (slotR 1 (by decide)).set = Finset.univ := by
  rw [← hM.set_eq_univ]
  ext x
  simp only [View.setOn, View.set, Finset.mem_union, Finset.mem_map, Finset.mem_univ, true_and]
  constructor
  · rintro (⟨y, -, rfl⟩ | ⟨y, -, rfl⟩) <;> exact ⟨y, rfl⟩
  · rintro ⟨y, rfl⟩
    have h0 : (y 0).val < 2 := (y 0).isLt
    have h1 : (y 1).val < 256 := (y 1).isLt
    have h2 : (y 2).val < 24 := (y 2).isLt
    have h3 : (y 3).val < 128 := (y 3).isLt
    by_cases e : (y 0).val = 0
    · left; refine ⟨y, ?_, rfl⟩; rw [Rect.mem_set_unit]; intro a; fin_cases a <;> simp <;> omega
    · right; refine ⟨y, ?_, rfl⟩; rw [Rect.mem_set_unit]; intro a; fin_cases a <;> simp <;> omega

theorem slots_disj (M : RingM) : Disjoint (M.view.setOn (slotR 0 (by decide)).set) (M.view.setOn (slotR 1 (by decide)).set) := by
  unfold View.setOn
  rw [Finset.disjoint_map, Finset.disjoint_left]
  intro y hy hy'
  rw [Rect.mem_set_unit] at hy hy'
  have h := hy 0; have h' := hy' 0
  simp at h h'
  omega

section
variable (c : Dev nD) (M : RingM) (hM : M.IsWhole) (H : PageM) (V : BufTy.Contents (Elt F) H.view.ty) (sm0 sm1 : DmaSem sig)

theorem toks_eq : (H.view.loc (c : Thread nD τ) ↦{fullShare} V : sProp 𝕄) = iprop(toks c H V 0 (by decide) ∗ toks c H V 1 (by decide)) := by
  refine (ShareLeaves.pointsTo_leaves (ℓ := H.view.loc (c : Thread nD τ)) Finset.univ V 4 fullShare).trans ?_
  unfold toks
  rw [bigSep_univ_equiv (finSumFinEquiv (m := 8) (n := 8)) (fun i : Fin (2 ^ 4) => (H.view.loc (c : Thread nD τ) ↦{ShareLeaves.leaf 4 fullShare i} V : sProp 𝕄)), bigSep_univ_sum]
  congr 1 <;> refine bigSep_congr fun j _ => ?_

include hM in
theorem idle_of : iprop((∃ f, M.view.loc (c : Thread nD τ) ↦{fullShare} f) ∗ (H.view.loc (c : Thread nD τ) ↦{fullShare} V)
      ∗ semVal ((c : Thread nD τ), .dma sm0) 0 ∗ semVal ((c : Thread nD τ), .dma sm1) 0)
    ⊢ iprop(Idle c M H V sm0 0 (by decide) ∗ Idle c M H V sm1 1 (by decide) : sProp 𝕄) := by
  rw [toks_eq]
  unfold Idle
  iintro ⟨⟨%f, Hf⟩, ⟨Ht0, Ht1⟩, Hs0, Hs1⟩
  rw [← slots_union M hM]
  ihave Hf := (pointsTo_union (slots_disj M)).1 $$ Hf
  icases Hf with ⟨Hf0, Hf1⟩
  isplitl [Hf0 Ht0 Hs0]
  · isplitl [Hf0]; · iexists f; iexact Hf0
    isplitl [Ht0] <;> iassumption
  · isplitl [Hf1]; · iexists f; iexact Hf1
    isplitl [Ht1] <;> iassumption

include hM in
theorem idle_to : iprop(Idle c M H V sm0 0 (by decide) ∗ Idle c M H V sm1 1 (by decide))
    ⊢ iprop((∃ f, M.view.loc (c : Thread nD τ) ↦{fullShare} f) ∗ (H.view.loc (c : Thread nD τ) ↦{fullShare} V)
      ∗ semVal ((c : Thread nD τ), .dma sm0) 0 ∗ semVal ((c : Thread nD τ), .dma sm1) 0 : sProp 𝕄) := by
  rw [toks_eq]
  unfold Idle
  iintro ⟨⟨⟨%f, Hf⟩, Ht0, Hs0⟩, ⟨⟨%g, Hg⟩, Ht1, Hs1⟩⟩
  isplitl [Hf Hg]
  · rw [← slots_union M hM]
    ihave HJ := (pointsTo_join (ℓ := M.view.loc (c : Thread nD τ)) (I := M.view.setOn (slotR 0 (by decide)).set) (J := M.view.setOn (slotR 1 (by decide)).set) (slots_disj M)) $$ [Hf Hg]
    · isplitl [Hf] <;> iassumption
    iexists _
    iexact HJ
  isplitl [Ht0 Ht1]; · isplitl [Ht0] <;> iassumption
  isplitl [Hs0] <;> iassumption
end

/-! ## The body's own cells -/

abbrev osem0 : Fin 4 → SemLoc sig := fun j => (![SemLoc.dma (cellM ![0, 0] (cell_inb 0 0 (by decide) (by decide))), SemLoc.dma (cellM ![0, 1] (cell_inb 0 1 (by decide) (by decide))),
  SemLoc.dma (cellM ![1, 0] (cell_inb 1 0 (by decide) (by decide))), SemLoc.dma (cellM ![1, 1] (cell_inb 1 1 (by decide) (by decide)))] : Fin 4 → SemLoc sig) j
theorem ownSemFacts0 : Pipeline.OwnSemFacts spec0 osem0 := by decide
theorem ownSems0_eq4 (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), osem0 0) 0 ∗ semVal ((c : Thread nD τ), osem0 1) 0
          ∗ semVal ((c : Thread nD τ), osem0 2) 0 ∗ semVal ((c : Thread nD τ), osem0 3) 0) := by
  rw [Pipeline.ownSems0_eq_of_list c osem0 [0, 1, 2, 3] (by decide) (by decide)]; rfl

def H0 : Finset (Ref sig .tc) := {main_v10, main_v11}
theorem H0_sub : H0 ⊆ Pipeline.restRefsP sig pre0 spec0 := by decide

end Cert.Kernel.Hand

end
-- ==== Proof.K.Frame.lean ====
module

public import proofs.«01_k».proof.Proof.K.Start

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- The arrays as the region finds them. -/
def V (c : Dev nD) (b : Ref sig .tc) : Buf (Elt F) ((c : Thread nD τ).loc b) := StableHlo.after hostOps0 (fun b => m (c, b)) b

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_prefix _ 0 defs₀ 𝒱₀ m main hostOps0 hostOps0_sub ⟨rfl, rfl, rfl, rfl, rfl, rfl, rfl, rfl, rfl, rfl, rfl, rfl, rfl, rfl, rfl, rfl, rfl⟩ main_chain

/-- The tables' contents, of which the index maps ask nothing. -/
def adm : (pcfg0 (F := F)).Adm := ⟨fun k => V m 0 (pre0.ref k), trivial⟩
theorem V_pre (c : Dev nD) (k : Fin pre0.K) : V m c (pre0.ref k) = (adm m).1 k := by
  obtain rfl : c = 0 := Subsingleton.elim _ _
  rfl

abbrev cfgA : Pipeline.Cfg sig Λ₀ := cfg0 (adm m)
abbrev Sm (c : Dev nD) : BufTy.Contents (Elt F) slotM.view.ty := V m c main_v12
abbrev Pm (c : Dev nD) : BufTy.Contents (Elt F) posM.view.ty := V m c main_v13
abbrev Km (c : Dev nD) : BufTy.Contents (Elt F) k5M.view.ty := V m c main_v10
abbrev Vm (c : Dev nD) : BufTy.Contents (Elt F) v5M.view.ty := V m c main_v11
abbrev ctxL (c : Dev nD) : BitVec 32 := cLof (Pm m c) (wOf (Sm m c))
abbrev ctxS (c : Dev nD) : BitVec 32 := cSof (Pm m c) (wOf (Sm m c))

/-! ## What a point leaves -/

/-- `X` is the table of frequencies. -/
def FreqBlk (c : Dev nD) (X : S1x128.Idx → Elt F .f32) : Prop := ∀ x, X x = (V m c main_v9 : S1x128.Idx → Elt F .f32) x
/-- `X` is head block `hb`'s part of v's signs. -/
def SignBlk (c : Dev nD) (hb : ℕ) (X : S16x128.Idx → Elt F .f32) : Prop :=
  ∀ (x : S16x128.Idx) (y : S80x128.Idx), (y 0).val = 16 * hb + (x 0).val → (y 1).val = (x 1).val → X x = (V m c main_arg3 : S80x128.Idx → Elt F .f32) y
/-- `X` is head block `hb`'s part of k's signs. -/
def SignBlkK (c : Dev nD) (hb : ℕ) (X : S16x128.Idx → Elt F .f32) : Prop :=
  ∀ (x : S16x128.Idx) (y : S80x128.Idx), (y 0).val = 16 * hb + (x 0).val → (y 1).val = (x 1).val → X x = (V m c main_arg2 : S80x128.Idx → Elt F .f32) y

/-- `f` is head block `hb`'s sign tables, as the loop writes them. -/
def WvGood (c : Dev nD) (hb : ℕ) (f : BufTy.Contents (Elt F) wvM.view.ty) : Prop :=
  ∃ (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (h3 : k0_cond5 i = 1#1) (X6 : BufTy.Contents (Elt F) arg8.view.ty) (f0 : BufTy.Contents (Elt F) wvM.view.ty),
    SignBlk m c hb (arg8.view.read (Elt F) X6) ∧ f = wvM.view.writes (Elt F) f0 (pb1 (F := F) c i arg6 harg6 arg7 harg7 arg8 harg8 arg9 harg9 arg10 harg10 arg11 harg11 arg12 harg12 h3 X6 k0_t1_loop.trips)
/-- `f` is the Hadamard table, as the first point writes it. -/
def HadGood (c : Dev nD) (f : BufTy.Contents (Elt F) hadM.view.ty) : Prop := ∃ f0, f = hadM.view.writes (Elt F) f0 (hadRun (F := F) c).1
/-- Row `q` of the rotary tables is as a point of page group `q` writes it. -/
def RotRow (c : Dev nD) (q : ℕ) (fc : BufTy.Contents (Elt F) cosM.view.ty) (fs : BufTy.Contents (Elt F) sinM.view.ty) : Prop :=
  ∃ (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (h4 : k0_cond4 i = 1#1) (X6 : BufTy.Contents (Elt F) arg6.view.ty) (fc0 : BufTy.Contents (Elt F) cosM.view.ty) (fs0 : BufTy.Contents (Elt F) sinM.view.ty),
    (i 1).val = q ∧ FreqBlk m c (arg6.view.read (Elt F) X6) ∧ ∀ y : S4x256x128.Idx, (y 0).val = q →
      cosM.view.read (Elt F) fc y = cosM.view.read (Elt F) (cosM.view.writes (Elt F) fc0 (rotRun (F := F) c i arg6 harg6 arg7 harg7 arg8 harg8 arg9 harg9 arg10 harg10 arg11 harg11 arg12 harg12 h4 (BitVec.ofNat 32 (i 1).val) (ctxL m c) (ctxS m c) X6).1) y
      ∧ sinM.view.read (Elt F) fs y = sinM.view.read (Elt F) (sinM.view.writes (Elt F) fs0 (rotRun (F := F) c i arg6 harg6 arg7 harg7 arg8 harg8 arg9 harg9 arg10 harg10 arg11 harg11 arg12 harg12 h4 (BitVec.ofNat 32 (i 1).val) (ctxL m c) (ctxS m c) X6).2.1) y
/-- The rows of the points before `n` are written. -/
def RotGood (c : Dev nD) (n : ℕ) (fc : BufTy.Contents (Elt F) cosM.view.ty) (fs : BufTy.Contents (Elt F) sinM.view.ty) : Prop := ∀ q, q < n → q < 4 → RotRow m c q fc fs

/-- The contents that point `i`'s results are computed from: the rings' slots, the rotary tables, k's signs, the Hadamard table and v's tables. -/
def FromOk (c : Dev nD) (i : grid0.Coords) (Xk : BufTy.Contents (Elt F) xkM.view.ty) (X : BufTy.Contents (Elt F) xvM.view.ty) (Co : BufTy.Contents (Elt F) cosM.view.ty) (Si : BufTy.Contents (Elt F) sinM.view.ty)
    (Y7 : S16x128.Idx → Elt F .f32) (Hd : BufTy.Contents (Elt F) hadM.view.ty) (Wv : BufTy.Contents (Elt F) wvM.view.ty) : Prop :=
  (∀ j, good xkM k5M (wOf (Sm m c)) (ctxL m c) (ctxS m c) (Km m c) (stepN i) (stepN_lt i) (stepN i % 2) (mod2_lt _) j Xk)
  ∧ (∀ j, good xvM v5M (wOf (Sm m c)) (ctxL m c) (ctxS m c) (Vm m c) (stepN i) (stepN_lt i) (stepN i % 2) (mod2_lt _) j X)
  ∧ RotRow m c (i 1).val Co Si ∧ SignBlkK m c (i 0).val Y7 ∧ HadGood c Hd ∧ WvGood m c (i 0).val Wv

def Res9 (c : Dev nD) (i : grid0.Coords) (Y : S2x16x64x128.Idx → Elt F .i8) : Prop :=
  ∃ (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G : BufTy.Contents (Elt F) arg9.view.ty),
    FromOk m c i Xk X Co Si (arg7.view.read (Elt F) X7) Hd Wv
      ∧ Y = arg9.view.read (Elt F) (arg9.view.writes (Elt F) G (pb2 (F := F) c i arg6 harg6 arg7 harg7 arg8 harg8 arg9 harg9 arg10 harg10 arg11 harg11 arg12 harg12 (slotW i) rows8 Xk X Co Si X7 Hd Wv k0_t2_loop.trips).1)
def Res10 (c : Dev nD) (i : grid0.Coords) (Y : S2x16x4x128.Idx → Elt F .bf16) : Prop :=
  ∃ (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G : BufTy.Contents (Elt F) arg10.view.ty),
    FromOk m c i Xk X Co Si (arg7.view.read (Elt F) X7) Hd Wv
      ∧ Y = arg10.view.read (Elt F) (arg10.view.writes (Elt F) G (pb2 (F := F) c i arg6 harg6 arg7 harg7 arg8 harg8 arg9 harg9 arg10 harg10 arg11 harg11 arg12 harg12 (slotW i) rows8 Xk X Co Si X7 Hd Wv k0_t2_loop.trips).2.1)
def Res7 (c : Dev nD) (i : grid0.Coords) (Y : S2x16x64x128.Idx → Elt F .i8) : Prop :=
  ∃ (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G : BufTy.Contents (Elt F) arg11.view.ty),
    FromOk m c i Xk X Co Si (arg7.view.read (Elt F) X7) Hd Wv
      ∧ Y = arg11.view.read (Elt F) (arg11.view.writes (Elt F) G (pb2 (F := F) c i arg6 harg6 arg7 harg7 arg8 harg8 arg9 harg9 arg10 harg10 arg11 harg11 arg12 harg12 (slotW i) rows8 Xk X Co Si X7 Hd Wv k0_t2_loop.trips).2.2.1)
def Res8 (c : Dev nD) (i : grid0.Coords) (Y : S2x16x4x128.Idx → Elt F .bf16) : Prop :=
  ∃ (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (Wv : BufTy.Contents (Elt F) wvM.view.ty) (G : BufTy.Contents (Elt F) arg12.view.ty),
    FromOk m c i Xk X Co Si (arg7.view.read (Elt F) X7) Hd Wv
      ∧ Y = arg12.view.read (Elt F) (arg12.view.writes (Elt F) G (pb2 (F := F) c i arg6 harg6 arg7 harg7 arg8 harg8 arg9 harg9 arg10 harg10 arg11 harg11 arg12 harg12 (slotW i) rows8 Xk X Co Si X7 Hd Wv k0_t2_loop.trips).2.2.2)

/-! ## The invariant -/

/-- The rings before point `n`: its transfers in flight but at the two ends, the other slot idle. -/
def RingsAt (c : Dev nD) (n : ℕ) : sProp 𝕄 :=
  if h : 0 < n ∧ n < 20 then iprop(Flying c (Km m c) (Vm m c) (wOf (Sm m c)) (ctxL m c) (ctxS m c) n h.2 ∗ IdleKV c (Km m c) (Vm m c) (n + 1))
  else iprop(IdleKV c (Km m c) (Vm m c) n ∗ IdleKV c (Km m c) (Vm m c) (n + 1))

/-- The scratch buffers the body leaves alone. -/
def Others (c : Dev nD) : sProp 𝕄 :=
  iprop((∃ f, (c : Thread nD τ).loc cc0_scratch4 ↦{fullShare} f) ∗ (∃ f, (c : Thread nD τ).loc cc0_scratch5 ↦{fullShare} f))

def Φm (c : Dev nD) (n : ℕ) : sProp 𝕄 :=
  iprop(Tabs c (Sm m c) (Pm m c) fullShare.right ∗ RingsAt m c n
    ∗ (∃ f, ⌜n % 4 ≠ 0 → WvGood m c (n / 4) f⌝ ∗ (wvM.view.loc (c : Thread nD τ) ↦[wvM.view.set]{fullShare} f))
    ∗ (∃ f, ⌜n ≠ 0 → HadGood c f⌝ ∗ (hadM.view.loc (c : Thread nD τ) ↦[hadM.view.set]{fullShare} f))
    ∗ (∃ fc, ∃ fs, ⌜RotGood m c n fc fs⌝ ∗ (cosM.view.loc (c : Thread nD τ) ↦[cosM.view.set]{fullShare} fc) ∗ (sinM.view.loc (c : Thread nD τ) ↦[sinM.view.set]{fullShare} fs))
    ∗ Others c ∗ (∃ r, prngReg c r))

def rdat (c : Dev nD) : Pipeline.RDat τ (Elt F) Unit ℕ (Pipeline.UD sig nD τ) ℕ (cfgA m) c where
  A w := V m c (Pipeline.arrRef spec0 w)
  after w t Y X := match w with
    | 0 => X = Y
    | 1 => X = Y
    | 2 => X = Y
    | 3 => Res9 m c (grid0.coords t) X
    | 4 => Res10 m c (grid0.coords t) X
    | 5 => Res7 m c (grid0.coords t) X
    | 6 => Res8 m c (grid0.coords t) X
    | ⟨_ + 7, h⟩ => absurd h (Nat.not_lt.2 (Nat.le_add_left _ _))
  Φ t := Φm m c t.val
  q _ := fullShare
  owed _ := 0

/-! ## One point -/

theorem step_coords : ∀ t : Fin grid0.N, stepN (grid0.coords t) = t.val := by decide
theorem cond1_coords : ∀ t : Fin grid0.N, (k0_cond1 (grid0.coords t) = 1#1) ↔ t.val = 0 := by decide
theorem cond2_coords : ∀ t : Fin grid0.N, (k0_cond2 (grid0.coords t) = 1#1) ↔ t.val + 1 < 20 := by decide
theorem cond3_coords : ∀ t : Fin grid0.N, (k0_cond5 (grid0.coords t) = 1#1) ↔ t.val % 4 = 0 := by decide
theorem cond4_coords : ∀ t : Fin grid0.N, (k0_cond4 (grid0.coords t) = 1#1) ↔ t.val < 4 := by decide
theorem first_coords : ∀ t : Fin grid0.N, isFirst (grid0.coords t) ↔ t.val = 0 := by decide
theorem page_coords : ∀ t : Fin grid0.N, ((grid0.coords t) 1).val = t.val % 4 := by decide
theorem head_coords : ∀ t : Fin grid0.N, ((grid0.coords t) 0).val = t.val / 4 := by decide

theorem rings_in (c : Dev nD) (t : Fin grid0.N) :
    RingsAt m c t.val ⊢ iprop(before1 c (Km m c) (Vm m c) (Sm m c) (Pm m c) (grid0.coords t) ∗ IdleKV c (Km m c) (Vm m c) (stepN (grid0.coords t) + 1)) := by
  have key : ∀ n (hn : n < 20), n = t.val → RingsAt m c t.val
      ⊢ iprop((if k0_cond1 (grid0.coords t) = 1#1 then IdleKV (F := F) c (Km m c) (Vm m c) n else Flying c (Km m c) (Vm m c) (wOf (Sm m c)) (ctxL m c) (ctxS m c) n hn)
        ∗ IdleKV c (Km m c) (Vm m c) (n + 1)) := by
    rintro n hn rfl
    unfold RingsAt
    by_cases h : t.val = 0
    · rw [dif_neg (by omega), if_pos ((cond1_coords t).2 h)]
    · rw [dif_pos ⟨by omega, hn⟩, if_neg (fun h' => h ((cond1_coords t).1 h'))]
  exact key _ (stepN_lt _) (step_coords t)

theorem rings_out (c : Dev nD) (t : Fin grid0.N) :
    iprop(IdleKV c (Km m c) (Vm m c) (stepN (grid0.coords t)) ∗ after2 c (Km m c) (Vm m c) (Sm m c) (Pm m c) (grid0.coords t)) ⊢ RingsAt m c (t.val + 1) := by
  unfold after2
  have key : ∀ n, n = t.val → ∀ hn : k0_cond2 (grid0.coords t) = 1#1 → n + 1 < 20,
      iprop(IdleKV (F := F) c (Km m c) (Vm m c) n ∗ (if h : k0_cond2 (grid0.coords t) = 1#1 then Flying c (Km m c) (Vm m c) (wOf (Sm m c)) (ctxL m c) (ctxS m c) (n + 1) (hn h)
        else IdleKV (F := F) c (Km m c) (Vm m c) (n + 1))) ⊢ RingsAt m c (t.val + 1) := by
    rintro n rfl hn
    unfold RingsAt
    by_cases h : k0_cond2 (grid0.coords t) = 1#1
    · rw [dif_pos h, dif_pos ⟨by omega, hn h⟩, idleKV_congr c (Km m c) (Vm m c) t.val (t.val + 1 + 1) (by omega)]
      iintro ⟨H1, H2⟩
      isplitl [H2] <;> iassumption
    · rw [dif_neg h, dif_neg (fun h' => h ((cond2_coords t).2 h'.2)), idleKV_congr c (Km m c) (Vm m c) t.val (t.val + 1 + 1) (by omega)]
      iintro ⟨H1, H2⟩
      isplitl [H2] <;> iassumption
  exact key _ (step_coords t) (stepN_next _)

theorem wv_next (c : Dev nD) (t : Fin grid0.N) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (X6 : BufTy.Contents (Elt F) arg8.view.ty) (f : BufTy.Contents (Elt F) wvM.view.ty)
    (h6 : t.val % 4 = 0 → SignBlk m c (t.val / 4) (arg8.view.read (Elt F) X6)) (hf : t.val % 4 ≠ 0 → WvGood m c (t.val / 4) f) :
    WvGood m c (t.val / 4) (wvAfter c (grid0.coords t) arg6 harg6 arg7 harg7 arg8 harg8 arg9 harg9 arg10 harg10 arg11 harg11 arg12 harg12 X6 f) := by
  unfold wvAfter
  by_cases h : k0_cond5 (grid0.coords t) = 1#1
  · rw [dif_pos h]
    exact ⟨_, arg6, harg6, arg7, harg7, arg8, harg8, arg9, harg9, arg10, harg10, arg11, harg11, arg12, harg12, h, X6, f, h6 ((cond3_coords t).1 h), rfl⟩
  · rw [dif_neg h]
    exact hf fun h' => h ((cond3_coords t).2 h')

theorem had_next (c : Dev nD) (t : Fin grid0.N) (f : BufTy.Contents (Elt F) hadM.view.ty) (hf : t.val ≠ 0 → HadGood c f) : HadGood c (hadAfter c (grid0.coords t) f) := by
  unfold hadAfter
  by_cases h : isFirst (grid0.coords t)
  · rw [if_pos h]
    exact ⟨f, rfl⟩
  · rw [if_neg h]
    exact hf fun h' => h ((first_coords t).2 h')

theorem row_toNat : ∀ q : Fin 4, (Scalar.indexCast (BitVec.ofNat 32 q.val) : Index).toNat = q.val := by decide

theorem cos_pieces (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (h4 : k0_cond4 i = 1#1) (a1 cL cS : BitVec 32) (X6 : BufTy.Contents (Elt F) arg6.view.ty) :
    ∃ w1 w2 w3 w4, (rotRun (F := F) c i arg6 harg6 arg7 harg7 arg8 harg8 arg9 harg9 arg10 harg10 arg11 harg11 arg12 harg12 h4 a1 cL cS X6).1
      = [⟨Rect.unit (s := S4x256x128) (k0_off36 i) S1x64x128.size (k0_off36_inb i h4), w4⟩, ⟨Rect.unit (s := S4x256x128) (k0_off35 i) S1x64x128.size (k0_off35_inb i h4), w3⟩,
        ⟨Rect.unit (s := S4x256x128) (k0_off34 i) S1x64x128.size (k0_off34_inb i h4), w2⟩, ⟨Rect.unit (s := S4x256x128) (k0_off33 i) S1x64x128.size (k0_off33_inb i h4), w1⟩] := by
  unfold rotRun
  exact ⟨_, _, _, _, rfl⟩
theorem sin_pieces (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (h4 : k0_cond4 i = 1#1) (a1 cL cS : BitVec 32) (X6 : BufTy.Contents (Elt F) arg6.view.ty) :
    ∃ w1 w2 w3 w4, (rotRun (F := F) c i arg6 harg6 arg7 harg7 arg8 harg8 arg9 harg9 arg10 harg10 arg11 harg11 arg12 harg12 h4 a1 cL cS X6).2.1
      = [⟨Rect.unit (s := S4x256x128) (k0_off36 i) S1x64x128.size (k0_off36_inb i h4), w4⟩, ⟨Rect.unit (s := S4x256x128) (k0_off35 i) S1x64x128.size (k0_off35_inb i h4), w3⟩,
        ⟨Rect.unit (s := S4x256x128) (k0_off34 i) S1x64x128.size (k0_off34_inb i h4), w2⟩, ⟨Rect.unit (s := S4x256x128) (k0_off33 i) S1x64x128.size (k0_off33_inb i h4), w1⟩] := by
  unfold rotRun
  exact ⟨_, _, _, _, rfl⟩

theorem row_miss {sp : Space} (v : View sig .tc sp S4x256x128 .f32) (i : grid0.Coords) (h4 : k0_cond4 i = 1#1) (f : v.ty.Contents (Elt F)) (y : S4x256x128.Idx) (hy : (y 0).val ≠ (i 1).val) (w1 w2 w3 w4 : S1x64x128.Idx → Elt F .f32) :
    v.read (Elt F) (v.writes (Elt F) f [⟨Rect.unit (s := S4x256x128) (k0_off36 i) S1x64x128.size (k0_off36_inb i h4), w4⟩, ⟨Rect.unit (s := S4x256x128) (k0_off35 i) S1x64x128.size (k0_off35_inb i h4), w3⟩,
        ⟨Rect.unit (s := S4x256x128) (k0_off34 i) S1x64x128.size (k0_off34_inb i h4), w2⟩, ⟨Rect.unit (s := S4x256x128) (k0_off33 i) S1x64x128.size (k0_off33_inb i h4), w1⟩]) y = v.read (Elt F) f y := by
  have hy' : (y 0).val < (i 1).val ∨ (i 1).val + 1 ≤ (y 0).val := by omega
  refine (View.read_writes_cons_miss_of_axis v f _ _ y 0 (i 1).val 1 (row_toNat (i 1)) rfl rfl hy').trans ?_
  refine (View.read_writes_cons_miss_of_axis v f _ _ y 0 (i 1).val 1 (row_toNat (i 1)) rfl rfl hy').trans ?_
  refine (View.read_writes_cons_miss_of_axis v f _ _ y 0 (i 1).val 1 (row_toNat (i 1)) rfl rfl hy').trans ?_
  exact View.read_writes_cons_miss_of_axis v f _ _ y 0 (i 1).val 1 (row_toNat (i 1)) rfl rfl hy'

theorem rot_next (c : Dev nD) (t : Fin grid0.N) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (X6 : BufTy.Contents (Elt F) arg6.view.ty) (fc : BufTy.Contents (Elt F) cosM.view.ty) (fs : BufTy.Contents (Elt F) sinM.view.ty)
    (h6 : FreqBlk m c (arg6.view.read (Elt F) X6)) (hf : RotGood m c t.val fc fs) :
    RotGood m c (t.val + 1) (cosAfter c (grid0.coords t) arg6 harg6 arg7 harg7 arg8 harg8 arg9 harg9 arg10 harg10 arg11 harg11 arg12 harg12 (ctxL m c) (ctxS m c) X6 fc) (sinAfter c (grid0.coords t) arg6 harg6 arg7 harg7 arg8 harg8 arg9 harg9 arg10 harg10 arg11 harg11 arg12 harg12 (ctxL m c) (ctxS m c) X6 fs) := by
  intro q hq hq4
  unfold cosAfter sinAfter
  by_cases h : k0_cond4 (grid0.coords t) = 1#1
  · rw [dif_pos h, dif_pos h]
    have ht := (cond4_coords t).1 h
    have hp := page_coords t
    by_cases e : q = t.val
    · exact ⟨_, arg6, harg6, arg7, harg7, arg8, harg8, arg9, harg9, arg10, harg10, arg11, harg11, arg12, harg12, h, X6, fc, fs, by omega, h6, fun y _ => ⟨rfl, rfl⟩⟩
    · obtain ⟨i, a6, b6, a7, b7, a8, b8, a9, b9, a10, b10, a11, b11, a12, b12, h4, X, gc, gs, hi, hX, hy⟩ := hf q (by omega) hq4
      refine ⟨i, a6, b6, a7, b7, a8, b8, a9, b9, a10, b10, a11, b11, a12, b12, h4, X, gc, gs, hi, hX, fun y hyq => ⟨Eq.trans ?_ (hy y hyq).1, Eq.trans ?_ (hy y hyq).2⟩⟩
      · obtain ⟨w1, w2, w3, w4, hw⟩ := cos_pieces c (grid0.coords t) arg6 harg6 arg7 harg7 arg8 harg8 arg9 harg9 arg10 harg10 arg11 harg11 arg12 harg12 h (BitVec.ofNat 32 ((grid0.coords t) 1).val) (ctxL m c) (ctxS m c) X6
        rw [hw]
        exact row_miss cosM.view _ h fc y (by omega) w1 w2 w3 w4
      · obtain ⟨w1, w2, w3, w4, hw⟩ := sin_pieces c (grid0.coords t) arg6 harg6 arg7 harg7 arg8 harg8 arg9 harg9 arg10 harg10 arg11 harg11 arg12 harg12 h (BitVec.ofNat 32 ((grid0.coords t) 1).val) (ctxL m c) (ctxS m c) X6
        rw [hw]
        exact row_miss sinM.view _ h fs y (by omega) w1 w2 w3 w4
  · rw [dif_neg h, dif_neg h]
    have ht : ¬ t.val < 4 := fun h' => h ((cond4_coords t).2 h')
    exact hf q (by omega) hq4

theorem rot_row (c : Dev nD) (t : Fin grid0.N) (fc : BufTy.Contents (Elt F) cosM.view.ty) (fs : BufTy.Contents (Elt F) sinM.view.ty) (h : RotGood m c (t.val + 1) fc fs) :
    RotRow m c ((grid0.coords t) 1).val fc fs := by
  have hp := page_coords t
  exact h _ (by omega) (by omega)

theorem point (c : Dev nD) (t : Fin grid0.N) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole) (Y6 : S1x128.Idx → Elt F .f32) (Yk Y8 : S16x128.Idx → Elt F .f32) (Y9 : S2x16x64x128.Idx → Elt F .i8) (Y10 : S2x16x4x128.Idx → Elt F .bf16) (Y11 : S2x16x64x128.Idx → Elt F .i8) (Y12 : S2x16x4x128.Idx → Elt F .bf16)
    (h6 : FreqBlk m c Y6) (h7 : SignBlkK m c (t.val / 4) Yk) (h8 : SignBlk m c (t.val / 4) Y8) :
    iprop(Φm m c t.val ∗ Ow c ∗ owns (c : Thread nD τ) arg6 fullShare Y6 ∗ owns (c : Thread nD τ) arg7 fullShare Yk ∗ owns (c : Thread nD τ) arg8 fullShare Y8 ∗ owns (c : Thread nD τ) arg9 fullShare Y9 ∗ owns (c : Thread nD τ) arg10 fullShare Y10 ∗ owns (c : Thread nD τ) arg11 fullShare Y11 ∗ owns (c : Thread nD τ) arg12 fullShare Y12)
      ⊢ wp frame (wpE (defs₀ (F := F)) Variants.none (c : Thread nD τ) none) Set.univ
          (cc0_rotated_int4_store (F := F) (grid0.coords t) slotM (Memref.isWhole_whole _) posM (Memref.isWhole_whole _) k5M (Memref.isWhole_whole _) v5M (Memref.isWhole_whole _) arg6 harg6 arg7 harg7 arg8 harg8 arg9 harg9 arg10 harg10 arg11 harg11 arg12 harg12 xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8)
          fun _ => iprop(Φm m c (t.val + 1) ∗ Ow c ∗ (∃ X, ⌜X = Y6⌝ ∗ owns (c : Thread nD τ) arg6 fullShare X) ∗ (∃ X, ⌜X = Yk⌝ ∗ owns (c : Thread nD τ) arg7 fullShare X) ∗ (∃ X, ⌜X = Y8⌝ ∗ owns (c : Thread nD τ) arg8 fullShare X)
            ∗ (∃ X, ⌜Res9 m c (grid0.coords t) X⌝ ∗ owns (c : Thread nD τ) arg9 fullShare X) ∗ (∃ X, ⌜Res10 m c (grid0.coords t) X⌝ ∗ owns (c : Thread nD τ) arg10 fullShare X)
            ∗ (∃ X, ⌜Res7 m c (grid0.coords t) X⌝ ∗ owns (c : Thread nD τ) arg11 fullShare X) ∗ (∃ X, ⌜Res8 m c (grid0.coords t) X⌝ ∗ owns (c : Thread nD τ) arg12 fullShare X)) := by
  unfold Φm owns
  iintro ⟨⟨HT, HR, ⟨%f, %hf, Hw⟩, ⟨%fh, %hfh, Hh⟩, ⟨%fc, %fs, %hfr, Hc, Hs⟩, HO, Hp⟩, HW, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩⟩
  subst e6 e7 e8 e9 e10 e11 e12
  ihave HR := (rings_in m c t) $$ HR
  icases HR with ⟨HR1, HR2⟩
  ihave HB := (body_spec c (Km m c) (Vm m c) (Sm m c) (Pm m c) (grid0.coords t) arg6 harg6 arg7 harg7 arg8 harg8 arg9 harg9 arg10 harg10 arg11 harg11 arg12 harg12 fullShare.right fh X6 fc fs X7 X8 f X9 X10 X11 X12) $$ [HT HR1 HR2 Hh H6 Hc Hs H8 Hw H7 H9 H10 H11 H12 HW]
  · isplitl [HT]; · iexact HT
    isplitl [HR1]; · iexact HR1
    isplitl [HR2]; · iexact HR2
    isplitl [Hh]; · iexact Hh
    isplitl [H6 Hc Hs]
    · isplitl [H6]; · iexact H6
      isplitl [Hc] <;> iassumption
    isplitl [H8 Hw]; · isplitl [H8] <;> iassumption
    isplitl [H7]; · iexact H7
    isplitl [H9]; · iexact H9
    isplitl [H10]; · iexact H10
    isplitl [H11]; · iexact H11
    isplitl [H12] <;> iassumption
  iapply (wp_wand frame (wpE (defs₀ (F := F)) Variants.none (c : Thread nD τ) none) Set.univ) $$ HB
  iintro %_ ⟨HT, HR1, HR2, Hh, ⟨H6, Hc, Hs⟩, ⟨H8, Hw⟩, H7, ⟨%Xk, %X, %hX, HL⟩, HW⟩
  have hwv := wv_next m c t arg6 harg6 arg7 harg7 arg8 harg8 arg9 harg9 arg10 harg10 arg11 harg11 arg12 harg12 X8 f (fun _ => h8) hf
  have hhd := had_next c t fh hfh
  have hrt := rot_next m c t arg6 harg6 arg7 harg7 arg8 harg8 arg9 harg9 arg10 harg10 arg11 harg11 arg12 harg12 X6 fc fs h6 hfr
  have hrow := rot_row m c t _ _ hrt
  have hfrom : FromOk m c (grid0.coords t) Xk X _ _ (arg7.view.read (Elt F) X7) _ _ := ⟨hX.1, hX.2, hrow, by rw [head_coords]; exact h7, hhd, by rw [head_coords]; exact hwv⟩
  isplitl [HT HR1 HR2 Hw Hh Hc Hs HO Hp]
  · isplitl [HT]; · iexact HT
    isplitl [HR1 HR2]
    · iapply (rings_out m c t)
      isplitl [HR1] <;> iassumption
    isplitl [Hw]
    · iexists _
      isplitr
      · ipureintro
        intro h
        have e : (t.val + 1) / 4 = t.val / 4 := by omega
        rw [e]; exact hwv
      · iexact Hw
    isplitl [Hh]
    · iexists _
      isplitr
      · ipureintro
        exact fun _ => hhd
      · iexact Hh
    isplitl [Hc Hs]
    · iexists _, _
      isplitr
      · ipureintro
        exact hrt
      · isplitl [Hc] <;> iassumption
    isplitl [HO] <;> iassumption
  isplitl [HW]; · iexact HW
  isplitl [H6]
  · iexists _
    isplitr
    · ipureintro; rfl
    · iexists X6
      isplitr
      · ipureintro; rfl
      · iexact H6
  isplitl [H7]
  · iexists _
    isplitr
    · ipureintro; rfl
    · iexists X7
      isplitr
      · ipureintro; rfl
      · iexact H7
  isplitl [H8]
  · iexists _
    isplitr
    · ipureintro; rfl
    · iexists X8
      isplitr
      · ipureintro; rfl
      · iexact H8
  unfold left
  icases HL with ⟨H9, H10, H11, H12⟩
  isplitl [H9]
  · iexists _
    isplitr
    · ipureintro; exact ⟨arg6, harg6, arg7, harg7, arg8, harg8, arg9, harg9, arg10, harg10, arg11, harg11, arg12, harg12, Xk, X, _, _, X7, _, _, X9, hfrom, rfl⟩
    · iexists _
      isplitr
      · ipureintro; rfl
      · iexact H9
  isplitl [H10]
  · iexists _
    isplitr
    · ipureintro; exact ⟨arg6, harg6, arg7, harg7, arg8, harg8, arg9, harg9, arg10, harg10, arg11, harg11, arg12, harg12, Xk, X, _, _, X7, _, _, X10, hfrom, rfl⟩
    · iexists _
      isplitr
      · ipureintro; rfl
      · iexact H10
  isplitl [H11]
  · iexists _
    isplitr
    · ipureintro; exact ⟨arg6, harg6, arg7, harg7, arg8, harg8, arg9, harg9, arg10, harg10, arg11, harg11, arg12, harg12, Xk, X, _, _, X7, _, _, X11, hfrom, rfl⟩
    · iexists _
      isplitr
      · ipureintro; rfl
      · iexact H11
  · iexists _
    isplitr
    · ipureintro; exact ⟨arg6, harg6, arg7, harg7, arg8, harg8, arg9, harg9, arg10, harg10, arg11, harg11, arg12, harg12, Xk, X, _, _, X7, _, _, X12, hfrom, rfl⟩
    · iexists _
      isplitr
      · ipureintro; rfl
      · iexact H12

/-! ## The body obligation -/

theorem tr2_coords : ∀ t : Fin grid0.N, cc0_transform_2 (grid0.coords t) = ![0, 0] := by decide
theorem tr3_coords : ∀ t : Fin grid0.N, cc0_transform_3 (grid0.coords t) = ![t.val / 4, 0] := by decide
theorem tr4_coords : ∀ t : Fin grid0.N, cc0_transform_4 (grid0.coords t) = ![t.val / 4, 0] := by decide

theorem freq_of_fetched (c : Dev nD) (t : Fin grid0.N) (d : S1x128.Idx → Elt F .f32) : FreqBlk m c ((rdat m c).fetched 0 t d) := by
  intro x
  have e : ∀ a, (((((cfgA m).win 0).blk t).view.emb x : S1x128.Idx) a).val = cc0_transform_2 (grid0.coords t) a * S1x128.size a + (x a).val := fun a => by
    show cc0_transform_2 (grid0.coords t) a * S1x128.size a + 1 * (x a).val = _
    rw [Nat.one_mul]
  refine Eq.trans (b := (V m c main_v9 : S1x128.Idx → Elt F .f32) ((((cfgA m).win 0).blk t).view.emb x)) rfl ?_
  refine congrArg (V m c main_v9 : S1x128.Idx → Elt F .f32) (funext fun a => Fin.ext ?_)
  rw [e a, tr2_coords]
  fin_cases a
  · show 0 * 1 + (x 0).val = (x 0).val
    omega
  · show 0 * 128 + (x 1).val = (x 1).val
    omega

theorem signK_of_fetched (c : Dev nD) (t : Fin grid0.N) (d : S16x128.Idx → Elt F .f32) : SignBlkK m c (t.val / 4) ((rdat m c).fetched 1 t d) := by
  intro x y h0 h1
  have e : ∀ a, (((((cfgA m).win 1).blk t).view.emb x : S80x128.Idx) a).val = cc0_transform_3 (grid0.coords t) a * S16x128.size a + (x a).val := fun a => by
    show cc0_transform_3 (grid0.coords t) a * S16x128.size a + 1 * (x a).val = _
    rw [Nat.one_mul]
  refine Eq.trans (b := (V m c main_arg2 : S80x128.Idx → Elt F .f32) ((((cfgA m).win 1).blk t).view.emb x)) rfl ?_
  refine congrArg (V m c main_arg2 : S80x128.Idx → Elt F .f32) (funext fun a => Fin.ext ?_)
  rw [e a, tr3_coords]
  fin_cases a
  · show t.val / 4 * 16 + (x 0).val = (y 0).val
    omega
  · show 0 * 128 + (x 1).val = (y 1).val
    omega

theorem sign_of_fetched (c : Dev nD) (t : Fin grid0.N) (d : S16x128.Idx → Elt F .f32) : SignBlk m c (t.val / 4) ((rdat m c).fetched 2 t d) := by
  intro x y h0 h1
  have e : ∀ a, (((((cfgA m).win 2).blk t).view.emb x : S80x128.Idx) a).val = cc0_transform_4 (grid0.coords t) a * S16x128.size a + (x a).val := fun a => by
    show cc0_transform_4 (grid0.coords t) a * S16x128.size a + 1 * (x a).val = _
    rw [Nat.one_mul]
  refine Eq.trans (b := (V m c main_arg3 : S80x128.Idx → Elt F .f32) ((((cfgA m).win 2).blk t).view.emb x)) rfl ?_
  refine congrArg (V m c main_arg3 : S80x128.Idx → Elt F .f32) (funext fun a => Fin.ext ?_)
  rw [e a, tr4_coords]
  fin_cases a
  · show t.val / 4 * 16 + (x 0).val = (y 0).val
    omega
  · show 0 * 128 + (x 1).val = (y 1).val
    omega

theorem defs₀_row (t : Fin grid0.N) :
    defs₀ (F := F) .tc (cfgA m).body ((cfgA m).bodyArgs t ((cfgA m).slots t))
      = cc0_rotated_int4_store (F := F) (grid0.coords t) slotM (Memref.isWhole_whole _) posM (Memref.isWhole_whole _) k5M (Memref.isWhole_whole _) v5M (Memref.isWhole_whole _)
          (spec0_0.stage ((cfgA m).slots t 0)) (hstage0_0 (((cfgA m).slots t 0).cast nbuf0_0)) (spec0_1.stage ((cfgA m).slots t 1)) (hstage0_1 (((cfgA m).slots t 1).cast nbuf0_1))
          (spec0_2.stage ((cfgA m).slots t 2)) (hstage0_2 (((cfgA m).slots t 2).cast nbuf0_2))
          (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6))
          xkM (Memref.isWhole_whole _) xvM (Memref.isWhole_whole _) cosM (Memref.isWhole_whole _) sinM (Memref.isWhole_whole _) idxM (Memref.isWhole_whole _) sltM (Memref.isWhole_whole _) hadM (Memref.isWhole_whole _) wvM (Memref.isWhole_whole _) cc0_scratch8 := by
  unfold defs₀; rw [Defs.onTc_tc]

theorem phi_cast (c : Dev nD) (t : Fin grid0.N) : (rdat m c).Φ t.castSucc = Φm m c t.val := rfl
theorem phi_succ (c : Dev nD) (t : Fin grid0.N) : (rdat m c).Φ t.succ = Φm m c (t.val + 1) := rfl
theorem owes_in (c : Dev nD) (t : Fin (grid0.N + 1)) : (rdat m c).owesAt () t ⊢ Ow (F := F) c := by
  unfold Pipeline.RDat.owesAt Pipeline.owesWithin
  iintro ⟨%W, -, HW⟩
  iexists W; iexact HW
theorem owes_out (c : Dev nD) (t : Fin (grid0.N + 1)) : Ow (F := F) c ⊢ (rdat m c).owesAt () t := by
  unfold Pipeline.RDat.owesAt Pipeline.owesWithin
  iintro ⟨%W, HW⟩
  iexists W
  isplitr
  · ipureintro; exact fun _ _ => Or.inl trivial
  · iexact HW

theorem body_obligation (c : Dev nD) : (rdat m c).BodyObligation (defs₀ (F := F)) Variants.none () Set.univ := fun t Y hY => by
  rw [bigSep_W0, bigSep_W0, defs₀_row]
  have h6 : FreqBlk m c (Y 0) := by
    obtain ⟨d, hd⟩ := Pipeline.RDat.finds_in_eq_fetched (rdat m c) 0 rfl (fun _ _ _ => rfl) (fun _ _ _ h => h) t (Y 0) (hY 0)
    rw [hd]
    exact freq_of_fetched m c t d
  have h7 : SignBlkK m c (t.val / 4) (Y 1) := by
    obtain ⟨d, hd⟩ := Pipeline.RDat.finds_in_eq_fetched (rdat m c) 1 rfl (fun _ _ _ => rfl) (fun _ _ _ h => h) t (Y 1) (hY 1)
    rw [hd]
    exact signK_of_fetched m c t d
  have h8 : SignBlk m c (t.val / 4) (Y 2) := by
    obtain ⟨d, hd⟩ := Pipeline.RDat.finds_in_eq_fetched (rdat m c) 2 rfl (fun _ _ _ => rfl) (fun _ _ _ h => h) t (Y 2) (hY 2)
    rw [hd]
    exact sign_of_fetched m c t d
  have hp := point m c t (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (Y 0) (Y 1) (Y 2) (Y 3) (Y 4) (Y 5) (Y 6) h6 h7 h8
  refine BIBase.Entails.trans ?_ (hp.trans (wp_mono _ _ _ fun _ => ?_))
  · rw [phi_cast]
    iintro ⟨HΦ, HW, HY⟩
    isplitl [HΦ]; · iexact HΦ
    isplitl [HW]; · iapply (owes_in m c t.castSucc); iexact HW
    iexact HY
  · rw [phi_succ]
    iintro ⟨HΦ, HW, HY⟩
    isplitl [HΦ]; · iexact HΦ
    isplitl [HW]; · iapply (owes_out m c t.succ); iexact HW
    iexact HY

/-! ## The run -/

theorem pages_eq (c : Dev nD) :
    (bigSep H0 (fun b => ((c : Thread nD τ).loc b) ↦{fullShare} V m c b) : sProp 𝕄)
      = iprop((k5M.view.loc (c : Thread nD τ) ↦{fullShare} Km m c) ∗ (v5M.view.loc (c : Thread nD τ) ↦{fullShare} Vm m c)) := by
  rw [BI.bigSep_eq_bigSepL_of_eq [main_v10, main_v11] (by decide) (by decide)]; rfl

theorem tabs_eq (c : Dev nD) : (Pipeline.ΦT pre0 (adm m).1 c : sProp 𝕄) = Tabs c (Sm m c) (Pm m c) fullShare.right := by
  unfold Pipeline.ΦT Pipeline.prefHeld
  rw [show (Finset.univ : Finset (Fin 2)) = insert 0 {1} from by decide, bigSep_insert (by decide), bigSep_singleton, ← V_pre m c 0, ← V_pre m c 1]
  rfl

theorem wv_eq (c : Dev nD) (f : BufTy.Contents (Elt F) wvM.view.ty) :
    (wvM.view.loc (c : Thread nD τ) ↦[wvM.view.set]{fullShare} f : sProp 𝕄) = ((c : Thread nD τ).loc cc0_scratch7 ↦{fullShare} f) := by
  rw [(Memref.isWhole_whole cc0_scratch7).set_eq_univ]

theorem cos_eq (c : Dev nD) (f : BufTy.Contents (Elt F) cosM.view.ty) :
    (cosM.view.loc (c : Thread nD τ) ↦[cosM.view.set]{fullShare} f : sProp 𝕄) = ((c : Thread nD τ).loc cc0_scratch2 ↦{fullShare} f) := by
  rw [(Memref.isWhole_whole cc0_scratch2).set_eq_univ]

theorem sin_eq (c : Dev nD) (f : BufTy.Contents (Elt F) sinM.view.ty) :
    (sinM.view.loc (c : Thread nD τ) ↦[sinM.view.set]{fullShare} f : sProp 𝕄) = ((c : Thread nD τ).loc cc0_scratch3 ↦{fullShare} f) := by
  rw [(Memref.isWhole_whole cc0_scratch3).set_eq_univ]

theorem had_eq (c : Dev nD) (f : BufTy.Contents (Elt F) hadM.view.ty) :
    (hadM.view.loc (c : Thread nD τ) ↦[hadM.view.set]{fullShare} f : sProp 𝕄) = ((c : Thread nD τ).loc cc0_scratch6 ↦{fullShare} f) := by
  rw [(Memref.isWhole_whole cc0_scratch6).set_eq_univ]

theorem hin (c : Dev nD) : iprop(Pipeline.ΦD osem0 spec0 H0 (V m) c ∗ Pipeline.ΦT pre0 (adm m).1 c) ⊢ (rdat m c).Φ 0 := by
  show _ ⊢ Φm m c 0
  rw [Pipeline.ΦD_eq, scopedRest0_eq, ownSems0_eq4, pages_eq, tabs_eq]
  unfold Φm RingsAt Others
  rw [dif_neg (by omega)]
  iintro ⟨⟨⟨H0, H1, ⟨%f2, H2⟩, ⟨%f3, H3⟩, H4, H5, ⟨%f6, H6⟩, ⟨%f, H7⟩⟩, Hp, ⟨Hs0, Hs1, Hs2, Hs3⟩, HK, HV⟩, HT⟩
  ihave HA := (idle_of c xkM (Memref.isWhole_whole _) k5M (Km m c) (cellM ![0, 0] (cell_inb 0 0 (by decide) (by decide))) (cellM ![0, 1] (cell_inb 0 1 (by decide) (by decide)))) $$ [H0 HK Hs0 Hs1]
  · isplitl [H0]; · iexact H0
    isplitl [HK]; · iexact HK
    isplitl [Hs0]; · iexact Hs0
    iexact Hs1
  ihave HB := (idle_of c xvM (Memref.isWhole_whole _) v5M (Vm m c) (cellM ![1, 0] (cell_inb 1 0 (by decide) (by decide))) (cellM ![1, 1] (cell_inb 1 1 (by decide) (by decide)))) $$ [H1 HV Hs2 Hs3]
  · isplitl [H1]; · iexact H1
    isplitl [HV]; · iexact HV
    isplitl [Hs2]; · iexact Hs2
    iexact Hs3
  icases HA with ⟨HA0, HA1⟩
  icases HB with ⟨HB0, HB1⟩
  isplitl [HT]; · iexact HT
  isplitl [HA0 HA1 HB0 HB1]
  · isplitl [HA0 HB0]
    · isplitl [HA0] <;> iassumption
    · isplitl [HA1] <;> iassumption
  isplitl [H7]
  · iexists f
    isplitr
    · ipureintro; exact fun h => absurd rfl h
    · rw [wv_eq]; iexact H7
  isplitl [H6]
  · iexists f6
    isplitr
    · ipureintro; exact fun h => absurd rfl h
    · rw [had_eq]; iexact H6
  isplitl [H2 H3]
  · iexists f2, f3
    isplitr
    · ipureintro; exact fun q hq => absurd hq (Nat.not_lt_zero _)
    · isplitl [H2]
      · rw [cos_eq]; iexact H2
      · rw [sin_eq]; iexact H3
  isplitl [H4 H5]
  · isplitl [H4] <;> iassumption
  iexact Hp

theorem hout (c : Dev nD) : (rdat m c).Φ (Fin.last (cfgA m).N) ⊢ Pipeline.ΦD osem0 spec0 H0 (V m) c := by
  show Φm m c 20 ⊢ _
  rw [Pipeline.ΦD_eq, scopedRest0_eq, ownSems0_eq4, pages_eq]
  unfold Φm RingsAt Others
  rw [dif_neg (by omega), idleKV_congr c (Km m c) (Vm m c) 20 0 rfl, idleKV_congr c (Km m c) (Vm m c) (20 + 1) 1 rfl]
  iintro ⟨HT, ⟨⟨HA0, HB0⟩, HA1, HB1⟩, ⟨%f, %hf, H7⟩, ⟨%f6, %hf6, H6⟩, ⟨%f2, %f3, %hf2, H2, H3⟩, ⟨H4, H5⟩, Hp⟩
  ihave HA := (idle_to c xkM (Memref.isWhole_whole _) k5M (Km m c) (cellM ![0, 0] (cell_inb 0 0 (by decide) (by decide))) (cellM ![0, 1] (cell_inb 0 1 (by decide) (by decide)))) $$ [HA0 HA1]
  · isplitl [HA0] <;> iassumption
  ihave HB := (idle_to c xvM (Memref.isWhole_whole _) v5M (Vm m c) (cellM ![1, 0] (cell_inb 1 0 (by decide) (by decide))) (cellM ![1, 1] (cell_inb 1 1 (by decide) (by decide)))) $$ [HB0 HB1]
  · isplitl [HB0] <;> iassumption
  icases HA with ⟨H0, HK, Hs0, Hs1⟩
  icases HB with ⟨H1, HV, Hs2, Hs3⟩
  iclear HT
  isplitl [H0 H1 H2 H3 H4 H5 H6 H7]
  · isplitl [H0]; · iexact H0
    isplitl [H1]; · iexact H1
    isplitl [H2]; · iexists f2; rw [← cos_eq]; iexact H2
    isplitl [H3]; · iexists f3; rw [← sin_eq]; iexact H3
    isplitl [H4]; · iexact H4
    isplitl [H5]; · iexact H5
    isplitl [H6]; · iexists f6; rw [← had_eq]; iexact H6
    iexists f
    rw [← wv_eq]; iexact H7
  isplitl [Hp]; · iexact Hp
  isplitl [Hs0 Hs1 Hs2 Hs3]
  · isplitl [Hs0]; · iexact Hs0
    isplitl [Hs1]; · iexact Hs1
    isplitl [Hs2]; · iexact Hs2
    iexact Hs3
  isplitl [HK] <;> iassumption

theorem run_main : θ_run defs (onTc (τ := τ) (main (F := F))) (s₀ m ρ) (fun r => Pipeline.RDat.FramePost (cfgA m) (rdat m) (V m) r ∧ r.2.sem = fun _ => 0) :=
  Pipeline.RDat.θ_run_frameP_dma (Q' := _) pcfgs (fun _ => adm m) (0 : Fin 1) launch0 osem0 defs₀ Variants.none (rdat m) ownSemFacts0 H0 H0_sub m ρ main
    (hbody := body_obligation m) (hshare := fun c w => by unfold Pipeline.RDat.share; split <;> rfl)
    (howed := fun _ _ => rfl) (V := V m) (hmain := hmain m Variants.none) (hA := fun _ _ => rfl) (hpf := V_pre m) (hin := hin m) (hout := hout m)

/-- What @main writes before the region, in order. -/
abbrev hostRefs : List (Ref sig .tc) := [main_v0, main_cst, main_v1, main_v2, main_v3, main_cst_0, main_v4, main_v5, main_cst_1, main_v6, main_v7, main_v8, main_v9, main_v10, main_v11, main_v12, main_v13]
theorem V_of_ne (c : Dev nD) (r : Ref sig .tc) (h : r ∉ hostRefs) : V m c r = m ((c : Thread nD τ).loc r) :=
  StableHlo.after_of_writes_sub hostOps0 _ (StableHlo.forall_writes_sub_of_map rfl) h

theorem rest_of (r : Ref sig .tc) (h : r ∈ Pipeline.restRefs sig spec0) {x : PUnit × MemSt nD τ sig (Elt F)} (hx : Pipeline.RDat.FramePost (cfgA m) (rdat m) (V m) x) (c : Dev nD) :
    x.2.mem ((c : Thread nD τ).loc r) = V m c r := (hx c).2 r h

/-- The run ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(rest_of m main_arg0 (by decide) h.1 c).trans (V_of_ne m c _ (by decide)),
      (rest_of m main_arg1 (by decide) h.1 c).trans (V_of_ne m c _ (by decide)),
      (Pipeline.RDat.FramePost.arr_in h.1 c 1 rfl).trans (V_of_ne m c main_arg2 (by decide)),
      (Pipeline.RDat.FramePost.arr_in h.1 c 2 rfl).trans (V_of_ne m c main_arg3 (by decide)),
      (rest_of m main_arg4 (by decide) h.1 c).trans (V_of_ne m c _ (by decide)),
      (rest_of m main_arg5 (by decide) h.1 c).trans (V_of_ne m c _ (by decide))⟩, h.2⟩) (run_main m ρ)

end Cert.Kernel.Hand

end
-- ==== Proof.TripVal.lean ====
module

public import proofs.«01_k».proof.Proof.Body

@[expose] public section

set_option maxRecDepth 16384
set_option maxHeartbeats 4000000

noncomputable section

namespace Cert.KernelIdeal.Hand

open Cert.KernelIdeal Cert.KernelIdeal.Gen
open Idealize.ShloMosaic

variable {F : FTy → Type} [FloatOps F]

/-! # What one trip writes, as functions of what it reads -/

theorem yT_slices : ∀ (L q : Fin 2) (n : Fin 8), S128x256.Slices ![8 * (8 * q.val + n.val), 128 * L.val] S8x128 := by decide
/-- Channels `64q + 8s + n`, `s` the sublane, of the 128 tokens of half `L`. -/
def yT (R : FVec F S128x256 .f32) (L q : Fin 2) (n : Fin 8) : FVec F S8x128 .f32 :=
  extractStridedSlice S8x128 ![8 * (8 * q.val + n.val), 128 * L.val] R (yT_slices L q n)
/-- The largest magnitude along `n`. -/
def mT (R : FVec F S128x256 .f32) (L q : Fin 2) : FVec F S8x128 .f32 :=
  maximumf (maximumf (maximumf (maximumf (maximumf (maximumf (maximumf (absf (yT R L q 0)) (absf (yT R L q 1))) (absf (yT R L q 2))) (absf (yT R L q 3)))
    (absf (yT R L q 4))) (absf (yT R L q 5))) (absf (yT R L q 6))) (absf (yT R L q 7))
def pT (v : IVec S8x128 32) (m0 m1 : FVec F S8x128 .f32) : FVec F S8x128 .f32 :=
  select (cmpi .eq (andi v (broadcast S8x128 1#32)) (broadcast S8x128 1#32))
    (maximumf m1 (dynamicRotate 0 1#32 none m1 rotates_S8x128_d0)) (maximumf m0 (dynamicRotate 0 7#32 none m0 rotates_S8x128_d0))
def uT (v : IVec S8x128 32) (p0 p1 : FVec F S8x128 .f32) : FVec F S8x128 .f32 :=
  select (cmpi .eq (andi v (broadcast S8x128 2#32)) (broadcast S8x128 2#32))
    (maximumf p1 (dynamicRotate 0 2#32 none p1 rotates_S8x128_d0)) (maximumf p0 (dynamicRotate 0 6#32 none p0 rotates_S8x128_d0))
def scaleOfU (u : FVec F S8x128 .f32) : FVec F S8x128 .f32 :=
  extf .f32 (truncf .bf16 (select (cmpf .ogt (mulf u (broadcast S8x128 (Scalar.ofBits .f32 0x3DB504F3#32))) (broadcast S8x128 (Scalar.ofBits .f32 0x00000000#32)))
    (divf (mulf u (broadcast S8x128 (Scalar.ofBits .f32 0x3DB504F3#32))) (broadcast S8x128 (Scalar.ofBits .f32 0x40E00000#32)))
    (broadcast S8x128 (Scalar.ofBits .f32 0x3F800000#32)))) bitsLt_bf16_f32
/-- The scales: sublane `4g + k` holds group `2(k%2) + g` of the tokens of half `k/2`. -/
def scaleT (v : IVec S8x128 32) (R : FVec F S128x256 .f32) : FVec F S8x128 .f32 :=
  scaleOfU (uT v (pT v (mT R 0 0) (mT R 0 1)) (pT v (mT R 1 0) (mT R 1 1)))
def invT (s : FVec F S8x128 .f32) : FVec F S8x128 .f32 := divf (broadcast S8x128 (Scalar.ofBits .f32 0x3DB504F3#32)) s

theorem row_slices : ∀ k : Fin 8, S8x128.Slices ![k.val, 0] S1x128 := by decide
def rowT (s : FVec F S8x128 .f32) (k : Fin 8) : FVec F S8x128 .f32 :=
  broadcastTo S8x128 (shapeCast S1x128 (extractStridedSlice S1x128 ![k.val, 0] s (row_slices k)) shapeCasts_S1x128_S1x128) broadcasts_S1x128_S8x128
def ibT (v : IVec S8x128 32) (s : FVec F S8x128 .f32) (k k' : Fin 8) : FVec F S8x128 .f32 :=
  select (cmpi .slt v (broadcast S8x128 4#32)) (rowT (invT s) k) (rowT (invT s) k')
def xiT (y ib : FVec F S8x128 .f32) : IVec S8x128 32 :=
  fptosi 32 (roundeven (minimumf (maximumf (mulf y ib) (broadcast S8x128 (Scalar.ofBits .f32 0xC0E00000#32))) (broadcast S8x128 (Scalar.ofBits .f32 0x40E00000#32))))
def wordOf8 (x : Fin 8 → IVec S8x128 32) : IVec S8x128 32 :=
  xori (addi (addi (addi (addi (addi (addi (addi (addi (x 0) (shli (x 1) (broadcast S8x128 4#32))) (shli (x 2) (broadcast S8x128 8#32))) (shli (x 3) (broadcast S8x128 12#32)))
    (shli (x 4) (broadcast S8x128 16#32))) (shli (x 5) (broadcast S8x128 20#32))) (shli (x 6) (broadcast S8x128 24#32))) (shli (x 7) (broadcast S8x128 28#32)))
    (broadcast S8x128 2290649224#32)) (broadcast S8x128 2290649224#32)
/-- The packed codes of half `L`, channels `64q` up. -/
def wordT (v : IVec S8x128 32) (R : FVec F S128x256 .f32) (L q : Fin 2) : IVec S8x128 32 :=
  wordOf8 (fun n => xiT (yT R L q n) (ibT v (scaleT v R) ⟨2 * L.val + q.val, by omega⟩ ⟨2 * L.val + q.val + 4, by omega⟩))
def codeT (w : IVec S8x128 32) : IVec S1x1x32x128 8 :=
  shapeCast S1x1x32x128 (bitcast S32x128 8 w bitcasts_S8x128_w32_S32x128_w8) shapeCasts_S32x128_S1x1x32x128
theorem two_slices : ∀ L : Fin 2, S8x128.Slices ![2 * L.val, 0] S2x128 := by decide
def scaleOutT (s : FVec F S8x128 .f32) (L : Fin 2) : FVec F S1x1x4x128 .bf16 :=
  shapeCast S1x1x4x128 (interleaveRows S4x128 (truncf .bf16 (extractStridedSlice S2x128 ![2 * L.val, 0] s (two_slices L)))
    (truncf .bf16 (extractStridedSlice S2x128 ![2 * L.val, 0] (dynamicRotate 0 4#32 none s rotates_S8x128_d0) (two_slices L))) bitcasts_S4x128_w16_S2x128_w32) shapeCasts_S4x128_S1x1x4x128

/-! ## The tokens of one head, and their rotation -/

/-- The trip's number and its heads', as the kernel computes them. -/
def kI (k : Fin k0_t2_loop.trips) : ℕ := (Scalar.indexCast (Scalar.addi (Scalar.muli (Scf.iv 0#32 1#32 k.val) 1#32) 0#32)).toNat
def hI (k : Fin k0_t2_loop.trips) (e : BitVec 32) : ℕ :=
  (Scalar.indexCast (Scalar.addi (Scalar.muli 2#32 (Scalar.addi (Scalar.muli (Scf.iv 0#32 1#32 k.val) 1#32) 0#32)) e)).toNat
theorem kI_eq : ∀ k : Fin k0_t2_loop.trips, kI k = k.val := by decide
theorem hI_eq : ∀ (k : Fin k0_t2_loop.trips) (e : Fin 2), hI k (BitVec.ofNat 32 e.val) = 2 * k.val + e.val := by decide
theorem slot_lt : ∀ i : grid0.Coords, (Scalar.indexCast (slotW i)).toNat < 2 := by decide

theorem ldOff_inb (i : grid0.Coords) (k : Fin k0_t2_loop.trips) (n : Fin 32) :
    ∀ a, (![(Scalar.indexCast (slotW i)).toNat, 8 * n.val, Nat.mul 2 (kI k), 0] : Fin 4 → ℕ) a + S1x8x2x128.size a ≤ S2x256x24x128.size a := by
  have hk : k.val < 8 := Nat.lt_of_lt_of_le k.isLt k0_t2_abs.2.1
  have h1 := slot_lt i
  have h2 : Nat.mul 2 (kI k) = 2 * k.val := congrArg (2 * ·) (kI_eq k)
  rw [h2]
  intro a; fin_cases a <;> simp [S2x256x24x128, S1x8x2x128] <;> omega
def ldB (M : RingM) (i : grid0.Coords) (X : BufTy.Contents (Elt F) M.view.ty) (k : Fin k0_t2_loop.trips) (e : Fin 2) (n : Fin 32) : FVec F S8x128 .bf16 :=
  shapeCast S8x128 (rowsOfParity e S1x8x1x128
    (View.readAt (Elt F) M.view (Rect.unit (s := S2x256x24x128) ![(Scalar.indexCast (slotW i)).toNat, 8 * n.val, Nat.mul 2 (kI k), 0] S1x8x2x128.size (ldOff_inb i k n)).toLoadRect X)
    bitcasts_S1x8x2x128_w16_S1x8x1x128_w32) shapeCasts_S1x8x1x128_S8x128
def ldT (i : grid0.Coords) (X : BufTy.Contents (Elt F) xvM.view.ty) (k : Fin k0_t2_loop.trips) (e : Fin 2) (n : Fin 32) : FVec F S8x128 .f32 :=
  extf .f32 (ldB xvM i X k e n) bitsLt_bf16_f32
def catT (x : Fin 32 → FVec F S8x128 .f32) : FVec F S256x128 .f32 :=
  concatenate S256x128 0 [⟨S8x128, x 0⟩, ⟨S8x128, x 1⟩, ⟨S8x128, x 2⟩, ⟨S8x128, x 3⟩, ⟨S8x128, x 4⟩, ⟨S8x128, x 5⟩, ⟨S8x128, x 6⟩, ⟨S8x128, x 7⟩, ⟨S8x128, x 8⟩, ⟨S8x128, x 9⟩, ⟨S8x128, x 10⟩, ⟨S8x128, x 11⟩, ⟨S8x128, x 12⟩, ⟨S8x128, x 13⟩, ⟨S8x128, x 14⟩, ⟨S8x128, x 15⟩, ⟨S8x128, x 16⟩, ⟨S8x128, x 17⟩, ⟨S8x128, x 18⟩, ⟨S8x128, x 19⟩, ⟨S8x128, x 20⟩, ⟨S8x128, x 21⟩, ⟨S8x128, x 22⟩, ⟨S8x128, x 23⟩, ⟨S8x128, x 24⟩, ⟨S8x128, x 25⟩, ⟨S8x128, x 26⟩, ⟨S8x128, x 27⟩, ⟨S8x128, x 28⟩, ⟨S8x128, x 29⟩, ⟨S8x128, x 30⟩, ⟨S8x128, x 31⟩]
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0
def tokT (x : Fin 32 → FVec F S8x128 .f32) : FVec F S256x128 .bf16 := truncf .bf16 (catT x) bitsLt_bf16_f32

/-! ## The keys: the rotary turn, the signs, the three parts -/

theorem tab_inb (i : grid0.Coords) (n : Fin 32) : ∀ a, (![(Scalar.indexCast (BitVec.ofNat 32 (i 1).val) : Index).toNat, 8 * n.val, 0] : Fin 3 → ℕ) a + S1x8x128.size a ≤ S4x256x128.size a := by
  have h1 : (Scalar.indexCast (BitVec.ofNat 32 (i 1).val) : Index).toNat < 4 := (by decide : ∀ i : grid0.Coords, (Scalar.indexCast (BitVec.ofNat 32 (i 1).val) : Index).toNat < 4) i
  have h2 := n.isLt
  intro a; fin_cases a <;> simp [S1x8x128, S4x256x128] <;> omega
/-- Eight rows of a rotary table. -/
def tabT (M : Memref sig .tc .vmem S4x256x128 .f32) (i : grid0.Coords) (f : BufTy.Contents (Elt F) M.view.ty) (n : Fin 32) : FVec F S8x128 .f32 :=
  shapeCast S8x128 (View.readAt (Elt F) M.view (Rect.unit (s := S4x256x128) ![(Scalar.indexCast (BitVec.ofNat 32 (i 1).val) : Index).toNat, 8 * n.val, 0] S1x8x128.size (tab_inb i n)).toLoadRect f)
    shapeCasts_S1x8x128_S8x128
theorem sgK_inb (k : Fin k0_t2_loop.trips) (e : Fin 2) : ∀ a, (![hI k (BitVec.ofNat 32 e.val), 0] : Fin 2 → ℕ) a + S1x128.size a ≤ S16x128.size a := by
  have hk : k.val < 8 := Nat.lt_of_lt_of_le k.isLt k0_t2_abs.2.1
  rw [hI_eq]
  intro a; fin_cases a <;> simp [S1x128, S16x128] <;> omega
def sgK (arg7 : Memref sig .tc .vmem S16x128 .f32) (X7 : BufTy.Contents (Elt F) arg7.view.ty) (k : Fin k0_t2_loop.trips) (e : Fin 2) : Vec F S1x128 .f32 :=
  View.readAt (Elt F) arg7.view (Rect.unit (s := S16x128) ![hI k (BitVec.ofNat 32 e.val), 0] S1x128.size (sgK_inb k e)).toLoadRect X7
/-- Eight tokens' turned and signed channels. -/
def turnT (x : FVec F S8x128 .bf16) (co si : FVec F S8x128 .f32) (sg : Vec F S1x128 .f32) : FVec F S8x128 .f32 :=
  mulf (addf (mulf (extf .f32 x bitsLt_bf16_f32) co) (mulf (extf .f32 (dynamicRotate 1 64#32 none x rotates_S8x128_d1) bitsLt_bf16_f32) si)) (broadcastTo S8x128 sg broadcasts_S1x128_S8x128)
def hiT (y : FVec F S256x128 .f32) : FVec F S256x128 .f32 := extf .f32 (truncf .bf16 y bitsLt_bf16_f32) bitsLt_bf16_f32
/-- The signed channels in three parts against the Hadamard rows. -/
def rotK (y : FVec F S256x128 .f32) (h2 : Vec F S128x256 .bf16) (h1 : Vec F S128x128 .bf16) : FVec F S128x256 .f32 :=
  addf (matmul dot_S128x256_S256x256_S128x256_1_1_0_0_n_n none h2
      (concatenate S256x256 1 [⟨S256x128, truncf .bf16 (hiT y) bitsLt_bf16_f32⟩, ⟨S256x128, truncf .bf16 (hiT (subf y (hiT y))) bitsLt_bf16_f32⟩] concatenates_S256x128_S256x128_S256x256_d1) (constant S128x256 .f32 0x00000000#32))
    (matmul dot_S128x128_S256x128_S128x256_1_1_0_0_n_n none h1 (truncf .bf16 (subf (subf y (hiT y)) (hiT (subf y (hiT y)))) bitsLt_bf16_f32) (constant S128x256 .f32 0x00000000#32))
def hT (Hd : BufTy.Contents (Elt F) hadM.view.ty) : Vec F S128x256 .bf16 := View.readAt (Elt F) hadM.view (Rect.unit (s := S128x256) ![0, 0] S128x256.size inb_S128x256_S128x256_0_0).toLoadRect Hd
def hT' (Hd : BufTy.Contents (Elt F) hadM.view.ty) : Vec F S128x128 .bf16 := View.readAt (Elt F) hadM.view (Rect.unit (s := S128x256) ![0, 0] S128x128.size inb_S128x256_S128x128_0_0).toLoadRect Hd
/-- The rotated keys of head `2k + e`, a channel a row. -/
def RK (i : grid0.Coords) (arg7 : Memref sig .tc .vmem S16x128 .f32) (Xk : BufTy.Contents (Elt F) xkM.view.ty) (Co : BufTy.Contents (Elt F) cosM.view.ty) (Si : BufTy.Contents (Elt F) sinM.view.ty)
    (X7 : BufTy.Contents (Elt F) arg7.view.ty) (Hd : BufTy.Contents (Elt F) hadM.view.ty) (k : Fin k0_t2_loop.trips) (e : Fin 2) : FVec F S128x256 .f32 :=
  rotK (catT (fun n => turnT (ldB xkM i Xk k e n) (tabT cosM i Co n) (tabT sinM i Si n) (sgK arg7 X7 k e))) (hT Hd) (hT' Hd)

/-! ## The values' rotation -/

theorem w2_inb (k : Fin k0_t2_loop.trips) (e : Fin 2) : ∀ a, (![hI k (BitVec.ofNat 32 e.val), 0, 0] : Fin 3 → ℕ) a + S1x128x256.size a ≤ S16x128x384.size a := by
  have hk : k.val < 8 := Nat.lt_of_lt_of_le k.isLt k0_t2_abs.2.1
  rw [hI_eq]
  intro a; fin_cases a <;> simp [S1x128x256, S16x128x384] <;> omega
theorem w1_inb (k : Fin k0_t2_loop.trips) (e : Fin 2) : ∀ a, (![hI k (BitVec.ofNat 32 e.val), 0, 256] : Fin 3 → ℕ) a + S1x128x128.size a ≤ S16x128x384.size a := by
  have hk : k.val < 8 := Nat.lt_of_lt_of_le k.isLt k0_t2_abs.2.1
  rw [hI_eq]
  intro a; fin_cases a <;> simp [S1x128x128, S16x128x384] <;> omega
def rotT (v : FVec F S256x128 .bf16) (w2 : Vec F S1x128x256 .bf16) (w1 : Vec F S1x128x128 .bf16) : FVec F S128x256 .f32 :=
  addf (matmul dot_S128x256_S256x256_S128x256_1_1_0_0_n_n none (shapeCast S128x256 w2 shapeCasts_S1x128x256_S128x256)
      (concatenate S256x256 1 [⟨S256x128, v⟩, ⟨S256x128, v⟩] concatenates_S256x128_S256x128_S256x256_d1) (constant S128x256 .f32 0x00000000#32))
    (matmul dot_S128x128_S256x128_S128x256_1_1_0_0_n_n none (shapeCast S128x128 w1 shapeCasts_S1x128x128_S128x128) v (constant S128x256 .f32 0x00000000#32))
def wT (W : BufTy.Contents (Elt F) wvM.view.ty) (k : Fin k0_t2_loop.trips) (e : Fin 2) : Vec F S1x128x256 .bf16 :=
  View.readAt (Elt F) wvM.view (Rect.unit (s := S16x128x384) ![hI k (BitVec.ofNat 32 e.val), 0, 0] S1x128x256.size (w2_inb k e)).toLoadRect W
def wT' (W : BufTy.Contents (Elt F) wvM.view.ty) (k : Fin k0_t2_loop.trips) (e : Fin 2) : Vec F S1x128x128 .bf16 :=
  View.readAt (Elt F) wvM.view (Rect.unit (s := S16x128x384) ![hI k (BitVec.ofNat 32 e.val), 0, 256] S1x128x128.size (w1_inb k e)).toLoadRect W
/-- The rotated values of head `2k + e`, a channel a row. -/
def RT (i : grid0.Coords) (X : BufTy.Contents (Elt F) xvM.view.ty) (W : BufTy.Contents (Elt F) wvM.view.ty) (k : Fin k0_t2_loop.trips) (e : Fin 2) : FVec F S128x256 .f32 :=
  rotT (tokT (ldT i X k e)) (wT W k e) (wT' W k e)

/-! ## The pieces of one trip -/

theorem cOff_inb (k : Fin k0_t2_loop.trips) (e L q : Fin 2) : ∀ a, (![L.val, hI k (BitVec.ofNat 32 e.val), 32 * q.val, 0] : Fin 4 → ℕ) a + S1x1x32x128.size a ≤ S2x16x64x128.size a := by
  have hk : k.val < 8 := Nat.lt_of_lt_of_le k.isLt k0_t2_abs.2.1
  rw [hI_eq]
  intro a; fin_cases a <;> simp [S1x1x32x128, S2x16x64x128] <;> omega
theorem sOff_inb (k : Fin k0_t2_loop.trips) (e L : Fin 2) : ∀ a, (![L.val, hI k (BitVec.ofNat 32 e.val), 0, 0] : Fin 4 → ℕ) a + S1x1x4x128.size a ≤ S2x16x4x128.size a := by
  have hk : k.val < 8 := Nat.lt_of_lt_of_le k.isLt k0_t2_abs.2.1
  rw [hI_eq]
  intro a; fin_cases a <;> simp [S1x1x4x128, S2x16x4x128] <;> omega
def codeP (v : IVec S8x128 32) (R : FVec F S128x256 .f32) (k : Fin k0_t2_loop.trips) (e L q : Fin 2) : View.Piece (Elt F) S2x16x64x128 .i8 :=
  ⟨Rect.unit (s := S2x16x64x128) ![L.val, hI k (BitVec.ofNat 32 e.val), 32 * q.val, 0] S1x1x32x128.size (cOff_inb k e L q), codeT (wordT v R L q)⟩
def scaleP (v : IVec S8x128 32) (R : FVec F S128x256 .f32) (k : Fin k0_t2_loop.trips) (e L : Fin 2) : View.Piece (Elt F) S2x16x4x128 .bf16 :=
  ⟨Rect.unit (s := S2x16x4x128) ![L.val, hI k (BitVec.ofNat 32 e.val), 0, 0] S1x1x4x128.size (sOff_inb k e L), scaleOutT (scaleT v R) L⟩

section
variable (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)
    (v161 : BitVec 32) (v : IVec S8x128 32) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (W : BufTy.Contents (Elt F) wvM.view.ty) (k : Fin k0_t2_loop.trips)
theorem trip_codesK :
    (trip (F := F) c i arg6 harg6 arg7 harg7 arg8 harg8 arg9 harg9 arg10 harg10 arg11 harg11 arg12 harg12 v161 v Xk X Co Si X7 Hd W k).1
      = [codeP v (RK i arg7 Xk Co Si X7 Hd k 1) k 1 1 1, codeP v (RK i arg7 Xk Co Si X7 Hd k 1) k 1 1 0, codeP v (RK i arg7 Xk Co Si X7 Hd k 1) k 1 0 1, codeP v (RK i arg7 Xk Co Si X7 Hd k 1) k 1 0 0, codeP v (RK i arg7 Xk Co Si X7 Hd k 0) k 0 1 1, codeP v (RK i arg7 Xk Co Si X7 Hd k 0) k 0 1 0, codeP v (RK i arg7 Xk Co Si X7 Hd k 0) k 0 0 1, codeP v (RK i arg7 Xk Co Si X7 Hd k 0) k 0 0 0] := by
  unfold trip
  rfl
theorem trip_scalesK :
    (trip (F := F) c i arg6 harg6 arg7 harg7 arg8 harg8 arg9 harg9 arg10 harg10 arg11 harg11 arg12 harg12 v161 v Xk X Co Si X7 Hd W k).2.1
      = [scaleP v (RK i arg7 Xk Co Si X7 Hd k 1) k 1 1, scaleP v (RK i arg7 Xk Co Si X7 Hd k 1) k 1 0, scaleP v (RK i arg7 Xk Co Si X7 Hd k 0) k 0 1, scaleP v (RK i arg7 Xk Co Si X7 Hd k 0) k 0 0] := by
  unfold trip
  rfl
theorem trip_codes :
    (trip (F := F) c i arg6 harg6 arg7 harg7 arg8 harg8 arg9 harg9 arg10 harg10 arg11 harg11 arg12 harg12 v161 v Xk X Co Si X7 Hd W k).2.2.1
      = [codeP v (RT i X W k 1) k 1 1 1, codeP v (RT i X W k 1) k 1 1 0, codeP v (RT i X W k 1) k 1 0 1, codeP v (RT i X W k 1) k 1 0 0, codeP v (RT i X W k 0) k 0 1 1, codeP v (RT i X W k 0) k 0 1 0, codeP v (RT i X W k 0) k 0 0 1, codeP v (RT i X W k 0) k 0 0 0] := by
  unfold trip
  rfl
theorem trip_scales :
    (trip (F := F) c i arg6 harg6 arg7 harg7 arg8 harg8 arg9 harg9 arg10 harg10 arg11 harg11 arg12 harg12 v161 v Xk X Co Si X7 Hd W k).2.2.2.1
      = [scaleP v (RT i X W k 1) k 1 1, scaleP v (RT i X W k 1) k 1 0, scaleP v (RT i X W k 0) k 0 1, scaleP v (RT i X W k 0) k 0 0] := by
  unfold trip
  rfl
end

/-! ## The sign tables -/

theorem vOff_inb (k : Fin k0_t1_loop.trips) : ∀ a, (![(Scalar.indexCast (Scf.iv 0#32 1#32 k.val)).toNat, 0] : Fin 2 → ℕ) a + S1x128.size a ≤ S16x128.size a := by
  have h : (Scalar.indexCast (Scf.iv 0#32 1#32 k.val)).toNat = k.val := (by decide : ∀ k : Fin k0_t1_loop.trips, (Scalar.indexCast (Scf.iv 0#32 1#32 k.val)).toNat = k.val) k
  have hk : k.val < 16 := Nat.lt_of_lt_of_le k.isLt k0_t1_abs.2.1
  rw [h]
  intro a; fin_cases a <;> simp [S1x128, S16x128] <;> omega
def jI (k : Fin k0_t1_loop.trips) : ℕ := (Scalar.indexCast (Scf.iv 0#32 1#32 k.val)).toNat
theorem jI_eq : ∀ k : Fin k0_t1_loop.trips, jI k = k.val := by decide
theorem tOff_inb (k : Fin k0_t1_loop.trips) (s : Fin 3) : ∀ a, (![jI k, 0, 128 * s.val] : Fin 3 → ℕ) a + S1x128x128.size a ≤ S16x128x384.size a := by
  have hk : k.val < 16 := Nat.lt_of_lt_of_le k.isLt k0_t1_abs.2.1
  rw [jI_eq]
  intro a; fin_cases a <;> simp [S1x128x128, S16x128x384] <;> omega
/-- The signs of one head, and its three tables. -/
def sgT (arg8 : Memref sig .tc .vmem S16x128 .f32) (X6 : BufTy.Contents (Elt F) arg8.view.ty) (k : Fin k0_t1_loop.trips) : Vec F S1x128 .f32 :=
  View.readAt (Elt F) arg8.view (Rect.unit (s := S16x128) ![jI k, 0] S1x128.size (vOff_inb k)).toLoadRect X6
def tabP (arg8 : Memref sig .tc .vmem S16x128 .f32) (X6 : BufTy.Contents (Elt F) arg8.view.ty) (k : Fin k0_t1_loop.trips) (s : Fin 3) (w : Vec F S1x128x128 .bf16) :
    View.Piece (Elt F) S16x128x384 .bf16 :=
  ⟨Rect.unit (s := S16x128x384) ![jI k, 0, 128 * s.val] S1x128x128.size (tOff_inb k s), w⟩
theorem trip1_tabs (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)
    (h3 : k0_cond5 i = 1#1) (X6 : BufTy.Contents (Elt F) arg8.view.ty) (k : Fin k0_t1_loop.trips) :
    (trip1 (F := F) c i arg6 harg6 arg7 harg7 arg8 harg8 arg9 harg9 arg10 harg10 arg11 harg11 arg12 harg12 h3 X6 k).1
      = [tabP arg8 X6 k 2 (k0_pay620 (sgT arg8 X6 k)), tabP arg8 X6 k 1 (k0_pay619 (sgT arg8 X6 k)), tabP arg8 X6 k 0 (k0_pay618 (sgT arg8 X6 k))] := by
  unfold trip1
  rfl

/-! ## The pieces of all trips -/

section
variable (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)

theorem mem_pb1 (h3 : k0_cond5 i = 1#1) (X6 : BufTy.Contents (Elt F) arg8.view.ty) (p : View.Piece (Elt F) S16x128x384 .bf16) :
    ∀ n : ℕ, n ≤ k0_t1_loop.trips → (p ∈ pb1 (F := F) c i arg6 harg6 arg7 harg7 arg8 harg8 arg9 harg9 arg10 harg10 arg11 harg11 arg12 harg12 h3 X6 n ↔
      ∃ k : Fin k0_t1_loop.trips, k.val < n ∧ p ∈ (trip1 (F := F) c i arg6 harg6 arg7 harg7 arg8 harg8 arg9 harg9 arg10 harg10 arg11 harg11 arg12 harg12 h3 X6 k).1)
  | 0, _ => by
    refine ⟨fun h => absurd h (by rw [pb1.eq_1]; exact List.not_mem_nil), fun ⟨k, h, _⟩ => absurd h (Nat.not_lt_zero _)⟩
  | n + 1, hn => by
    have e := pb1_succ (F := F) c i arg6 harg6 arg7 harg7 arg8 harg8 arg9 harg9 arg10 harg10 arg11 harg11 arg12 harg12 h3 X6 ⟨n, hn⟩
    have e' : pb1 (F := F) c i arg6 harg6 arg7 harg7 arg8 harg8 arg9 harg9 arg10 harg10 arg11 harg11 arg12 harg12 h3 X6 (n + 1) = _ := e
    rw [e', List.mem_append, mem_pb1 h3 X6 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.1 hk with hk | hk
      · exact Or.inr ⟨k, hk, h⟩
      · left
        have : k = ⟨n, hn⟩ := Fin.ext hk
        rw [← this]; exact h

variable (v161 : BitVec 32) (v : IVec S8x128 32) (Xk : BufTy.Contents (Elt F) xkM.view.ty) (X : BufTy.Contents (Elt F) xvM.view.ty) (Co : BufTy.Contents (Elt F) cosM.view.ty) (Si : BufTy.Contents (Elt F) sinM.view.ty)
    (X7 : BufTy.Contents (Elt F) arg7.view.ty) (Hd : BufTy.Contents (Elt F) hadM.view.ty) (W : BufTy.Contents (Elt F) wvM.view.ty)

theorem mem_pb2_1 (p : View.Piece (Elt F) S2x16x64x128 .i8) :
    ∀ n : ℕ, n ≤ k0_t2_loop.trips → (p ∈ (pb2 (F := F) c i arg6 harg6 arg7 harg7 arg8 harg8 arg9 harg9 arg10 harg10 arg11 harg11 arg12 harg12 v161 v Xk X Co Si X7 Hd W n).1 ↔
      ∃ k : Fin k0_t2_loop.trips, k.val < n ∧ p ∈ (trip (F := F) c i arg6 harg6 arg7 harg7 arg8 harg8 arg9 harg9 arg10 harg10 arg11 harg11 arg12 harg12 v161 v Xk X Co Si X7 Hd W k).1)
  | 0, _ => by
    refine ⟨fun h => absurd h (by rw [pb2.eq_1]; exact List.not_mem_nil), fun ⟨k, h, _⟩ => absurd h (Nat.not_lt_zero _)⟩
  | n + 1, hn => by
    have e := pb2_succ (F := F) c i arg6 harg6 arg7 harg7 arg8 harg8 arg9 harg9 arg10 harg10 arg11 harg11 arg12 harg12 v161 v Xk X Co Si X7 Hd W ⟨n, hn⟩
    have e' : pb2 (F := F) c i arg6 harg6 arg7 harg7 arg8 harg8 arg9 harg9 arg10 harg10 arg11 harg11 arg12 harg12 v161 v Xk X Co Si X7 Hd W (n + 1) = _ := e
    rw [e', List.mem_append, mem_pb2_1 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.1 hk with hk | hk
      · exact Or.inr ⟨k, hk, h⟩
      · left
        have : k = ⟨n, hn⟩ := Fin.ext hk
        rw [← this]; exact h

theorem mem_pb2_2 (p : View.Piece (Elt F) S2x16x4x128 .bf16) :
    ∀ n : ℕ, n ≤ k0_t2_loop.trips → (p ∈ (pb2 (F := F) c i arg6 harg6 arg7 harg7 arg8 harg8 arg9 harg9 arg10 harg10 arg11 harg11 arg12 harg12 v161 v Xk X Co Si X7 Hd W n).2.1 ↔
      ∃ k : Fin k0_t2_loop.trips, k.val < n ∧ p ∈ (trip (F := F) c i arg6 harg6 arg7 harg7 arg8 harg8 arg9 harg9 arg10 harg10 arg11 harg11 arg12 harg12 v161 v Xk X Co Si X7 Hd W k).2.1)
  | 0, _ => by
    refine ⟨fun h => absurd h (by rw [pb2.eq_1]; exact List.not_mem_nil), fun ⟨k, h, _⟩ => absurd h (Nat.not_lt_zero _)⟩
  | n + 1, hn => by
    have e := pb2_succ (F := F) c i arg6 harg6 arg7 harg7 arg8 harg8 arg9 harg9 arg10 harg10 arg11 harg11 arg12 harg12 v161 v Xk X Co Si X7 Hd W ⟨n, hn⟩
    have e' : pb2 (F := F) c i arg6 harg6 arg7 harg7 arg8 harg8 arg9 harg9 arg10 harg10 arg11 harg11 arg12 harg12 v161 v Xk X Co Si X7 Hd W (n + 1) = _ := e
    rw [e', List.mem_append, mem_pb2_2 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.1 hk with hk | hk
      · exact Or.inr ⟨k, hk, h⟩
      · left
        have : k = ⟨n, hn⟩ := Fin.ext hk
        rw [← this]; exact h

theorem mem_pb2_3 (p : View.Piece (Elt F) S2x16x64x128 .i8) :
    ∀ n : ℕ, n ≤ k0_t2_loop.trips → (p ∈ (pb2 (F := F) c i arg6 harg6 arg7 harg7 arg8 harg8 arg9 harg9 arg10 harg10 arg11 harg11 arg12 harg12 v161 v Xk X Co Si X7 Hd W n).2.2.1 ↔
      ∃ k : Fin k0_t2_loop.trips, k.val < n ∧ p ∈ (trip (F := F) c i arg6 harg6 arg7 harg7 arg8 harg8 arg9 harg9 arg10 harg10 arg11 harg11 arg12 harg12 v161 v Xk X Co Si X7 Hd W k).2.2.1)
  | 0, _ => by
    refine ⟨fun h => absurd h (by rw [pb2.eq_1]; exact List.not_mem_nil), fun ⟨k, h, _⟩ => absurd h (Nat.not_lt_zero _)⟩
  | n + 1, hn => by
    have e := pb2_succ (F := F) c i arg6 harg6 arg7 harg7 arg8 harg8 arg9 harg9 arg10 harg10 arg11 harg11 arg12 harg12 v161 v Xk X Co Si X7 Hd W ⟨n, hn⟩
    have e' : pb2 (F := F) c i arg6 harg6 arg7 harg7 arg8 harg8 arg9 harg9 arg10 harg10 arg11 harg11 arg12 harg12 v161 v Xk X Co Si X7 Hd W (n + 1) = _ := e
    rw [e', List.mem_append, mem_pb2_3 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.1 hk with hk | hk
      · exact Or.inr ⟨k, hk, h⟩
      · left
        have : k = ⟨n, hn⟩ := Fin.ext hk
        rw [← this]; exact h

theorem mem_pb2_4 (p : View.Piece (Elt F) S2x16x4x128 .bf16) :
    ∀ n : ℕ, n ≤ k0_t2_loop.trips → (p ∈ (pb2 (F := F) c i arg6 harg6 arg7 harg7 arg8 harg8 arg9 harg9 arg10 harg10 arg11 harg11 arg12 harg12 v161 v Xk X Co Si X7 Hd W n).2.2.2 ↔
      ∃ k : Fin k0_t2_loop.trips, k.val < n ∧ p ∈ (trip (F := F) c i arg6 harg6 arg7 harg7 arg8 harg8 arg9 harg9 arg10 harg10 arg11 harg11 arg12 harg12 v161 v Xk X Co Si X7 Hd W k).2.2.2.1)
  | 0, _ => by
    refine ⟨fun h => absurd h (by rw [pb2.eq_1]; exact List.not_mem_nil), fun ⟨k, h, _⟩ => absurd h (Nat.not_lt_zero _)⟩
  | n + 1, hn => by
    have e := pb2_succ (F := F) c i arg6 harg6 arg7 harg7 arg8 harg8 arg9 harg9 arg10 harg10 arg11 harg11 arg12 harg12 v161 v Xk X Co Si X7 Hd W ⟨n, hn⟩
    have e' : pb2 (F := F) c i arg6 harg6 arg7 harg7 arg8 harg8 arg9 harg9 arg10 harg10 arg11 harg11 arg12 harg12 v161 v Xk X Co Si X7 Hd W (n + 1) = _ := e
    rw [e', List.mem_append, mem_pb2_4 p n (Nat.le_of_succ_le hn)]
    constructor
    · rintro (h | ⟨k, hk, h⟩)
      · exact ⟨⟨n, hn⟩, Nat.lt_succ_self _, h⟩
      · exact ⟨k, Nat.lt_succ_of_lt hk, h⟩
    · rintro ⟨k, hk, h⟩
      rcases Nat.lt_succ_iff_lt_or_eq.1 hk with hk | hk
      · exact Or.inr ⟨k, hk, h⟩
      · left
        have : k = ⟨n, hn⟩ := Fin.ext hk
        rw [← this]; exact h

end

end Cert.KernelIdeal.Hand

end
-- ==== Proof.Math.lean ====
module

public import Idealize.ShloMosaic.PureOps.Ideal
public import Idealize.ShloMosaic.Lib.IdealHost

@[expose] public section

set_option maxRecDepth 16384

noncomputable section

namespace Cert.Val

open Idealize.ShloMosaic

/-! # The quantised rotation of one token's head, over the extended reals -/

def nrm : EReal := Ideal.ofBits .f32 0x3DB504F3#32
def rnd : EReal → EReal := Ideal.liftRound Ideal.roundHalfEven
/-- The largest magnitude of group `g`. -/
def mag (r : Fin 128 → EReal) (g : Fin 4) : EReal :=
  Finset.univ.sup fun j : Fin 32 => max (r ⟨32 * g.val + j.val, by omega⟩) (-(r ⟨32 * g.val + j.val, by omega⟩))
def scaleOf (M : EReal) : EReal := if 0 < M * nrm then Ideal.div (M * nrm) ((7 : ℝ) : EReal) else 1
def scaleS (r : Fin 128 → EReal) (g : Fin 4) : EReal := scaleOf (mag r g)
def clip (x : EReal) : EReal := rnd (min (max x ((-7 : ℝ) : EReal)) ((7 : ℝ) : EReal))
def codeS (r : Fin 128 → EReal) (c : Fin 128) : BitVec 32 :=
  Ideal.fptosi 32 (clip (r c * Ideal.div nrm (scaleS r ⟨c.val / 32, by omega⟩)))
/-- Two codes in a byte, the even channel's low. -/
def pack (lo hi : BitVec 32) : BitVec 8 := ((lo &&& 15#32) ||| ((hi &&& 15#32) <<< 4)).setWidth 8
def byteS (r : Fin 128 → EReal) (b : Fin 64) : BitVec 8 :=
  pack (codeS r ⟨2 * b.val, by omega⟩) (codeS r ⟨2 * b.val + 1, by omega⟩)

/-! ## Constants -/

theorem nrm_real : ∃ q : ℝ, 0 < q ∧ nrm = (q : EReal) := by
  refine ⟨_, ?_, by simp [nrm, Ideal.ofBits, Ideal.ieee, -EReal.coe_mul]; rfl⟩
  norm_num
theorem nrm_pos : 0 < nrm := by
  obtain ⟨q, h, e⟩ := nrm_real
  rw [e]; exact_mod_cast h
theorem seven_f32 : Ideal.ofBits .f32 0x40E00000#32 = ((7 : ℝ) : EReal) := by
  simp [Ideal.ofBits, Ideal.ieee, -EReal.coe_mul]; norm_num
theorem neg_seven_f32 : Ideal.ofBits .f32 0xC0E00000#32 = ((-7 : ℝ) : EReal) := by
  simp [Ideal.ofBits, Ideal.ieee, -EReal.coe_mul, -EReal.coe_neg]; norm_num
theorem zero_f32 : Ideal.ofBits .f32 0x00000000#32 = 0 := by
  simp [Ideal.ofBits, Ideal.ieee, -EReal.coe_mul]
theorem bot_f32 : Ideal.ofBits .f32 0xFF800000#32 = ⊥ := by
  simp [Ideal.ofBits, Ideal.ieee, -EReal.coe_mul]

/-! ## Rounding and the clip -/

theorem rhe_le {r : ℝ} {n : ℤ} (h : r ≤ n) : Ideal.roundHalfEven r ≤ n := by
  unfold Ideal.roundHalfEven
  have hf : ⌊r⌋ ≤ n := by have := Int.floor_le r; exact_mod_cast this.trans h
  by_cases e : ⌊r⌋ = n
  · have hr : r = n := le_antisymm h (by rw [← e]; exact Int.floor_le r)
    subst hr
    simp
  · have hlt : ⌊r⌋ + 1 ≤ n := by omega
    dsimp only
    split
    · exact hf
    · split
      · exact hlt
      · split <;> omega
theorem le_rhe {r : ℝ} {n : ℤ} (h : (n : ℝ) ≤ r) : n ≤ Ideal.roundHalfEven r := by
  unfold Ideal.roundHalfEven
  have hf : n ≤ ⌊r⌋ := Int.le_floor.2 h
  dsimp only
  split
  · exact hf
  · split
    · omega
    · split <;> omega

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The clip of the rounded is the rounded of the clip. -/
theorem clip_eq (x : EReal) : min ((7 : ℝ) : EReal) (max ((-7 : ℝ) : EReal) (rnd x)) = clip x := by
  unfold clip rnd
  induction x with
  | bot =>
    rw [Ideal.liftRound_bot, max_eq_left bot_le, max_eq_right bot_le, min_eq_right (by exact_mod_cast (by norm_num : (-7:ℝ) ≤ 7)),
      min_eq_left (by exact_mod_cast (by norm_num : (-7:ℝ) ≤ 7)), Ideal.liftRound_coe]
    have h : Ideal.roundHalfEven (-7) = -7 := le_antisymm (rhe_le (by norm_num)) (le_rhe (by norm_num))
    rw [h]; norm_num
  | top =>
    rw [Ideal.liftRound_top, max_eq_right le_top, max_eq_left le_top, min_eq_left le_top, min_eq_right le_top, Ideal.liftRound_coe]
    have h : Ideal.roundHalfEven 7 = 7 := le_antisymm (rhe_le (by norm_num)) (le_rhe (by norm_num))
    rw [h]; norm_num
  | coe r =>
    rw [Ideal.liftRound_coe, ← coe_max, ← coe_min, ← coe_max, ← coe_min, Ideal.liftRound_coe]
    congr 1
    rcases le_total r (-7) with h | h
    · have h1 : Ideal.roundHalfEven r ≤ -7 := rhe_le (by exact_mod_cast h)
      have h1' : ((Ideal.roundHalfEven r : ℤ) : ℝ) ≤ -7 := by exact_mod_cast h1
      have h2 : Ideal.roundHalfEven (-7) = -7 := le_antisymm (rhe_le (by norm_num)) (le_rhe (by norm_num))
      rw [max_eq_left h1', max_eq_right h, min_eq_right (by norm_num), min_eq_left (by norm_num), h2]; norm_num
    · have h1 : -7 ≤ Ideal.roundHalfEven r := le_rhe (by exact_mod_cast h)
      have h1' : (-7 : ℝ) ≤ ((Ideal.roundHalfEven r : ℤ) : ℝ) := by exact_mod_cast h1
      rw [max_eq_right h1', max_eq_left h]
      rcases le_total r 7 with g | g
      · have g1 : Ideal.roundHalfEven r ≤ 7 := rhe_le (by exact_mod_cast g)
        have g1' : ((Ideal.roundHalfEven r : ℤ) : ℝ) ≤ 7 := by exact_mod_cast g1
        rw [min_eq_right g1', min_eq_left g]
      · have g1 : 7 ≤ Ideal.roundHalfEven r := le_rhe (by exact_mod_cast g)
        have g1' : (7 : ℝ) ≤ ((Ideal.roundHalfEven r : ℤ) : ℝ) := by exact_mod_cast g1
        have h2 : Ideal.roundHalfEven 7 = 7 := le_antisymm (rhe_le (by norm_num)) (le_rhe (by norm_num))
        rw [min_eq_left g1', min_eq_right g, h2]; norm_num

/-- A code is a small integer. -/
theorem clip_int (x : EReal) : ∃ z : ℤ, -7 ≤ z ∧ z ≤ 7 ∧ clip x = ((z : ℝ) : EReal) := by
  unfold clip rnd
  have key : ∃ y : ℝ, -7 ≤ y ∧ y ≤ 7 ∧ min (max x ((-7 : ℝ) : EReal)) ((7 : ℝ) : EReal) = (y : EReal) := by
    induction x with
    | bot => exact ⟨-7, le_rfl, by norm_num, by rw [max_eq_right bot_le, min_eq_left (by exact_mod_cast (by norm_num : (-7:ℝ) ≤ 7))]⟩
    | top => exact ⟨7, by norm_num, le_rfl, by rw [max_eq_left le_top, min_eq_right le_top]⟩
    | coe r => exact ⟨min (max r (-7)) 7, le_min (le_max_right _ _) (by norm_num), min_le_right _ _, by rw [← coe_max, ← coe_min]⟩
  obtain ⟨y, h1, h2, e⟩ := key
  exact ⟨Ideal.roundHalfEven y, le_rhe (by exact_mod_cast h1), rhe_le (by exact_mod_cast h2), by rw [e, Ideal.liftRound_coe]⟩
theorem fptosi_clip (x : EReal) : ∃ z : ℤ, -7 ≤ z ∧ z ≤ 7 ∧ Ideal.fptosi 32 (clip x) = BitVec.ofInt 32 z := by
  obtain ⟨z, h1, h2, e⟩ := clip_int x
  refine ⟨z, h1, h2, ?_⟩
  rw [e]
  unfold Ideal.fptosi
  congr 1
  show max _ (min _ (if (0 : ℝ) ≤ (z : ℝ) then ⌊(z : ℝ)⌋ else ⌈(z : ℝ)⌉)) = z
  rw [Int.floor_intCast, Int.ceil_intCast, ite_self]
  norm_num
  omega

/-! ## The reference's order of the operations -/

theorem mul_nrm_mono : Monotone fun x : EReal => x * nrm := fun a b h => mul_le_mul_of_nonneg_right h nrm_pos.le
theorem abs_mul_nrm (x : EReal) : max (x * nrm) (-(x * nrm)) = max x (-x) * nrm := by
  rw [← EReal.neg_mul]; exact (mul_nrm_mono.map_max).symm
theorem sup_mul_nrm (f : Fin 32 → EReal) : (Finset.univ.sup fun j => f j * nrm) = Finset.univ.sup f * nrm := by
  refine (Finset.comp_sup_eq_sup_comp_of_is_total (fun x : EReal => x * nrm) mul_nrm_mono ?_).symm
  exact EReal.bot_mul_of_pos nrm_pos
theorem mag_ref (r : Fin 128 → EReal) (g : Fin 4) :
    (Finset.univ.sup fun j : Fin 32 => max (r ⟨32 * g.val + j.val, by omega⟩ * nrm) (-(r ⟨32 * g.val + j.val, by omega⟩ * nrm))) = mag r g * nrm := by
  simp only [abs_mul_nrm]
  exact sup_mul_nrm _

theorem scaleOf_pos (M : EReal) : 0 < scaleOf M := by
  unfold scaleOf
  split
  · rename_i h
    rw [Ideal.div_coe (by norm_num)]
    exact EReal.mul_pos h (by exact_mod_cast (by norm_num : (0:ℝ) < 1 / 7))
  · exact zero_lt_one
theorem div_ref (x M : EReal) : Ideal.div (x * nrm) (scaleOf M) = x * Ideal.div nrm (scaleOf M) := by
  have h := (scaleOf_pos M).ne'
  unfold Ideal.div
  rw [if_neg h, if_neg h, mul_assoc]

/-! ## Infinite rows -/

def Inf (x : EReal) : Prop := x = ⊤ ∨ x = ⊥
theorem Inf.add_right {x : EReal} (h : Inf x) (y : EReal) : Inf (x + y) := by
  rcases h with rfl | rfl
  · induction y with
    | bot => right; exact EReal.add_bot _
    | top => left; rfl
    | coe r => left; exact EReal.top_add_coe r
  · right; exact EReal.bot_add y
theorem Inf.add_left {x : EReal} (h : Inf x) (y : EReal) : Inf (y + x) := by rw [add_comm]; exact h.add_right y
theorem Inf.sum {ι : Type} [DecidableEq ι] (s : Finset ι) (f : ι → EReal) (i : ι) (hi : i ∈ s) (h : Inf (f i)) : Inf (∑ j ∈ s, f j) := by
  rw [← Finset.add_sum_erase s f hi]; exact h.add_right _
theorem Inf.mul {x y : EReal} (h : Inf x) (hy : y ≠ 0) : Inf (x * y) := by
  rcases h with rfl | rfl
  · rcases lt_or_gt_of_ne hy with h | h
    · right; exact EReal.top_mul_of_neg h
    · left; exact EReal.top_mul_of_pos h
  · rcases lt_or_gt_of_ne hy with h | h
    · left; exact EReal.bot_mul_of_neg h
    · right; exact EReal.bot_mul_of_pos h
theorem Inf.ne_zero {x : EReal} (h : Inf x) : x ≠ 0 := by rcases h with rfl | rfl <;> simp

theorem mag_inf (r : Fin 128 → EReal) (h : ∀ c, Inf (r c)) (g : Fin 4) : mag r g = ⊤ := by
  refine top_le_iff.1 (le_trans (le_of_eq ?_) (Finset.le_sup (Finset.mem_univ (0 : Fin 32))))
  rcases h ⟨32 * g.val + (0 : Fin 32).val, by omega⟩ with e | e <;> rw [e] <;> simp
theorem scaleS_inf (r : Fin 128 → EReal) (h : ∀ c, Inf (r c)) (g : Fin 4) : scaleS r g = ⊤ := by
  unfold scaleS scaleOf
  rw [mag_inf r h g, EReal.top_mul_of_pos nrm_pos, if_pos (by simp), Ideal.div_coe (by norm_num)]
  exact EReal.top_mul_of_pos (by exact_mod_cast (by norm_num : (0:ℝ) < 1 / 7))
theorem codeS_inf (r : Fin 128 → EReal) (h : ∀ c, Inf (r c)) (c : Fin 128) : codeS r c = Ideal.fptosi 32 (clip 0) := by
  unfold codeS
  rw [scaleS_inf r h]
  unfold Ideal.div
  rw [if_neg (by simp), EReal.inv_top, mul_zero, mul_zero]

/-- Two rows that are equal, or infinite throughout, quantise alike. -/
def Same (r r' : Fin 128 → EReal) : Prop := r = r' ∨ ((∀ c, Inf (r c)) ∧ ∀ c, Inf (r' c))
theorem Same.scale {r r' : Fin 128 → EReal} (h : Same r r') (g : Fin 4) : scaleS r g = scaleS r' g := by
  rcases h with rfl | ⟨h, h'⟩
  · rfl
  · rw [scaleS_inf r h, scaleS_inf r' h']
theorem Same.byte {r r' : Fin 128 → EReal} (h : Same r r') (b : Fin 64) : byteS r b = byteS r' b := by
  rcases h with rfl | ⟨h, h'⟩
  · rfl
  · unfold byteS; rw [codeS_inf r h, codeS_inf r h, codeS_inf r' h', codeS_inf r' h']

/-! ## The table in three parts -/

def rowK (w x : Fin 128 → EReal) : EReal :=
  ((∑ i, w i * x i) + ∑ i, (w i - w i) * x i) + ∑ i, ((w i - w i) - (w i - w i)) * x i
theorem sub_self_fin {x : EReal} (h : ¬ Inf x) : x - x = 0 := by
  induction x with
  | bot => exact absurd (Or.inr rfl) h
  | top => exact absurd (Or.inl rfl) h
  | coe r => rw [← EReal.coe_sub, sub_self]; rfl
theorem rows_same (h : Fin 128 → Fin 128 → EReal) (hh : ∀ c i, h c i = 1 ∨ h c i = -1) (s x : Fin 128 → EReal) :
    Same (fun c => rowK (fun i => h c i * s i) x) (fun c => ∑ i, (x i * s i) * h c i) := by
  have hn : ∀ c i, h c i ≠ 0 := by
    intro c i
    rcases hh c i with e | e <;> rw [e] <;> simp
  by_cases H : ∃ i, Inf (s i) ∧ x i ≠ 0
  · right
    obtain ⟨i, hs, hx⟩ := H
    constructor
    · intro c
      refine Inf.add_right (Inf.add_right (Inf.sum _ _ i (Finset.mem_univ i) ?_) _) _
      refine Inf.mul ?_ hx
      show Inf (h c i * s i)
      rw [mul_comm]; exact hs.mul (hn c i)
    · intro c
      refine Inf.sum _ _ i (Finset.mem_univ i) ?_
      refine Inf.mul ?_ (hn c i)
      rw [mul_comm]; exact hs.mul hx
  · left
    funext c
    have H' : ∀ i, x i = 0 ∨ ¬ Inf (s i) := fun i => by
      by_cases e : x i = 0
      · exact Or.inl e
      · exact Or.inr fun hs => H ⟨i, hs, e⟩
    have hfin : ∀ i, ¬ Inf (s i) → ¬ Inf (h c i * s i) := by
      intro i hs
      rcases hh c i with e | e
      · rw [e, one_mul]; exact hs
      · rw [e, EReal.neg_mul, one_mul]
        rintro (e | e)
        · exact hs (Or.inr (EReal.neg_eq_top_iff.1 e))
        · exact hs (Or.inl (EReal.neg_eq_bot_iff.1 e))
    have h1 : ∀ i, (h c i * s i - h c i * s i) * x i = 0 := by
      intro i
      rcases H' i with e | e
      · rw [e, mul_zero]
      · rw [sub_self_fin (hfin i e), zero_mul]
    have h2 : ∀ i, ((h c i * s i - h c i * s i) - (h c i * s i - h c i * s i)) * x i = 0 := by
      intro i
      rcases H' i with e | e
      · rw [e, mul_zero]
      · rw [sub_self_fin (hfin i e), sub_zero, zero_mul]
    unfold rowK
    simp only [h1, h2, Finset.sum_const_zero, add_zero]
    refine Finset.sum_congr rfl fun i _ => ?_
    rw [mul_comm (h c i) (s i), mul_comm, mul_assoc]

/-- The same of a row in three parts. -/
def rowY (w y : Fin 128 → EReal) : EReal :=
  ((∑ i, w i * y i) + ∑ i, w i * (y i - y i)) + ∑ i, w i * ((y i - y i) - (y i - y i))
theorem rowsY_same (h : Fin 128 → Fin 128 → EReal) (hh : ∀ c i, h c i = 1 ∨ h c i = -1) (y : Fin 128 → EReal) :
    Same (fun c => rowY (h c) y) (fun c => ∑ i, y i * h c i) := by
  have hn : ∀ c i, h c i ≠ 0 := by
    intro c i
    rcases hh c i with e | e <;> rw [e] <;> simp
  by_cases H : ∃ i, Inf (y i)
  · right
    obtain ⟨i, hy⟩ := H
    constructor
    · intro c
      refine Inf.add_right (Inf.add_right (Inf.sum _ _ i (Finset.mem_univ i) ?_) _) _
      rw [mul_comm]; exact hy.mul (hn c i)
    · intro c
      exact Inf.sum _ _ i (Finset.mem_univ i) (hy.mul (hn c i))
  · left
    funext c
    have h0 : ∀ i, y i - y i = 0 := fun i => sub_self_fin fun hy => H ⟨i, hy⟩
    unfold rowY
    simp only [h0, sub_zero, mul_zero, Finset.sum_const_zero, add_zero]
    exact Finset.sum_congr rfl fun i _ => mul_comm _ _

/-! ## The rotary turn -/

/-- The rotary frequency of channel `κ` of a half. -/
def freqE (κ : ℕ) : EReal :=
  FloatOps.hostPowf (F := Ideal) (φ := .f32) (FloatOps.ofBits .f32 0x461C4000#32)
    (FloatOps.hostDivf (FloatOps.hostNegf (FloatOps.mulf (FloatOps.ofBits .f32 0x40000000#32) (FloatOps.sitofp .f32 (BitVec.ofNat 32 κ)))) (FloatOps.ofBits .f32 0x43000000#32))
/-- The angle of channel `κ` at position `a`. -/
def angE (a : BitVec 32) (κ : ℕ) : EReal := ((a.toInt : ℝ) : EReal) * freqE (κ % 64)
/-- A row turned to position `a`: each channel with its partner half a row away. -/
def turn (a : BitVec 32) (x : Fin 128 → EReal) (κ : Fin 128) : EReal :=
  x κ * Ideal.cos (angE a κ.val) + x ⟨(κ.val + 64) % 128, Nat.mod_lt _ (by decide)⟩ * (if κ.val < 64 then 0 - Ideal.sin (angE a κ.val) else Ideal.sin (angE a κ.val))
theorem turn_lo (a : BitVec 32) (x : Fin 128 → EReal) (κ : Fin 64) :
    turn a x ⟨κ.val, by omega⟩ = x ⟨κ.val, by omega⟩ * Ideal.cos (angE a κ.val) - x ⟨64 + κ.val, by omega⟩ * Ideal.sin (angE a κ.val) := by
  unfold turn
  have e : (⟨(κ.val + 64) % 128, Nat.mod_lt _ (by decide)⟩ : Fin 128) = ⟨64 + κ.val, by omega⟩ := Fin.ext (by show (κ.val + 64) % 128 = 64 + κ.val; omega)
  dsimp only
  rw [if_pos κ.isLt, e, zero_sub, mul_neg]
  exact (sub_eq_add_neg _ _).symm
theorem turn_hi (a : BitVec 32) (x : Fin 128 → EReal) (κ : Fin 64) :
    turn a x ⟨64 + κ.val, by omega⟩ = x ⟨64 + κ.val, by omega⟩ * Ideal.cos (angE a κ.val) + x ⟨κ.val, by omega⟩ * Ideal.sin (angE a κ.val) := by
  unfold turn angE
  have e : (⟨(64 + κ.val + 64) % 128, Nat.mod_lt _ (by decide)⟩ : Fin 128) = ⟨κ.val, by omega⟩ := Fin.ext (by show (64 + κ.val + 64) % 128 = κ.val; omega)
  have e2 : (64 + κ.val) % 64 = κ.val % 64 := by omega
  dsimp only
  rw [if_neg (by omega), e, e2]

/-! ## The signs -/

/-- The Walsh sign of two channels, as a word. -/
def wal (i j : BitVec 32) : BitVec 32 := 1#32 - 2#32 * (IntOp.ctpop (i &&& j) &&& 1#32)
def had (i j : Fin 128) : EReal := (((wal (BitVec.ofNat 32 i.val) (BitVec.ofNat 32 j.val)).toInt : ℝ) : EReal)
def foldP (p : BitVec 32) : BitVec 32 :=
  let a := p ^^^ p.sshiftRight 4
  let b := a ^^^ a.sshiftRight 2
  (b ^^^ b.sshiftRight 1) &&& 1#32
theorem fold_ctpop : ∀ p : Fin 128, foldP (BitVec.ofNat 32 p.val) = IntOp.ctpop (BitVec.ofNat 32 p.val) &&& 1#32 := by decide +kernel
theorem and_small (i j : Fin 128) : ∃ p : Fin 128, BitVec.ofNat 32 i.val &&& BitVec.ofNat 32 j.val = BitVec.ofNat 32 p.val := by
  refine ⟨⟨i.val &&& j.val, lt_of_le_of_lt Nat.and_le_left i.isLt⟩, ?_⟩
  rw [BitVec.ofNat_and]
theorem wal_fold (i j : Fin 128) : 1#32 - 2#32 * foldP (BitVec.ofNat 32 i.val &&& BitVec.ofNat 32 j.val) = wal (BitVec.ofNat 32 i.val) (BitVec.ofNat 32 j.val) := by
  obtain ⟨p, e⟩ := and_small i j
  unfold wal
  rw [e, fold_ctpop]
theorem had_pm (i j : Fin 128) : had i j = 1 ∨ had i j = -1 := by
  unfold had wal
  have key : ∀ x : BitVec 32, x &&& 1#32 = 0#32 ∨ x &&& 1#32 = 1#32 := by
    intro x
    have h : (x &&& 1#32).toNat = 0 ∨ (x &&& 1#32).toNat = 1 := by
      rw [BitVec.toNat_and]; show x.toNat &&& 1 = 0 ∨ x.toNat &&& 1 = 1
      rw [Nat.and_one_is_mod]; omega
    rcases h with h | h
    · left; exact BitVec.eq_of_toNat_eq h
    · right; exact BitVec.eq_of_toNat_eq h
  rcases key (IntOp.ctpop (BitVec.ofNat 32 i.val &&& BitVec.ofNat 32 j.val)) with e | e <;> rw [e]
  · left
    have h : (1#32 - 2#32 * 0#32).toInt = 1 := by decide
    rw [h]; norm_num
  · right
    have h : (1#32 - 2#32 * 1#32).toInt = -1 := by decide
    rw [h]; norm_num
theorem had_comm (i j : Fin 128) : had i j = had j i := by
  unfold had wal; rw [BitVec.and_comm (BitVec.ofNat 32 i.val)]

/-- A table row's channel, and a channel's table row: the two three-bit fields change places. -/
def chan (c : Fin 128) : Fin 128 := ⟨64 * (c.val / 64) + 8 * (c.val % 8) + c.val / 8 % 8, by omega⟩
def chanW (r : BitVec 32) : BitVec 32 := ((r &&& 64#32) ||| ((r &&& 7#32) <<< 3)) ||| (r.sshiftRight 3 &&& 7#32)
theorem chanW_eq : ∀ c : Fin 128, chanW (BitVec.ofNat 32 c.val) = BitVec.ofNat 32 (chan c).val := by decide +kernel
theorem chan_chan : ∀ c : Fin 128, chan (chan c) = c := by decide +kernel

/-! ## The packed word -/

theorem nib_small : ∀ (u : Fin 15) (q : Fin 4), ((BitVec.ofInt 32 ((u.val : ℤ) - 7)).getLsbD q.val) = ((u.val + 1).testBit q.val ^^ decide (q.val = 3)) := by decide +kernel
theorem bias_bits : ∀ (n : Fin 8) (q : Fin 4), (2290649224#32).getLsbD (4 * n.val + q.val) = decide (q.val = 3) := by decide +kernel
theorem ofInt_shl (z : ℤ) (k : ℕ) : BitVec.ofInt 32 z <<< k = BitVec.ofInt 32 (z * 2 ^ k) := by
  rw [BitVec.shiftLeft_eq_mul_twoPow, BitVec.ofInt_mul]
  congr 1
  apply BitVec.eq_of_toInt_eq
  rw [BitVec.toInt_ofInt, BitVec.toInt_eq_toNat_bmod, BitVec.toNat_twoPow]
  push_cast
  exact Int.emod_bmod (x := 2 ^ k) (n := 4294967296)
theorem word_nat (u : Fin 8 → ℕ) (hu : ∀ n, u n < 16) (z : Fin 8 → ℤ) (hz : ∀ n, z n = (u n : ℤ) - 8) :
    ((BitVec.ofInt 32 (z 0) + BitVec.ofInt 32 (z 1) <<< 4 + BitVec.ofInt 32 (z 2) <<< 8 + BitVec.ofInt 32 (z 3) <<< 12 + BitVec.ofInt 32 (z 4) <<< 16
      + BitVec.ofInt 32 (z 5) <<< 20 + BitVec.ofInt 32 (z 6) <<< 24 + BitVec.ofInt 32 (z 7) <<< 28) + 2290649224#32).toNat
      = u 0 + u 1 * 16 + u 2 * 256 + u 3 * 4096 + u 4 * 65536 + u 5 * 1048576 + u 6 * 16777216 + u 7 * 268435456 := by
  have e : (2290649224#32) = BitVec.ofInt 32 2290649224 := by decide
  simp only [ofInt_shl]
  rw [e]
  simp only [← BitVec.ofInt_add]
  rw [BitVec.toNat_ofInt]
  have := hu 0; have := hu 1; have := hu 2; have := hu 3; have := hu 4; have := hu 5; have := hu 6; have := hu 7
  simp only [hz]
  omega
theorem sum_bit (u : Fin 8 → ℕ) (hu : ∀ n, u n < 16) (n : Fin 8) (q : Fin 4) :
    (u 0 + u 1 * 16 + u 2 * 256 + u 3 * 4096 + u 4 * 65536 + u 5 * 1048576 + u 6 * 16777216 + u 7 * 268435456).testBit (4 * n.val + q.val) = (u n).testBit q.val := by
  have := hu 0; have := hu 1; have := hu 2; have := hu 3; have := hu 4; have := hu 5; have := hu 6; have := hu 7
  rw [Nat.testBit_eq_decide_div_mod_eq, Nat.testBit_eq_decide_div_mod_eq, decide_eq_decide, pow_add, pow_mul, ← Nat.div_div_eq_div_mul]
  have hd : (u 0 + u 1 * 16 + u 2 * 256 + u 3 * 4096 + u 4 * 65536 + u 5 * 1048576 + u 6 * 16777216 + u 7 * 268435456) / (2 ^ 4) ^ n.val % 16 = u n := by
    fin_cases n
    · show _ = u 0
      norm_num; omega
    · show _ = u 1
      norm_num; omega
    · show _ = u 2
      norm_num; omega
    · show _ = u 3
      norm_num; omega
    · show _ = u 4
      norm_num; omega
    · show _ = u 5
      norm_num; omega
    · show _ = u 6
      norm_num; omega
    · show _ = u 7
      norm_num; omega
  have hq : ∀ x : ℕ, x / 2 ^ q.val % 2 = x % 16 / 2 ^ q.val % 2 := by
    intro x
    fin_cases q <;> norm_num <;> omega
  rw [hq, hd]
theorem word_nib (z : Fin 8 → ℤ) (h1 : ∀ n, -7 ≤ z n) (h2 : ∀ n, z n ≤ 7) (n : Fin 8) (q : Fin 4) :
    (((BitVec.ofInt 32 (z 0) + BitVec.ofInt 32 (z 1) <<< 4 + BitVec.ofInt 32 (z 2) <<< 8 + BitVec.ofInt 32 (z 3) <<< 12 + BitVec.ofInt 32 (z 4) <<< 16
      + BitVec.ofInt 32 (z 5) <<< 20 + BitVec.ofInt 32 (z 6) <<< 24 + BitVec.ofInt 32 (z 7) <<< 28) + 2290649224#32) ^^^ 2290649224#32).getLsbD (4 * n.val + q.val)
      = (BitVec.ofInt 32 (z n)).getLsbD q.val := by
  rw [BitVec.getLsbD_xor, bias_bits n q]
  have hw := word_nat (fun n => (z n + 8).toNat) (fun n => by have := h1 n; have := h2 n; omega) z (fun n => by have := h1 n; omega)
  rw [BitVec.getLsbD, hw]
  have hs := nib_small ⟨(z n + 7).toNat, by have := h1 n; have := h2 n; omega⟩ q
  have e1 : (((z n + 7).toNat : ℕ) : ℤ) - 7 = z n := by have := h1 n; omega
  have e2 : (z n + 7).toNat + 1 = (z n + 8).toNat := by have := h1 n; omega
  dsimp only at hs
  rw [e1, e2] at hs
  rw [hs]
  have hb := sum_bit (fun n => (z n + 8).toNat) (fun n => by have := h1 n; have := h2 n; omega) n q
  exact congrArg (fun b : Bool => b ^^ decide (q.val = 3)) hb

/-- The packed byte of two codes, bit by bit. -/
theorem pack_bit (lo hi : BitVec 32) (q : ℕ) (hq : q < 8) : (pack lo hi).getLsbD q = if q < 4 then lo.getLsbD q else hi.getLsbD (q - 4) := by
  unfold pack
  rw [BitVec.getLsbD_setWidth, BitVec.getLsbD_or, BitVec.getLsbD_and, BitVec.getLsbD_shiftLeft, BitVec.getLsbD_and]
  interval_cases q <;> simp

end Cert.Val

end
-- ==== Proof.Quant.lean ====
module

public import proofs.«01_k».proof.Proof.TripVal
public import proofs.«01_k».proof.Proof.Math
public import Idealize.ShloMosaic.Lib.ValueIdx
public import Idealize.ShloMosaic.Lib.ValueIdxCoords
public import Idealize.ShloMosaic.Lib.ValueLayout
public import Idealize.ShloMosaic.Lib.BitcastPair
public import Idealize.ShloMosaic.Lib.Pipeline.Value

@[expose] public section

set_option maxRecDepth 16384
set_option maxHeartbeats 1000000

noncomputable section

namespace Cert.KernelIdeal.Hand

open Cert.KernelIdeal Cert.KernelIdeal.Gen Cert.Val
open Idealize.ShloMosaic Idealize.ShloMosaic.ValueIdx

/-! # What a trip writes, element by element -/

/-- The channels of token `t`, in the channels' own order. -/
def rowR (R : FVec Ideal S128x256 .f32) (t : Fin 256) : Fin 128 → EReal := fun c => R (ix2 (chan c) t)
def tkn (L : Fin 2) (l : Fin 128) : Fin 256 := ⟨128 * L.val + l.val, by omega⟩

theorem y_apply (R : FVec Ideal S128x256 .f32) (L q : Fin 2) (n : Fin 8) (s : Fin 8) (l : Fin 128) :
    yT R L q n (ix2 s l) = rowR R (tkn L l) ⟨8 * (8 * q.val + s.val) + n.val, by omega⟩ := by
  unfold yT rowR
  refine extractStridedSlice_apply _ _ _ _ _ fun a => ?_
  match a with
  | ⟨0, _⟩ =>
    show (chan ⟨8 * (8 * q.val + s.val) + n.val, _⟩).val = 8 * (8 * q.val + n.val) + s.val
    simp only [chan]; omega
  | ⟨1, _⟩ => rfl

/-- The largest magnitude of eight successive channels. -/
def blk (r : Fin 128 → EReal) (B : Fin 16) : EReal :=
  let f : Fin 8 → EReal := fun n => max (r ⟨8 * B.val + n.val, by omega⟩) (-(r ⟨8 * B.val + n.val, by omega⟩))
  max (max (max (max (max (max (max (f 0) (f 1)) (f 2)) (f 3)) (f 4)) (f 5)) (f 6)) (f 7)
theorem blk_le (r : Fin 128 → EReal) (B : Fin 16) (z : EReal) :
    blk r B ≤ z ↔ ∀ n : Fin 8, max (r ⟨8 * B.val + n.val, by omega⟩) (-(r ⟨8 * B.val + n.val, by omega⟩)) ≤ z := by
  unfold blk
  dsimp only
  constructor
  · intro h n
    simp only [max_le_iff] at h
    rw [max_le_iff]
    match n with
    | 0 => exact h.1.1.1.1.1.1.1
    | 1 => exact h.1.1.1.1.1.1.2
    | 2 => exact h.1.1.1.1.1.2
    | 3 => exact h.1.1.1.1.2
    | 4 => exact h.1.1.1.2
    | 5 => exact h.1.1.2
    | 6 => exact h.1.2
    | 7 => exact h.2
  · intro h
    exact max_le (max_le (max_le (max_le (max_le (max_le (max_le (h 0) (h 1)) (h 2)) (h 3)) (h 4)) (h 5)) (h 6)) (h 7)
theorem abs_congr' (r : Fin 128 → EReal) {a b : Fin 128} (h : a.val = b.val) : max (r a) (-(r a)) = max (r b) (-(r b)) := by rw [Fin.ext h]
theorem mag_blk (r : Fin 128 → EReal) (g : Fin 4) :
    mag r g = max (max (blk r ⟨4 * g.val, by omega⟩) (blk r ⟨4 * g.val + 1, by omega⟩)) (max (blk r ⟨4 * g.val + 2, by omega⟩) (blk r ⟨4 * g.val + 3, by omega⟩)) := by
  refine eq_of_forall_ge_iff fun z => ?_
  unfold mag
  rw [Finset.sup_le_iff, max_le_iff, max_le_iff, max_le_iff, blk_le, blk_le, blk_le, blk_le]
  constructor
  · intro h
    refine ⟨⟨fun n => ?_, fun n => ?_⟩, fun n => ?_, fun n => ?_⟩
    · exact (le_of_eq (abs_congr' r (by dsimp only; omega))).trans (h ⟨n.val, by omega⟩ (Finset.mem_univ _))
    · exact (le_of_eq (abs_congr' r (by dsimp only; omega))).trans (h ⟨8 + n.val, by omega⟩ (Finset.mem_univ _))
    · exact (le_of_eq (abs_congr' r (by dsimp only; omega))).trans (h ⟨16 + n.val, by omega⟩ (Finset.mem_univ _))
    · exact (le_of_eq (abs_congr' r (by dsimp only; omega))).trans (h ⟨24 + n.val, by omega⟩ (Finset.mem_univ _))
  · rintro ⟨⟨h0, h1⟩, h2, h3⟩ j -
    have hj := j.isLt
    rcases (by omega : j.val / 8 = 0 ∨ j.val / 8 = 1 ∨ j.val / 8 = 2 ∨ j.val / 8 = 3) with e | e | e | e
    · exact (le_of_eq (abs_congr' r (by dsimp only; omega))).trans (h0 ⟨j.val % 8, by omega⟩)
    · exact (le_of_eq (abs_congr' r (by dsimp only; omega))).trans (h1 ⟨j.val % 8, by omega⟩)
    · exact (le_of_eq (abs_congr' r (by dsimp only; omega))).trans (h2 ⟨j.val % 8, by omega⟩)
    · exact (le_of_eq (abs_congr' r (by dsimp only; omega))).trans (h3 ⟨j.val % 8, by omega⟩)

theorem m_apply (R : FVec Ideal S128x256 .f32) (L q : Fin 2) (s : Fin 8) (l : Fin 128) :
    mT R L q (ix2 s l) = blk (rowR R (tkn L l)) ⟨8 * q.val + s.val, by omega⟩ := by
  have h : ∀ n, absf (yT R L q n) (ix2 s l) = max (rowR R (tkn L l) ⟨8 * (8 * q.val + s.val) + n.val, by omega⟩) (-(rowR R (tkn L l) ⟨8 * (8 * q.val + s.val) + n.val, by omega⟩)) := by
    intro n
    rw [← y_apply R L q n s l]; rfl
  unfold mT blk
  simp only [maximumf_apply, h]

theorem rot_apply {α : Type} (n : BitVec 32) (x : S8x128.Idx → α) (h : S8x128.Rotates (0 : Fin 2) none) (s : Fin 8) (l : Fin 128) :
    dynamicRotate (s := S8x128) 0 n none x h (ix2 s l) = x (ix2 ⟨(s.val + 8 - n.toNat % 8) % 8, by omega⟩ l) := by
  unfold dynamicRotate
  dsimp only
  congr 1
  funext b
  match b with
  | ⟨0, _⟩ => rfl
  | ⟨1, _⟩ => rfl

theorem rows8_apply (s : Fin 8) (l : Fin 128) : rows8 (ix2 s l) = BitVec.ofNat 32 s.val := by
  unfold rows8 iota
  simp [List.foldl]

theorem scaleOfU_apply (u : FVec Ideal S8x128 .f32) (i : S8x128.Idx) : scaleOfU u i = scaleOf (u i) := by
  show Scalar.select (BitVec.ofBool (decide (Ideal.ofBits .f32 0x00000000#32 < u i * nrm))) (Ideal.div (u i * nrm) (Ideal.ofBits .f32 0x40E00000#32)) (Ideal.ofBits .f32 0x3F800000#32) = scaleOf (u i)
  rw [zero_f32, seven_f32, Idealize.ShloMosaic.Ideal.ofBits_one_f32]
  unfold scaleOf
  split
  · rename_i h; rw [decide_eq_true h]; rfl
  · rename_i h; rw [decide_eq_false h]; rfl

theorem pT_apply (m0 m1 : FVec Ideal S8x128 .f32) (s : Fin 8) (l : Fin 128) :
    pT rows8 m0 m1 (ix2 s l) = if s.val % 2 = 1 then max (m1 (ix2 s l)) (m1 (ix2 ⟨(s.val + 8 - 1) % 8, by omega⟩ l)) else max (m0 (ix2 s l)) (m0 (ix2 ⟨(s.val + 8 - 7) % 8, by omega⟩ l)) := by
  unfold pT
  rw [select_apply, maximumf_apply, maximumf_apply]
  have hc : cmpi .eq (andi rows8 (broadcast S8x128 1#32)) (broadcast S8x128 1#32) (ix2 s l) = BitVec.ofBool (decide (s.val % 2 = 1)) := by
    show IntOp.cmpi .eq (IntOp.andi (rows8 (ix2 s l)) 1#32) 1#32 = _
    rw [rows8_apply]
    exact (by decide : ∀ s : Fin 8, IntOp.cmpi .eq (IntOp.andi (BitVec.ofNat 32 s.val) 1#32) 1#32 = BitVec.ofBool (decide (s.val % 2 = 1))) s
  have r1 := rot_apply 1#32 m1 rotates_S8x128_d0 s l
  have r0 := rot_apply 7#32 m0 rotates_S8x128_d0 s l
  rw [hc]
  refine Eq.trans (congrArg₂ (Scalar.select _) (congrArg (max _) r1) (congrArg (max _) r0)) ?_
  by_cases h : s.val % 2 = 1
  · rw [decide_eq_true h, if_pos h]; rfl
  · rw [decide_eq_false h, if_neg h]; rfl
theorem uT_apply (m0 m1 : FVec Ideal S8x128 .f32) (s : Fin 8) (l : Fin 128) :
    uT rows8 m0 m1 (ix2 s l) = if s.val / 2 % 2 = 1 then max (m1 (ix2 s l)) (m1 (ix2 ⟨(s.val + 8 - 2) % 8, by omega⟩ l)) else max (m0 (ix2 s l)) (m0 (ix2 ⟨(s.val + 8 - 6) % 8, by omega⟩ l)) := by
  unfold uT
  rw [select_apply, maximumf_apply, maximumf_apply]
  have hc : cmpi .eq (andi rows8 (broadcast S8x128 2#32)) (broadcast S8x128 2#32) (ix2 s l) = BitVec.ofBool (decide (s.val / 2 % 2 = 1)) := by
    show IntOp.cmpi .eq (IntOp.andi (rows8 (ix2 s l)) 2#32) 2#32 = _
    rw [rows8_apply]
    exact (by decide : ∀ s : Fin 8, IntOp.cmpi .eq (IntOp.andi (BitVec.ofNat 32 s.val) 2#32) 2#32 = BitVec.ofBool (decide (s.val / 2 % 2 = 1))) s
  have r1 := rot_apply 2#32 m1 rotates_S8x128_d0 s l
  have r0 := rot_apply 6#32 m0 rotates_S8x128_d0 s l
  rw [hc]
  refine Eq.trans (congrArg₂ (Scalar.select _) (congrArg (max _) r1) (congrArg (max _) r0)) ?_
  by_cases h : s.val / 2 % 2 = 1
  · rw [decide_eq_true h, if_pos h]; rfl
  · rw [decide_eq_false h, if_neg h]; rfl

theorem u_apply (R : FVec Ideal S128x256 .f32) (L q g : Fin 2) (l : Fin 128) :
    uT rows8 (pT rows8 (mT R 0 0) (mT R 0 1)) (pT rows8 (mT R 1 0) (mT R 1 1)) (ix2 ⟨4 * g.val + 2 * L.val + q.val, by omega⟩ l)
      = mag (rowR R (tkn L l)) ⟨2 * q.val + g.val, by omega⟩ := by
  rw [mag_blk, uT_apply, pT_apply, pT_apply, pT_apply, pT_apply]
  simp only [m_apply]
  fin_cases L <;> fin_cases q <;> fin_cases g <;> simp <;> ac_rfl

theorem scale_apply (R : FVec Ideal S128x256 .f32) (L q g : Fin 2) (l : Fin 128) :
    scaleT rows8 R (ix2 ⟨4 * g.val + 2 * L.val + q.val, by omega⟩ l) = scaleS (rowR R (tkn L l)) ⟨2 * q.val + g.val, by omega⟩ := by
  unfold scaleT
  rw [scaleOfU_apply, u_apply]
  rfl

theorem rowT_apply (x : FVec Ideal S8x128 .f32) (k s : Fin 8) (l : Fin 128) : rowT x k (ix2 s l) = x (ix2 k l) := by
  unfold rowT
  rw [broadcastTo_apply _ _ _ (ix2 (0 : Fin 1) l) (fun a => by match a with | ⟨0, _⟩ => rfl | ⟨1, _⟩ => rfl),
    shapeCast_apply _ _ _ (ix2 (0 : Fin 1) l) rfl]
  refine extractStridedSlice_apply _ _ _ _ _ fun a => ?_
  match a with
  | ⟨0, _⟩ => show k.val = k.val + 0; omega
  | ⟨1, _⟩ => show l.val = 0 + l.val; omega

theorem ib_apply (R : FVec Ideal S128x256 .f32) (L q : Fin 2) (s : Fin 8) (l : Fin 128) :
    ibT rows8 (scaleT rows8 R) ⟨2 * L.val + q.val, by omega⟩ ⟨2 * L.val + q.val + 4, by omega⟩ (ix2 s l)
      = Ideal.div nrm (scaleS (rowR R (tkn L l)) ⟨2 * q.val + s.val / 4, by omega⟩) := by
  unfold ibT
  rw [select_apply, rowT_apply, rowT_apply]
  have h0 := scale_apply R L q 0 l
  have h1 := scale_apply R L q 1 l
  have e0 : (⟨2 * L.val + q.val, by omega⟩ : Fin 8) = ⟨4 * (0 : Fin 2).val + 2 * L.val + q.val, by have : (0 : Fin 2).val = 0 := rfl; omega⟩ := Fin.ext (by show 2 * L.val + q.val = 4 * 0 + 2 * L.val + q.val; omega)
  have e1 : (⟨2 * L.val + q.val + 4, by omega⟩ : Fin 8) = ⟨4 * (1 : Fin 2).val + 2 * L.val + q.val, by have : (1 : Fin 2).val = 1 := rfl; omega⟩ := Fin.ext (by show 2 * L.val + q.val + 4 = 4 * 1 + 2 * L.val + q.val; omega)
  have d : ∀ i, invT (scaleT rows8 R) i = Ideal.div nrm (scaleT rows8 R i) := fun i => rfl
  rw [d, d, e0, e1, h0, h1]
  have hs : cmpi .slt rows8 (broadcast S8x128 4#32) (ix2 s l) = BitVec.ofBool (decide (s.val < 4)) := by
    show IntOp.cmpi .slt (rows8 (ix2 s l)) 4#32 = _
    rw [rows8_apply]
    exact (by decide : ∀ s : Fin 8, IntOp.cmpi .slt (BitVec.ofNat 32 s.val) 4#32 = BitVec.ofBool (decide (s.val < 4))) s
  rw [hs]
  by_cases h : s.val < 4
  · rw [decide_eq_true h]
    show Ideal.div nrm (scaleS _ _) = _
    congr 2; apply Fin.ext; show 2 * q.val + 0 = 2 * q.val + s.val / 4; omega
  · rw [decide_eq_false h]
    show Ideal.div nrm (scaleS _ _) = _
    congr 2; apply Fin.ext; show 2 * q.val + 1 = 2 * q.val + s.val / 4; omega

theorem xi_apply (R : FVec Ideal S128x256 .f32) (L q : Fin 2) (n s : Fin 8) (l : Fin 128) :
    xiT (yT R L q n) (ibT rows8 (scaleT rows8 R) ⟨2 * L.val + q.val, by omega⟩ ⟨2 * L.val + q.val + 4, by omega⟩) (ix2 s l)
      = codeS (rowR R (tkn L l)) ⟨8 * (8 * q.val + s.val) + n.val, by omega⟩ := by
  show Ideal.fptosi 32 (Ideal.liftRound Ideal.roundHalfEven (min (max (yT R L q n (ix2 s l) * ibT rows8 (scaleT rows8 R) _ _ (ix2 s l)) (Ideal.ofBits .f32 0xC0E00000#32)) (Ideal.ofBits .f32 0x40E00000#32))) = _
  rw [seven_f32, neg_seven_f32, y_apply, ib_apply]
  unfold codeS clip rnd
  have e : (⟨2 * q.val + s.val / 4, by omega⟩ : Fin 4) = ⟨(⟨8 * (8 * q.val + s.val) + n.val, by omega⟩ : Fin 128).val / 32, by have := q.isLt; omega⟩ :=
    Fin.ext (by show 2 * q.val + s.val / 4 = (8 * (8 * q.val + s.val) + n.val) / 32; omega)
  rw [e]

theorem wordOf8_apply (x : Fin 8 → IVec S8x128 32) (i : S8x128.Idx) :
    wordOf8 x i = ((x 0 i + x 1 i <<< 4 + x 2 i <<< 8 + x 3 i <<< 12 + x 4 i <<< 16 + x 5 i <<< 20 + x 6 i <<< 24 + x 7 i <<< 28) + 2290649224#32) ^^^ 2290649224#32 := by
  have sh : ∀ (y : BitVec 32) (n : Fin 32), IntOp.shli .vector y (BitVec.ofNat 32 n.val) = y <<< n.val := by
    intro y n
    unfold IntOp.shli
    have hn : (BitVec.ofNat 32 n.val).toNat = n.val := by rw [BitVec.toNat_ofNat]; omega
    rw [if_pos (by rw [hn]; exact n.isLt), BitVec.shiftLeft_eq', hn]
  have s1 : x 1 i <<< 4 = IntOp.shli .vector (x 1 i) 4#32 := (sh (x 1 i) 4).symm
  have s2 : x 2 i <<< 8 = IntOp.shli .vector (x 2 i) 8#32 := (sh (x 2 i) 8).symm
  have s3 : x 3 i <<< 12 = IntOp.shli .vector (x 3 i) 12#32 := (sh (x 3 i) 12).symm
  have s4 : x 4 i <<< 16 = IntOp.shli .vector (x 4 i) 16#32 := (sh (x 4 i) 16).symm
  have s5 : x 5 i <<< 20 = IntOp.shli .vector (x 5 i) 20#32 := (sh (x 5 i) 20).symm
  have s6 : x 6 i <<< 24 = IntOp.shli .vector (x 6 i) 24#32 := (sh (x 6 i) 24).symm
  have s7 : x 7 i <<< 28 = IntOp.shli .vector (x 7 i) 28#32 := (sh (x 7 i) 28).symm
  rw [s1, s2, s3, s4, s5, s6, s7]
  rfl

theorem word_apply (R : FVec Ideal S128x256 .f32) (L q : Fin 2) (s : Fin 8) (l : Fin 128) (n : Fin 8) (b : Fin 4) :
    (wordT rows8 R L q (ix2 s l)).getLsbD (4 * n.val + b.val)
      = (codeS (rowR R (tkn L l)) ⟨8 * (8 * q.val + s.val) + n.val, by omega⟩).getLsbD b.val := by
  have hz : ∀ n : Fin 8, ∃ z : ℤ, -7 ≤ z ∧ z ≤ 7 ∧ codeS (rowR R (tkn L l)) ⟨8 * (8 * q.val + s.val) + n.val, by omega⟩ = BitVec.ofInt 32 z :=
    fun n => by unfold codeS; exact fptosi_clip _
  choose z h1 h2 h3 using hz
  have hx : ∀ n, xiT (yT R L q n) (ibT rows8 (scaleT rows8 R) ⟨2 * L.val + q.val, by omega⟩ ⟨2 * L.val + q.val + 4, by omega⟩) (ix2 s l) = BitVec.ofInt 32 (z n) :=
    fun n => (xi_apply R L q n s l).trans (h3 n)
  refine Eq.trans ?_ ((word_nib z h1 h2 n b).trans (congrArg (fun w : BitVec 32 => w.getLsbD b.val) (h3 n).symm))
  refine congrArg (fun w : BitVec 32 => w.getLsbD (4 * n.val + b.val)) ?_
  unfold wordT
  rw [wordOf8_apply]
  simp only [hx]

theorem code_apply (R : FVec Ideal S128x256 .f32) (L q : Fin 2) (u u' : Fin 1) (b : Fin 32) (l : Fin 128) :
    codeT (wordT rows8 R L q) (ix4 u u' b l) = byteS (rowR R (tkn L l)) ⟨32 * q.val + b.val, by omega⟩ := by
  unfold codeT
  rw [shapeCast_apply _ _ _ (ix2 b l) (by
    rw [Shape.rowMajor_val_two, Shape.rowMajor_val_four]
    show b.val * 128 + l.val = ((u.val * 1 + u'.val) * 32 + b.val) * 128 + l.val
    omega)]
  refine BitVec.eq_of_getLsbD_eq fun i hi => ?_
  rw [bitcast_getLsbD _ _ _ _ hi (by norm_num)]
  unfold byteS
  rw [pack_bit _ _ i hi]
  have hrow : S32x128.row (ix2 b l) = b.val := rfl
  have e1 : Shape.Bitcasts.srcIdx bitcasts_S8x128_w32_S32x128_w8 (ix2 b l) ((S32x128.row (ix2 b l) * 8 + i) / 32) (fun a ha =>
          (Nat.div_lt_iff_lt_mul (by norm_num)).2 (Shape.Bitcasts.pos_lt bitcasts_S8x128_w32_S32x128_w8 (ix2 b l) i hi a ha)) = ix2 ⟨b.val / 4, by omega⟩ l := by
    funext a
    apply Fin.ext
    match a with
    | ⟨0, h0⟩ => rw [Shape.Bitcasts.srcIdx_row _ _ _ _ _ (by rfl)]; rw [hrow]; show (b.val * 8 + i) / 32 = b.val / 4; omega
    | ⟨1, h0⟩ => rw [Shape.Bitcasts.srcIdx_other _ _ _ _ _ (by show ¬ (1 + 2 = 2); omega)]; rfl
  rw [e1, hrow]
  have e2 : (b.val * 8 + i) % 32 = 4 * (⟨2 * (b.val % 4) + i / 4, by omega⟩ : Fin 8).val + (⟨i % 4, by omega⟩ : Fin 4).val := by
    show (b.val * 8 + i) % 32 = 4 * (2 * (b.val % 4) + i / 4) + i % 4
    omega
  rw [e2, word_apply]
  by_cases h : i < 4
  · rw [if_pos h]
    show (codeS _ _).getLsbD (i % 4) = _
    rw [Nat.mod_eq_of_lt h]
    congr 2; apply Fin.ext; show 8 * (8 * q.val + b.val / 4) + (2 * (b.val % 4) + i / 4) = 2 * (32 * q.val + b.val); omega
  · rw [if_neg h]
    show (codeS _ _).getLsbD (i % 4) = _
    have : i % 4 = i - 4 := by omega
    rw [this]
    congr 2; apply Fin.ext; show 8 * (8 * q.val + b.val / 4) + (2 * (b.val % 4) + i / 4) = 2 * (32 * q.val + b.val) + 1; omega

theorem inter_apply {α : Type} (lo hi : S2x128.Idx → α) (g : Fin 4) (l : Fin 128) :
    interleaveRows S4x128 lo hi bitcasts_S4x128_w16_S2x128_w32 (ix2 g l) = if g.val % 2 = 0 then lo (ix2 ⟨g.val / 2, by omega⟩ l) else hi (ix2 ⟨g.val / 2, by omega⟩ l) := by
  unfold interleaveRows
  dsimp only
  have hrow : S4x128.row (ix2 g l) = g.val := rfl
  rw [hrow]
  by_cases h : g.val % 2 = 0
  · rw [if_pos h, if_pos h]
    refine congrArg lo (funext fun b => ?_)
    match b with
    | ⟨0, _⟩ => rfl
    | ⟨1, _⟩ => rfl
  · rw [if_neg h, if_neg h]
    refine congrArg hi (funext fun b => ?_)
    match b with
    | ⟨0, _⟩ => rfl
    | ⟨1, _⟩ => rfl

theorem scaleOut_apply (R : FVec Ideal S128x256 .f32) (L : Fin 2) (u u' : Fin 1) (g : Fin 4) (l : Fin 128) :
    scaleOutT (scaleT rows8 R) L (ix4 u u' g l) = scaleS (rowR R (tkn L l)) g := by
  unfold scaleOutT
  rw [shapeCast_apply _ _ _ (ix2 g l) (by
    rw [Shape.rowMajor_val_two, Shape.rowMajor_val_four]
    show g.val * 128 + l.val = ((u.val * 1 + u'.val) * 4 + g.val) * 128 + l.val
    omega)]
  rw [inter_apply, truncf_apply, truncf_apply]
  have sl : ∀ x : FVec Ideal S8x128 .f32, extractStridedSlice S2x128 ![2 * L.val, 0] x (two_slices L) (ix2 ⟨g.val / 2, by omega⟩ l) = x (ix2 ⟨2 * L.val + g.val / 2, by omega⟩ l) := by
    intro x
    refine extractStridedSlice_apply _ _ _ _ _ fun a => ?_
    match a with
    | ⟨0, _⟩ => rfl
    | ⟨1, _⟩ => show l.val = 0 + l.val; omega
  rw [sl, sl, rot_apply]
  by_cases h : g.val % 2 = 0
  · rw [if_pos h]
    have e := scale_apply R L ⟨g.val / 2, by omega⟩ 0 l
    refine Eq.trans ?_ (e.trans ?_)
    · congr 2; apply Fin.ext; show 2 * L.val + g.val / 2 = 4 * 0 + 2 * L.val + g.val / 2; omega
    · congr 1; apply Fin.ext; show 2 * (g.val / 2) + 0 = g.val; omega
  · rw [if_neg h]
    have e := scale_apply R L ⟨g.val / 2, by omega⟩ 1 l
    refine Eq.trans ?_ (e.trans ?_)
    · congr 2; apply Fin.ext; show (2 * L.val + g.val / 2 + 8 - 4 % 8) % 8 = 4 * 1 + 2 * L.val + g.val / 2; omega
    · congr 1; apply Fin.ext; show 2 * (g.val / 2) + 1 = g.val; omega

end Cert.KernelIdeal.Hand

end
-- ==== Proof.Rot.lean ====
module

public import proofs.«01_k».proof.Proof.Quant
public import proofs.«01_k».proof.Proof.Frame
public import Idealize.ShloMosaic.Lib.MatmulPlain

@[expose] public section

set_option maxRecDepth 16384
set_option maxHeartbeats 1000000

noncomputable section

namespace Cert.KernelIdeal.Hand

open Cert.KernelIdeal Cert.KernelIdeal.Gen Cert.Val
open Idealize.ShloMosaic Idealize.ShloMosaic.ValueIdx

/-! # The rotation, element by element -/

theorem dot2_eq : dot_S128x256_S256x256_S128x256_1_1_0_0_n_n = DotDims.transposedRhs 128 256 256 := rfl
theorem dot1_eq : dot_S128x128_S256x128_S128x256_1_1_0_0_n_n = DotDims.transposedRhs 128 128 256 := rfl

theorem twice_lo (v v' : FVec Ideal S256x128 .bf16) (t : Fin 256) (κ : Fin 128) :
    concatenate S256x256 1 [⟨S256x128, v⟩, ⟨S256x128, v'⟩] concatenates_S256x128_S256x128_S256x256_d1 (ix2 t ⟨κ.val, by omega⟩) = v (ix2 t κ) :=
  concatenate_pair_apply_left (t := S256x256) (s₁ := S256x128) (s₂ := S256x128) 1 v v' _ _ rfl _ (fun b => match b with | ⟨0, _⟩ => rfl | ⟨1, _⟩ => rfl)
theorem twice_hi (v v' : FVec Ideal S256x128 .bf16) (t : Fin 256) (κ : Fin 128) :
    concatenate S256x256 1 [⟨S256x128, v⟩, ⟨S256x128, v'⟩] concatenates_S256x128_S256x128_S256x256_d1 (ix2 t ⟨128 + κ.val, by omega⟩) = v' (ix2 t κ) :=
  concatenate_pair_apply_right (t := S256x256) (s₁ := S256x128) (s₂ := S256x128) 1 v v' _ _ rfl rfl _
    (fun b hb => match b, hb with | ⟨0, _⟩, _ => rfl | ⟨1, _⟩, hb => absurd rfl hb) (Nat.add_comm _ _)

theorem drop1 {n : ℕ} {α : Type} (w : (⟨3, ![1, 128, n]⟩ : Shape).Idx → α) (h : (⟨3, ![1, 128, n]⟩ : Shape).ShapeCasts (⟨2, ![128, n]⟩ : Shape)) (ρ : Fin 128) (κ : Fin n) :
    shapeCast (⟨2, ![128, n]⟩ : Shape) w h (ix2 ρ κ) = w (ix3 0 ρ κ) := shapeCast_1ab_ab_apply _ _ _ _

theorem rotT_apply (v : FVec Ideal S256x128 .bf16) (w2 : Vec Ideal S1x128x256 .bf16) (w1 : Vec Ideal S1x128x128 .bf16) (ρ : Fin 128) (t : Fin 256) :
    rotT v w2 w1 (ix2 ρ t) = ((∑ κ : Fin 128, w2 (ix3 0 ρ ⟨κ.val, by omega⟩) * v (ix2 t κ)) + ∑ κ : Fin 128, w2 (ix3 0 ρ ⟨128 + κ.val, by omega⟩) * v (ix2 t κ))
      + ∑ κ : Fin 128, w1 (ix3 0 ρ κ) * v (ix2 t κ) := by
  unfold rotT
  rw [addf_apply]
  have e2 := Ideal.matmul_transposedRhs_apply (M := 128) (K := 256) (N := 256) (φ₁ := .bf16) (φ₂ := .bf16) none (shapeCast S128x256 w2 shapeCasts_S1x128x256_S128x256)
    (concatenate S256x256 1 [⟨S256x128, v⟩, ⟨S256x128, v⟩] concatenates_S256x128_S256x128_S256x256_d1) (constant S128x256 .f32 0x00000000#32) ρ t
  have e1 := Ideal.matmul_transposedRhs_apply (M := 128) (K := 128) (N := 256) (φ₁ := .bf16) (φ₂ := .bf16) none (shapeCast S128x128 w1 shapeCasts_S1x128x128_S128x128)
    v (constant S128x256 .f32 0x00000000#32) ρ t
  have z : (constant S128x256 .f32 0x00000000#32 : FVec Ideal S128x256 .f32) (ix2 ρ t) = 0 := zero_f32
  rw [z, zero_add] at e1 e2
  refine congrArg₂ (· + ·) (e2.trans ?_) (e1.trans ?_)
  · refine (Fin.sum_univ_add (a := 128) (b := 128) _).trans (congrArg₂ (· + ·) (Finset.sum_congr rfl fun κ _ => ?_) (Finset.sum_congr rfl fun κ _ => ?_))
    · exact congrArg₂ (· * ·) (drop1 w2 _ ρ _) (twice_lo v v t κ)
    · exact congrArg₂ (· * ·) (drop1 w2 _ ρ _) (twice_hi v v t κ)
  · exact Finset.sum_congr rfl fun κ _ => congrArg (· * _) (drop1 w1 _ ρ κ)

/-! ## The tokens -/

theorem ldB_apply (M : RingM) (i : grid0.Coords) (X : BufTy.Contents (Elt Ideal) M.view.ty) (k : Fin k0_t2_loop.trips) (e : Fin 2) (n : Fin 32) (s : Fin 8) (κ : Fin 128)
    (y : S2x256x24x128.Idx) (h0 : (y 0).val = (Scalar.indexCast (slotW i)).toNat) (h1 : (y 1).val = 8 * n.val + s.val) (h2 : (y 2).val = 2 * k.val + e.val) (h3 : (y 3).val = κ.val) :
    ldB M i X k e n (ix2 s κ) = M.view.read (Elt Ideal) X y := by
  unfold ldB
  refine (shapeCast_apply (s := S1x8x1x128) (t := S8x128) _ shapeCasts_S1x8x1x128_S8x128 (ix2 s κ) (ix4 0 s 0 κ) ?_).trans ?_
  · rw [Shape.rowMajor_val_four, Shape.rowMajor_val_two]
    show ((0 * 8 + s.val) * 1 + 0) * 128 + κ.val = s.val * 128 + κ.val
    omega
  · unfold rowsOfParity
    refine congrArg (M.view.read (Elt Ideal) X) (funext fun a => Fin.ext ?_)
    match a with
    | ⟨0, _⟩ => exact (Nat.add_zero _).trans h0.symm
    | ⟨1, _⟩ =>
      refine Eq.trans ?_ h1.symm
      show 8 * n.val + 1 * s.val = _
      omega
    | ⟨2, _⟩ =>
      refine Eq.trans ?_ h2.symm
      show Nat.mul 2 (kI k) + 1 * (2 * 0 + e.val) = _
      rw [kI_eq]
      show 2 * k.val + 1 * (2 * 0 + e.val) = _
      omega
    | ⟨3, _⟩ =>
      refine Eq.trans ?_ h3.symm
      show 0 + 1 * κ.val = _
      omega

theorem ldT_apply (i : grid0.Coords) (X : BufTy.Contents (Elt Ideal) xvM.view.ty) (k : Fin k0_t2_loop.trips) (e : Fin 2) (n : Fin 32) (s : Fin 8) (κ : Fin 128)
    (y : S2x256x24x128.Idx) (h0 : (y 0).val = (Scalar.indexCast (slotW i)).toNat) (h1 : (y 1).val = 8 * n.val + s.val) (h2 : (y 2).val = 2 * k.val + e.val) (h3 : (y 3).val = κ.val) :
    ldT i X k e n (ix2 s κ) = xvM.view.read (Elt Ideal) X y := ldB_apply xvM i X k e n s κ y h0 h1 h2 h3

theorem catT_apply (x : Fin 32 → FVec Ideal S8x128 .f32) (t : Fin 256) (κ : Fin 128) :
    catT x (ix2 t κ) = x ⟨t.val / 8, by omega⟩ (ix2 ⟨t.val % 8, by omega⟩ κ) := by
  unfold catT
  exact concatenate_ofFn_apply (t := S256x128) (s₁ := S8x128) 0 (N := 32) x _ rfl 8 rfl (ix2 t κ) ⟨t.val / 8, by omega⟩ rfl (ix2 ⟨t.val % 8, by omega⟩ κ) rfl
    (fun b hb => match b, hb with | ⟨0, _⟩, hb => absurd rfl hb | ⟨1, _⟩, _ => rfl)
theorem tokT_apply (x : Fin 32 → FVec Ideal S8x128 .f32) (t : Fin 256) (κ : Fin 128) :
    tokT x (ix2 t κ) = x ⟨t.val / 8, by omega⟩ (ix2 ⟨t.val % 8, by omega⟩ κ) := catT_apply x t κ

/-! ## The sign tables -/

theorem had_bits (ρ c : Fin 128) : ((((1#32 - 2#32 * foldP (chanW (iota .tc S128x128 32 [0] iota_S128x128_d0_w32 (ix2 ρ c)) &&& iota .tc S128x128 32 [1] iota_S128x128_d1_w32 (ix2 ρ c))).toInt : ℝ) : EReal)) = had (chan ρ) c := by
  unfold had
  refine congrArg (fun w : BitVec 32 => ((w.toInt : ℝ) : EReal)) ?_
  rw [← wal_fold, ← chanW_eq]
  have i0 : iota .tc S128x128 32 [0] iota_S128x128_d0_w32 (ix2 ρ c) = BitVec.ofNat 32 ρ.val := by
    unfold iota; simp [List.foldl]
  have i1 : iota .tc S128x128 32 [1] iota_S128x128_d1_w32 (ix2 ρ c) = BitVec.ofNat 32 c.val := by
    unfold iota; simp [List.foldl]
  rw [i0, i1]
theorem pay614_apply (sg : Vec Ideal S1x128 .f32) (ρ c : Fin 128) : k0_pay614 (F := Ideal) sg (ix2 ρ c) = had (chan ρ) c * sg (ix2 0 c) := by
  unfold k0_pay614
  dsimp only
  rw [mulf_apply]
  refine congrArg₂ (· * ·) ?_ ?_
  · rw [sitofp_apply]
    exact Eq.trans rfl (had_bits ρ c)
  · exact broadcastTo_1b_ab_apply _ _ _ _
theorem pay610_apply (ρ c : Fin 128) : k0_pay610 (F := Ideal) (ix2 ρ c) = had (chan ρ) c := by
  unfold k0_pay610
  dsimp only
  rw [truncf_apply, sitofp_apply]
  exact Eq.trans rfl (had_bits ρ c)

def tabS (s : ℕ) (A : EReal) : EReal := if s = 0 then A else if s = 1 then A - A else (A - A) - (A - A)

theorem pay618_apply (sg : Vec Ideal S1x128 .f32) (u : Fin 1) (ρ c : Fin 128) : k0_pay618 (F := Ideal) sg (ix3 u ρ c) = tabS 0 (had (chan ρ) c * sg (ix2 0 c)) := by
  obtain rfl : u = 0 := Subsingleton.elim _ _
  rw [← pay614_apply]
  unfold k0_pay618
  rw [shapeCast_ab_1ab_apply]
  rfl
theorem pay619_apply (sg : Vec Ideal S1x128 .f32) (u : Fin 1) (ρ c : Fin 128) : k0_pay619 (F := Ideal) sg (ix3 u ρ c) = tabS 1 (had (chan ρ) c * sg (ix2 0 c)) := by
  obtain rfl : u = 0 := Subsingleton.elim _ _
  rw [← pay614_apply]
  unfold k0_pay619
  rw [shapeCast_ab_1ab_apply]
  rfl
theorem pay620_apply (sg : Vec Ideal S1x128 .f32) (u : Fin 1) (ρ c : Fin 128) : k0_pay620 (F := Ideal) sg (ix3 u ρ c) = tabS 2 (had (chan ρ) c * sg (ix2 0 c)) := by
  obtain rfl : u = 0 := Subsingleton.elim _ _
  rw [← pay614_apply]
  unfold k0_pay620
  rw [shapeCast_ab_1ab_apply]
  rfl

/-- The tables' elements: head `j` of the block, table row `ρ`, then the three tables side by side. -/
def tabG (sg : Fin 16 → Fin 128 → EReal) (y : S16x128x384.Idx) : EReal :=
  tabS ((y 2).val / 128) (had (chan (y 1)) ⟨(y 2).val % 128, Nat.mod_lt _ (by decide)⟩ * sg (y 0) ⟨(y 2).val % 128, Nat.mod_lt _ (by decide)⟩)

theorem tab_piece (arg8 : Memref sig .tc .vmem S16x128 .f32) (X6 : BufTy.Contents (Elt Ideal) arg8.view.ty) (k : Fin k0_t1_loop.trips) (s : Fin 3) (w : Vec Ideal S1x128x128 .bf16)
    (sg : Fin 16 → Fin 128 → EReal) (hsg : ∀ (j : Fin 16) (c : Fin 128), arg8.view.read (Elt Ideal) X6 (ix2 j c) = sg j c)
    (hw : ∀ u ρ c, w (ix3 u ρ c) = tabS s.val (had (chan ρ) c * sgT arg8 X6 k (ix2 0 c))) (x : S1x128x128.Idx) :
    (tabP arg8 X6 k s w).2 x = tabG sg ((tabP arg8 X6 k s w).1.emb x) := by
  obtain ⟨u, ρ, c, rfl⟩ : ∃ u ρ c, x = ix3 (n0 := 1) (n1 := 128) (n2 := 128) u ρ c := ⟨x 0, x 1, x 2, eq_ix3 x⟩
  have hk : k.val < 16 := Nat.lt_of_lt_of_le k.isLt k0_t1_abs.2.1
  obtain rfl : u = 0 := Subsingleton.elim _ _
  refine (hw _ _ _).trans ?_
  have e0 : (tabP arg8 X6 k s w).1.emb (ix3 0 ρ c) 0 = (⟨k.val, hk⟩ : Fin 16) := Fin.ext (by show jI k + 1 * 0 = k.val; rw [jI_eq]; omega)
  have e1 : (tabP arg8 X6 k s w).1.emb (ix3 0 ρ c) 1 = ρ := Fin.ext (by show 0 + 1 * ρ.val = ρ.val; omega)
  have e2 : ((tabP arg8 X6 k s w).1.emb (ix3 0 ρ c) 2).val = 128 * s.val + c.val := by show 128 * s.val + 1 * c.val = _; omega
  have e3 : (⟨((tabP arg8 X6 k s w).1.emb (ix3 0 ρ c) 2).val % 128, Nat.mod_lt _ (by decide)⟩ : Fin 128) = c := Fin.ext (by show _ % 128 = _; rw [e2]; omega)
  have e4 : ((tabP arg8 X6 k s w).1.emb (ix3 0 ρ c) 2).val / 128 = s.val := by rw [e2]; omega
  unfold tabG
  rw [e3, e4]
  have eh : had (chan ((tabP arg8 X6 k s w).1.emb (ix3 0 ρ c) 1)) c = had (chan ρ) c := congrArg (fun r => had (chan r) c) e1
  have es : sg ((tabP arg8 X6 k s w).1.emb (ix3 0 ρ c) 0) c = sg ⟨k.val, hk⟩ c := congrArg (fun r => sg r c) e0
  rw [eh, es]
  have el : sgT arg8 X6 k (ix2 0 c) = sg ⟨k.val, hk⟩ c := by
    rw [← hsg]
    refine congrArg (arg8.view.read (Elt Ideal) X6) (funext fun a => Fin.ext ?_)
    match a with
    | ⟨0, _⟩ => show jI k + 1 * 0 = k.val; rw [jI_eq]; omega
    | ⟨1, _⟩ => show 0 + 1 * c.val = c.val; omega
  rw [el]

theorem wv_apply (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)
    (h3 : k0_cond5 i = 1#1) (X6 : BufTy.Contents (Elt Ideal) arg8.view.ty) (f0 : BufTy.Contents (Elt Ideal) wvM.view.ty)
    (sg : Fin 16 → Fin 128 → EReal) (hsg : ∀ (j : Fin 16) (c : Fin 128), arg8.view.read (Elt Ideal) X6 (ix2 j c) = sg j c) (y : S16x128x384.Idx) :
    wvM.view.read (Elt Ideal) (wvM.view.writes (Elt Ideal) f0 (pb1 (F := Ideal) c i arg6 harg6 arg7 harg7 arg8 harg8 arg9 harg9 arg10 harg10 arg11 harg11 arg12 harg12 h3 X6 k0_t1_loop.trips)) y = tabG sg y := by
  refine View.read_writes_apply_of_pieces (Val := Elt Ideal) (v := wvM.view) (f := f0) (G := tabG sg) _ ?_ y ?_
  · intro p hp
    obtain ⟨k, -, hk⟩ := (mem_pb1 c i arg6 harg6 arg7 harg7 arg8 harg8 arg9 harg9 arg10 harg10 arg11 harg11 arg12 harg12 h3 X6 p _ le_rfl).1 hp
    rw [trip1_tabs] at hk
    simp only [List.mem_cons, List.not_mem_nil, or_false] at hk
    rcases hk with rfl | rfl | rfl
    · exact tab_piece arg8 X6 k 2 _ sg hsg (fun u ρ c => pay620_apply _ u ρ c)
    · exact tab_piece arg8 X6 k 1 _ sg hsg (fun u ρ c => pay619_apply _ u ρ c)
    · exact tab_piece arg8 X6 k 0 _ sg hsg (fun u ρ c => pay618_apply _ u ρ c)
  · have ht : k0_t1_loop.trips = 16 := by decide
    have h0 : (y 0).val < 16 := (y 0).isLt
    have h1 : (y 1).val < 128 := (y 1).isLt
    have h2 : (y 2).val < 384 := (y 2).isLt
    have key : ∀ (s : Fin 3) (w : Vec Ideal S1x128x128 .bf16), (y 2).val / 128 = s.val → y ∈ (tabP arg8 X6 ⟨(y 0).val, by omega⟩ s w).1.set := by
      intro s w hs
      unfold tabP
      rw [Rect.mem_set_unit]
      intro a
      match a with
      | ⟨0, _⟩ => rw [jI_eq]; exact ⟨le_rfl, Nat.lt_succ_self _⟩
      | ⟨1, _⟩ => exact ⟨Nat.zero_le _, by show (y 1).val < 0 + 128; omega⟩
      | ⟨2, _⟩ => exact ⟨by show 128 * s.val ≤ (y 2).val; omega, by show (y 2).val < 128 * s.val + 128; omega⟩
    have hm : ∀ p, p ∈ (trip1 (F := Ideal) c i arg6 harg6 arg7 harg7 arg8 harg8 arg9 harg9 arg10 harg10 arg11 harg11 arg12 harg12 h3 X6 ⟨(y 0).val, by omega⟩).1 →
        p ∈ pb1 (F := Ideal) c i arg6 harg6 arg7 harg7 arg8 harg8 arg9 harg9 arg10 harg10 arg11 harg11 arg12 harg12 h3 X6 k0_t1_loop.trips := fun p hp =>
      (mem_pb1 c i arg6 harg6 arg7 harg7 arg8 harg8 arg9 harg9 arg10 harg10 arg11 harg11 arg12 harg12 h3 X6 p _ le_rfl).2 ⟨⟨(y 0).val, by omega⟩, by show (y 0).val < _; omega, hp⟩
    rw [trip1_tabs] at hm
    rcases (by omega : (y 2).val / 128 = 0 ∨ (y 2).val / 128 = 1 ∨ (y 2).val / 128 = 2) with h | h | h
    · exact ⟨_, hm _ (List.mem_cons_of_mem _ (List.mem_cons_of_mem _ List.mem_cons_self)), key 0 _ h⟩
    · exact ⟨_, hm _ (List.mem_cons_of_mem _ List.mem_cons_self), key 1 _ h⟩
    · exact ⟨_, hm _ List.mem_cons_self, key 2 _ h⟩

/-! ## The rotated row -/

/-- A head's rotated values of a token: the tables' three products of its signed channels. -/
theorem RT_row (i : grid0.Coords) (X : BufTy.Contents (Elt Ideal) xvM.view.ty) (W : BufTy.Contents (Elt Ideal) wvM.view.ty) (k : Fin k0_t2_loop.trips) (e : Fin 2) (t : Fin 256)
    (sg : Fin 16 → Fin 128 → EReal) (hW : ∀ y, wvM.view.read (Elt Ideal) W y = tabG sg y) (j : Fin 16) (hj : j.val = 2 * k.val + e.val)
    (x : Fin 128 → EReal)
    (hx : ∀ (y : S2x256x24x128.Idx) (κ : Fin 128), (y 0).val = (Scalar.indexCast (slotW i)).toNat → (y 1).val = t.val → (y 2).val = j.val → (y 3).val = κ.val →
      xvM.view.read (Elt Ideal) X y = x κ) :
    rowR (RT i X W k e) t = fun c => rowK (fun κ => had c κ * sg j κ) x := by
  funext c
  have hs := slot_lt i
  have tk : ∀ κ : Fin 128, tokT (ldT i X k e) (ix2 t κ) = x κ := by
    intro κ
    rw [tokT_apply, ldT_apply i X k e _ _ κ (ix4 ⟨_, hs⟩ t ⟨j.val, by omega⟩ κ) rfl (by show t.val = 8 * (t.val / 8) + t.val % 8; omega) hj rfl]
    exact hx _ κ rfl rfl rfl rfl
  have w2 : ∀ (κ : Fin 256), wT W k e (ix3 0 (chan c) κ) = tabS (κ.val / 128) (had c ⟨κ.val % 128, Nat.mod_lt _ (by decide)⟩ * sg j ⟨κ.val % 128, Nat.mod_lt _ (by decide)⟩) := by
    intro κ
    refine Eq.trans (b := wvM.view.read (Elt Ideal) W (ix3 j (chan c) ⟨κ.val, by omega⟩)) ?_ ((hW _).trans ?_)
    · refine congrArg (wvM.view.read (Elt Ideal) W) (funext fun a => Fin.ext ?_)
      match a with
      | ⟨0, _⟩ => show hI k (BitVec.ofNat 32 e.val) + 1 * 0 = j.val; rw [hI_eq]; omega
      | ⟨1, _⟩ => show 0 + 1 * (chan c).val = (chan c).val; omega
      | ⟨2, _⟩ => show 0 + 1 * κ.val = κ.val; omega
    · show tabS (κ.val / 128) (had (chan (chan c)) _ * sg j _) = _
      rw [chan_chan]
  have w1 : ∀ (κ : Fin 128), wT' W k e (ix3 0 (chan c) κ) = tabS 2 (had c κ * sg j κ) := by
    intro κ
    refine Eq.trans (b := wvM.view.read (Elt Ideal) W (ix3 j (chan c) ⟨256 + κ.val, by omega⟩)) ?_ ((hW _).trans ?_)
    · refine congrArg (wvM.view.read (Elt Ideal) W) (funext fun a => Fin.ext ?_)
      match a with
      | ⟨0, _⟩ => show hI k (BitVec.ofNat 32 e.val) + 1 * 0 = j.val; rw [hI_eq]; omega
      | ⟨1, _⟩ => show 0 + 1 * (chan c).val = (chan c).val; omega
      | ⟨2, _⟩ => show 256 + 1 * κ.val = 256 + κ.val; omega
    · show tabS ((256 + κ.val) / 128) (had (chan (chan c)) ⟨(256 + κ.val) % 128, _⟩ * sg j ⟨(256 + κ.val) % 128, _⟩) = _
      have e1 : (256 + κ.val) / 128 = 2 := by omega
      have e2 : (⟨(256 + κ.val) % 128, Nat.mod_lt _ (by decide)⟩ : Fin 128) = κ := Fin.ext (by show (256 + κ.val) % 128 = κ.val; omega)
      rw [chan_chan, e1, e2]
  show RT i X W k e (ix2 (chan c) t) = _
  unfold RT
  rw [rotT_apply]
  unfold rowK
  refine congrArg₂ (· + ·) (congrArg₂ (· + ·) ?_ ?_) ?_
  · refine Finset.sum_congr rfl fun κ _ => ?_
    rw [tk, w2]
    have e1 : κ.val / 128 = 0 := by omega
    have e2 : (⟨κ.val % 128, Nat.mod_lt _ (by decide)⟩ : Fin 128) = κ := Fin.ext (by show κ.val % 128 = κ.val; omega)
    dsimp only
    rw [e1, e2]; rfl
  · refine Finset.sum_congr rfl fun κ _ => ?_
    rw [tk, w2]
    have e1 : (128 + κ.val) / 128 = 1 := by omega
    have e2 : (⟨(128 + κ.val) % 128, Nat.mod_lt _ (by decide)⟩ : Fin 128) = κ := Fin.ext (by show (128 + κ.val) % 128 = κ.val; omega)
    dsimp only
    rw [e1, e2]; rfl
  · refine Finset.sum_congr rfl fun κ _ => ?_
    rw [tk, w1]; rfl

/-! ## The keys' tables -/

theorem had_list (c : Dev nD) : (hadRun (F := Ideal) c).1
    = [⟨Rect.unit (s := S128x256) ![0, 128] S128x128.size inb_S128x256_S128x128_0_128, (k0_pay612 : FVec Ideal S128x128 .bf16)⟩, ⟨Rect.unit (s := S128x256) ![0, 0] S128x128.size inb_S128x256_S128x128_0_0, (k0_pay611 : FVec Ideal S128x128 .bf16)⟩] := by
  unfold hadRun
  rfl

/-- The Hadamard rows, twice side by side. -/
def hadG (y : S128x256.Idx) : EReal := had (chan (y 0)) ⟨(y 1).val % 128, Nat.mod_lt _ (by decide)⟩

theorem had_piece (n : ℕ) (hn : n = 0 ∨ n = 128) (inb) (w : S128x128.Idx → EReal) (hw : ∀ ρ c, w (ix2 ρ c) = had (chan ρ) c) (x : S128x128.Idx) :
    w x = hadG ((Rect.unit (s := S128x256) ![0, n] S128x128.size inb).emb x) := by
  obtain ⟨ρ, c, rfl⟩ : ∃ ρ c, x = ix2 (n0 := 128) (n1 := 128) ρ c := ⟨x 0, x 1, eq_ix2 x⟩
  refine (hw ρ c).trans ?_
  unfold hadG
  have e0 : (Rect.unit (s := S128x256) ![0, n] S128x128.size inb).emb (ix2 ρ c) 0 = ρ := Fin.ext (by show 0 + 1 * ρ.val = ρ.val; omega)
  have e1 : ((Rect.unit (s := S128x256) ![0, n] S128x128.size inb).emb (ix2 ρ c) 1).val = n + c.val := by show n + 1 * c.val = _; omega
  have e2 : (⟨((Rect.unit (s := S128x256) ![0, n] S128x128.size inb).emb (ix2 ρ c) 1).val % 128, Nat.mod_lt _ (by decide)⟩ : Fin 128) = c := Fin.ext (by
    show _ % 128 = _; rw [e1]; omega)
  exact (congrArg₂ (fun r k => had (chan r) k) e0 e2).symm

theorem had_apply (c : Dev nD) (f : BufTy.Contents (Elt Ideal) hadM.view.ty) (h : HadGood c f) (y : S128x256.Idx) : hadM.view.read (Elt Ideal) f y = hadG y := by
  obtain ⟨f0, rfl⟩ := h
  rw [had_list]
  have h0 : (y 0).val < 128 := (y 0).isLt
  have h1 : (y 1).val < 256 := (y 1).isLt
  refine View.read_writes_apply_of_pieces (Val := Elt Ideal) (v := hadM.view) (f := f0) (G := hadG) _ ?_ y ?_
  · intro p hp
    simp only [List.mem_cons, List.not_mem_nil, or_false] at hp
    rcases hp with rfl | rfl
    · exact had_piece 128 (Or.inr rfl) inb_S128x256_S128x128_0_128 _ fun ρ c => by unfold k0_pay612; dsimp only; rw [shapeCast_self]; exact pay610_apply ρ c
    · exact had_piece 0 (Or.inl rfl) inb_S128x256_S128x128_0_0 _ fun ρ c => by unfold k0_pay611; dsimp only; rw [shapeCast_self]; exact pay610_apply ρ c
  · by_cases hc : (y 1).val < 128
    · refine ⟨_, List.mem_cons_of_mem _ List.mem_cons_self, ?_⟩
      rw [Rect.mem_set_unit]
      intro a
      match a with
      | ⟨0, _⟩ => exact ⟨Nat.zero_le _, by show (y 0).val < 0 + 128; omega⟩
      | ⟨1, _⟩ => exact ⟨Nat.zero_le _, by show (y 1).val < 0 + 128; omega⟩
    · refine ⟨_, List.mem_cons_self, ?_⟩
      rw [Rect.mem_set_unit]
      intro a
      match a with
      | ⟨0, _⟩ => exact ⟨Nat.zero_le _, by show (y 0).val < 0 + 128; omega⟩
      | ⟨1, _⟩ => exact ⟨by show 128 ≤ (y 1).val; omega, by show (y 1).val < 128 + 128; omega⟩

/-! ## The rotary tables -/

/-- The position of row `r` of page offset `o`'s tokens. -/
def posW (o cL cS : BitVec 32) (r : ℕ) : BitVec 32 :=
  Scalar.select (IntOp.cmpi .slt (BitVec.ofNat 32 r) 56#32) (BitVec.ofNat 32 r * 16#32 + (cL + ((o - cL) &&& 15#32))) ((BitVec.ofNat 32 r - 56#32) * 16#32 + (cS + ((o - cS) &&& 15#32)))
def angT (o cL cS : BitVec 32) (fr : FVec Ideal S1x128 .f32) : FVec Ideal S64x128 .f32 :=
  mulf (sitofp .f32 (select (cmpi .slt (iota .tc S64x128 32 [0] iota_S64x128_d0_w32) (broadcast S64x128 56#32))
      (addi (muli (iota .tc S64x128 32 [0] iota_S64x128_d0_w32) (broadcast S64x128 16#32)) (broadcast S64x128 (Scalar.addi cL (Scalar.andi (Scalar.subi o cL) 15#32))))
      (addi (muli (subi (iota .tc S64x128 32 [0] iota_S64x128_d0_w32) (broadcast S64x128 56#32)) (broadcast S64x128 16#32)) (broadcast S64x128 (Scalar.addi cS (Scalar.andi (Scalar.subi o cS) 15#32))))))
    (broadcastTo S64x128 (shapeCast S1x128 fr shapeCasts_S1x128_S1x128) broadcasts_S1x128_S64x128)
def sinT (a : FVec Ideal S64x128 .f32) : FVec Ideal S64x128 .f32 :=
  select (cmpi .slt (iota .tc S64x128 32 [1] iota_S64x128_d1_w32) (broadcast S64x128 64#32)) (subf (broadcast S64x128 (Scalar.ofBits .f32 0x00000000#32)) (sin a)) (sin a)
def oW (a1 : BitVec 32) (oi : ℕ) : BitVec 32 := a1 * 4#32 + BitVec.ofNat 32 oi

theorem angT_apply (o cL cS : BitVec 32) (fr : FVec Ideal S1x128 .f32) (r : Fin 64) (κ : Fin 128) :
    angT o cL cS fr (ix2 r κ) = (((posW o cL cS r.val).toInt : ℝ) : EReal) * fr (ix2 0 κ) := by
  unfold angT
  rw [mulf_apply, sitofp_apply]
  refine congrArg₂ (· * ·) ?_ ?_
  · have i0 : iota .tc S64x128 32 [0] iota_S64x128_d0_w32 (ix2 r κ) = BitVec.ofNat 32 r.val := by
      unfold iota; simp [List.foldl]
    unfold posW
    rw [← i0]
    rfl
  · refine (broadcastTo_1b_ab_apply _ _ _ _).trans ?_
    rw [shapeCast_self]
theorem sinT_apply (a : FVec Ideal S64x128 .f32) (r : Fin 64) (κ : Fin 128) :
    sinT a (ix2 r κ) = if κ.val < 64 then 0 - Ideal.sin (a (ix2 r κ)) else Ideal.sin (a (ix2 r κ)) := by
  unfold sinT
  rw [select_apply]
  have hc : cmpi .slt (iota .tc S64x128 32 [1] iota_S64x128_d1_w32) (broadcast S64x128 64#32) (ix2 r κ) = BitVec.ofBool (decide (κ.val < 64)) := by
    have i1 : iota .tc S64x128 32 [1] iota_S64x128_d1_w32 (ix2 r κ) = BitVec.ofNat 32 κ.val := by
      unfold iota; simp [List.foldl]
    show IntOp.cmpi .slt (iota .tc S64x128 32 [1] iota_S64x128_d1_w32 (ix2 r κ)) 64#32 = _
    rw [i1]
    exact (by decide +kernel : ∀ κ : Fin 128, IntOp.cmpi .slt (BitVec.ofNat 32 κ.val) 64#32 = BitVec.ofBool (decide (κ.val < 64))) κ
  rw [hc]
  show Scalar.select _ (Ideal.ofBits .f32 0x00000000#32 - Ideal.sin (a (ix2 r κ))) (Ideal.sin (a (ix2 r κ))) = _
  rw [zero_f32]
  by_cases h : κ.val < 64
  · rw [decide_eq_true h, if_pos h]; rfl
  · rw [decide_eq_false h, if_neg h]; rfl

def frT (arg6 : Memref sig .tc .vmem S1x128 .f32) (X6 : BufTy.Contents (Elt Ideal) arg6.view.ty) : Vec Ideal S1x128 .f32 :=
  View.readAt (Elt Ideal) arg6.view (Rect.unit (s := S1x128) ![0, 0] S1x128.size inb_S1x128_S1x128_0_0).toLoadRect X6
def rowP (i : grid0.Coords) (h4 : k0_cond4 i = 1#1) (w : Fin 4 → FVec Ideal S64x128 .f32) : List (View.Piece (Elt Ideal) S4x256x128 .f32) :=
  [⟨Rect.unit (s := S4x256x128) (k0_off36 i) S1x64x128.size (k0_off36_inb i h4), shapeCast S1x64x128 (w 3) shapeCasts_S64x128_S1x64x128⟩,
    ⟨Rect.unit (s := S4x256x128) (k0_off35 i) S1x64x128.size (k0_off35_inb i h4), shapeCast S1x64x128 (w 2) shapeCasts_S64x128_S1x64x128⟩,
    ⟨Rect.unit (s := S4x256x128) (k0_off34 i) S1x64x128.size (k0_off34_inb i h4), shapeCast S1x64x128 (w 1) shapeCasts_S64x128_S1x64x128⟩,
    ⟨Rect.unit (s := S4x256x128) (k0_off33 i) S1x64x128.size (k0_off33_inb i h4), shapeCast S1x64x128 (w 0) shapeCasts_S64x128_S1x64x128⟩]

section
variable (c : Dev nD) (i : grid0.Coords) (arg6 : Memref sig .tc .vmem S1x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S2x16x64x128 .i8) (harg9 : arg9.IsWhole) (arg10 : Memref sig .tc .vmem S2x16x4x128 .bf16) (harg10 : arg10.IsWhole) (arg11 : Memref sig .tc .vmem S2x16x64x128 .i8) (harg11 : arg11.IsWhole) (arg12 : Memref sig .tc .vmem S2x16x4x128 .bf16) (harg12 : arg12.IsWhole)
    (h4 : k0_cond4 i = 1#1) (a1 cL cS : BitVec 32) (X6 : BufTy.Contents (Elt Ideal) arg6.view.ty)
theorem cos_list : (rotRun (F := Ideal) c i arg6 harg6 arg7 harg7 arg8 harg8 arg9 harg9 arg10 harg10 arg11 harg11 arg12 harg12 h4 a1 cL cS X6).1
    = rowP i h4 (fun oi => cos (angT (oW a1 oi.val) cL cS (frT arg6 X6))) := by
  unfold rotRun
  rfl
theorem sin_list : (rotRun (F := Ideal) c i arg6 harg6 arg7 harg7 arg8 harg8 arg9 harg9 arg10 harg10 arg11 harg11 arg12 harg12 h4 a1 cL cS X6).2.1
    = rowP i h4 (fun oi => sinT (angT (oW a1 oi.val) cL cS (frT arg6 X6))) := by
  unfold rotRun
  rfl
end

theorem row_offs : ∀ (i : grid0.Coords), (k0_off33 i 0 = (i 1).val ∧ k0_off33 i 1 = 0 ∧ k0_off33 i 2 = 0) ∧ (k0_off34 i 0 = (i 1).val ∧ k0_off34 i 1 = 64 ∧ k0_off34 i 2 = 0)
    ∧ (k0_off35 i 0 = (i 1).val ∧ k0_off35 i 1 = 128 ∧ k0_off35 i 2 = 0) ∧ (k0_off36 i 0 = (i 1).val ∧ k0_off36 i 1 = 192 ∧ k0_off36 i 2 = 0) := by decide +kernel

/-- A row of four parts, by element. -/
def rowG (w : Fin 4 → FVec Ideal S64x128 .f32) (y : S4x256x128.Idx) : EReal :=
  w ⟨(y 1).val / 64, by have h : (y 1).val < 256 := (y 1).isLt; omega⟩ (ix2 ⟨(y 1).val % 64, Nat.mod_lt _ (by decide)⟩ (y 2))
theorem row_piece (w : Fin 4 → FVec Ideal S64x128 .f32) (oi : Fin 4) (off : Fin 3 → ℕ) (inb) (h1 : off 1 = 64 * oi.val) (h2 : off 2 = 0) (x : S1x64x128.Idx) :
    shapeCast S1x64x128 (w oi) shapeCasts_S64x128_S1x64x128 x = rowG w ((Rect.unit (s := S4x256x128) off S1x64x128.size inb).emb x) := by
  obtain ⟨u, r, κ, rfl⟩ : ∃ u r κ, x = ix3 (n0 := 1) (n1 := 64) (n2 := 128) u r κ := ⟨x 0, x 1, x 2, eq_ix3 x⟩
  obtain rfl : u = 0 := Subsingleton.elim _ _
  rw [shapeCast_ab_1ab_apply]
  unfold rowG
  have e1 : ((Rect.unit (s := S4x256x128) off S1x64x128.size inb).emb (ix3 0 r κ) 1).val = 64 * oi.val + r.val := by show off 1 + 1 * r.val = _; omega
  have e2 : (Rect.unit (s := S4x256x128) off S1x64x128.size inb).emb (ix3 0 r κ) 2 = κ := Fin.ext (by show off 2 + 1 * κ.val = _; omega)
  have a1 : (⟨((Rect.unit (s := S4x256x128) off S1x64x128.size inb).emb (ix3 0 r κ) 1).val / 64, by omega⟩ : Fin 4) = oi := Fin.ext (by show _ / 64 = _; omega)
  have a2 : (⟨((Rect.unit (s := S4x256x128) off S1x64x128.size inb).emb (ix3 0 r κ) 1).val % 64, Nat.mod_lt _ (by decide)⟩ : Fin 64) = r := Fin.ext (by show _ % 64 = _; omega)
  have e2' : ((Rect.unit (s := S4x256x128) off S1x64x128.size inb).emb (ix3 0 r κ) 2 : Fin 128) = κ := e2
  refine Eq.symm ((congrArg (fun o => w o _) a1).trans (congrArg (w oi) ?_))
  exact congrArg₂ (fun a b => ix2 (n0 := 64) (n1 := 128) a b) a2 e2'
theorem row_apply {sp : Space} (v : View sig .tc sp S4x256x128 .f32) (f : v.ty.Contents (Elt Ideal)) (i : grid0.Coords) (h4 : k0_cond4 i = 1#1) (w : Fin 4 → FVec Ideal S64x128 .f32) (y : S4x256x128.Idx) (hy : (y 0).val = (i 1).val) :
    v.read (Elt Ideal) (v.writes (Elt Ideal) f (rowP i h4 w)) y = rowG w y := by
  obtain ⟨⟨a0, a1, a2⟩, ⟨b0, b1, b2⟩, ⟨c0, c1, c2⟩, ⟨d0, d1, d2⟩⟩ := row_offs i
  have h1 : (y 1).val < 256 := (y 1).isLt
  have h2 : (y 2).val < 128 := (y 2).isLt
  refine View.read_writes_apply_of_pieces (Val := Elt Ideal) (v := v) (f := f) (G := rowG w) _ ?_ y ?_
  · intro p hp
    unfold rowP at hp
    simp only [List.mem_cons, List.not_mem_nil, or_false] at hp
    rcases hp with rfl | rfl | rfl | rfl
    · exact row_piece w 3 _ (k0_off36_inb i h4) d1 d2
    · exact row_piece w 2 _ (k0_off35_inb i h4) c1 c2
    · exact row_piece w 1 _ (k0_off34_inb i h4) b1 b2
    · exact row_piece w 0 _ (k0_off33_inb i h4) a1 a2
  · have key : ∀ (off : Fin 3 → ℕ) (inb), off 0 = (i 1).val → off 1 ≤ (y 1).val → (y 1).val < off 1 + 64 → off 2 = 0 → y ∈ (Rect.unit (s := S4x256x128) off S1x64x128.size inb).set := by
      intro off inb g0 g1 g1' g2
      rw [Rect.mem_set_unit]
      intro a
      match a with
      | ⟨0, _⟩ => exact ⟨by show off 0 ≤ (y 0).val; omega, by show (y 0).val < off 0 + 1; omega⟩
      | ⟨1, _⟩ => exact ⟨g1, g1'⟩
      | ⟨2, _⟩ => exact ⟨by show off 2 ≤ (y 2).val; omega, by show (y 2).val < off 2 + 128; omega⟩
    unfold rowP
    rcases (by omega : (y 1).val / 64 = 0 ∨ (y 1).val / 64 = 1 ∨ (y 1).val / 64 = 2 ∨ (y 1).val / 64 = 3) with h | h | h | h
    · exact ⟨_, List.mem_cons_of_mem _ (List.mem_cons_of_mem _ (List.mem_cons_of_mem _ List.mem_cons_self)), key _ (k0_off33_inb i h4) a0 (by omega) (by omega) a2⟩
    · exact ⟨_, List.mem_cons_of_mem _ (List.mem_cons_of_mem _ List.mem_cons_self), key _ (k0_off34_inb i h4) b0 (by omega) (by omega) b2⟩
    · exact ⟨_, List.mem_cons_of_mem _ List.mem_cons_self, key _ (k0_off35_inb i h4) c0 (by omega) (by omega) c2⟩
    · exact ⟨_, List.mem_cons_self, key _ (k0_off36_inb i h4) d0 (by omega) (by omega) d2⟩

/-! ## The keys' rotated row -/

theorem rotK_apply (y : FVec Ideal S256x128 .f32) (h2 : Vec Ideal S128x256 .bf16) (h1 : Vec Ideal S128x128 .bf16) (ρ : Fin 128) (t : Fin 256) :
    rotK y h2 h1 (ix2 ρ t) = ((∑ κ : Fin 128, h2 (ix2 ρ ⟨κ.val, by omega⟩) * y (ix2 t κ)) + ∑ κ : Fin 128, h2 (ix2 ρ ⟨128 + κ.val, by omega⟩) * (y (ix2 t κ) - y (ix2 t κ)))
      + ∑ κ : Fin 128, h1 (ix2 ρ κ) * ((y (ix2 t κ) - y (ix2 t κ)) - (y (ix2 t κ) - y (ix2 t κ))) := by
  unfold rotK
  rw [addf_apply]
  have e2 := Ideal.matmul_transposedRhs_apply (M := 128) (K := 256) (N := 256) (φ₁ := .bf16) (φ₂ := .bf16) none h2
    (concatenate S256x256 1 [⟨S256x128, truncf .bf16 (hiT y) bitsLt_bf16_f32⟩, ⟨S256x128, truncf .bf16 (hiT (subf y (hiT y))) bitsLt_bf16_f32⟩] concatenates_S256x128_S256x128_S256x256_d1) (constant S128x256 .f32 0x00000000#32) ρ t
  have e1 := Ideal.matmul_transposedRhs_apply (M := 128) (K := 128) (N := 256) (φ₁ := .bf16) (φ₂ := .bf16) none h1
    (truncf .bf16 (subf (subf y (hiT y)) (hiT (subf y (hiT y)))) bitsLt_bf16_f32) (constant S128x256 .f32 0x00000000#32) ρ t
  have z : (constant S128x256 .f32 0x00000000#32 : FVec Ideal S128x256 .f32) (ix2 ρ t) = 0 := zero_f32
  rw [z, zero_add] at e1 e2
  refine congrArg₂ (· + ·) (e2.trans ?_) (e1.trans ?_)
  · refine (Fin.sum_univ_add (a := 128) (b := 128) _).trans (congrArg₂ (· + ·) (Finset.sum_congr rfl fun κ _ => ?_) (Finset.sum_congr rfl fun κ _ => ?_))
    · exact congrArg (_ * ·) (twice_lo _ _ t κ)
    · exact congrArg (_ * ·) (twice_hi _ _ t κ)
  · rfl

theorem rotL_apply {α : Type} (x : S8x128.Idx → α) (s : Fin 8) (κ : Fin 128) :
    dynamicRotate (s := S8x128) 1 64#32 none x rotates_S8x128_d1 (ix2 s κ) = x (ix2 s ⟨(κ.val + 64) % 128, Nat.mod_lt _ (by decide)⟩) := by
  unfold dynamicRotate
  dsimp only
  congr 1
  funext b
  match b with
  | ⟨0, _⟩ => rfl
  | ⟨1, _⟩ =>
    refine Fin.ext ?_
    show (κ.val + 128 - 64 % 128) % 128 = (κ.val + 64) % 128
    congr 1

theorem tabT_apply (M : Memref sig .tc .vmem S4x256x128 .f32) (i : grid0.Coords) (f : BufTy.Contents (Elt Ideal) M.view.ty) (n : Fin 32) (s : Fin 8) (κ : Fin 128)
    (y : S4x256x128.Idx) (h0 : (y 0).val = (i 1).val) (h1 : (y 1).val = 8 * n.val + s.val) (h2 : (y 2).val = κ.val) :
    tabT M i f n (ix2 s κ) = M.view.read (Elt Ideal) f y := by
  unfold tabT
  refine (shapeCast_1ab_ab_apply _ _ _ _).trans ?_
  refine congrArg (M.view.read (Elt Ideal) f) (funext fun a => Fin.ext ?_)
  have e : ∀ q : Fin 4, (Scalar.indexCast (BitVec.ofNat 32 q.val) : Index).toNat = q.val := by decide
  match a with
  | ⟨0, _⟩ =>
    refine Eq.trans ?_ h0.symm
    show (Scalar.indexCast (BitVec.ofNat 32 (i 1).val) : Index).toNat + 1 * 0 = (i 1).val
    rw [e (i 1)]; omega
  | ⟨1, _⟩ =>
    refine Eq.trans ?_ h1.symm
    show 8 * n.val + 1 * s.val = _
    omega
  | ⟨2, _⟩ =>
    refine Eq.trans ?_ h2.symm
    show 0 + 1 * κ.val = _
    omega

/-- A head's rotated keys of a token: the three parts' products of its turned and signed channels. -/
theorem RK_row (i : grid0.Coords) (arg7 : Memref sig .tc .vmem S16x128 .f32) (Xk : BufTy.Contents (Elt Ideal) xkM.view.ty) (Co : BufTy.Contents (Elt Ideal) cosM.view.ty) (Si : BufTy.Contents (Elt Ideal) sinM.view.ty)
    (X7 : BufTy.Contents (Elt Ideal) arg7.view.ty) (Hd : BufTy.Contents (Elt Ideal) hadM.view.ty) (k : Fin k0_t2_loop.trips) (e : Fin 2) (t : Fin 256)
    (sg : Fin 128 → EReal) (j : Fin 16) (hj : j.val = 2 * k.val + e.val) (hsg : ∀ κ, arg7.view.read (Elt Ideal) X7 (ix2 j κ) = sg κ)
    (hH : ∀ y, hadM.view.read (Elt Ideal) Hd y = hadG y) (x co si : Fin 128 → EReal)
    (hx : ∀ (y : S2x256x24x128.Idx) (κ : Fin 128), (y 0).val = (Scalar.indexCast (slotW i)).toNat → (y 1).val = t.val → (y 2).val = j.val → (y 3).val = κ.val →
      xkM.view.read (Elt Ideal) Xk y = x κ)
    (hc : ∀ κ, cosM.view.read (Elt Ideal) Co (ix3 (i 1) t κ) = co κ) (hs : ∀ κ, sinM.view.read (Elt Ideal) Si (ix3 (i 1) t κ) = si κ) :
    rowR (RK i arg7 Xk Co Si X7 Hd k e) t = fun c => rowY (had c) (fun κ => (x κ * co κ + x ⟨(κ.val + 64) % 128, Nat.mod_lt _ (by decide)⟩ * si κ) * sg κ) := by
  funext c
  have hsl := slot_lt i
  have ld : ∀ κ : Fin 128, ldB xkM i Xk k e ⟨t.val / 8, by omega⟩ (ix2 ⟨t.val % 8, by omega⟩ κ) = x κ := by
    intro κ
    rw [ldB_apply xkM i Xk k e _ _ κ (ix4 ⟨_, hsl⟩ t ⟨j.val, by omega⟩ κ) rfl (by show t.val = 8 * (t.val / 8) + t.val % 8; omega) hj rfl]
    exact hx _ κ rfl rfl rfl rfl
  have yk : ∀ κ : Fin 128, catT (fun n => turnT (ldB xkM i Xk k e n) (tabT cosM i Co n) (tabT sinM i Si n) (sgK arg7 X7 k e)) (ix2 t κ)
      = (x κ * co κ + x ⟨(κ.val + 64) % 128, Nat.mod_lt _ (by decide)⟩ * si κ) * sg κ := by
    intro κ
    rw [catT_apply]
    unfold turnT
    rw [mulf_apply, addf_apply, mulf_apply, mulf_apply, extf_apply, extf_apply, ld κ]
    have r := rotL_apply (ldB xkM i Xk k e ⟨t.val / 8, by omega⟩) ⟨t.val % 8, by omega⟩ κ
    rw [ld] at r
    have c1 := tabT_apply cosM i Co ⟨t.val / 8, by omega⟩ ⟨t.val % 8, by omega⟩ κ (ix3 (i 1) t κ) rfl (by show t.val = 8 * (t.val / 8) + t.val % 8; omega) rfl
    have c2 := tabT_apply sinM i Si ⟨t.val / 8, by omega⟩ ⟨t.val % 8, by omega⟩ κ (ix3 (i 1) t κ) rfl (by show t.val = 8 * (t.val / 8) + t.val % 8; omega) rfl
    have c3 : broadcastTo S8x128 (sgK arg7 X7 k e) broadcasts_S1x128_S8x128 (ix2 ⟨t.val % 8, by omega⟩ κ) = sg κ := by
      refine (broadcastTo_1b_ab_apply _ _ _ _).trans (Eq.trans ?_ (hsg κ))
      refine congrArg (arg7.view.read (Elt Ideal) X7) (funext fun a => Fin.ext ?_)
      match a with
      | ⟨0, _⟩ => show hI k (BitVec.ofNat 32 e.val) + 1 * 0 = j.val; rw [hI_eq]; omega
      | ⟨1, _⟩ => show 0 + 1 * κ.val = κ.val; omega
    exact congrArg₂ (· * ·) (congrArg₂ (· + ·) (congrArg (x κ * ·) (c1.trans (hc κ))) (congrArg₂ (· * ·) r (c2.trans (hs κ)))) c3
  have h2 : ∀ (κ : Fin 256), hT Hd (ix2 (chan c) κ) = had c ⟨κ.val % 128, Nat.mod_lt _ (by decide)⟩ := by
    intro κ
    refine Eq.trans (b := hadM.view.read (Elt Ideal) Hd (ix2 (chan c) κ)) ?_ ((hH _).trans ?_)
    · refine congrArg (hadM.view.read (Elt Ideal) Hd) (funext fun a => Fin.ext ?_)
      match a with
      | ⟨0, _⟩ => show 0 + 1 * (chan c).val = (chan c).val; omega
      | ⟨1, _⟩ => show 0 + 1 * κ.val = κ.val; omega
    · show had (chan (chan c)) _ = _
      rw [chan_chan]
  have h1 : ∀ (κ : Fin 128), hT' Hd (ix2 (chan c) κ) = had c κ := by
    intro κ
    refine Eq.trans (b := hadM.view.read (Elt Ideal) Hd (ix2 (chan c) ⟨κ.val, by omega⟩)) ?_ ((hH _).trans ?_)
    · refine congrArg (hadM.view.read (Elt Ideal) Hd) (funext fun a => Fin.ext ?_)
      match a with
      | ⟨0, _⟩ => show 0 + 1 * (chan c).val = (chan c).val; omega
      | ⟨1, _⟩ => show 0 + 1 * κ.val = κ.val; omega
    · show had (chan (chan c)) ⟨κ.val % 128, _⟩ = _
      have e2 : (⟨κ.val % 128, Nat.mod_lt _ (by decide)⟩ : Fin 128) = κ := Fin.ext (by show κ.val % 128 = κ.val; omega)
      rw [chan_chan, e2]
  show RK i arg7 Xk Co Si X7 Hd k e (ix2 (chan c) t) = _
  unfold RK
  rw [rotK_apply]
  unfold rowY
  refine congrArg₂ (· + ·) (congrArg₂ (· + ·) ?_ ?_) ?_
  · refine Finset.sum_congr rfl fun κ _ => ?_
    have e2 : (⟨κ.val % 128, Nat.mod_lt _ (by decide)⟩ : Fin 128) = κ := Fin.ext (by show κ.val % 128 = κ.val; omega)
    rw [yk, h2]
    dsimp only
    rw [e2]
  · refine Finset.sum_congr rfl fun κ _ => ?_
    have e2 : (⟨(128 + κ.val) % 128, Nat.mod_lt _ (by decide)⟩ : Fin 128) = κ := Fin.ext (by show (128 + κ.val) % 128 = κ.val; omega)
    rw [yk, h2]
    dsimp only
    rw [e2]
  · refine Finset.sum_congr rfl fun κ _ => ?_
    rw [yk, h1]

end Cert.KernelIdeal.Hand

end
-- ==== Proof.Src.lean ====
module

public import proofs.«01_k».proof.Proof.Math

@[expose] public section

set_option maxRecDepth 16384

noncomputable section

namespace Cert.Val

open Idealize.ShloMosaic

/-! # Where a result's token comes from -/

/-- The longer sequence, by the first sequence's last slot `w`. -/
def lng (w : BitVec 32) : BitVec 32 := Scalar.select (Scalar.cmpi .sge w 0#32) 0#32 1#32
theorem lng_cases (w : BitVec 32) : lng w = 0#32 ∨ lng w = 1#32 := by
  unfold lng Scalar.select; split <;> simp
theorem lng_lt (w : BitVec 32) : (lng w).toNat < 2 := by
  rcases lng_cases w with h | h <;> rw [h] <;> decide

/-- The sequence result row `row` reads: fifty-six pages of the longer one, then eight of the shorter. -/
def srcB (w : BitVec 32) (row : ℕ) : ℕ := if row < 56 then (lng w).toNat else 1 - (lng w).toNat
/-- The row within a page that page offset `o` reads, the context length `ctx`. -/
def inPage (o : ℕ) (ctx : BitVec 32) : ℕ := ((BitVec.ofNat 32 o - ctx) &&& 15#32).toNat
/-- The two context lengths, `p` the first position of either sequence. -/
def ctxOf (p : Fin 2 → BitVec 32) (b : ℕ) : BitVec 32 := if b = 0 then p 0 else p 1
/-- The position within its sequence. -/
def srcP (w : BitVec 32) (p : Fin 2 → BitVec 32) (o row : ℕ) : ℕ := 16 * (if row < 56 then row else row - 56) + inPage o (ctxOf p (srcB w row))

theorem srcB_lt (w : BitVec 32) (row : ℕ) : srcB w row < 2 := by
  have := lng_lt w
  unfold srcB; split <;> omega
theorem inPage_lt (o : ℕ) (ctx : BitVec 32) : inPage o ctx < 16 := by
  unfold inPage
  rw [BitVec.toNat_and]
  exact Nat.lt_succ_of_le Nat.and_le_right
theorem srcP_lt (w : BitVec 32) (p : Fin 2 → BitVec 32) (o row : ℕ) (h : row < 64) : srcP w p o row < 896 := by
  have := inPage_lt o (ctxOf p (srcB w row))
  unfold srcP; split <;> omega

/-- The values of head `h` of the token that page offset `o` and row `row` read. -/
def srcX (x : Fin 2 → Fin 896 → Fin 80 → Fin 128 → EReal) (w : BitVec 32) (p : Fin 2 → BitVec 32) (o : ℕ) (row : Fin 64) (h : Fin 80) : Fin 128 → EReal :=
  fun κ => x ⟨srcB w row.val, srcB_lt w row.val⟩ ⟨srcP w p o row.val, srcP_lt w p o row.val row.isLt⟩ h κ

/-- A result token's rotated channels, before the normalisation. -/
def srcRow (x : Fin 2 → Fin 896 → Fin 80 → Fin 128 → EReal) (s : Fin 80 → Fin 128 → EReal) (w : BitVec 32) (p : Fin 2 → BitVec 32) (o : ℕ) (row : Fin 64) (h : Fin 80) :
    Fin 128 → EReal :=
  fun c => ∑ κ, (srcX x w p o row h κ * s h κ) * had c κ

/-- What the results hold: codes two to a byte, and scales. -/
def outCode (x : Fin 2 → Fin 896 → Fin 80 → Fin 128 → EReal) (s : Fin 80 → Fin 128 → EReal) (w : BitVec 32) (p : Fin 2 → BitVec 32)
    (P : Fin 8) (h : Fin 80) (b : Fin 64) (l : Fin 128) : BitVec 8 :=
  byteS (srcRow x s w p (2 * P.val + l.val / 64) ⟨l.val % 64, Nat.mod_lt _ (by decide)⟩ h) b
def outScale (x : Fin 2 → Fin 896 → Fin 80 → Fin 128 → EReal) (s : Fin 80 → Fin 128 → EReal) (w : BitVec 32) (p : Fin 2 → BitVec 32)
    (P : Fin 8) (h : Fin 80) (g : Fin 4) (l : Fin 128) : EReal :=
  scaleS (srcRow x s w p (2 * P.val + l.val / 64) ⟨l.val % 64, Nat.mod_lt _ (by decide)⟩ h) g

end Cert.Val
-- ==== Proof.RingVal.lean ====
module

public import proofs.«01_k».proof.Proof.Rot
public import proofs.«01_k».proof.Proof.Src

@[expose] public section

set_option maxRecDepth 16384
set_option maxHeartbeats 1000000

noncomputable section

namespace Cert.KernelIdeal.Hand

open Cert.KernelIdeal Cert.KernelIdeal.Gen Cert.Val
open Idealize.ShloMosaic Idealize.ShloMosaic.TcCoe Idealize.ShloMosaic.ValueIdx

/-! # What the ring and the tables hold, as the arguments' elements -/

theorem lng_eq (w : BitVec 32) : bL w = lng w := rfl

/-! ## The blocks' elements -/

section
variable {F : FTy → Type}
theorem dL_read (M : RingM) (off : Fin 4 → ℕ) (inb) (f : BufTy.Contents (Elt F) M.view.ty) (a : Fin 56) (h : Fin 16) (κ : Fin 128) (y : S2x256x24x128.Idx)
    (h0 : (y 0).val = off 0) (h1 : (y 1).val = off 1 + a.val) (h2 : (y 2).val = off 2 + h.val) (h3 : (y 3).val = off 3 + κ.val) :
    (dLm M off inb).view.read (Elt F) f (ix3 a h κ) = M.view.read (Elt F) f y := by
  refine Eq.trans (b := M.view.read (Elt F) f ((Rect.unit (s := S2x256x24x128) off S1x56x16x128.size inb).emb (Shape.reshapeEquiv squeezes_S1x56x16x128_S56x16x128.numel_eq (ix3 a h κ)))) rfl ?_
  refine congrArg (M.view.read (Elt F) f) ?_
  have e := reshapeEquiv_ix3_1abc squeezes_S1x56x16x128_S56x16x128.numel_eq a h κ
  refine (congrArg _ e).trans (funext fun b => Fin.ext ?_)
  match b with
  | ⟨0, _⟩ => show off 0 + 1 * 0 = (y 0).val; omega
  | ⟨1, _⟩ => show off 1 + 1 * a.val = (y 1).val; omega
  | ⟨2, _⟩ => show off 2 + 1 * h.val = (y 2).val; omega
  | ⟨3, _⟩ => show off 3 + 1 * κ.val = (y 3).val; omega
theorem dS_read (M : RingM) (off : Fin 4 → ℕ) (inb) (f : BufTy.Contents (Elt F) M.view.ty) (a : Fin 8) (h : Fin 16) (κ : Fin 128) (y : S2x256x24x128.Idx)
    (h0 : (y 0).val = off 0) (h1 : (y 1).val = off 1 + a.val) (h2 : (y 2).val = off 2 + h.val) (h3 : (y 3).val = off 3 + κ.val) :
    (dSm M off inb).view.read (Elt F) f (ix3 a h κ) = M.view.read (Elt F) f y := by
  refine Eq.trans (b := M.view.read (Elt F) f ((Rect.unit (s := S2x256x24x128) off S1x8x16x128.size inb).emb (Shape.reshapeEquiv squeezes_S1x8x16x128_S8x16x128.numel_eq (ix3 a h κ)))) rfl ?_
  refine congrArg (M.view.read (Elt F) f) ?_
  have e := reshapeEquiv_ix3_1abc squeezes_S1x8x16x128_S8x16x128.numel_eq a h κ
  refine (congrArg _ e).trans (funext fun b => Fin.ext ?_)
  match b with
  | ⟨0, _⟩ => show off 0 + 1 * 0 = (y 0).val; omega
  | ⟨1, _⟩ => show off 1 + 1 * a.val = (y 1).val; omega
  | ⟨2, _⟩ => show off 2 + 1 * h.val = (y 2).val; omega
  | ⟨3, _⟩ => show off 3 + 1 * κ.val = (y 3).val; omega
theorem sL_read (H : PageM) (off : Fin 5 → ℕ) (inb) (f : BufTy.Contents (Elt F) H.view.ty) (a : Fin 56) (h : Fin 16) (κ : Fin 128) (y : S2x56x16x80x128.Idx)
    (h0 : (y 0).val = off 0) (h1 : (y 1).val = off 1 + a.val) (h2 : (y 2).val = off 2) (h3 : (y 3).val = off 3 + h.val) (h4 : (y 4).val = off 4 + κ.val) :
    (sLm H off inb).view.read (Elt F) f (ix3 a h κ) = H.view.read (Elt F) f y := by
  refine Eq.trans (b := H.view.read (Elt F) f ((Rect.unit (s := S2x56x16x80x128) off S1x56x1x16x128.size inb).emb (Shape.reshapeEquiv squeezes_S1x56x1x16x128_S56x16x128.numel_eq (ix3 a h κ)))) rfl ?_
  refine congrArg (H.view.read (Elt F) f) ?_
  have e := reshapeEquiv_ix3_1a1bc squeezes_S1x56x1x16x128_S56x16x128.numel_eq a h κ
  refine (congrArg _ e).trans (funext fun b => Fin.ext ?_)
  match b with
  | ⟨0, _⟩ => show off 0 + 1 * 0 = (y 0).val; omega
  | ⟨1, _⟩ => show off 1 + 1 * a.val = (y 1).val; omega
  | ⟨2, _⟩ => show off 2 + 1 * 0 = (y 2).val; omega
  | ⟨3, _⟩ => show off 3 + 1 * h.val = (y 3).val; omega
  | ⟨4, _⟩ => show off 4 + 1 * κ.val = (y 4).val; omega
theorem sS_read (H : PageM) (off : Fin 5 → ℕ) (inb) (f : BufTy.Contents (Elt F) H.view.ty) (a : Fin 8) (h : Fin 16) (κ : Fin 128) (y : S2x56x16x80x128.Idx)
    (h0 : (y 0).val = off 0) (h1 : (y 1).val = off 1 + a.val) (h2 : (y 2).val = off 2) (h3 : (y 3).val = off 3 + h.val) (h4 : (y 4).val = off 4 + κ.val) :
    (sSm H off inb).view.read (Elt F) f (ix3 a h κ) = H.view.read (Elt F) f y := by
  refine Eq.trans (b := H.view.read (Elt F) f ((Rect.unit (s := S2x56x16x80x128) off S1x8x1x16x128.size inb).emb (Shape.reshapeEquiv squeezes_S1x8x1x16x128_S8x16x128.numel_eq (ix3 a h κ)))) rfl ?_
  refine congrArg (H.view.read (Elt F) f) ?_
  have e := reshapeEquiv_ix3_1a1bc squeezes_S1x8x1x16x128_S8x16x128.numel_eq a h κ
  refine (congrArg _ e).trans (funext fun b => Fin.ext ?_)
  match b with
  | ⟨0, _⟩ => show off 0 + 1 * 0 = (y 0).val; omega
  | ⟨1, _⟩ => show off 1 + 1 * a.val = (y 1).val; omega
  | ⟨2, _⟩ => show off 2 + 1 * 0 = (y 2).val; omega
  | ⟨3, _⟩ => show off 3 + 1 * h.val = (y 3).val; omega
  | ⟨4, _⟩ => show off 4 + 1 * κ.val = (y 4).val; omega
end

/-! ## The arrays before the region -/

section
variable {F : FTy → Type} [FloatOps F]
variable (m : (ℓ : Loc nD τ sig) → Buf (Elt F) ℓ) (c : Dev nD)

theorem Km_eq : Km m c = (shapeCast S2x56x16x80x128 (m ((c : Thread nD τ).loc main_arg0) : S2x896x80x128.Idx → Elt F .bf16) shapeCasts_S2x896x80x128_S2x56x16x80x128 : S2x56x16x80x128.Idx → Elt F .bf16) := rfl
theorem Vm_eq : Vm m c = (shapeCast S2x56x16x80x128 (m ((c : Thread nD τ).loc main_arg1) : S2x896x80x128.Idx → Elt F .bf16) shapeCasts_S2x896x80x128_S2x56x16x80x128 : S2x56x16x80x128.Idx → Elt F .bf16) := rfl
theorem Sm_eq : Sm m c = (shapeCast S1792 (m ((c : Thread nD τ).loc main_arg4) : S2x896.Idx → Elt F .i32) shapeCasts_S2x896_S1792 : S1792.Idx → Elt F .i32) := rfl
theorem Pm_eq : Pm m c = (shapeCast S1792 (m ((c : Thread nD τ).loc main_arg5) : S2x896.Idx → Elt F .i32) shapeCasts_S2x896_S1792 : S1792.Idx → Elt F .i32) := rfl

theorem after_take {Val : EltTy → Type} : ∀ (n : ℕ) (l : List (HloOp τ sig Val)) (W : Valuation τ sig Val), StableHlo.after (l.drop n) (StableHlo.after (l.take n) W) = StableHlo.after l W
  | 0, _, _ => rfl
  | _ + 1, [], _ => rfl
  | n + 1, _ :: l, W => after_take n l _
/-- The frequencies of half a row. -/
def powA : FVec F S64 .f32 :=
  Host.powf (broadcastInDim S64 ![] bcast_S_S64 (constant S_ .f32 0x461C4000#32)) (Host.divf (Host.negf (mulf (broadcastInDim S64 ![] bcast_S_S64 (constant S_ .f32 0x40000000#32)) (sitofp .f32 (iotaInDim S64 32 0)))) (broadcastInDim S64 ![] bcast_S_S64 (constant S_ .f32 0x43000000#32)))
theorem pow_arr : StableHlo.after (hostOps0.take 11) (fun b => m (c, b)) (Proc.devRef .tc main_v7) = (powA : FVec F S64 .f32) := by
  dsimp only [hostOps0, List.take]
  simp (decide := true) only [StableHlo.after_cons, StableHlo.after_nil, StableHlo.reshape_result', StableHlo.binary_result', StableHlo.unary_result', StableHlo.nullary_result', StableHlo.reshape_result_ne', StableHlo.binary_result_ne', StableHlo.unary_result_ne', StableHlo.nullary_result_ne', ne_eq, not_false_eq_true]
  rfl
theorem freq_arr : V m c main_v9 = (shapeCast S1x128 (concatenate S128 0 [⟨S64, powA⟩, ⟨S64, powA⟩] concatenates_S64_S64_S128_d0) shapeCasts_S128_S1x128 : FVec F S1x128 .f32) := by
  show StableHlo.after hostOps0 (fun b => m (c, b)) (Proc.devRef .tc main_v9) = _
  rw [← after_take 11, ← pow_arr m c]
  generalize StableHlo.after (hostOps0.take 11) (fun b => m (c, b)) = G
  dsimp only [hostOps0, List.drop]
  simp (decide := true) only [StableHlo.after_cons, StableHlo.after_nil, StableHlo.reshape_result', StableHlo.binary_result', StableHlo.unary_result', StableHlo.nullary_result', StableHlo.reshape_result_ne', StableHlo.binary_result_ne', StableHlo.unary_result_ne', StableHlo.nullary_result_ne', ne_eq, not_false_eq_true]
  rfl

/-- The arguments' elements. -/
def aK : Fin 2 → Fin 896 → Fin 80 → Fin 128 → Elt F .bf16 := fun b p h κ => (m ((c : Thread nD τ).loc main_arg0) : S2x896x80x128.Idx → Elt F .bf16) (ix4 b p h κ)
def aX : Fin 2 → Fin 896 → Fin 80 → Fin 128 → Elt F .bf16 := fun b p h κ => (m ((c : Thread nD τ).loc main_arg1) : S2x896x80x128.Idx → Elt F .bf16) (ix4 b p h κ)
def aSk : Fin 80 → Fin 128 → Elt F .f32 := fun h κ => (m ((c : Thread nD τ).loc main_arg2) : S80x128.Idx → Elt F .f32) (ix2 h κ)
def aS : Fin 80 → Fin 128 → Elt F .f32 := fun h κ => (m ((c : Thread nD τ).loc main_arg3) : S80x128.Idx → Elt F .f32) (ix2 h κ)
def aW : BitVec 32 := (m ((c : Thread nD τ).loc main_arg4) : S2x896.Idx → Elt F .i32) (ix2 0 895)
def aP : Fin 2 → BitVec 32 := fun b => (m ((c : Thread nD τ).loc main_arg5) : S2x896.Idx → Elt F .i32) (ix2 b 0)

theorem flat_apply {α : Type} (x : S2x896.Idx → α) (j : S1792.Idx) (b : Fin 2) (p : Fin 896) (h : (j 0).val = 896 * b.val + p.val) :
    shapeCast S1792 x shapeCasts_S2x896_S1792 j = x (ix2 b p) := by
  refine shapeCast_apply _ _ _ _ ?_
  rw [Shape.rowMajor_val_two]
  have e : ∀ k : S1792.Idx, (S1792.rowMajor k).val = (k 0).val := fun k => by rw [Shape.rowMajor_val_one]
  rw [e, h]
  show b.val * 896 + p.val = _
  omega

theorem wOf_eq : wOf (Sm m c) = aW m c := by
  rw [Sm_eq]
  refine Eq.trans (b := shapeCast S1792 (m ((c : Thread nD τ).loc main_arg4) : S2x896.Idx → Elt F .i32) shapeCasts_S2x896_S1792 (ix1 895)) ?_ (flat_apply _ _ 0 895 rfl)
  unfold wOf
  refine congrArg (shapeCast S1792 (m ((c : Thread nD τ).loc main_arg4) : S2x896.Idx → Elt F .i32) shapeCasts_S2x896_S1792) (funext fun a => ?_)
  match a with
  | ⟨0, _⟩ => rfl

theorem off1_val (w : BitVec 32) : k0_off1 w 0 = 896 * (bL w).toNat := by
  have hb := bL_cases w
  unfold k0_off1
  show (Scalar.indexCast (Scalar.muli (bL w) 896#32)).toNat = _
  rcases hb with h | h <;> rw [h] <;> decide
theorem off2_val (w : BitVec 32) : k0_off2 w 0 = 896 * (1 - (bL w).toNat) := by
  have hb := bL_cases w
  unfold k0_off2
  show (Scalar.indexCast (Scalar.muli (Scalar.subi 1#32 (bL w)) 896#32)).toNat = _
  rcases hb with h | h <;> rw [h] <;> decide

theorem ctx_pick (w : BitVec 32) (b : Fin 2) : ctxOf (aP m c) b.val = (m ((c : Thread nD τ).loc main_arg5) : S2x896.Idx → Elt F .i32) (ix2 b 0) := by
  match b with
  | ⟨0, _⟩ => rfl
  | ⟨1, _⟩ => rfl

theorem cL_eq (w : BitVec 32) : cLof (Pm m c) w = ctxOf (aP m c) (bL w).toNat := by
  have hb := bL_lt w
  refine Eq.trans ?_ (ctx_pick m c w ⟨(bL w).toNat, hb⟩).symm
  rw [Pm_eq]
  refine Eq.trans (b := shapeCast S1792 (m ((c : Thread nD τ).loc main_arg5) : S2x896.Idx → Elt F .i32) shapeCasts_S2x896_S1792 (ix1 ⟨896 * (bL w).toNat, by omega⟩)) ?_
    (flat_apply _ _ ⟨_, hb⟩ 0 rfl)
  unfold cLof
  refine congrArg (shapeCast S1792 (m ((c : Thread nD τ).loc main_arg5) : S2x896.Idx → Elt F .i32) shapeCasts_S2x896_S1792) (funext fun a => Fin.ext ?_)
  match a with
  | ⟨0, _⟩ => show k0_off1 w 0 + 1 * 0 = 896 * (bL w).toNat; rw [off1_val]; omega
theorem cS_eq (w : BitVec 32) : cSof (Pm m c) w = ctxOf (aP m c) (1 - (bL w).toNat) := by
  have hb := bL_lt w
  have hb' : 1 - (bL w).toNat < 2 := by omega
  refine Eq.trans ?_ (ctx_pick m c w ⟨1 - (bL w).toNat, hb'⟩).symm
  rw [Pm_eq]
  refine Eq.trans (b := shapeCast S1792 (m ((c : Thread nD τ).loc main_arg5) : S2x896.Idx → Elt F .i32) shapeCasts_S2x896_S1792 (ix1 ⟨896 * (1 - (bL w).toNat), by omega⟩)) ?_
    (flat_apply _ _ ⟨_, hb'⟩ 0 rfl)
  unfold cSof
  refine congrArg (shapeCast S1792 (m ((c : Thread nD τ).loc main_arg5) : S2x896.Idx → Elt F .i32) shapeCasts_S2x896_S1792) (funext fun a => Fin.ext ?_)
  match a with
  | ⟨0, _⟩ => show k0_off2 w 0 + 1 * 0 = 896 * (1 - (bL w).toNat); rw [off2_val]; omega

theorem pages_apply {α : Type} (x : S2x896x80x128.Idx → α) (b : Fin 2) (p : Fin 56) (r : Fin 16) (h : Fin 80) (κ : Fin 128) (q : Fin 896) (hq : q.val = 16 * p.val + r.val) :
    shapeCast S2x56x16x80x128 x shapeCasts_S2x896x80x128_S2x56x16x80x128 (ix5 b p r h κ) = x (ix4 b q h κ) := by
  refine shapeCast_apply (s := S2x896x80x128) (t := S2x56x16x80x128) _ _ _ (ix4 b q h κ) ?_
  rw [Shape.rowMajor_val_four, Shape.rowMajor_val_five]
  show ((b.val * 896 + q.val) * 80 + h.val) * 128 + κ.val = (((b.val * 56 + p.val) * 16 + r.val) * 80 + h.val) * 128 + κ.val
  rw [hq]
  have : b.val * 896 + (16 * p.val + r.val) = (b.val * 56 + p.val) * 16 + r.val := by omega
  rw [this]
theorem page_apply (b : Fin 2) (p : Fin 56) (r : Fin 16) (h : Fin 80) (κ : Fin 128) (q : Fin 896) (hq : q.val = 16 * p.val + r.val) :
    v5M.view.read (Elt F) (Vm m c) (ix5 b p r h κ) = aX m c b q h κ := by
  rw [Vm_eq]
  exact pages_apply (m ((c : Thread nD τ).loc main_arg1) : S2x896x80x128.Idx → Elt F .bf16) b p r h κ q hq
theorem page_applyK (b : Fin 2) (p : Fin 56) (r : Fin 16) (h : Fin 80) (κ : Fin 128) (q : Fin 896) (hq : q.val = 16 * p.val + r.val) :
    k5M.view.read (Elt F) (Km m c) (ix5 b p r h κ) = aK m c b q h κ := by
  rw [Km_eq]
  exact pages_apply (m ((c : Thread nD τ).loc main_arg0) : S2x896x80x128.Idx → Elt F .bf16) b p r h κ q hq
end

/-! ## The ring slot -/

theorem subi_toNat (w : BitVec 32) : (Scalar.subi 1#32 (bL w)).toNat = 1 - (bL w).toNat := by
  rcases bL_cases w with h | h <;> rw [h] <;> decide

section
variable {F : FTy → Type}
theorem srcL_read (H : PageM) (w cL : BitVec 32) (t oi : ℕ) (inb) (f : BufTy.Contents (Elt F) H.view.ty) (a : Fin 56) (j : Fin 16) (κ : Fin 128) (h : Fin 80) (o : ℕ)
    (ho : 4 * (t % 4) + oi = o) (hh : h.val = 16 * (t / 4) + j.val) :
    (sLm H (srcL w cL t oi) inb).view.read (Elt F) f (ix3 a j κ) = H.view.read (Elt F) f (ix5 ⟨(bL w).toNat, bL_lt w⟩ a ⟨inPage o cL, inPage_lt _ _⟩ h κ) := by
  subst ho
  refine sL_read H _ _ f a j κ _ rfl ?_ rfl ?_ ?_
  · exact (Nat.zero_add _).symm
  · exact hh
  · exact (Nat.zero_add _).symm
theorem srcS_read (H : PageM) (w cS : BitVec 32) (t oi : ℕ) (inb) (f : BufTy.Contents (Elt F) H.view.ty) (a : Fin 8) (a' : Fin 56) (ha : a'.val = a.val) (j : Fin 16) (κ : Fin 128) (h : Fin 80) (o : ℕ)
    (ho : 4 * (t % 4) + oi = o) (hh : h.val = 16 * (t / 4) + j.val) :
    (sSm H (srcS w cS t oi) inb).view.read (Elt F) f (ix3 a j κ) = H.view.read (Elt F) f (ix5 ⟨1 - (bL w).toNat, by omega⟩ a' ⟨inPage o cS, inPage_lt _ _⟩ h κ) := by
  subst ho
  refine sS_read H _ _ f a j κ _ ?_ ?_ rfl ?_ ?_
  · exact (subi_toNat w).symm
  · exact ha.trans (Nat.zero_add _).symm
  · exact hh
  · exact (Nat.zero_add _).symm
theorem dstL_read (M : RingM) (s oi : ℕ) (inb) (f : BufTy.Contents (Elt F) M.view.ty) (a : Fin 56) (j : Fin 16) (κ : Fin 128) (y : S2x256x24x128.Idx)
    (h0 : (y 0).val = s) (h1 : (y 1).val = 64 * oi + a.val) (h2 : (y 2).val = j.val) (h3 : (y 3).val = κ.val) :
    (dLm M (dLo s oi) inb).view.read (Elt F) f (ix3 a j κ) = M.view.read (Elt F) f y := by
  refine dL_read M _ _ f a j κ y h0 h1 (h2.trans (Nat.zero_add _).symm) (h3.trans (Nat.zero_add _).symm)
theorem dstS_read (M : RingM) (s oi : ℕ) (inb) (f : BufTy.Contents (Elt F) M.view.ty) (a : Fin 8) (j : Fin 16) (κ : Fin 128) (y : S2x256x24x128.Idx)
    (h0 : (y 0).val = s) (h1 : (y 1).val = 64 * oi + 56 + a.val) (h2 : (y 2).val = j.val) (h3 : (y 3).val = κ.val) :
    (dSm M (dSo s oi) inb).view.read (Elt F) f (ix3 a j κ) = M.view.read (Elt F) f y := by
  refine dS_read M _ _ f a j κ y h0 h1 (h2.trans (Nat.zero_add _).symm) (h3.trans (Nat.zero_add _).symm)
end

theorem ring_apply {F : FTy → Type} [FloatOps F] (m : (ℓ : Loc nD τ sig) → Buf (Elt F) ℓ) (c : Dev nD) (M : RingM) (H : PageM) (Pg : BufTy.Contents (Elt F) H.view.ty) (A : Fin 2 → Fin 896 → Fin 80 → Fin 128 → Elt F .bf16)
    (hA : ∀ (b : Fin 2) (p : Fin 56) (r : Fin 16) (h : Fin 80) (κ : Fin 128) (q : Fin 896), q.val = 16 * p.val + r.val → H.view.read (Elt F) Pg (ix5 b p r h κ) = A b q h κ)
    (i : grid0.Coords) (X : BufTy.Contents (Elt F) M.view.ty)
    (hX : ∀ j, good M H (wOf (Sm m c)) (ctxL m c) (ctxS m c) Pg (stepN i) (stepN_lt i) (stepN i % 2) (mod2_lt _) j X)
    (y : S2x256x24x128.Idx) (t : Fin 256) (j : Fin 16) (κ : Fin 128) (h : Fin 80) (row : Fin 64)
    (h0 : (y 0).val = stepN i % 2) (h1 : (y 1).val = t.val) (h2 : (y 2).val = j.val) (h3 : (y 3).val = κ.val) (hh : h.val = 16 * (stepN i / 4) + j.val) (hr : row.val = t.val % 64) :
    M.view.read (Elt F) X y = A ⟨srcB (aW m c) row.val, srcB_lt _ _⟩ ⟨srcP (aW m c) (aP m c) (4 * (stepN i % 4) + t.val / 64) row.val, srcP_lt _ _ _ _ row.isLt⟩ h κ := by
  have ht : t.val / 64 < 4 := by omega
  have hw := wOf_eq m c
  have hcL : ctxL m c = ctxOf (aP m c) (bL (wOf (Sm m c))).toNat := cL_eq m c _
  have hcS : ctxS m c = ctxOf (aP m c) (1 - (bL (wOf (Sm m c))).toNat) := cS_eq m c _
  have hrl := row.isLt
  by_cases hl : row.val < 56
  · have hd : 2 * (t.val / 64) / 2 = t.val / 64 := by omega
    have hg := (hX ⟨2 * (t.val / 64), by omega⟩).1 (Nat.mul_mod_right 2 _)
    have e := congrFun hg (ix3 ⟨row.val, hl⟩ j κ)
    have e1 := dstL_read M (stepN i % 2) (2 * (t.val / 64) / 2) (dLo_inb _ _ (mod2_lt _) (by omega)) X ⟨row.val, hl⟩ j κ y h0 (by rw [h1, hd]; show t.val = _ + row.val; omega) h2 h3
    have e2 := srcL_read H (wOf (Sm m c)) (ctxL m c) (stepN i) (2 * (t.val / 64) / 2) (srcL_inb _ _ _ _ (stepN_lt i)) Pg ⟨row.val, hl⟩ j κ h (4 * (stepN i % 4) + t.val / 64) (by rw [hd]) hh
    refine e1.symm.trans (e.trans (e2.trans ?_))
    have eb : srcB (aW m c) row.val = (bL (wOf (Sm m c))).toNat := by unfold srcB; rw [if_pos hl, hw]; rfl
    refine (hA _ _ _ h κ ⟨srcP (aW m c) (aP m c) (4 * (stepN i % 4) + t.val / 64) row.val, srcP_lt _ _ _ _ row.isLt⟩ ?_).trans ?_
    · show srcP _ _ _ _ = 16 * row.val + inPage _ (ctxL m c)
      unfold srcP; rw [if_pos hl, hcL, eb]
    · exact congrArg (fun b => A b _ h κ) (Fin.ext eb.symm)
  · have hd : (2 * (t.val / 64) + 1) / 2 = t.val / 64 := by omega
    have hg := (hX ⟨2 * (t.val / 64) + 1, by omega⟩).2 (Nat.mul_add_mod 2 _ 1)
    have e := congrFun hg (ix3 ⟨row.val - 56, by omega⟩ j κ)
    have e1 := dstS_read M (stepN i % 2) ((2 * (t.val / 64) + 1) / 2) (dSo_inb _ _ (mod2_lt _) (by omega)) X ⟨row.val - 56, by omega⟩ j κ y h0 (by rw [h1, hd]; show t.val = _ + (row.val - 56); omega) h2 h3
    have e2 := srcS_read H (wOf (Sm m c)) (ctxS m c) (stepN i) ((2 * (t.val / 64) + 1) / 2) (srcS_inb _ _ _ _ (stepN_lt i)) Pg ⟨row.val - 56, by omega⟩ ⟨row.val - 56, by omega⟩ rfl j κ h
      (4 * (stepN i % 4) + t.val / 64) (by rw [hd]) hh
    refine e1.symm.trans (e.trans (e2.trans ?_))
    have eb : srcB (aW m c) row.val = 1 - (bL (wOf (Sm m c))).toNat := by unfold srcB; rw [if_neg hl, hw]; rfl
    refine (hA _ _ _ h κ ⟨srcP (aW m c) (aP m c) (4 * (stepN i % 4) + t.val / 64) row.val, srcP_lt _ _ _ _ row.isLt⟩ ?_).trans ?_
    · show srcP _ _ _ _ = 16 * (row.val - 56) + inPage _ (ctxS m c)
      unfold srcP; rw [if_neg hl, hcS, eb]
    · exact congrArg (fun b => A b _ h κ) (Fin.ext eb.symm)

/-! ## The rotated row -/

section
variable (m : (ℓ : Loc nD τ sig) → Buf (Elt Ideal) ℓ) (c : Dev nD)

theorem slot_step : ∀ i : grid0.Coords, (Scalar.indexCast (slotW i)).toNat = stepN i % 2 := by decide +kernel
theorem coords_lt (i : grid0.Coords) : (i 0).val < 5 ∧ (i 1).val < 4 := ⟨(i 0).isLt, (i 1).isLt⟩

theorem wv_good (hb : ℕ) (h5 : hb < 5) (Wv : BufTy.Contents (Elt Ideal) wvM.view.ty) (h : WvGood m c hb Wv) (y : S16x128x384.Idx) :
    wvM.view.read (Elt Ideal) Wv y = tabG (fun j κ => aS m c ⟨16 * hb + j.val, by omega⟩ κ) y := by
  obtain ⟨i, arg6, harg6, arg7, harg7, arg8, harg8, arg9, harg9, arg10, harg10, arg11, harg11, arg12, harg12, h3, X6, f0, hs, rfl⟩ := h
  refine wv_apply c i arg6 harg6 arg7 harg7 arg8 harg8 arg9 harg9 arg10 harg10 arg11 harg11 arg12 harg12 h3 X6 f0 _ (fun j κ => ?_) y
  refine (hs (ix2 j κ) (ix2 ⟨16 * hb + j.val, by omega⟩ κ) rfl rfl).trans ?_
  exact congrFun (V_of_ne m c main_arg3 (by decide)) _

theorem row_ok (i : grid0.Coords) (X : BufTy.Contents (Elt Ideal) xvM.view.ty) (Wv : BufTy.Contents (Elt Ideal) wvM.view.ty)
    (hX : ∀ j, good xvM v5M (wOf (Sm m c)) (ctxL m c) (ctxS m c) (Vm m c) (stepN i) (stepN_lt i) (stepN i % 2) (mod2_lt _) j X) (hW : WvGood m c (i 0).val Wv)
    (k : Fin k0_t2_loop.trips) (e : Fin 2) (t : Fin 256) (h : Fin 80) (hh : h.val = 16 * (i 0).val + (2 * k.val + e.val)) (row : Fin 64) (hr : row.val = t.val % 64) :
    Same (rowR (RT i X Wv k e) t) (srcRow (aX m c) (aS m c) (aW m c) (aP m c) (4 * (i 1).val + t.val / 64) row h) := by
  have hk : k.val < 8 := Nat.lt_of_lt_of_le k.isLt k0_t2_abs.2.1
  obtain ⟨h5, h4⟩ := coords_lt i
  have hq : stepN i / 4 = (i 0).val := by show (4 * (i 0).val + (i 1).val) / 4 = _; omega
  have hm : stepN i % 4 = (i 1).val := by show (4 * (i 0).val + (i 1).val) % 4 = _; omega
  have r := RT_row i X Wv k e t (fun j κ => aS m c ⟨16 * (i 0).val + j.val, by omega⟩ κ) (wv_good m c _ h5 Wv hW) ⟨2 * k.val + e.val, by omega⟩ rfl
    (srcX (aX m c) (aW m c) (aP m c) (4 * (i 1).val + t.val / 64) row h) (fun y κ h0 h1 h2 h3 => by
      have := ring_apply m c xvM v5M (Vm m c) (aX m c) (page_apply m c) i X hX y t ⟨2 * k.val + e.val, by omega⟩ κ h row (h0.trans (slot_step i)) h1 h2 h3 (by rw [hq]; exact hh) hr
      rw [hm] at this
      exact this)
  rw [r]
  have eh : (⟨16 * (i 0).val + (2 * k.val + e.val), by omega⟩ : Fin 80) = h := Fin.ext hh.symm
  dsimp only
  rw [eh]
  exact rows_same had had_pm _ _

/-! ## The rotary tables and k's row -/

/-- k turned to a prefill's positions. -/
def aT : Fin 2 → Fin 896 → Fin 80 → Fin 128 → EReal := fun b p h => turn (aP m c b + BitVec.ofNat 32 p.val) (aK m c b p h)

theorem slt56 : ∀ r : Fin 64, IntOp.cmpi .slt (BitVec.ofNat 32 r.val) 56#32 = BitVec.ofBool (decide (r.val < 56)) := by decide
theorem sub56 : ∀ r : Fin 64, ¬ r.val < 56 → BitVec.ofNat 32 r.val - 56#32 = BitVec.ofNat 32 (r.val - 56) := by decide
theorem both_lo (v w : FVec Ideal S64 .f32) (κ : Fin 128) (κ' : Fin 64) (h : κ.val = κ'.val) :
    concatenate S128 0 [⟨S64, v⟩, ⟨S64, w⟩] concatenates_S64_S64_S128_d0 (ix1 κ) = v (ix1 κ') :=
  concatenate_pair_apply_left (t := S128) (s₁ := S64) (s₂ := S64) 0 v w _ _ rfl _ (fun b => match b with | ⟨0, _⟩ => h.symm)
theorem both_hi (v w : FVec Ideal S64 .f32) (κ : Fin 128) (κ' : Fin 64) (h : κ.val = κ'.val + 64) :
    concatenate S128 0 [⟨S64, v⟩, ⟨S64, w⟩] concatenates_S64_S64_S128_d0 (ix1 κ) = w (ix1 κ') :=
  concatenate_pair_apply_right (t := S128) (s₁ := S64) (s₂ := S64) 0 v w _ _ rfl rfl _
    (fun b hb => match b, hb with | ⟨0, _⟩, hb => absurd rfl hb) h.symm
theorem frT_apply (arg6 : Memref sig .tc .vmem S1x128 .f32) (X6 : BufTy.Contents (Elt Ideal) arg6.view.ty) (κ : Fin 128) :
    frT arg6 X6 (ix2 0 κ) = arg6.view.read (Elt Ideal) X6 (ix2 0 κ) := by
  unfold frT
  refine congrArg (arg6.view.read (Elt Ideal) X6) (funext fun a => Fin.ext ?_)
  match a with
  | ⟨0, _⟩ => rfl
  | ⟨1, _⟩ => show 0 + 1 * κ.val = κ.val; omega
theorem powA_apply (κ : Fin 64) : powA (F := Ideal) (ix1 κ) = freqE κ.val := rfl

theorem freq_apply (κ : Fin 128) : (V m c main_v9 : S1x128.Idx → EReal) (ix2 0 κ) = freqE (κ.val % 64) := by
  rw [freq_arr]
  refine (shapeCast_apply _ _ _ (ix1 κ) ?_).trans ?_
  · rw [Shape.rowMajor_val_one, Shape.rowMajor_val_two]
    exact (Nat.zero_add _).symm
  by_cases hk : κ.val < 64
  · refine (both_lo _ _ κ ⟨κ.val, hk⟩ rfl).trans ?_
    rw [powA_apply, Nat.mod_eq_of_lt hk]
  · have e : κ.val % 64 = κ.val - 64 := by omega
    refine (both_hi _ _ κ ⟨κ.val - 64, by omega⟩ (by show κ.val = κ.val - 64 + 64; omega)).trans ?_
    rw [powA_apply, e]

theorem pos_eq (i : grid0.Coords) (t : Fin 256) (row : Fin 64) (hr : row.val = t.val % 64) :
    posW (oW (BitVec.ofNat 32 (i 1).val) (t.val / 64)) (ctxL m c) (ctxS m c) row.val
      = aP m c ⟨srcB (aW m c) row.val, srcB_lt _ _⟩ + BitVec.ofNat 32 (srcP (aW m c) (aP m c) (4 * (i 1).val + t.val / 64) row.val) := by
  have hw := wOf_eq m c
  have hcL : ctxL m c = ctxOf (aP m c) (bL (wOf (Sm m c))).toNat := cL_eq m c _
  have hcS : ctxS m c = ctxOf (aP m c) (1 - (bL (wOf (Sm m c))).toNat) := cS_eq m c _
  have ho : oW (BitVec.ofNat 32 (i 1).val) (t.val / 64) = BitVec.ofNat 32 (4 * (i 1).val + t.val / 64) := by
    unfold oW
    rw [BitVec.ofNat_add, Nat.mul_comm, BitVec.ofNat_mul]
  have hp : ctxOf (aP m c) (srcB (aW m c) row.val) = aP m c ⟨srcB (aW m c) row.val, srcB_lt _ _⟩ := ctx_pick m c 0#32 ⟨srcB (aW m c) row.val, srcB_lt _ _⟩
  have key : ∀ (n o : ℕ) (x : BitVec 32), BitVec.ofNat 32 n * 16#32 + (x + ((BitVec.ofNat 32 o - x) &&& 15#32)) = x + BitVec.ofNat 32 (16 * n + inPage o x) := by
    intro n o x
    unfold inPage
    rw [BitVec.ofNat_add, Nat.mul_comm, BitVec.ofNat_mul, BitVec.ofNat_toNat, BitVec.setWidth_eq]
    ac_rfl
  rw [ho, ← hp]
  unfold posW srcP
  by_cases hl : row.val < 56
  · have eb : srcB (aW m c) row.val = (bL (wOf (Sm m c))).toNat := by unfold srcB; rw [if_pos hl, hw]; rfl
    have hc : IntOp.cmpi .slt (BitVec.ofNat 32 row.val) 56#32 = 1#1 := (slt56 row).trans (by rw [decide_eq_true hl]; rfl)
    rw [hc, if_pos hl, eb, ← hcL]
    exact key _ _ _
  · have eb : srcB (aW m c) row.val = 1 - (bL (wOf (Sm m c))).toNat := by unfold srcB; rw [if_neg hl, hw]; rfl
    have hc : IntOp.cmpi .slt (BitVec.ofNat 32 row.val) 56#32 = 0#1 := (slt56 row).trans (by rw [decide_eq_false hl]; rfl)
    have hs : BitVec.ofNat 32 row.val - 56#32 = BitVec.ofNat 32 (row.val - 56) := sub56 row hl
    rw [hc, if_neg hl, eb, ← hcS]
    show (BitVec.ofNat 32 row.val - 56#32) * 16#32 + _ = _
    rw [hs]
    exact key _ _ _

theorem ang_eq (i : grid0.Coords) (arg6 : Memref sig .tc .vmem S1x128 .f32) (X6 : BufTy.Contents (Elt Ideal) arg6.view.ty) (h6 : FreqBlk m c (arg6.view.read (Elt Ideal) X6))
    (t : Fin 256) (row : Fin 64) (hr : row.val = t.val % 64) (κ : Fin 128) :
    angT (oW (BitVec.ofNat 32 (i 1).val) (t.val / 64)) (ctxL m c) (ctxS m c) (frT arg6 X6) (ix2 row κ)
      = angE (aP m c ⟨srcB (aW m c) row.val, srcB_lt _ _⟩ + BitVec.ofNat 32 (srcP (aW m c) (aP m c) (4 * (i 1).val + t.val / 64) row.val)) κ.val := by
  rw [angT_apply, pos_eq m c i t row hr]
  unfold angE
  refine congrArg _ ?_
  refine Eq.trans ?_ (freq_apply m c κ)
  refine Eq.trans ?_ (h6 (ix2 0 κ))
  exact frT_apply arg6 X6 κ

theorem rot_tabs (i : grid0.Coords) (Co : BufTy.Contents (Elt Ideal) cosM.view.ty) (Si : BufTy.Contents (Elt Ideal) sinM.view.ty) (h : RotRow m c (i 1).val Co Si)
    (t : Fin 256) (row : Fin 64) (hr : row.val = t.val % 64) (κ : Fin 128) (a : BitVec 32)
    (ha : a = aP m c ⟨srcB (aW m c) row.val, srcB_lt _ _⟩ + BitVec.ofNat 32 (srcP (aW m c) (aP m c) (4 * (i 1).val + t.val / 64) row.val)) :
    cosM.view.read (Elt Ideal) Co (ix3 (i 1) t κ) = Ideal.cos (angE a κ.val)
    ∧ sinM.view.read (Elt Ideal) Si (ix3 (i 1) t κ) = if κ.val < 64 then 0 - Ideal.sin (angE a κ.val) else Ideal.sin (angE a κ.val) := by
  obtain ⟨i', arg6, harg6, arg7, harg7, arg8, harg8, arg9, harg9, arg10, harg10, arg11, harg11, arg12, harg12, h4, X6, fc0, fs0, hi, h6, hf⟩ := h
  obtain ⟨hc, hs⟩ := hf (ix3 (i 1) t κ) rfl
  have er : (⟨t.val % 64, Nat.mod_lt _ (by decide)⟩ : Fin 64) = row := Fin.ext hr.symm
  have ea := ang_eq m c i' arg6 X6 h6 t row hr κ
  rw [hi, ← ha] at ea
  constructor
  · rw [hc, cos_list, row_apply _ _ i' h4 _ (ix3 (i 1) t κ) hi.symm, hi]
    unfold rowG
    refine Eq.trans (b := Ideal.cos (angT (oW (BitVec.ofNat 32 (i 1).val) (t.val / 64)) (ctxL m c) (ctxS m c) (frT arg6 X6) (ix2 ⟨t.val % 64, Nat.mod_lt _ (by decide)⟩ κ))) rfl ?_
    rw [er, ea]
  · rw [hs, sin_list, row_apply _ _ i' h4 _ (ix3 (i 1) t κ) hi.symm, hi]
    unfold rowG
    refine Eq.trans (b := sinT (angT (oW (BitVec.ofNat 32 (i 1).val) (t.val / 64)) (ctxL m c) (ctxS m c) (frT arg6 X6)) (ix2 ⟨t.val % 64, Nat.mod_lt _ (by decide)⟩ κ)) rfl ?_
    rw [er, sinT_apply, ea]

theorem row_okK (i : grid0.Coords) (arg7 : Memref sig .tc .vmem S16x128 .f32) (Xk : BufTy.Contents (Elt Ideal) xkM.view.ty) (Co : BufTy.Contents (Elt Ideal) cosM.view.ty) (Si : BufTy.Contents (Elt Ideal) sinM.view.ty)
    (X7 : BufTy.Contents (Elt Ideal) arg7.view.ty) (Hd : BufTy.Contents (Elt Ideal) hadM.view.ty)
    (hX : ∀ j, good xkM k5M (wOf (Sm m c)) (ctxL m c) (ctxS m c) (Km m c) (stepN i) (stepN_lt i) (stepN i % 2) (mod2_lt _) j Xk)
    (hR : RotRow m c (i 1).val Co Si) (hS : SignBlkK m c (i 0).val (arg7.view.read (Elt Ideal) X7)) (hH : HadGood c Hd)
    (k : Fin k0_t2_loop.trips) (e : Fin 2) (t : Fin 256) (h : Fin 80) (hh : h.val = 16 * (i 0).val + (2 * k.val + e.val)) (row : Fin 64) (hr : row.val = t.val % 64) :
    Same (rowR (RK i arg7 Xk Co Si X7 Hd k e) t) (srcRow (aT m c) (aSk m c) (aW m c) (aP m c) (4 * (i 1).val + t.val / 64) row h) := by
  have hk : k.val < 8 := Nat.lt_of_lt_of_le k.isLt k0_t2_abs.2.1
  obtain ⟨h5, h4⟩ := coords_lt i
  have hq : stepN i / 4 = (i 0).val := by show (4 * (i 0).val + (i 1).val) / 4 = _; omega
  have hm : stepN i % 4 = (i 1).val := by show (4 * (i 0).val + (i 1).val) % 4 = _; omega
  have r := RK_row i arg7 Xk Co Si X7 Hd k e t (aSk m c h) ⟨2 * k.val + e.val, by omega⟩ rfl
    (fun κ => (hS (ix2 ⟨2 * k.val + e.val, by omega⟩ κ) (ix2 h κ) hh rfl).trans (congrFun (V_of_ne m c main_arg2 (by decide)) _))
    (had_apply c Hd hH) (srcX (aK m c) (aW m c) (aP m c) (4 * (i 1).val + t.val / 64) row h) _ _ (fun y κ h0 h1 h2 h3 => by
      have := ring_apply m c xkM k5M (Km m c) (aK m c) (page_applyK m c) i Xk hX y t ⟨2 * k.val + e.val, by omega⟩ κ h row (h0.trans (slot_step i)) h1 h2 h3 (by rw [hq]; exact hh) hr
      rw [hm] at this
      exact this)
    (fun κ => (rot_tabs m c i Co Si hR t row hr κ _ rfl).1) (fun κ => (rot_tabs m c i Co Si hR t row hr κ _ rfl).2)
  rw [r]
  exact rowsY_same had had_pm _
end

end Cert.KernelIdeal.Hand

end
-- ==== Proof.Value.lean ====
module

public import proofs.«01_k».proof.Proof.RingVal
public import Idealize.ShloMosaic.Lib.Pipeline.ArrRel

@[expose] public section

set_option maxRecDepth 16384
set_option maxHeartbeats 1000000

noncomputable section

namespace Cert.KernelIdeal.Hand

open Cert.KernelIdeal Cert.KernelIdeal.Gen Cert.Val
open Idealize.ShloMosaic Idealize.ShloMosaic.TcCoe Idealize.ShloMosaic.ValueIdx
open Idealize.SL Idealize.SL.Sem

/-! # The kernel's results, as the arguments' elements -/

section
variable (m : (ℓ : Loc nD τ sig) → Buf (Elt Ideal) ℓ) (c : Dev nD)

/-! ## One point's blocks -/

variable (A : Fin 2 → Fin 896 → Fin 80 → Fin 128 → EReal) (S : Fin 80 → Fin 128 → EReal)

def rowAt (i : grid0.Coords) (L j l : ℕ) (hj : j < 16) : Fin 128 → EReal :=
  srcRow A S (aW m c) (aP m c) (4 * (i 1).val + 2 * L + l / 64) ⟨l % 64, Nat.mod_lt _ (by decide)⟩
    ⟨16 * (i 0).val + j, by have := coords_lt i; omega⟩

def blkC (i : grid0.Coords) (y : S2x16x64x128.Idx) : BitVec 8 :=
  byteS (rowAt m c A S i (y 0).val (y 1).val (y 3).val (y 1).isLt) ⟨(y 2).val, (y 2).isLt⟩
def blkS (i : grid0.Coords) (y : S2x16x4x128.Idx) : EReal :=
  scaleS (rowAt m c A S i (y 0).val (y 1).val (y 3).val (y 1).isLt) ⟨(y 2).val, (y 2).isLt⟩

/-- The rows of one head of point `i`, up to what no result sees. -/
def RowsOk (i : grid0.Coords) (k : Fin k0_t2_loop.trips) (e : Fin 2) (R : FVec Ideal S128x256 .f32) : Prop :=
  ∀ (t : Fin 256) (h : Fin 80), h.val = 16 * (i 0).val + (2 * k.val + e.val) → ∀ row : Fin 64, row.val = t.val % 64 →
    Same (rowR R t) (srcRow A S (aW m c) (aP m c) (4 * (i 1).val + t.val / 64) row h)

theorem same_at (i : grid0.Coords) (R : FVec Ideal S128x256 .f32) (k : Fin k0_t2_loop.trips) (e : Fin 2) (hR : RowsOk m c A S i k e R)
    (L : Fin 2) (l : Fin 128) (L' j l' : ℕ) (hj : j < 16) (eL : L' = L.val) (ej : j = 2 * k.val + e.val) (el : l' = l.val) :
    Same (rowR R (tkn L l)) (rowAt m c A S i L' j l' hj) := by
  subst eL ej el
  have hk : k.val < 8 := Nat.lt_of_lt_of_le k.isLt k0_t2_abs.2.1
  have hc := coords_lt i
  have h := hR (tkn L l) ⟨16 * (i 0).val + (2 * k.val + e.val), by omega⟩ rfl ⟨l.val % 64, Nat.mod_lt _ (by decide)⟩
    (by show l.val % 64 = (128 * L.val + l.val) % 64; omega)
  have eo : 4 * (i 1).val + (tkn L l).val / 64 = 4 * (i 1).val + 2 * L.val + l.val / 64 := by
    show 4 * (i 1).val + (128 * L.val + l.val) / 64 = _
    omega
  rw [eo] at h
  exact h

theorem code_piece (i : grid0.Coords) (R : FVec Ideal S128x256 .f32) (k : Fin k0_t2_loop.trips) (e : Fin 2) (hR : RowsOk m c A S i k e R)
    (L q : Fin 2) (x : (codeP (F := Ideal) rows8 R k e L q).1.shape.Idx) :
    (codeP (F := Ideal) rows8 R k e L q).2 x = blkC m c A S i ((codeP (F := Ideal) rows8 R k e L q).1.emb x) := by
  have hx : (x : S1x1x32x128.Idx) = ix4 (x 0) (x 1) (x 2) (x 3) := eq_ix4 (x : S1x1x32x128.Idx)
  have h0 : (x 0).val < 1 := (x 0).isLt
  have h1 : (x 1).val < 1 := (x 1).isLt
  refine Eq.trans (b := codeT (wordT rows8 R L q) (ix4 (x 0) (x 1) (x 2) (x 3))) (congrArg (codeT (wordT rows8 R L q)) hx) ?_
  refine (code_apply R L q (x 0) (x 1) (x 2) (x 3)).trans ?_
  unfold blkC
  have hs := same_at m c A S i R k e hR L (x 3) ((codeP (F := Ideal) rows8 R k e L q).1.emb x 0).val ((codeP (F := Ideal) rows8 R k e L q).1.emb x 1).val ((codeP (F := Ideal) rows8 R k e L q).1.emb x 3).val
    ((codeP (F := Ideal) rows8 R k e L q).1.emb x 1).isLt (by show L.val + 1 * (x 0).val = _; omega)
    (by show hI k (BitVec.ofNat 32 e.val) + 1 * (x 1).val = _; rw [hI_eq]; omega) (by show 0 + 1 * (x 3).val = _; omega)
  refine (hs.byte _).trans ?_
  refine congrArg (byteS _) (Fin.ext ?_)
  show 32 * q.val + (x 2).val = 32 * q.val + 1 * (x 2).val
  omega

theorem scale_piece (i : grid0.Coords) (R : FVec Ideal S128x256 .f32) (k : Fin k0_t2_loop.trips) (e : Fin 2) (hR : RowsOk m c A S i k e R)
    (L : Fin 2) (x : (scaleP (F := Ideal) rows8 R k e L).1.shape.Idx) :
    (scaleP (F := Ideal) rows8 R k e L).2 x = blkS m c A S i ((scaleP (F := Ideal) rows8 R k e L).1.emb x) := by
  have hx : (x : S1x1x4x128.Idx) = ix4 (x 0) (x 1) (x 2) (x 3) := eq_ix4 (x : S1x1x4x128.Idx)
  have h0 : (x 0).val < 1 := (x 0).isLt
  have h1 : (x 1).val < 1 := (x 1).isLt
  refine Eq.trans (b := scaleOutT (scaleT rows8 R) L (ix4 (x 0) (x 1) (x 2) (x 3))) (congrArg (scaleOutT (scaleT rows8 R) L) hx) ?_
  refine (scaleOut_apply R L (x 0) (x 1) (x 2) (x 3)).trans ?_
  unfold blkS
  have hs := same_at m c A S i R k e hR L (x 3) ((scaleP (F := Ideal) rows8 R k e L).1.emb x 0).val ((scaleP (F := Ideal) rows8 R k e L).1.emb x 1).val ((scaleP (F := Ideal) rows8 R k e L).1.emb x 3).val
    ((scaleP (F := Ideal) rows8 R k e L).1.emb x 1).isLt (by show L.val + 1 * (x 0).val = _; omega)
    (by show hI k (BitVec.ofNat 32 e.val) + 1 * (x 1).val = _; rw [hI_eq]; omega) (by show 0 + 1 * (x 3).val = _; omega)
  refine (hs.scale _).trans ?_
  refine congrArg (scaleS _) (Fin.ext ?_)
  show (x 2).val = 0 + 1 * (x 2).val
  omega

theorem code_mem (R : FVec Ideal S128x256 .f32)
    (k : Fin k0_t2_loop.trips) (e L q : Fin 2) (y : S2x16x64x128.Idx) (h0 : (y 0).val = L.val) (h1 : (y 1).val = 2 * k.val + e.val) (h2 : (y 2).val / 32 = q.val) :
    y ∈ (codeP (F := Ideal) rows8 R k e L q).1.set := by
  unfold codeP
  rw [Rect.mem_set_unit]
  have h3 : (y 3).val < 128 := (y 3).isLt
  intro a
  match a with
  | ⟨0, _⟩ => exact ⟨by show L.val ≤ (y 0).val; omega, by show (y 0).val < L.val + 1; omega⟩
  | ⟨1, _⟩ =>
    have e1 := hI_eq k e
    exact ⟨by show hI k (BitVec.ofNat 32 e.val) ≤ (y 1).val; omega, by show (y 1).val < hI k (BitVec.ofNat 32 e.val) + 1; omega⟩
  | ⟨2, _⟩ => exact ⟨by show 32 * q.val ≤ (y 2).val; omega, by show (y 2).val < 32 * q.val + 32; omega⟩
  | ⟨3, _⟩ => exact ⟨Nat.zero_le _, by show (y 3).val < 0 + 128; omega⟩

theorem scale_mem (R : FVec Ideal S128x256 .f32)
    (k : Fin k0_t2_loop.trips) (e L : Fin 2) (y : S2x16x4x128.Idx) (h0 : (y 0).val = L.val) (h1 : (y 1).val = 2 * k.val + e.val) :
    y ∈ (scaleP (F := Ideal) rows8 R k e L).1.set := by
  unfold scaleP
  rw [Rect.mem_set_unit]
  have h2 : (y 2).val < 4 := (y 2).isLt
  have h3 : (y 3).val < 128 := (y 3).isLt
  intro a
  match a with
  | ⟨0, _⟩ => exact ⟨by show L.val ≤ (y 0).val; omega, by show (y 0).val < L.val + 1; omega⟩
  | ⟨1, _⟩ =>
    have e1 := hI_eq k e
    exact ⟨by show hI k (BitVec.ofNat 32 e.val) ≤ (y 1).val; omega, by show (y 1).val < hI k (BitVec.ofNat 32 e.val) + 1; omega⟩
  | ⟨2, _⟩ => exact ⟨Nat.zero_le _, by show (y 2).val < 0 + 4; omega⟩
  | ⟨3, _⟩ => exact ⟨Nat.zero_le _, by show (y 3).val < 0 + 128; omega⟩

theorem trips_eq : k0_t2_loop.trips = 8 := by decide
theorem two_cases : ∀ e : Fin 2, e = 0 ∨ e = 1 := by decide

theorem codes_of (i : grid0.Coords) (R : Fin k0_t2_loop.trips → Fin 2 → FVec Ideal S128x256 .f32) (hR : ∀ k e, RowsOk m c A S i k e (R k e))
    {sp : Space} (v : View sig .tc sp S2x16x64x128 .i8) (f : v.ty.Contents (Elt Ideal)) (l : List (View.Piece (Elt Ideal) S2x16x64x128 .i8))
    (hl : ∀ p, p ∈ l ↔ ∃ k : Fin k0_t2_loop.trips, p ∈ [codeP (F := Ideal) rows8 (R k 1) k 1 1 1, codeP rows8 (R k 1) k 1 1 0, codeP rows8 (R k 1) k 1 0 1, codeP rows8 (R k 1) k 1 0 0,
      codeP rows8 (R k 0) k 0 1 1, codeP rows8 (R k 0) k 0 1 0, codeP rows8 (R k 0) k 0 0 1, codeP rows8 (R k 0) k 0 0 0]) :
    v.read (Elt Ideal) (v.writes (Elt Ideal) f l) = blkC m c A S i := by
  funext y
  refine View.read_writes_apply_of_pieces (Val := Elt Ideal) (v := v) (f := f) (G := blkC m c A S i) _ ?_ y ?_
  · intro p hp
    obtain ⟨k, hk⟩ := (hl p).1 hp
    simp only [List.mem_cons, List.not_mem_nil, or_false] at hk
    rcases hk with rfl | rfl | rfl | rfl | rfl | rfl | rfl | rfl
    all_goals exact code_piece m c A S i _ k _ (hR k _) _ _
  · have h0 : (y 0).val < 2 := (y 0).isLt
    have h1 : (y 1).val < 16 := (y 1).isLt
    have h2 : (y 2).val < 64 := (y 2).isLt
    have hkt : (y 1).val / 2 < k0_t2_loop.trips := by rw [trips_eq]; omega
    have hin : ∀ e L q : Fin 2, codeP (F := Ideal) rows8 (R ⟨(y 1).val / 2, hkt⟩ e) ⟨(y 1).val / 2, hkt⟩ e L q ∈ l := by
      intro e L q
      refine (hl _).2 ⟨⟨(y 1).val / 2, hkt⟩, ?_⟩
      simp only [List.mem_cons, List.not_mem_nil, or_false]
      rcases two_cases e with rfl | rfl <;> rcases two_cases L with rfl | rfl <;> rcases two_cases q with rfl | rfl <;> simp only [true_or, or_true]
    exact ⟨_, hin ⟨(y 1).val % 2, Nat.mod_lt _ (by decide)⟩ ⟨(y 0).val, h0⟩ ⟨(y 2).val / 32, by omega⟩,
      code_mem _ _ _ _ _ y rfl (by show (y 1).val = 2 * ((y 1).val / 2) + (y 1).val % 2; omega) rfl⟩

theorem scales_of (i : grid0.Coords) (R : Fin k0_t2_loop.trips → Fin 2 → FVec Ideal S128x256 .f32) (hR : ∀ k e, RowsOk m c A S i k e (R k e))
    {sp : Space} (v : View sig .tc sp S2x16x4x128 .bf16) (f : v.ty.Contents (Elt Ideal)) (l : List (View.Piece (Elt Ideal) S2x16x4x128 .bf16))
    (hl : ∀ p, p ∈ l ↔ ∃ k : Fin k0_t2_loop.trips, p ∈ [scaleP (F := Ideal) rows8 (R k 1) k 1 1, scaleP rows8 (R k 1) k 1 0, scaleP rows8 (R k 0) k 0 1, scaleP rows8 (R k 0) k 0 0]) :
    v.read (Elt Ideal) (v.writes (Elt Ideal) f l) = blkS m c A S i := by
  funext y
  refine View.read_writes_apply_of_pieces (Val := Elt Ideal) (v := v) (f := f) (G := blkS m c A S i) _ ?_ y ?_
  · intro p hp
    obtain ⟨k, hk⟩ := (hl p).1 hp
    simp only [List.mem_cons, List.not_mem_nil, or_false] at hk
    rcases hk with rfl | rfl | rfl | rfl
    all_goals exact scale_piece m c A S i _ k _ (hR k _) _
  · have h0 : (y 0).val < 2 := (y 0).isLt
    have h1 : (y 1).val < 16 := (y 1).isLt
    have hkt : (y 1).val / 2 < k0_t2_loop.trips := by rw [trips_eq]; omega
    have hin : ∀ e L : Fin 2, scaleP (F := Ideal) rows8 (R ⟨(y 1).val / 2, hkt⟩ e) ⟨(y 1).val / 2, hkt⟩ e L ∈ l := by
      intro e L
      refine (hl _).2 ⟨⟨(y 1).val / 2, hkt⟩, ?_⟩
      simp only [List.mem_cons, List.not_mem_nil, or_false]
      rcases two_cases e with rfl | rfl <;> rcases two_cases L with rfl | rfl <;> simp only [true_or, or_true]
    exact ⟨_, hin ⟨(y 1).val % 2, Nat.mod_lt _ (by decide)⟩ ⟨(y 0).val, h0⟩,
      scale_mem _ _ _ _ y rfl (by show (y 1).val = 2 * ((y 1).val / 2) + (y 1).val % 2; omega)⟩

theorem res9 (i : grid0.Coords) (Y : S2x16x64x128.Idx → Elt Ideal .i8) (h : Res9 m c i Y) : Y = blkC m c (aT m c) (aSk m c) i := by
  obtain ⟨arg6, harg6, arg7, harg7, arg8, harg8, arg9, harg9, arg10, harg10, arg11, harg11, arg12, harg12, Xk, X, Co, Si, X7, Hd, Wv, G, hF, rfl⟩ := h
  refine codes_of m c (aT m c) (aSk m c) i (fun k e => RK i arg7 Xk Co Si X7 Hd k e) (fun k e t h hh row hr => row_okK m c i arg7 Xk Co Si X7 Hd hF.1 hF.2.2.1 hF.2.2.2.1 hF.2.2.2.2.1 k e t h hh row hr) arg9.view G _ fun p => ?_
  refine (mem_pb2_1 c i arg6 harg6 arg7 harg7 arg8 harg8 arg9 harg9 arg10 harg10 arg11 harg11 arg12 harg12 (slotW i) rows8 Xk X Co Si X7 Hd Wv p _ le_rfl).trans ?_
  refine exists_congr fun k => ?_
  rw [trip_codesK]
  exact ⟨fun h => h.2, fun h => ⟨k.isLt, h⟩⟩

theorem res10 (i : grid0.Coords) (Y : S2x16x4x128.Idx → Elt Ideal .bf16) (h : Res10 m c i Y) : Y = blkS m c (aT m c) (aSk m c) i := by
  obtain ⟨arg6, harg6, arg7, harg7, arg8, harg8, arg9, harg9, arg10, harg10, arg11, harg11, arg12, harg12, Xk, X, Co, Si, X7, Hd, Wv, G, hF, rfl⟩ := h
  refine scales_of m c (aT m c) (aSk m c) i (fun k e => RK i arg7 Xk Co Si X7 Hd k e) (fun k e t h hh row hr => row_okK m c i arg7 Xk Co Si X7 Hd hF.1 hF.2.2.1 hF.2.2.2.1 hF.2.2.2.2.1 k e t h hh row hr) arg10.view G _ fun p => ?_
  refine (mem_pb2_2 c i arg6 harg6 arg7 harg7 arg8 harg8 arg9 harg9 arg10 harg10 arg11 harg11 arg12 harg12 (slotW i) rows8 Xk X Co Si X7 Hd Wv p _ le_rfl).trans ?_
  refine exists_congr fun k => ?_
  rw [trip_scalesK]
  exact ⟨fun h => h.2, fun h => ⟨k.isLt, h⟩⟩

theorem res7 (i : grid0.Coords) (Y : S2x16x64x128.Idx → Elt Ideal .i8) (h : Res7 m c i Y) : Y = blkC m c (aX m c) (aS m c) i := by
  obtain ⟨arg6, harg6, arg7, harg7, arg8, harg8, arg9, harg9, arg10, harg10, arg11, harg11, arg12, harg12, Xk, X, Co, Si, X7, Hd, Wv, G, hF, rfl⟩ := h
  refine codes_of m c (aX m c) (aS m c) i (fun k e => RT i X Wv k e) (fun k e t h hh row hr => row_ok m c i X Wv hF.2.1 hF.2.2.2.2.2 k e t h hh row hr) arg11.view G _ fun p => ?_
  refine (mem_pb2_3 c i arg6 harg6 arg7 harg7 arg8 harg8 arg9 harg9 arg10 harg10 arg11 harg11 arg12 harg12 (slotW i) rows8 Xk X Co Si X7 Hd Wv p _ le_rfl).trans ?_
  refine exists_congr fun k => ?_
  rw [trip_codes]
  exact ⟨fun h => h.2, fun h => ⟨k.isLt, h⟩⟩

theorem res8 (i : grid0.Coords) (Y : S2x16x4x128.Idx → Elt Ideal .bf16) (h : Res8 m c i Y) : Y = blkS m c (aX m c) (aS m c) i := by
  obtain ⟨arg6, harg6, arg7, harg7, arg8, harg8, arg9, harg9, arg10, harg10, arg11, harg11, arg12, harg12, Xk, X, Co, Si, X7, Hd, Wv, G, hF, rfl⟩ := h
  refine scales_of m c (aX m c) (aS m c) i (fun k e => RT i X Wv k e) (fun k e t h hh row hr => row_ok m c i X Wv hF.2.1 hF.2.2.2.2.2 k e t h hh row hr) arg12.view G _ fun p => ?_
  refine (mem_pb2_4 c i arg6 harg6 arg7 harg7 arg8 harg8 arg9 harg9 arg10 harg10 arg11 harg11 arg12 harg12 (slotW i) rows8 Xk X Co Si X7 Hd Wv p _ le_rfl).trans ?_
  refine exists_congr fun k => ?_
  rw [trip_scales]
  exact ⟨fun h => h.2, fun h => ⟨k.isLt, h⟩⟩

/-! ## The arrays at the end -/

def codesA : S8x80x64x128.Idx → BitVec 8 := fun y => outCode A S (aW m c) (aP m c) (y 0) (y 1) (y 2) (y 3)
def scalesA : S8x80x4x128.Idx → EReal := fun y => outScale A S (aW m c) (aP m c) (y 0) (y 1) (y 2) (y 3)

theorem codes_blk (i : grid0.Coords) (x : S2x16x64x128.Idx) (y : S8x80x64x128.Idx) (h0 : (y 0).val = 2 * (i 1).val + (x 0).val)
    (h1 : (y 1).val = 16 * (i 0).val + (x 1).val) (h2 : (y 2).val = (x 2).val) (h3 : (y 3).val = (x 3).val) : blkC m c A S i x = codesA m c A S y := by
  unfold blkC codesA outCode rowAt
  have eo : 4 * (i 1).val + 2 * (x 0).val + (x 3).val / 64 = 2 * (y 0).val + (y 3).val / 64 := by rw [h0, h3]; omega
  have er : (⟨(x 3).val % 64, Nat.mod_lt _ (by decide)⟩ : Fin 64) = ⟨(y 3).val % 64, Nat.mod_lt _ (by decide)⟩ := Fin.ext (by show (x 3).val % 64 = (y 3).val % 64; rw [h3])
  have eh : (⟨16 * (i 0).val + (x 1).val, h1 ▸ (y 1).isLt⟩ : Fin 80) = y 1 := Fin.ext h1.symm
  have eb : (⟨(x 2).val, (x 2).isLt⟩ : Fin 64) = y 2 := Fin.ext h2.symm
  rw [eo, er, eh, eb]

theorem scales_blk (i : grid0.Coords) (x : S2x16x4x128.Idx) (y : S8x80x4x128.Idx) (h0 : (y 0).val = 2 * (i 1).val + (x 0).val)
    (h1 : (y 1).val = 16 * (i 0).val + (x 1).val) (h2 : (y 2).val = (x 2).val) (h3 : (y 3).val = (x 3).val) : blkS m c A S i x = scalesA m c A S y := by
  unfold blkS scalesA outScale rowAt
  have eo : 4 * (i 1).val + 2 * (x 0).val + (x 3).val / 64 = 2 * (y 0).val + (y 3).val / 64 := by rw [h0, h3]; omega
  have er : (⟨(x 3).val % 64, Nat.mod_lt _ (by decide)⟩ : Fin 64) = ⟨(y 3).val % 64, Nat.mod_lt _ (by decide)⟩ := Fin.ext (by show (x 3).val % 64 = (y 3).val % 64; rw [h3])
  have eh : (⟨16 * (i 0).val + (x 1).val, h1 ▸ (y 1).isLt⟩ : Fin 80) = y 1 := Fin.ext h1.symm
  have eb : (⟨(x 2).val, (x 2).isLt⟩ : Fin 4) = y 2 := Fin.ext h2.symm
  rw [eo, er, eh, eb]
end

/-! ## From the blocks to the arrays -/

section
variable (m : (ℓ : Loc nD τ sig) → Buf (Elt Ideal) ℓ)

theorem tr5_coords : ∀ t : Fin grid0.N, cc0_transform_5 (grid0.coords t) = ![t.val % 4, t.val / 4, 0, 0] := by decide
theorem tr6_coords : ∀ t : Fin grid0.N, cc0_transform_6 (grid0.coords t) = ![t.val % 4, t.val / 4, 0, 0] := by decide
theorem tr7_coords : ∀ t : Fin grid0.N, cc0_transform_7 (grid0.coords t) = ![t.val % 4, t.val / 4, 0, 0] := by decide
theorem tr8_coords : ∀ t : Fin grid0.N, cc0_transform_8 (grid0.coords t) = ![t.val % 4, t.val / 4, 0, 0] := by decide
theorem flushT5 : ∀ t : Fin grid0.N, (true && (t.val + 1 = grid0.N || decide (∃ h : t.val + 1 < grid0.N, cc0_transform_5 (grid0.coords ⟨t.val + 1, h⟩) ≠ cc0_transform_5 (grid0.coords t)))) = true := by decide
theorem flushT6 : ∀ t : Fin grid0.N, (true && (t.val + 1 = grid0.N || decide (∃ h : t.val + 1 < grid0.N, cc0_transform_6 (grid0.coords ⟨t.val + 1, h⟩) ≠ cc0_transform_6 (grid0.coords t)))) = true := by decide
theorem flushT7 : ∀ t : Fin grid0.N, (true && (t.val + 1 = grid0.N || decide (∃ h : t.val + 1 < grid0.N, cc0_transform_7 (grid0.coords ⟨t.val + 1, h⟩) ≠ cc0_transform_7 (grid0.coords t)))) = true := by decide
theorem flushT8 : ∀ t : Fin grid0.N, (true && (t.val + 1 = grid0.N || decide (∃ h : t.val + 1 < grid0.N, cc0_transform_8 (grid0.coords ⟨t.val + 1, h⟩) ≠ cc0_transform_8 (grid0.coords t)))) = true := by decide
theorem flush3 (t : Fin grid0.N) : ((cfgA m).win 3).flush t = true := flushT5 t
theorem flush4 (t : Fin grid0.N) : ((cfgA m).win 4).flush t = true := flushT6 t
theorem flush5 (t : Fin grid0.N) : ((cfgA m).win 5).flush t = true := flushT7 t
theorem flush6 (t : Fin grid0.N) : ((cfgA m).win 6).flush t = true := flushT8 t

def EmbC (e : S2x16x64x128.Idx → S8x80x64x128.Idx) (t : Fin grid0.N) : Prop := ∀ x a, (e x a).val = (![t.val % 4, t.val / 4, 0, 0] : Fin 4 → ℕ) a * S2x16x64x128.size a + (x a).val
def EmbS (e : S2x16x4x128.Idx → S8x80x4x128.Idx) (t : Fin grid0.N) : Prop := ∀ x a, (e x a).val = (![t.val % 4, t.val / 4, 0, 0] : Fin 4 → ℕ) a * S2x16x4x128.size a + (x a).val

theorem emb3 (t : Fin grid0.N) : EmbC (fun x => (((cfgA m).win 3).blk t).view.emb x) t := fun x a => by
  rw [← tr5_coords t]
  show cc0_transform_5 (grid0.coords t) a * S2x16x64x128.size a + 1 * (x a).val = _
  rw [Nat.one_mul]
theorem emb4 (t : Fin grid0.N) : EmbS (fun x => (((cfgA m).win 4).blk t).view.emb x) t := fun x a => by
  rw [← tr6_coords t]
  show cc0_transform_6 (grid0.coords t) a * S2x16x4x128.size a + 1 * (x a).val = _
  rw [Nat.one_mul]
theorem emb5 (t : Fin grid0.N) : EmbC (fun x => (((cfgA m).win 5).blk t).view.emb x) t := fun x a => by
  rw [← tr7_coords t]
  show cc0_transform_7 (grid0.coords t) a * S2x16x64x128.size a + 1 * (x a).val = _
  rw [Nat.one_mul]
theorem emb6 (t : Fin grid0.N) : EmbS (fun x => (((cfgA m).win 6).blk t).view.emb x) t := fun x a => by
  rw [← tr8_coords t]
  show cc0_transform_8 (grid0.coords t) a * S2x16x4x128.size a + 1 * (x a).val = _
  rw [Nat.one_mul]

theorem codes_emb (c : Dev nD) (A : Fin 2 → Fin 896 → Fin 80 → Fin 128 → EReal) (S : Fin 80 → Fin 128 → EReal) (t : Fin grid0.N) (em : S2x16x64x128.Idx → S8x80x64x128.Idx) (he : EmbC em t) (x : S2x16x64x128.Idx) :
    blkC m c A S (grid0.coords t) x = codesA m c A S (em x) := by
  have h := he x
  refine codes_blk m c A S (grid0.coords t) x _ ?_ ?_ ?_ ?_
  · rw [page_coords]; refine (h (0 : Fin 4)).trans ?_; show t.val % 4 * 2 + (x 0).val = _; omega
  · rw [head_coords]; refine (h (1 : Fin 4)).trans ?_; show t.val / 4 * 16 + (x 1).val = _; omega
  · refine (h (2 : Fin 4)).trans ?_; show 0 * 64 + (x 2).val = _; omega
  · refine (h (3 : Fin 4)).trans ?_; show 0 * 128 + (x 3).val = _; omega

theorem codes_cover (em : Fin grid0.N → S2x16x64x128.Idx → S8x80x64x128.Idx) (he : ∀ t, EmbC (em t) t) (y : S8x80x64x128.Idx) : ∃ t x, em t x = y := by
  have h0 : (y 0).val < 8 := (y 0).isLt
  have h1 : (y 1).val < 80 := (y 1).isLt
  have hN : grid0.N = 20 := by decide
  refine ⟨⟨4 * ((y 1).val / 16) + (y 0).val / 2, by omega⟩, ix4 ⟨(y 0).val % 2, by omega⟩ ⟨(y 1).val % 16, by omega⟩ (y 2) (y 3), ?_⟩
  refine funext fun a => Fin.ext ?_
  refine (he _ _ a).trans ?_
  match a with
  | ⟨0, _⟩ => show (4 * ((y 1).val / 16) + (y 0).val / 2) % 4 * 2 + (y 0).val % 2 = (y 0).val; omega
  | ⟨1, _⟩ => show (4 * ((y 1).val / 16) + (y 0).val / 2) / 4 * 16 + (y 1).val % 16 = (y 1).val; omega
  | ⟨2, _⟩ => show 0 * 64 + (y 2).val = (y 2).val; omega
  | ⟨3, _⟩ => show 0 * 128 + (y 3).val = (y 3).val; omega

theorem scales_emb (c : Dev nD) (A : Fin 2 → Fin 896 → Fin 80 → Fin 128 → EReal) (S : Fin 80 → Fin 128 → EReal) (t : Fin grid0.N) (em : S2x16x4x128.Idx → S8x80x4x128.Idx) (he : EmbS em t) (x : S2x16x4x128.Idx) :
    blkS m c A S (grid0.coords t) x = scalesA m c A S (em x) := by
  have h := he x
  refine scales_blk m c A S (grid0.coords t) x _ ?_ ?_ ?_ ?_
  · rw [page_coords]; refine (h (0 : Fin 4)).trans ?_; show t.val % 4 * 2 + (x 0).val = _; omega
  · rw [head_coords]; refine (h (1 : Fin 4)).trans ?_; show t.val / 4 * 16 + (x 1).val = _; omega
  · refine (h (2 : Fin 4)).trans ?_; show 0 * 4 + (x 2).val = _; omega
  · refine (h (3 : Fin 4)).trans ?_; show 0 * 128 + (x 3).val = _; omega

theorem scales_cover (em : Fin grid0.N → S2x16x4x128.Idx → S8x80x4x128.Idx) (he : ∀ t, EmbS (em t) t) (y : S8x80x4x128.Idx) : ∃ t x, em t x = y := by
  have h0 : (y 0).val < 8 := (y 0).isLt
  have h1 : (y 1).val < 80 := (y 1).isLt
  have hN : grid0.N = 20 := by decide
  refine ⟨⟨4 * ((y 1).val / 16) + (y 0).val / 2, by omega⟩, ix4 ⟨(y 0).val % 2, by omega⟩ ⟨(y 1).val % 16, by omega⟩ (y 2) (y 3), ?_⟩
  refine funext fun a => Fin.ext ?_
  refine (he _ _ a).trans ?_
  match a with
  | ⟨0, _⟩ => show (4 * ((y 1).val / 16) + (y 0).val / 2) % 4 * 2 + (y 0).val % 2 = (y 0).val; omega
  | ⟨1, _⟩ => show (4 * ((y 1).val / 16) + (y 0).val / 2) / 4 * 16 + (y 1).val % 16 = (y 1).val; omega
  | ⟨2, _⟩ => show 0 * 4 + (y 2).val = (y 2).val; omega
  | ⟨3, _⟩ => show 0 * 128 + (y 3).val = (y 3).val; omega

variable (c : Dev nD) (after : (w' : Fin (cfgA m).W) → Fin (cfgA m).N → ((cfgA m).win w').block.Idx → Elt Ideal ((cfgA m).win w').elt)
  (hL : ∀ (w : Fin (cfgA m).W) (u : Fin (cfgA m).N), ((cfgA m).win w).flush u = true → (rdat m c).Leaves w u (after w u))
include hL

theorem codesK_arr : ((rdat m c).withAfter after).arrAt 3 (cfgA m).N = codesA m c (aT m c) (aSk m c) := by
  refine Pipeline.Dat.arrAt_eq_of_cover ((rdat m c).withAfter after) 3 (codesA m c (aT m c) (aSk m c)) (fun t ht => ?_) fun y => ?_
  · obtain ⟨Y, -, h7⟩ := hL 3 t ht
    have e : (after 3 t : S2x16x64x128.Idx → BitVec 8) = blkC m c (aT m c) (aSk m c) (grid0.coords t) := res9 m c _ _ h7
    have e2 : ∀ x : S2x16x64x128.Idx, (after 3 t : S2x16x64x128.Idx → BitVec 8) x = codesA m c (aT m c) (aSk m c) ((((cfgA m).win 3).blk t).view.emb x) :=
      fun x => (congrFun e x).trans (codes_emb m c (aT m c) (aSk m c) t _ (emb3 m t) x)
    exact funext e2
  · obtain ⟨t, x, hx⟩ := codes_cover (fun t x => (((cfgA m).win 3).blk t).view.emb x) (emb3 m) y
    exact ⟨t, flush3 m t, Finset.mem_map.2 ⟨x, Finset.mem_univ _, hx⟩⟩

theorem scalesK_arr : ((rdat m c).withAfter after).arrAt 4 (cfgA m).N = scalesA m c (aT m c) (aSk m c) := by
  refine Pipeline.Dat.arrAt_eq_of_cover ((rdat m c).withAfter after) 4 (scalesA m c (aT m c) (aSk m c)) (fun t ht => ?_) fun y => ?_
  · obtain ⟨Y, -, h7⟩ := hL 4 t ht
    have e : (after 4 t : S2x16x4x128.Idx → EReal) = blkS m c (aT m c) (aSk m c) (grid0.coords t) := res10 m c _ _ h7
    have e2 : ∀ x : S2x16x4x128.Idx, (after 4 t : S2x16x4x128.Idx → EReal) x = scalesA m c (aT m c) (aSk m c) ((((cfgA m).win 4).blk t).view.emb x) :=
      fun x => (congrFun e x).trans (scales_emb m c (aT m c) (aSk m c) t _ (emb4 m t) x)
    exact funext e2
  · obtain ⟨t, x, hx⟩ := scales_cover (fun t x => (((cfgA m).win 4).blk t).view.emb x) (emb4 m) y
    exact ⟨t, flush4 m t, Finset.mem_map.2 ⟨x, Finset.mem_univ _, hx⟩⟩

theorem codes_arr : ((rdat m c).withAfter after).arrAt 5 (cfgA m).N = codesA m c (aX m c) (aS m c) := by
  refine Pipeline.Dat.arrAt_eq_of_cover ((rdat m c).withAfter after) 5 (codesA m c (aX m c) (aS m c)) (fun t ht => ?_) fun y => ?_
  · obtain ⟨Y, -, h7⟩ := hL 5 t ht
    have e : (after 5 t : S2x16x64x128.Idx → BitVec 8) = blkC m c (aX m c) (aS m c) (grid0.coords t) := res7 m c _ _ h7
    have e2 : ∀ x : S2x16x64x128.Idx, (after 5 t : S2x16x64x128.Idx → BitVec 8) x = codesA m c (aX m c) (aS m c) ((((cfgA m).win 5).blk t).view.emb x) :=
      fun x => (congrFun e x).trans (codes_emb m c (aX m c) (aS m c) t _ (emb5 m t) x)
    exact funext e2
  · obtain ⟨t, x, hx⟩ := codes_cover (fun t x => (((cfgA m).win 5).blk t).view.emb x) (emb5 m) y
    exact ⟨t, flush5 m t, Finset.mem_map.2 ⟨x, Finset.mem_univ _, hx⟩⟩

theorem scales_arr : ((rdat m c).withAfter after).arrAt 6 (cfgA m).N = scalesA m c (aX m c) (aS m c) := by
  refine Pipeline.Dat.arrAt_eq_of_cover ((rdat m c).withAfter after) 6 (scalesA m c (aX m c) (aS m c)) (fun t ht => ?_) fun y => ?_
  · obtain ⟨Y, -, h7⟩ := hL 6 t ht
    have e : (after 6 t : S2x16x4x128.Idx → EReal) = blkS m c (aX m c) (aS m c) (grid0.coords t) := res8 m c _ _ h7
    have e2 : ∀ x : S2x16x4x128.Idx, (after 6 t : S2x16x4x128.Idx → EReal) x = scalesA m c (aX m c) (aS m c) ((((cfgA m).win 6).blk t).view.emb x) :=
      fun x => (congrFun e x).trans (scales_emb m c (aX m c) (aS m c) t _ (emb6 m t) x)
    exact funext e2
  · obtain ⟨t, x, hx⟩ := scales_cover (fun t x => (((cfgA m).win 6).blk t).view.emb x) (emb6 m) y
    exact ⟨t, flush6 m t, Finset.mem_map.2 ⟨x, Finset.mem_univ _, hx⟩⟩

end

end Cert.KernelIdeal.Hand

end
-- ==== Proof.RefStages.lean ====
module

public import proofs.«01_k».proof.Proof.Gen.ReferenceIdeal.Run
public import proofs.«01_k».proof.Proof.Src
public import Idealize.ShloMosaic.Lib.IdealHost
public import Idealize.ShloMosaic.Lib.ValueIdx
public import Idealize.ShloMosaic.Lib.KernelVsHost
public import Idealize.ShloMosaic.Lib.Pipeline.Value

@[expose] public section

set_option maxRecDepth 16384
set_option maxHeartbeats 1000000

noncomputable section

namespace Cert.ReferenceIdeal.Hand

open Cert.ReferenceIdeal Cert.ReferenceIdeal.Gen Cert.Val
open Idealize.ShloMosaic Idealize.ShloMosaic.TcCoe Idealize.ShloMosaic.ValueIdx
open Idealize.SL Idealize.SL.Sem

/-! # The reference's stages -/

section
variable {F : FTy → Type} [FloatOps F]

/-- v widened. -/
def rWide (v : FVec F S2x896x80x128 .bf16) : FVec F S2x896x80x128 .f32 := extf .f32 v bitsLt_bf16_f32

/-- The rotary angles. -/
def rAng (ps : IVec S2x896 32) : FVec F S2x896x64 .f32 :=
  mulf (broadcastInDim S2x896x64 ![0, 1, 2] bcast_S2x896x1_S2x896x64_0_1_2 (broadcastInDim S2x896x1 ![0, 1] bcast_S2x896_S2x896x1_0_1 (sitofp .f32 (addi (broadcastInDim S2x896 ![0, 1] bcast_S2x1_S2x896_0_1 (extractStridedSlice S2x1 ![0, 0] ps slices_S2x896_S2x1_0_0)) (broadcastInDim S2x896 ![0, 1] bcast_S1x896_S2x896_0_1 (broadcastInDim S1x896 ![1] bcast_S896_S1x896_1 (iotaInDim S896 32 0))))))) (broadcastInDim S2x896x64 ![0, 1, 2] bcast_S1x1x64_S2x896x64_0_1_2 (broadcastInDim S1x1x64 ![2] bcast_S64_S1x1x64_2 (Host.powf (broadcastInDim S64 ![] bcast_S_S64 (constant S_ .f32 0x461C4000#32)) (Host.divf (Host.negf (mulf (broadcastInDim S64 ![] bcast_S_S64 (constant S_ .f32 0x40000000#32)) (sitofp .f32 (iotaInDim S64 32 0)))) (broadcastInDim S64 ![] bcast_S_S64 (constant S_ .f32 0x43000000#32))))))

/-- An angle's value for every head. -/
def rHeads (a : FVec F S2x896x64 .f32) : FVec F S2x896x80x64 .f32 :=
  broadcastInDim S2x896x80x64 ![0, 1, 2, 3] bcast_S2x896x1x64_S2x896x80x64_0_1_2_3 (broadcastInDim S2x896x1x64 ![0, 1, 3] bcast_S2x896x64_S2x896x1x64_0_1_3 a)
def rLo (k : FVec F S2x896x80x128 .bf16) : FVec F S2x896x80x64 .f32 := extractStridedSlice S2x896x80x64 ![0, 0, 0, 0] (rWide k) slices_S2x896x80x128_S2x896x80x64_0_0_0_0
def rHi (k : FVec F S2x896x80x128 .bf16) : FVec F S2x896x80x64 .f32 := extractStridedSlice S2x896x80x64 ![0, 0, 0, 64] (rWide k) slices_S2x896x80x128_S2x896x80x64_0_0_0_64

/-- k turned to its positions. -/
def rTurn (k : FVec F S2x896x80x128 .bf16) (ps : IVec S2x896 32) : FVec F S2x896x80x128 .f32 :=
  concatenate S2x896x80x128 3 [⟨S2x896x80x64, (subf (mulf (rLo k) (rHeads (Host.cos (rAng ps)))) (mulf (rHi k) (rHeads (Host.sin (rAng ps)))))⟩, ⟨S2x896x80x64, (addf (mulf (rHi k) (rHeads (Host.cos (rAng ps)))) (mulf (rLo k) (rHeads (Host.sin (rAng ps)))))⟩] concatenates_S2x896x80x64_S2x896x80x64_S2x896x80x128_d3

def rSigned (x : FVec F S2x896x80x128 .f32) (s : FVec F S80x128 .f32) : FVec F S2x896x80x128 .f32 :=
  mulf x (broadcastInDim S2x896x80x128 ![0, 1, 2, 3] bcast_S1x1x80x128_S2x896x80x128_0_1_2_3 (broadcastInDim S1x1x80x128 ![2, 3] bcast_S80x128_S1x1x80x128_2_3 s))

def rHad  : FVec F S128x128 .f32 :=
  sitofp .f32 (subi (broadcastInDim S128x128 ![] bcast_S_S128x128 (constantI S_ 32 1#32)) (muli (broadcastInDim S128x128 ![] bcast_S_S128x128 (constantI S_ 32 2#32)) (andi (ctpop (andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 1#32)))))

def rRot (x : FVec F S2x896x80x128 .f32) (s : FVec F S80x128 .f32) : FVec F S2x896x80x128 .f32 :=
  mulf (Host.dotGeneral dot_S2x896x80x128_S128x128_S2x896x80x128_3_0_012_1_n_n (some .fp32) (rSigned x s) (rHad (F := F))) (broadcastInDim S2x896x80x128 ![] bcast_S_S2x896x80x128 (constant S_ .f32 0x3DB504F3#32))

def r5 (x : FVec F S2x896x80x128 .f32) (s : FVec F S80x128 .f32) : FVec F S2x896x80x4x32 .f32 :=
  shapeCast _ (rRot x s) shapeCasts_S2x896x80x128_S2x896x80x4x32

def rMax (x : FVec F S2x896x80x128 .f32) (s : FVec F S80x128 .f32) : FVec F S2x896x80x4 .f32 :=
  Host.reduce FloatOps.maximumf (Host.absf (r5 x s)) (constant S_ .f32 0xFF800000#32) reducesTo_S2x896x80x4x32_S2x896x80x4_d4 h_S_

def wLast (sl : IVec S2x896 32) : IVec S_ 32 :=
  shapeCast _ (extractStridedSlice S1x1 ![0, 895] sl slices_S2x896_S1x1_0_895) shapeCasts_S1x1_S_

def pA (ps : IVec S2x896 32) : IVec S_ 32 :=
  shapeCast _ (extractStridedSlice S1x1 ![0, 0] ps slices_S2x896_S1x1_0_0) shapeCasts_S1x1_S_

def pB (ps : IVec S2x896 32) : IVec S_ 32 :=
  shapeCast _ (extractStridedSlice S1x1 ![1, 0] ps slices_S2x896_S1x1_1_0) shapeCasts_S1x1_S_

def rIdx (sl : IVec S2x896 32) (ps : IVec S2x896 32) : IVec S16x64x1 32 :=
  broadcastInDim S16x64x1 ![0, 1] bcast_S16x64_S16x64x1_0_1 (select (broadcastInDim S16x64 ![0, 1] bcast_S1x64_S16x64_0_1 (cmpi .slt (broadcastInDim S1x64 ![1] bcast_S64_S1x64_1 (iotaInDim S64 32 0)) (broadcastInDim S1x64 ![] bcast_S_S1x64 (constantI S_ 32 56#32)))) (addi (broadcastInDim S16x64 ![0, 1] bcast_S1x64_S16x64_0_1 (addi (broadcastInDim S1x64 ![] bcast_S_S1x64 (id (muli (select (cmpi .sge (wLast sl) (constantI S_ 32 0#32)) (constantI S_ 32 0#32) (constantI S_ 32 1#32)) (constantI S_ 32 896#32)))) (muli (broadcastInDim S1x64 ![1] bcast_S64_S1x64_1 (iotaInDim S64 32 0)) (broadcastInDim S1x64 ![] bcast_S_S1x64 (constantI S_ 32 16#32))))) (broadcastInDim S16x64 ![0, 1] bcast_S16x1_S16x64_0_1 (andi (subi (broadcastInDim S16x1 ![0] bcast_S16_S16x1_0 (iotaInDim S16 32 0)) (broadcastInDim S16x1 ![] bcast_S_S16x1 (select (cmpi .sge (wLast sl) (constantI S_ 32 0#32)) (pA ps) (pB ps)))) (broadcastInDim S16x1 ![] bcast_S_S16x1 (constantI S_ 32 15#32))))) (addi (broadcastInDim S16x64 ![0, 1] bcast_S1x64_S16x64_0_1 (addi (broadcastInDim S1x64 ![] bcast_S_S1x64 (id (muli (subi (constantI S_ 32 1#32) (select (cmpi .sge (wLast sl) (constantI S_ 32 0#32)) (constantI S_ 32 0#32) (constantI S_ 32 1#32))) (constantI S_ 32 896#32)))) (muli (subi (broadcastInDim S1x64 ![1] bcast_S64_S1x64_1 (iotaInDim S64 32 0)) (broadcastInDim S1x64 ![] bcast_S_S1x64 (constantI S_ 32 56#32))) (broadcastInDim S1x64 ![] bcast_S_S1x64 (constantI S_ 32 16#32))))) (broadcastInDim S16x64 ![0, 1] bcast_S16x1_S16x64_0_1 (andi (subi (broadcastInDim S16x1 ![0] bcast_S16_S16x1_0 (iotaInDim S16 32 0)) (broadcastInDim S16x1 ![] bcast_S_S16x1 (select (cmpi .sge (wLast sl) (constantI S_ 32 0#32)) (pB ps) (pA ps)))) (broadcastInDim S16x1 ![] bcast_S_S16x1 (constantI S_ 32 15#32))))))

def rScale (x : FVec F S2x896x80x128 .f32) (s : FVec F S80x128 .f32) : FVec F S2x896x80x4 .bf16 :=
  truncf .bf16 (select (cmpf .ogt (rMax x s) (broadcastInDim S2x896x80x4 ![] bcast_S_S2x896x80x4 (constant S_ .f32 0x00000000#32))) (Host.divf (rMax x s) (broadcastInDim S2x896x80x4 ![] bcast_S_S2x896x80x4 (constant S_ .f32 0x40E00000#32))) (broadcastInDim S2x896x80x4 ![] bcast_S_S2x896x80x4 (id (constant S_ .f32 0x3F800000#32)))) bitsLt_bf16_f32

def rCode (x : FVec F S2x896x80x128 .f32) (s : FVec F S80x128 .f32) : IVec S2x896x80x128 32 :=
  extsi 32 (shapeCast S2x896x80x128 (trunci 8 (fptosi 32 (minimumf (broadcastInDim S2x896x80x4x32 ![] bcast_S_S2x896x80x4x32 (sitofp .f32 (constantI S_ 32 7#32))) (maximumf (broadcastInDim S2x896x80x4x32 ![] bcast_S_S2x896x80x4x32 (sitofp .f32 (constantI S_ 32 4294967289#32))) (Host.roundeven (Host.divf (r5 x s) (broadcastInDim S2x896x80x4x32 ![0, 1, 2, 3, 4] bcast_S2x896x80x4x1_S2x896x80x4x32_0_1_2_3_4 (broadcastInDim S2x896x80x4x1 ![0, 1, 2, 3] bcast_S2x896x80x4_S2x896x80x4x1_0_1_2_3 (extf .f32 (rScale x s) bitsLt_bf16_f32)))))))) natLt_8_32) shapeCasts_S2x896x80x4x32_S2x896x80x128) natLt_8_32

def rByte (x : FVec F S2x896x80x128 .f32) (s : FVec F S80x128 .f32) : IVec S2x896x80x64 8 :=
  trunci 8 (ori (andi (Host.slice S2x896x80x64 ![0, 0, 0, 0] ![1, 1, 1, 2] (rCode x s) slicesBy_S2x896x80x128_S2x896x80x64_0s1_0s1_0s1_0s2) (broadcastInDim S2x896x80x64 ![] bcast_S_S2x896x80x64 (constantI S_ 32 15#32))) (Host.shli (andi (Host.slice S2x896x80x64 ![0, 0, 0, 1] ![1, 1, 1, 2] (rCode x s) slicesBy_S2x896x80x128_S2x896x80x64_0s1_0s1_0s1_1s2) (broadcastInDim S2x896x80x64 ![] bcast_S_S2x896x80x64 (constantI S_ 32 15#32))) (broadcastInDim S2x896x80x64 ![] bcast_S_S2x896x80x64 (constantI S_ 32 4#32)))) natLt_8_32

def rCodes (x : FVec F S2x896x80x128 .f32) (s : FVec F S80x128 .f32) (sl ps : IVec S2x896 32) : IVec S8x80x64x128 8 :=
  transpose S8x80x64x128 [0, 2, 3, 1] (shapeCast _ (Host.gather gather_S1792x80x64_S16x64x1_S16x64x80x64_23_0_n_n_0_2_18064 (shapeCast _ (rByte x s) shapeCasts_S2x896x80x64_S1792x80x64) (rIdx sl ps)) shapeCasts_S16x64x80x64_S8x128x80x64) transposes_S8x128x80x64_S8x80x64x128_0_2_3_1

def rScales (x : FVec F S2x896x80x128 .f32) (s : FVec F S80x128 .f32) (sl ps : IVec S2x896 32) : FVec F S8x80x4x128 .bf16 :=
  transpose S8x80x4x128 [0, 2, 3, 1] (shapeCast _ (Host.gather gather_S1792x80x4_S16x64x1_S16x64x80x4_23_0_n_n_0_2_1804 (shapeCast _ (rScale x s) shapeCasts_S2x896x80x4_S1792x80x4) (rIdx sl ps)) shapeCasts_S16x64x80x4_S8x128x80x4) transposes_S8x128x80x4_S8x80x4x128_0_2_3_1

end

section
variable {F : FTy → Type} [FloatOps F] (m : (ℓ : Loc nD τ sig) → Buf (Elt F) ℓ) (ρ : Dev nD → PrngReg)

def valK (c : Dev nD) : FVec F S2x896x80x128 .f32 := rTurn (m ((c.tc : Thread nD τ).loc main_arg0)) (m ((c.tc : Thread nD τ).loc main_arg5))
def valV (c : Dev nD) : FVec F S2x896x80x128 .f32 := rWide (m ((c.tc : Thread nD τ).loc main_arg1))

/-- The run's results in stages. -/
theorem run_stages : θ_run defs (onTc (τ := τ) (main (F := F))) ⟨m, fun _ => 0, ρ⟩ fun r => ∀ c : Dev nD,
      r.2.mem ((c.tc : Thread nD τ).loc main_v180) = rCodes (valK m c) (m ((c.tc : Thread nD τ).loc main_arg2)) (m ((c.tc : Thread nD τ).loc main_arg4)) (m ((c.tc : Thread nD τ).loc main_arg5))
      ∧ r.2.mem ((c.tc : Thread nD τ).loc main_v185) = rScales (valK m c) (m ((c.tc : Thread nD τ).loc main_arg2)) (m ((c.tc : Thread nD τ).loc main_arg4)) (m ((c.tc : Thread nD τ).loc main_arg5))
      ∧ r.2.mem ((c.tc : Thread nD τ).loc main_v190) = rCodes (valV m c) (m ((c.tc : Thread nD τ).loc main_arg3)) (m ((c.tc : Thread nD τ).loc main_arg4)) (m ((c.tc : Thread nD τ).loc main_arg5))
      ∧ r.2.mem ((c.tc : Thread nD τ).loc main_v195) = rScales (valV m c) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2.1.trans rfl, (h c).2.2.2.1.trans rfl, (h c).2.2.2.2⟩) (Value.run m ρ)
end

end Cert.ReferenceIdeal.Hand

end
-- ==== Proof.RefVal.lean ====
module

public import proofs.«01_k».proof.Proof.RefStages
public import Idealize.ShloMosaic.PureOps.Ideal.Laws

@[expose] public section

set_option maxRecDepth 16384
set_option maxHeartbeats 1000000

noncomputable section

namespace Cert.ReferenceIdeal.Hand

open Cert.ReferenceIdeal Cert.ReferenceIdeal.Gen Cert.Val
open Idealize.ShloMosaic Idealize.ShloMosaic.TcCoe Idealize.ShloMosaic.ValueIdx

/-! # The reference's stages at an index -/

theorem bcS {α : Type} {T : Shape} (h : S_.BroadcastsInDim T ![]) (x : S_.Idx → α) (j : T.Idx) : broadcastInDim T ![] h x j = x ix0 :=
  broadcastInDim_scalar_apply h x j

section
variable (x : FVec Ideal S2x896x80x128 .f32) (s : FVec Ideal S80x128 .f32) (sl ps : IVec S2x896 32)

/-! ## The rotation -/

theorem rSigned_apply (b : Fin 2) (p : Fin 896) (h : Fin 80) (κ : Fin 128) : rSigned x s (ix4 b p h κ) = x (ix4 b p h κ) * s (ix2 h κ) := by
  unfold rSigned
  rw [mulf_apply]
  refine congrArg (x (ix4 b p h κ) * ·) ?_
  refine (broadcastInDim_apply _ _ _ _ (ix4 0 0 h κ : S1x1x80x128.Idx) (fun a => ?_)).trans ?_
  · fin_cases a <;> rfl
  · exact broadcastInDim_apply _ _ _ _ (ix2 h κ : S80x128.Idx) (fun a => by fin_cases a <;> rfl)

theorem rHad_apply (i j : Fin 128) : rHad (F := Ideal) (ix2 i j) = had i j := by
  unfold rHad had
  rw [sitofp_apply]
  refine congrArg (fun w : BitVec 32 => (((w.toInt : ℝ)) : EReal)) ?_
  have e1 : broadcastInDim S128x128 ![0, 1] bcast_S128x1_S128x128_0_1 (broadcastInDim S128x1 ![0] bcast_S128_S128x1_0 (iotaInDim S128 32 0)) (ix2 i j) = BitVec.ofNat 32 i.val := by
    refine (broadcastInDim_apply _ _ _ _ (ix2 i 0 : S128x1.Idx) (fun a => by fin_cases a <;> rfl)).trans ?_
    exact (broadcastInDim_apply _ _ _ _ (ix1 i : S128.Idx) (fun a => by fin_cases a; rfl)).trans rfl
  have e2 : broadcastInDim S128x128 ![0, 1] bcast_S1x128_S128x128_0_1 (broadcastInDim S1x128 ![1] bcast_S128_S1x128_1 (iotaInDim S128 32 0)) (ix2 i j) = BitVec.ofNat 32 j.val := by
    refine (broadcastInDim_apply _ _ _ _ (ix2 0 j : S1x128.Idx) (fun a => by fin_cases a <;> rfl)).trans ?_
    exact (broadcastInDim_apply _ _ _ _ (ix1 j : S128.Idx) (fun a => by fin_cases a; rfl)).trans rfl
  show broadcastInDim S128x128 ![] bcast_S_S128x128 (constantI S_ 32 1#32) (ix2 i j) - broadcastInDim S128x128 ![] bcast_S_S128x128 (constantI S_ 32 2#32) (ix2 i j)
    * (IntOp.ctpop (broadcastInDim S128x128 ![0, 1] bcast_S128x1_S128x128_0_1 (broadcastInDim S128x1 ![0] bcast_S128_S128x1_0 (iotaInDim S128 32 0)) (ix2 i j)
        &&& broadcastInDim S128x128 ![0, 1] bcast_S1x128_S128x128_0_1 (broadcastInDim S1x128 ![1] bcast_S128_S1x128_1 (iotaInDim S128 32 0)) (ix2 i j))
      &&& broadcastInDim S128x128 ![] bcast_S_S128x128 (constantI S_ 32 1#32) (ix2 i j)) = _
  rw [e1, e2, bcS, bcS]
  rfl

theorem dot_rank : dot_S2x896x80x128_S128x128_S2x896x80x128_3_0_012_1_n_n.contr.rank = 1 := rfl
theorem dot_size : dot_S2x896x80x128_S128x128_S2x896x80x128_3_0_012_1_n_n.contr.size ⟨0, by rw [dot_rank]; exact Nat.one_pos⟩ = 128 := rfl

/-- A token's rotated row before the normalisation. -/
def rowX (b : Fin 2) (p : Fin 896) (h : Fin 80) : Fin 128 → EReal := fun c => ∑ κ, (x (ix4 b p h κ) * s (ix2 h κ)) * had c κ

theorem rRot_apply (b : Fin 2) (p : Fin 896) (h : Fin 80) (c : Fin 128) : rRot x s (ix4 b p h c) = rowX x s b p h c * nrm := by
  unfold rRot
  rw [mulf_apply, bcS]
  refine congrArg (· * nrm) ?_
  simp only [Host.dotGeneral]
  rw [Ideal.dotGeneral_apply, ← Equiv.sum_comp (contrEquiv1 dot_S2x896x80x128_S128x128_S2x896x80x128_3_0_012_1_n_n 128 dot_rank dot_size).symm]
  refine Finset.sum_congr rfl fun κ _ => ?_
  have hk := contrEquiv1_symm_val dot_S2x896x80x128_S128x128_S2x896x80x128_3_0_012_1_n_n 128 dot_rank dot_size κ
  have el : dot_S2x896x80x128_S128x128_S2x896x80x128_3_0_012_1_n_n.lhsIdx (ix4 b p h c) ((contrEquiv1 dot_S2x896x80x128_S128x128_S2x896x80x128_3_0_012_1_n_n 128 dot_rank dot_size).symm κ) = ix4 b p h κ := by
    funext a; apply Fin.ext
    match a with
    | ⟨0, _⟩ => rfl
    | ⟨1, _⟩ => rfl
    | ⟨2, _⟩ => rfl
    | ⟨3, _⟩ => exact hk
  have er : dot_S2x896x80x128_S128x128_S2x896x80x128_3_0_012_1_n_n.rhsIdx (ix4 b p h c) ((contrEquiv1 dot_S2x896x80x128_S128x128_S2x896x80x128_3_0_012_1_n_n 128 dot_rank dot_size).symm κ) = ix2 κ c := by
    funext a; apply Fin.ext
    match a with
    | ⟨0, _⟩ => exact hk
    | ⟨1, _⟩ => rfl
  rw [el, er, rSigned_apply, rHad_apply, had_comm κ c]

theorem r5_apply (b : Fin 2) (p : Fin 896) (h : Fin 80) (g : Fin 4) (j : Fin 32) :
    r5 x s (ix5 b p h g j) = rowX x s b p h ⟨32 * g.val + j.val, by omega⟩ * nrm := by
  unfold r5
  refine (shapeCast_apply (s := S2x896x80x128) (t := S2x896x80x4x32) _ _ _ (ix4 b p h ⟨32 * g.val + j.val, by omega⟩) ?_).trans (rRot_apply x s b p h _)
  rw [Shape.rowMajor_val_four, Shape.rowMajor_val_five]
  show ((b.val * 896 + p.val) * 80 + h.val) * 128 + (32 * g.val + j.val) = (((b.val * 896 + p.val) * 80 + h.val) * 4 + g.val) * 32 + j.val
  omega

/-! ## The scales -/

theorem red5 : S2x896x80x4x32.Reduces [4] S2x896x80x4 := by decide

theorem fold_sup (f : Fin 32 → EReal) : (Finset.univ : Finset (Fin 32)).fold max (⊥ : EReal) f = Finset.univ.sup f := rfl

theorem rMax_apply (b : Fin 2) (p : Fin 896) (h : Fin 80) (g : Fin 4) : rMax x s (ix4 b p h g) = mag (rowX x s b p h) g * nrm := by
  unfold rMax
  rw [hostReduce_maximumf_eq_multiReduction (Host.absf (r5 x s)) 0xFF800000#32 reducesTo_S2x896x80x4x32_S2x896x80x4_d4 h_S_ red5 (Or.inl rfl) rfl]
  refine (Ideal.multiReduction_maximumf_single (Host.absf (r5 x s)) 0xFF800000#32 red5 (Or.inl rfl) rfl (ix4 b p h g)).trans ?_
  rw [← mag_ref]
  refine Eq.trans ?_ (fold_sup _)
  have e0 : (FloatOps.ofBits .f32 0xFF800000#32 : Ideal .f32) = (⊥ : EReal) := bot_f32
  rw [e0]
  have e1 : ∀ j : Fin 32, Host.absf (r5 x s) (red5.lift (ix4 b p h g) j) = max (rowX x s b p h ⟨32 * g.val + j.val, by omega⟩ * nrm) (-(rowX x s b p h ⟨32 * g.val + j.val, by omega⟩ * nrm)) := by
    intro j
    have el : red5.lift (ix4 b p h g) j = ix5 b p h g j := by
      funext a; apply Fin.ext
      match a with
      | ⟨0, _⟩ => rfl
      | ⟨1, _⟩ => rfl
      | ⟨2, _⟩ => rfl
      | ⟨3, _⟩ => rfl
      | ⟨4, _⟩ => rfl
    rw [el, ← r5_apply]
    rfl
  exact congrArg ((Finset.univ : Finset (Fin 32)).fold max (⊥ : EReal)) (funext e1)

theorem rScale_apply (b : Fin 2) (p : Fin 896) (h : Fin 80) (g : Fin 4) : rScale x s (ix4 b p h g) = scaleS (rowX x s b p h) g := by
  unfold rScale
  rw [truncf_apply, select_apply, cmpf_apply, hostDivf_apply, bcS, bcS, bcS, rMax_apply]
  show Scalar.select (BitVec.ofBool (decide (Ideal.ofBits .f32 0x00000000#32 < mag (rowX x s b p h) g * nrm)))
    (Ideal.div (mag (rowX x s b p h) g * nrm) (Ideal.ofBits .f32 0x40E00000#32)) (Ideal.ofBits .f32 0x3F800000#32) = _
  rw [zero_f32, seven_f32, Ideal.ofBits_one_f32]
  unfold scaleS scaleOf
  by_cases hlt : 0 < mag (rowX x s b p h) g * nrm
  · rw [if_pos hlt, decide_eq_true hlt]; rfl
  · rw [if_neg hlt, decide_eq_false hlt]; rfl

/-! ## The codes -/

theorem sevI : (((7#32 : BitVec 32).toInt : ℝ) : EReal) = ((7 : ℝ) : EReal) := by
  rw [show (7#32 : BitVec 32).toInt = 7 by decide]; norm_num
theorem nsevI : (((4294967289#32 : BitVec 32).toInt : ℝ) : EReal) = ((-7 : ℝ) : EReal) := by
  rw [show (4294967289#32 : BitVec 32).toInt = -7 by decide]; norm_num

theorem round_ap {t : Shape} (y : FVec Ideal t .f32) (i : t.Idx) : Host.roundeven y i = rnd (y i) := rfl

theorem extsi_ap {t : Shape} {w v : ℕ} (y : IVec t w) (h : w < v) (i : t.Idx) : extsi v y h i = (y i).signExtend v := rfl
theorem trunci_ap {t : Shape} {w v : ℕ} (y : IVec t w) (h : v < w) (i : t.Idx) : trunci v y h i = (y i).setWidth v := rfl

/-- A code fits a signed byte. -/
theorem codeS_byte (r : Fin 128 → EReal) (c : Fin 128) : ((codeS r c).setWidth 8).signExtend 32 = codeS r c := by
  obtain ⟨z, h1, h2, e⟩ := fptosi_clip (r c * Ideal.div nrm (scaleS r ⟨c.val / 32, by omega⟩))
  unfold codeS
  rw [e]
  have hz : z = ((z + 7).toNat : ℤ) - 7 := by omega
  have hu : (z + 7).toNat < 15 := by omega
  rw [hz]
  exact (by decide : ∀ u : Fin 15, ((BitVec.ofInt 32 ((u.val : ℤ) - 7)).setWidth 8).signExtend 32 = BitVec.ofInt 32 ((u.val : ℤ) - 7)) ⟨_, hu⟩

theorem rCode_apply (b : Fin 2) (p : Fin 896) (h : Fin 80) (c : Fin 128) : rCode x s (ix4 b p h c) = codeS (rowX x s b p h) c := by
  unfold rCode
  refine Eq.trans ?_ (codeS_byte _ _)
  rw [extsi_ap]
  refine congrArg (BitVec.signExtend 32) ?_
  refine (shapeCast_apply (s := S2x896x80x4x32) (t := S2x896x80x128) _ _ _ (ix5 b p h ⟨c.val / 32, by omega⟩ ⟨c.val % 32, Nat.mod_lt _ (by decide)⟩) ?_).trans ?_
  · rw [Shape.rowMajor_val_four, Shape.rowMajor_val_five]
    show (((b.val * 896 + p.val) * 80 + h.val) * 4 + c.val / 32) * 32 + c.val % 32 = ((b.val * 896 + p.val) * 80 + h.val) * 128 + c.val
    omega
  have ed : broadcastInDim S2x896x80x4x32 ![0, 1, 2, 3, 4] bcast_S2x896x80x4x1_S2x896x80x4x32_0_1_2_3_4 (broadcastInDim S2x896x80x4x1 ![0, 1, 2, 3] bcast_S2x896x80x4_S2x896x80x4x1_0_1_2_3 (extf .f32 (rScale x s) bitsLt_bf16_f32))
      (ix5 b p h ⟨c.val / 32, by omega⟩ ⟨c.val % 32, Nat.mod_lt _ (by decide)⟩) = scaleS (rowX x s b p h) ⟨c.val / 32, by omega⟩ := by
    refine (broadcastInDim_apply _ _ _ _ (ix5 b p h ⟨c.val / 32, by omega⟩ 0 : S2x896x80x4x1.Idx) (fun a => by fin_cases a <;> rfl)).trans ?_
    refine (broadcastInDim_apply _ _ _ _ (ix4 b p h ⟨c.val / 32, by omega⟩ : S2x896x80x4.Idx) (fun a => by fin_cases a <;> rfl)).trans ?_
    rw [extf_apply, rScale_apply]
  have e5 : r5 x s (ix5 b p h ⟨c.val / 32, by omega⟩ ⟨c.val % 32, Nat.mod_lt _ (by decide)⟩) = rowX x s b p h c * nrm := by
    rw [r5_apply]
    refine congrArg (fun q => rowX x s b p h q * nrm) (Fin.ext ?_)
    show 32 * (c.val / 32) + c.val % 32 = c.val
    omega
  rw [trunci_ap]
  refine congrArg (BitVec.setWidth 8) ?_
  unfold codeS
  refine congrArg (Ideal.fptosi 32) ?_
  rw [← clip_eq, minimumf_apply, maximumf_apply, bcS, bcS, sitofp_apply, sitofp_apply]
  have er : Host.roundeven (Host.divf (r5 x s) (broadcastInDim S2x896x80x4x32 ![0, 1, 2, 3, 4] bcast_S2x896x80x4x1_S2x896x80x4x32_0_1_2_3_4 (broadcastInDim S2x896x80x4x1 ![0, 1, 2, 3] bcast_S2x896x80x4_S2x896x80x4x1_0_1_2_3 (extf .f32 (rScale x s) bitsLt_bf16_f32))))
      (ix5 b p h ⟨c.val / 32, by omega⟩ ⟨c.val % 32, Nat.mod_lt _ (by decide)⟩) = rnd (rowX x s b p h c * Ideal.div nrm (scaleS (rowX x s b p h) ⟨c.val / 32, by omega⟩)) := by
    rw [round_ap, hostDivf_apply, ed, e5]
    refine congrArg rnd ?_
    unfold scaleS
    exact div_ref _ _
  rw [er]
  have e7 : (FloatOps.sitofp .f32 (constantI S_ 32 7#32 ix0) : Ideal .f32) = ((7 : ℝ) : EReal) := sevI
  have en7 : (FloatOps.sitofp .f32 (constantI S_ 32 4294967289#32 ix0) : Ideal .f32) = ((-7 : ℝ) : EReal) := nsevI
  rw [e7, en7]

theorem rByte_apply (b : Fin 2) (p : Fin 896) (h : Fin 80) (q : Fin 64) : rByte x s (ix4 b p h q) = byteS (rowX x s b p h) q := by
  have e0 : Host.slice S2x896x80x64 ![0, 0, 0, 0] ![1, 1, 1, 2] (rCode x s) slicesBy_S2x896x80x128_S2x896x80x64_0s1_0s1_0s1_0s2 (ix4 b p h q) = codeS (rowX x s b p h) ⟨2 * q.val, by omega⟩ := by
    rw [← rCode_apply]
    refine congrArg (rCode x s) (funext fun a => Fin.ext ?_)
    match a with
    | ⟨0, _⟩ => show 0 + 1 * b.val = b.val; omega
    | ⟨1, _⟩ => show 0 + 1 * p.val = p.val; omega
    | ⟨2, _⟩ => show 0 + 1 * h.val = h.val; omega
    | ⟨3, _⟩ => show 0 + 2 * q.val = 2 * q.val; omega
  have e1 : Host.slice S2x896x80x64 ![0, 0, 0, 1] ![1, 1, 1, 2] (rCode x s) slicesBy_S2x896x80x128_S2x896x80x64_0s1_0s1_0s1_1s2 (ix4 b p h q) = codeS (rowX x s b p h) ⟨2 * q.val + 1, by omega⟩ := by
    rw [← rCode_apply]
    refine congrArg (rCode x s) (funext fun a => Fin.ext ?_)
    match a with
    | ⟨0, _⟩ => show 0 + 1 * b.val = b.val; omega
    | ⟨1, _⟩ => show 0 + 1 * p.val = p.val; omega
    | ⟨2, _⟩ => show 0 + 1 * h.val = h.val; omega
    | ⟨3, _⟩ => show 1 + 2 * q.val = 2 * q.val + 1; omega
  unfold rByte byteS pack
  refine congrArg (fun w : BitVec 32 => w.setWidth 8) ?_
  rw [← e0, ← e1]
  rfl

/-! ## The tokens' places -/

/-- The row of the flat array that page offset `o` and row `row` read, as the reference computes it. -/
def idxW (w p0 p1 : BitVec 32) (o row : BitVec 32) : BitVec 32 :=
  Scalar.select (IntOp.cmpi .slt row 56#32)
    ((lng w * 896#32 + row * 16#32) + ((o - Scalar.select (IntOp.cmpi .sge w 0#32) p0 p1) &&& 15#32))
    (((1#32 - lng w) * 896#32 + (row - 56#32) * 16#32) + ((o - Scalar.select (IntOp.cmpi .sge w 0#32) p1 p0) &&& 15#32))

theorem bcA {α : Type} (h) (y : S1x64.Idx → α) (o : Fin 16) (r : Fin 64) : broadcastInDim S16x64 ![0, 1] h y (ix2 o r) = y (ix2 0 r) :=
  broadcastInDim_apply _ _ _ _ _ (fun a => by fin_cases a <;> rfl)
theorem bcB {α : Type} (h) (y : S16x1.Idx → α) (o : Fin 16) (r : Fin 64) : broadcastInDim S16x64 ![0, 1] h y (ix2 o r) = y (ix2 o 0) :=
  broadcastInDim_apply _ _ _ _ _ (fun a => by fin_cases a <;> rfl)
theorem bcC {α : Type} (h) (y : S64.Idx → α) (u : Fin 1) (r : Fin 64) : broadcastInDim S1x64 ![1] h y (ix2 u r) = y (ix1 r) :=
  broadcastInDim_apply _ _ _ _ _ (fun a => by fin_cases a; rfl)
theorem bcD {α : Type} (h) (y : S16.Idx → α) (o : Fin 16) (u : Fin 1) : broadcastInDim S16x1 ![0] h y (ix2 o u) = y (ix1 o) :=
  broadcastInDim_apply _ _ _ _ _ (fun a => by fin_cases a; rfl)

theorem addi_ap {t : Shape} {w : ℕ} (y z : IVec t w) (i : t.Idx) : addi y z i = y i + z i := rfl
theorem subi_ap {t : Shape} {w : ℕ} (y z : IVec t w) (i : t.Idx) : subi y z i = y i - z i := rfl
theorem muli_ap {t : Shape} {w : ℕ} (y z : IVec t w) (i : t.Idx) : muli y z i = y i * z i := rfl
theorem andi_ap {t : Shape} {w : ℕ} (y z : IVec t w) (i : t.Idx) : andi y z i = y i &&& z i := rfl
theorem cmpi_ap {t : Shape} {w : ℕ} (q : CmpIPredicate) (y z : IVec t w) (i : t.Idx) : cmpi q y z i = IntOp.cmpi q (y i) (z i) := rfl
theorem constI_ap {t : Shape} {w : ℕ} (v : BitVec w) (i : t.Idx) : constantI t w v i = v := rfl

theorem wLast_apply : wLast sl ix0 = sl (ix2 0 895) := by
  unfold wLast
  refine (shapeCast_apply (s := S1x1) (t := S_) _ _ _ (ix2 0 0) (by decide)).trans ?_
  exact extractStridedSlice_apply _ _ _ _ _ (fun a => by fin_cases a <;> rfl)
theorem pA_apply : pA ps ix0 = ps (ix2 0 0) := by
  unfold pA
  refine (shapeCast_apply (s := S1x1) (t := S_) _ _ _ (ix2 0 0) (by decide)).trans ?_
  exact extractStridedSlice_apply _ _ _ _ _ (fun a => by fin_cases a <;> rfl)
theorem pB_apply : pB ps ix0 = ps (ix2 1 0) := by
  unfold pB
  refine (shapeCast_apply (s := S1x1) (t := S_) _ _ _ (ix2 0 0) (by decide)).trans ?_
  exact extractStridedSlice_apply _ _ _ _ _ (fun a => by fin_cases a <;> rfl)

theorem sel_congr {α : Type} {a a' : BitVec 1} {b b' c c' : α} (h : a = a') (h' : b = b') (h'' : c = c') : Scalar.select a b c = Scalar.select a' b' c' := by
  rw [h, h', h'']

theorem lng_ref : select (cmpi .sge (wLast sl) (constantI S_ 32 0#32)) (constantI S_ 32 0#32) (constantI S_ 32 1#32) ix0 = lng (sl (ix2 0 895)) :=
  congrArg (fun q => Scalar.select (IntOp.cmpi .sge q 0#32) 0#32 1#32) (wLast_apply sl)

theorem rIdx_apply (o : Fin 16) (r : Fin 64) (u : Fin 1) :
    rIdx sl ps (ix3 o r u) = idxW (sl (ix2 0 895)) (ps (ix2 0 0)) (ps (ix2 1 0)) (BitVec.ofNat 32 o.val) (BitVec.ofNat 32 r.val) := by
  unfold rIdx
  refine (broadcastInDim_apply _ _ _ _ (ix2 o r : S16x64.Idx) (fun a => by fin_cases a <;> rfl)).trans ?_
  have hL := lng_ref sl
  refine sel_congr ((bcA _ _ o r).trans ?_) (congrArg₂ (· + ·) ((bcA _ _ o r).trans ?_) ((bcB _ _ o r).trans ?_)) (congrArg₂ (· + ·) ((bcA _ _ o r).trans ?_) ((bcB _ _ o r).trans ?_))
  · exact congrArg₂ (IntOp.cmpi .slt) (bcC _ _ 0 r) (bcS _ _ _)
  · exact congrArg₂ (· + ·) ((bcS _ _ _).trans (congrArg (· * 896#32) hL)) (congrArg₂ (· * ·) (bcC _ _ 0 r) (bcS _ _ _))
  · exact congrArg₂ (· &&& ·) (congrArg₂ (· - ·) (bcD _ _ o 0) ((bcS _ _ _).trans (sel_congr (congrArg (fun q => IntOp.cmpi .sge q 0#32) (wLast_apply sl)) (pA_apply ps) (pB_apply ps)))) (bcS _ _ _)
  · exact congrArg₂ (· + ·) ((bcS _ _ _).trans (congrArg (fun q => (1#32 - q) * 896#32) hL)) (congrArg₂ (· * ·) (congrArg₂ (· - ·) (bcC _ _ 0 r) (bcS _ _ _)) (bcS _ _ _))
  · exact congrArg₂ (· &&& ·) (congrArg₂ (· - ·) (bcD _ _ o 0) ((bcS _ _ _).trans (sel_congr (congrArg (fun q => IntOp.cmpi .sge q 0#32) (wLast_apply sl)) (pB_apply ps) (pA_apply ps)))) (bcS _ _ _)

theorem slt56 : ∀ r : Fin 64, IntOp.cmpi .slt (BitVec.ofNat 32 r.val) 56#32 = BitVec.ofBool (decide (r.val < 56)) := by decide
theorem baseA : ∀ (b : Fin 2) (r : Fin 64), r.val < 56 → BitVec.ofNat 32 b.val * 896#32 + BitVec.ofNat 32 r.val * 16#32 = BitVec.ofNat 32 (896 * b.val + 16 * r.val) := by decide
theorem baseB : ∀ (b : Fin 2) (r : Fin 64), ¬ r.val < 56 → BitVec.ofNat 32 b.val * 896#32 + (BitVec.ofNat 32 r.val - 56#32) * 16#32 = BitVec.ofNat 32 (896 * b.val + 16 * (r.val - 56)) := by decide
theorem flat_val (A : ℕ) (hA : A < 1792) (z : BitVec 32) (hz : z.toNat < 16) : (BitVec.ofNat 32 A + z).toInt.toNat = A + z.toNat := by
  have h1 : (BitVec.ofNat 32 A + z).toNat = A + z.toNat := by
    rw [BitVec.toNat_add, BitVec.toNat_ofNat]; omega
  rw [BitVec.toInt_eq_toNat_of_lt (by rw [h1]; omega), h1]
  rfl

theorem idxW_val (w : BitVec 32) (p : Fin 2 → BitVec 32) (o : ℕ) (r : Fin 64) :
    (idxW w (p 0) (p 1) (BitVec.ofNat 32 o) (BitVec.ofNat 32 r.val)).toInt.toNat = 896 * srcB w r.val + srcP w p o r.val := by
  have hz : ∀ q : BitVec 32, ((BitVec.ofNat 32 o - q) &&& 15#32).toNat < 16 := fun q => inPage_lt o q
  have hl : (IntOp.cmpi .sge w 0#32 = 1#1 ∧ lng w = 0#32) ∨ (IntOp.cmpi .sge w 0#32 = 0#1 ∧ lng w = 1#32) := by
    have e : lng w = Scalar.select (IntOp.cmpi .sge w 0#32) 0#32 1#32 := rfl
    rcases (by decide : ∀ q : BitVec 1, q = 1#1 ∨ q = 0#1) (IntOp.cmpi .sge w 0#32) with h | h
    · exact Or.inl ⟨h, by rw [e, h]; rfl⟩
    · exact Or.inr ⟨h, by rw [e, h]; rfl⟩
  have ha := r.isLt
  unfold idxW srcP srcB ctxOf inPage
  rw [slt56]
  by_cases hr : r.val < 56
  · rw [decide_eq_true hr]
    simp only [if_pos hr]
    rcases hl with ⟨h, h'⟩ | ⟨h, h'⟩
    · rw [h, h']
      refine Eq.trans (b := (BitVec.ofNat 32 ((0 : Fin 2).val) * 896#32 + BitVec.ofNat 32 r.val * 16#32 + ((BitVec.ofNat 32 o - p 0) &&& 15#32)).toInt.toNat) rfl ?_
      rw [baseA 0 r hr, flat_val _ (by show 896 * 0 + 16 * r.val < 1792; omega) _ (hz _)]
      exact Nat.add_assoc _ _ _
    · rw [h, h']
      refine Eq.trans (b := (BitVec.ofNat 32 ((1 : Fin 2).val) * 896#32 + BitVec.ofNat 32 r.val * 16#32 + ((BitVec.ofNat 32 o - p 1) &&& 15#32)).toInt.toNat) rfl ?_
      rw [baseA 1 r hr, flat_val _ (by show 896 * 1 + 16 * r.val < 1792; omega) _ (hz _)]
      exact Nat.add_assoc _ _ _
  · rw [decide_eq_false hr]
    simp only [if_neg hr]
    rcases hl with ⟨h, h'⟩ | ⟨h, h'⟩
    · rw [h, h']
      refine Eq.trans (b := (BitVec.ofNat 32 ((1 : Fin 2).val) * 896#32 + (BitVec.ofNat 32 r.val - 56#32) * 16#32 + ((BitVec.ofNat 32 o - p 1) &&& 15#32)).toInt.toNat) rfl ?_
      rw [baseB 1 r hr, flat_val _ (by show 896 * 1 + 16 * (r.val - 56) < 1792; omega) _ (hz _)]
      exact Nat.add_assoc _ _ _
    · rw [h, h']
      refine Eq.trans (b := (BitVec.ofNat 32 ((0 : Fin 2).val) * 896#32 + (BitVec.ofNat 32 r.val - 56#32) * 16#32 + ((BitVec.ofNat 32 o - p 0) &&& 15#32)).toInt.toNat) rfl ?_
      rw [baseB 0 r hr, flat_val _ (by show 896 * 0 + 16 * (r.val - 56) < 1792; omega) _ (hz _)]
      exact Nat.add_assoc _ _ _

theorem gatherC_apply {α : Type} (y : S1792x80x64.Idx → α) (idx : IVec S16x64x1 32) (o : Fin 16) (r : Fin 64) (h : Fin 80) (q : Fin 64) (n : Fin 1792)
    (hn : (idx (ix3 o r 0)).toInt.toNat = n.val) :
    Host.gather gather_S1792x80x64_S16x64x1_S16x64x80x64_23_0_n_n_0_2_18064 y idx (ix4 o r h q) = y (ix3 n h q) := by
  unfold Host.gather
  refine congrArg y (funext fun a => Fin.ext ?_)
  match a with
  | ⟨0, _⟩ =>
    show min (idx (gather_S1792x80x64_S16x64x1_S16x64x80x64_23_0_n_n_0_2_18064.siIdx (ix4 o r h q) ⟨0, Nat.one_pos⟩)).toInt.toNat (1792 - 1) + 0 + 0 = n.val
    have e : gather_S1792x80x64_S16x64x1_S16x64x80x64_23_0_n_n_0_2_18064.siIdx (ix4 o r h q) ⟨0, Nat.one_pos⟩ = ix3 o r 0 := by
      funext b; apply Fin.ext
      match b with
      | ⟨0, _⟩ => rfl
      | ⟨1, _⟩ => rfl
      | ⟨2, _⟩ => rfl
    rw [e, hn]
    have := n.isLt
    omega
  | ⟨1, _⟩ => show 0 + 0 + h.val = h.val; omega
  | ⟨2, _⟩ => show 0 + 0 + q.val = q.val; omega
theorem gatherS_apply {α : Type} (y : S1792x80x4.Idx → α) (idx : IVec S16x64x1 32) (o : Fin 16) (r : Fin 64) (h : Fin 80) (q : Fin 4) (n : Fin 1792)
    (hn : (idx (ix3 o r 0)).toInt.toNat = n.val) :
    Host.gather gather_S1792x80x4_S16x64x1_S16x64x80x4_23_0_n_n_0_2_1804 y idx (ix4 o r h q) = y (ix3 n h q) := by
  unfold Host.gather
  refine congrArg y (funext fun a => Fin.ext ?_)
  match a with
  | ⟨0, _⟩ =>
    show min (idx (gather_S1792x80x4_S16x64x1_S16x64x80x4_23_0_n_n_0_2_1804.siIdx (ix4 o r h q) ⟨0, Nat.one_pos⟩)).toInt.toNat (1792 - 1) + 0 + 0 = n.val
    have e : gather_S1792x80x4_S16x64x1_S16x64x80x4_23_0_n_n_0_2_1804.siIdx (ix4 o r h q) ⟨0, Nat.one_pos⟩ = ix3 o r 0 := by
      funext b; apply Fin.ext
      match b with
      | ⟨0, _⟩ => rfl
      | ⟨1, _⟩ => rfl
      | ⟨2, _⟩ => rfl
    rw [e, hn]
    have := n.isLt
    omega
  | ⟨1, _⟩ => show 0 + 0 + h.val = h.val; omega
  | ⟨2, _⟩ => show 0 + 0 + q.val = q.val; omega

/-! ## The results -/

def xE (b : Fin 2) (p : Fin 896) (h : Fin 80) (κ : Fin 128) : EReal := x (ix4 b p h κ)
def sE (h : Fin 80) (κ : Fin 128) : EReal := s (ix2 h κ)
def wE : BitVec 32 := sl (ix2 0 895)
def pE (b : Fin 2) : BitVec 32 := ps (ix2 b 0)

theorem row_src (o : ℕ) (r : Fin 64) (h : Fin 80) :
    rowX x s ⟨srcB (wE sl) r.val, srcB_lt _ _⟩ ⟨srcP (wE sl) (pE ps) o r.val, srcP_lt _ _ _ _ r.isLt⟩ h = srcRow (xE x) (sE s) (wE sl) (pE ps) o r h := rfl

theorem flat_lt (o : ℕ) (r : Fin 64) : 896 * srcB (wE sl) r.val + srcP (wE sl) (pE ps) o r.val < 1792 := by
  have h1 := srcB_lt (wE sl) r.val
  have h2 := srcP_lt (wE sl) (pE ps) o r.val r.isLt
  omega

theorem rCodes_apply (P : Fin 8) (h : Fin 80) (b : Fin 64) (l : Fin 128) :
    rCodes x s sl ps (ix4 P h b l) = outCode (xE x) (sE s) (wE sl) (pE ps) P h b l := by
  unfold rCodes
  refine (transpose_apply (s := S8x128x80x64) (t := S8x80x64x128) _ _ _ _ (ix4 P l h b) (fun a => by fin_cases a <;> rfl)).trans ?_
  refine (shapeCast_apply (s := S16x64x80x64) (t := S8x128x80x64) _ _ _ (ix4 ⟨2 * P.val + l.val / 64, by omega⟩ ⟨l.val % 64, Nat.mod_lt _ (by decide)⟩ h b) ?_).trans ?_
  · rw [Shape.rowMajor_val_four, Shape.rowMajor_val_four]
    show (((2 * P.val + l.val / 64) * 64 + l.val % 64) * 80 + h.val) * 64 + b.val = ((P.val * 128 + l.val) * 80 + h.val) * 64 + b.val
    omega
  refine (gatherC_apply _ _ _ _ _ _ ⟨_, flat_lt sl ps (2 * P.val + l.val / 64) ⟨l.val % 64, Nat.mod_lt _ (by decide)⟩⟩ ?_).trans ?_
  · rw [rIdx_apply]
    exact idxW_val (wE sl) (pE ps) (2 * P.val + l.val / 64) ⟨l.val % 64, Nat.mod_lt _ (by decide)⟩
  refine (shapeCast_apply (s := S2x896x80x64) (t := S1792x80x64) _ _ _ (ix4 ⟨srcB (wE sl) (l.val % 64), srcB_lt _ _⟩
    ⟨srcP (wE sl) (pE ps) (2 * P.val + l.val / 64) (l.val % 64), srcP_lt _ _ _ _ (Nat.mod_lt _ (by decide))⟩ h b) ?_).trans ?_
  · rw [Shape.rowMajor_val_four, Shape.rowMajor_val_three]
    show ((srcB (wE sl) (l.val % 64) * 896 + srcP (wE sl) (pE ps) (2 * P.val + l.val / 64) (l.val % 64)) * 80 + h.val) * 64 + b.val
      = ((896 * srcB (wE sl) (l.val % 64) + srcP (wE sl) (pE ps) (2 * P.val + l.val / 64) (l.val % 64)) * 80 + h.val) * 64 + b.val
    rw [Nat.mul_comm 896]
  rw [rByte_apply]
  rfl

theorem rScales_apply (P : Fin 8) (h : Fin 80) (g : Fin 4) (l : Fin 128) :
    rScales x s sl ps (ix4 P h g l) = outScale (xE x) (sE s) (wE sl) (pE ps) P h g l := by
  unfold rScales
  refine (transpose_apply (s := S8x128x80x4) (t := S8x80x4x128) _ _ _ _ (ix4 P l h g) (fun a => by fin_cases a <;> rfl)).trans ?_
  refine (shapeCast_apply (s := S16x64x80x4) (t := S8x128x80x4) _ _ _ (ix4 ⟨2 * P.val + l.val / 64, by omega⟩ ⟨l.val % 64, Nat.mod_lt _ (by decide)⟩ h g) ?_).trans ?_
  · rw [Shape.rowMajor_val_four, Shape.rowMajor_val_four]
    show (((2 * P.val + l.val / 64) * 64 + l.val % 64) * 80 + h.val) * 4 + g.val = ((P.val * 128 + l.val) * 80 + h.val) * 4 + g.val
    omega
  refine (gatherS_apply _ _ _ _ _ _ ⟨_, flat_lt sl ps (2 * P.val + l.val / 64) ⟨l.val % 64, Nat.mod_lt _ (by decide)⟩⟩ ?_).trans ?_
  · rw [rIdx_apply]
    exact idxW_val (wE sl) (pE ps) (2 * P.val + l.val / 64) ⟨l.val % 64, Nat.mod_lt _ (by decide)⟩
  refine (shapeCast_apply (s := S2x896x80x4) (t := S1792x80x4) _ _ _ (ix4 ⟨srcB (wE sl) (l.val % 64), srcB_lt _ _⟩
    ⟨srcP (wE sl) (pE ps) (2 * P.val + l.val / 64) (l.val % 64), srcP_lt _ _ _ _ (Nat.mod_lt _ (by decide))⟩ h g) ?_).trans ?_
  · rw [Shape.rowMajor_val_four, Shape.rowMajor_val_three]
    show ((srcB (wE sl) (l.val % 64) * 896 + srcP (wE sl) (pE ps) (2 * P.val + l.val / 64) (l.val % 64)) * 80 + h.val) * 4 + g.val
      = ((896 * srcB (wE sl) (l.val % 64) + srcP (wE sl) (pE ps) (2 * P.val + l.val / 64) (l.val % 64)) * 80 + h.val) * 4 + g.val
    rw [Nat.mul_comm 896]
  rw [rScale_apply]
  rfl
end

/-! ## The rotary turn -/

section
variable (k : FVec Ideal S2x896x80x128 .bf16) (ps : IVec S2x896 32)

theorem rAng_apply (b : Fin 2) (p : Fin 896) (j : Fin 64) : rAng (F := Ideal) ps (ix3 b p j) = angE (ps (ix2 b 0) + BitVec.ofNat 32 p.val) j.val := by
  unfold rAng angE
  rw [mulf_apply]
  refine congrArg₂ (· * ·) ?_ ?_
  · refine (broadcastInDim_apply _ _ _ _ (ix3 b p 0 : S2x896x1.Idx) (fun a => by fin_cases a <;> rfl)).trans ?_
    refine (broadcastInDim_apply _ _ _ _ (ix2 b p : S2x896.Idx) (fun a => by fin_cases a <;> rfl)).trans ?_
    rw [sitofp_apply]
    refine congrArg (fun w : BitVec 32 => (((w.toInt : ℝ)) : EReal)) ?_
    refine congrArg₂ (fun a b : BitVec 32 => a + b) ?_ ?_
    · refine (broadcastInDim_apply _ _ _ _ (ix2 b 0 : S2x1.Idx) (fun a => by fin_cases a <;> rfl)).trans ?_
      refine congrArg ps (funext fun a => Fin.ext ?_)
      match a with
      | ⟨0, _⟩ => exact Nat.zero_add _
      | ⟨1, _⟩ => rfl
    · refine (broadcastInDim_apply _ _ _ _ (ix2 0 p : S1x896.Idx) (fun a => by fin_cases a <;> rfl)).trans ?_
      exact (broadcastInDim_apply _ _ _ _ (ix1 p : S896.Idx) (fun a => by fin_cases a; rfl)).trans rfl
  · refine (broadcastInDim_apply _ _ _ _ (ix3 0 0 j : S1x1x64.Idx) (fun a => by fin_cases a <;> rfl)).trans ?_
    refine (broadcastInDim_apply _ _ _ _ (ix1 j : S64.Idx) (fun a => by fin_cases a; rfl)).trans ?_
    rw [Nat.mod_eq_of_lt j.isLt]
    rfl

theorem rHeads_apply (a : FVec Ideal S2x896x64 .f32) (b : Fin 2) (p : Fin 896) (h : Fin 80) (j : Fin 64) : rHeads a (ix4 b p h j) = a (ix3 b p j) := by
  unfold rHeads
  refine (broadcastInDim_apply _ _ _ _ (ix4 b p 0 j : S2x896x1x64.Idx) (fun a => by fin_cases a <;> rfl)).trans ?_
  exact broadcastInDim_apply _ _ _ _ (ix3 b p j : S2x896x64.Idx) (fun a => by fin_cases a <;> rfl)

theorem rWide_apply (i : S2x896x80x128.Idx) : rWide k i = k i := rfl
theorem rLo_apply (b : Fin 2) (p : Fin 896) (h : Fin 80) (j : Fin 64) : rLo k (ix4 b p h j) = k (ix4 b p h ⟨j.val, by omega⟩) := by
  refine congrArg k (funext fun a => Fin.ext ?_)
  match a with
  | ⟨0, _⟩ => exact Nat.zero_add _
  | ⟨1, _⟩ => exact Nat.zero_add _
  | ⟨2, _⟩ => exact Nat.zero_add _
  | ⟨3, _⟩ => exact Nat.zero_add _
theorem rHi_apply (b : Fin 2) (p : Fin 896) (h : Fin 80) (j : Fin 64) : rHi k (ix4 b p h j) = k (ix4 b p h ⟨64 + j.val, by omega⟩) := by
  refine congrArg k (funext fun a => Fin.ext ?_)
  match a with
  | ⟨0, _⟩ => exact Nat.zero_add _
  | ⟨1, _⟩ => exact Nat.zero_add _
  | ⟨2, _⟩ => exact Nat.zero_add _
  | ⟨3, _⟩ => rfl

theorem hcos_apply {s : Shape} (x : FVec Ideal s .f32) (i : s.Idx) : Host.cos x i = Ideal.cos (x i) := rfl
theorem hsin_apply {s : Shape} (x : FVec Ideal s .f32) (i : s.Idx) : Host.sin x i = Ideal.sin (x i) := rfl

theorem halves_lo (v w : FVec Ideal S2x896x80x64 .f32) (b : Fin 2) (p : Fin 896) (h : Fin 80) (κ : Fin 128) (j : Fin 64) (e : κ.val = j.val) :
    concatenate S2x896x80x128 3 [⟨S2x896x80x64, v⟩, ⟨S2x896x80x64, w⟩] concatenates_S2x896x80x64_S2x896x80x64_S2x896x80x128_d3 (ix4 b p h κ) = v (ix4 b p h j) :=
  concatenate_pair_apply_left (t := S2x896x80x128) (s₁ := S2x896x80x64) (s₂ := S2x896x80x64) 3 v w _ _ rfl _
    (fun a => match a with | ⟨0, _⟩ => rfl | ⟨1, _⟩ => rfl | ⟨2, _⟩ => rfl | ⟨3, _⟩ => e.symm)
theorem halves_hi (v w : FVec Ideal S2x896x80x64 .f32) (b : Fin 2) (p : Fin 896) (h : Fin 80) (κ : Fin 128) (j : Fin 64) (e : κ.val = j.val + 64) :
    concatenate S2x896x80x128 3 [⟨S2x896x80x64, v⟩, ⟨S2x896x80x64, w⟩] concatenates_S2x896x80x64_S2x896x80x64_S2x896x80x128_d3 (ix4 b p h κ) = w (ix4 b p h j) :=
  concatenate_pair_apply_right (t := S2x896x80x128) (s₁ := S2x896x80x64) (s₂ := S2x896x80x64) 3 v w _ _ rfl rfl _
    (fun a ha => match a, ha with | ⟨0, _⟩, _ => rfl | ⟨1, _⟩, _ => rfl | ⟨2, _⟩, _ => rfl | ⟨3, _⟩, ha => absurd rfl ha) e.symm

theorem rTurn_apply (b : Fin 2) (p : Fin 896) (h : Fin 80) (κ : Fin 128) :
    rTurn k ps (ix4 b p h κ) = turn (ps (ix2 b 0) + BitVec.ofNat 32 p.val) (fun κ => k (ix4 b p h κ)) κ := by
  unfold rTurn
  by_cases hk : κ.val < 64
  · obtain ⟨j, hj⟩ : ∃ j : Fin 64, κ.val = j.val := ⟨⟨κ.val, hk⟩, rfl⟩
    have hl : j.val < 128 := Nat.lt_trans j.isLt (by decide)
    obtain rfl : κ = ⟨j.val, hl⟩ := Fin.ext hj
    rw [turn_lo]
    refine (halves_lo _ _ b p h _ j rfl).trans ?_
    rw [subf_apply, mulf_apply, mulf_apply, rHeads_apply, rHeads_apply, rLo_apply, rHi_apply, hcos_apply, hsin_apply, rAng_apply]
  · obtain ⟨j, hj⟩ : ∃ j : Fin 64, κ.val = 64 + j.val := ⟨⟨κ.val - 64, by omega⟩, by show κ.val = 64 + (κ.val - 64); omega⟩
    have hl : 64 + j.val < 128 := Nat.add_lt_add_left j.isLt 64
    obtain rfl : κ = ⟨64 + j.val, hl⟩ := Fin.ext hj
    rw [turn_hi]
    refine (halves_hi _ _ b p h _ j (Nat.add_comm _ _)).trans ?_
    rw [addf_apply, mulf_apply, mulf_apply, rHeads_apply, rHeads_apply, rLo_apply, rHi_apply, hcos_apply, hsin_apply, rAng_apply]
end

end Cert.ReferenceIdeal.Hand

end
-- ==== Proof.Agree.lean ====
module

public import proofs.«01_k».proof.Proof.Value
public import proofs.«01_k».proof.Proof.RefVal

@[expose] public section

set_option maxRecDepth 16384
set_option maxHeartbeats 1000000

noncomputable section

/-! # The two programs' results -/

namespace Cert.KernelIdeal.Hand

open Cert.KernelIdeal Cert.KernelIdeal.Gen Cert.Val
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem results_of {x : PUnit × MemSt nD τ sig (Elt Ideal)} (hx : Pipeline.RDat.FramePost (cfgA m) (rdat m) (V m) x) (c : Dev nD) :
    x.2.mem ((c.tc : Thread nD τ).loc main_v14_0) = codesA m c (aT m c) (aSk m c)
    ∧ x.2.mem ((c.tc : Thread nD τ).loc main_v14_1) = scalesA m c (aT m c) (aSk m c)
    ∧ x.2.mem ((c.tc : Thread nD τ).loc main_v14_2) = codesA m c (aX m c) (aS m c)
    ∧ x.2.mem ((c.tc : Thread nD τ).loc main_v14_3) = scalesA m c (aX m c) (aS m c) := by
  haveI : ∀ e, Nonempty (Elt Ideal e) := fun e => inferInstance
  obtain ⟨after, hL, hA⟩ := Pipeline.RDat.FramePost.exists_exact hx c
  exact ⟨(hA 3).trans (codesK_arr m c after hL), (hA 4).trans (scalesK_arr m c after hL), (hA 5).trans (codes_arr m c after hL), (hA 6).trans (scales_arr m c after hL)⟩

/-- The run ends with the codes and the scales of `codesA` and `scalesA`, of k turned and of v, and the arguments as they were. -/
theorem run_value : θ_run defs (onTc (τ := τ) (main (F := Ideal))) ⟨m, fun _ => 0, ρ⟩ (fun r => ∀ c : Dev nD,
      r.2.mem ((c.tc : Thread nD τ).loc main_v14_0) = codesA m c (aT m c) (aSk m c)
      ∧ r.2.mem ((c.tc : Thread nD τ).loc main_v14_1) = scalesA m c (aT m c) (aSk m c)
      ∧ r.2.mem ((c.tc : Thread nD τ).loc main_v14_2) = codesA m c (aX m c) (aS m c)
      ∧ r.2.mem ((c.tc : Thread nD τ).loc main_v14_3) = scalesA m c (aX m c) (aS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(results_of m h.1 c).1, (results_of m h.1 c).2.1, (results_of m h.1 c).2.2.1, (results_of m h.1 c).2.2.2,
      (rest_of m main_arg0 (by decide) h.1 c).trans (V_of_ne m c _ (by decide)),
      (rest_of m main_arg1 (by decide) h.1 c).trans (V_of_ne m c _ (by decide)),
      (Pipeline.RDat.FramePost.arr_in h.1 c 1 rfl).trans (V_of_ne m c main_arg2 (by decide)),
      (Pipeline.RDat.FramePost.arr_in h.1 c 2 rfl).trans (V_of_ne m c main_arg3 (by decide)),
      (rest_of m main_arg4 (by decide) h.1 c).trans (V_of_ne m c _ (by decide)),
      (rest_of m main_arg5 (by decide) h.1 c).trans (V_of_ne m c _ (by decide))⟩) (run_main m ρ)

end Cert.KernelIdeal.Hand

namespace Cert.Proof

open Cert.Val
open Idealize.ShloMosaic Idealize.ShloMosaic.TcCoe Idealize.ShloMosaic.ValueIdx
open Idealize.SL Idealize.SL.Sem

section
variable (m : (ℓ : Loc Cert.KernelIdeal.nD Cert.KernelIdeal.τ Cert.KernelIdeal.sig) → Buf (Elt Ideal) ℓ) (c : Dev Cert.KernelIdeal.nD)
  (x : FVec Ideal Cert.ReferenceIdeal.S2x896x80x128 .bf16) (s : FVec Ideal Cert.ReferenceIdeal.S80x128 .f32) (sl ps : IVec Cert.ReferenceIdeal.S2x896 32)
  (hsl : sl = m ((c.tc : Thread Cert.KernelIdeal.nD Cert.KernelIdeal.τ).loc Cert.KernelIdeal.main_arg4))
  (hps : ps = m ((c.tc : Thread Cert.KernelIdeal.nD Cert.KernelIdeal.τ).loc Cert.KernelIdeal.main_arg5))
include hsl hps

theorem codes_agree (hx : x = m ((c.tc : Thread Cert.KernelIdeal.nD Cert.KernelIdeal.τ).loc Cert.KernelIdeal.main_arg1))
    (hs : s = m ((c.tc : Thread Cert.KernelIdeal.nD Cert.KernelIdeal.τ).loc Cert.KernelIdeal.main_arg3)) :
    Cert.ReferenceIdeal.Hand.rCodes (Cert.ReferenceIdeal.Hand.rWide x) s sl ps = Cert.KernelIdeal.Hand.codesA m c (Cert.KernelIdeal.Hand.aX m c) (Cert.KernelIdeal.Hand.aS m c) := by
  subst hx hs hsl hps
  refine funext fun (y : Cert.ReferenceIdeal.S8x80x64x128.Idx) => ?_
  refine (congrArg (Cert.ReferenceIdeal.Hand.rCodes _ _ _ _) (eq_ix4 y)).trans ?_
  exact (Cert.ReferenceIdeal.Hand.rCodes_apply _ _ _ _ (y 0) (y 1) (y 2) (y 3)).trans rfl

theorem scales_agree (hx : x = m ((c.tc : Thread Cert.KernelIdeal.nD Cert.KernelIdeal.τ).loc Cert.KernelIdeal.main_arg1))
    (hs : s = m ((c.tc : Thread Cert.KernelIdeal.nD Cert.KernelIdeal.τ).loc Cert.KernelIdeal.main_arg3)) :
    Cert.ReferenceIdeal.Hand.rScales (Cert.ReferenceIdeal.Hand.rWide x) s sl ps = Cert.KernelIdeal.Hand.scalesA m c (Cert.KernelIdeal.Hand.aX m c) (Cert.KernelIdeal.Hand.aS m c) := by
  subst hx hs hsl hps
  refine funext fun (y : Cert.ReferenceIdeal.S8x80x4x128.Idx) => ?_
  refine (congrArg (Cert.ReferenceIdeal.Hand.rScales _ _ _ _) (eq_ix4 y)).trans ?_
  exact (Cert.ReferenceIdeal.Hand.rScales_apply _ _ _ _ (y 0) (y 1) (y 2) (y 3)).trans rfl

omit hsl hps in
theorem turned : Cert.ReferenceIdeal.Hand.xE (Cert.ReferenceIdeal.Hand.rTurn (m ((c.tc : Thread Cert.KernelIdeal.nD Cert.KernelIdeal.τ).loc Cert.KernelIdeal.main_arg0) : FVec Ideal Cert.ReferenceIdeal.S2x896x80x128 .bf16)
    (m ((c.tc : Thread Cert.KernelIdeal.nD Cert.KernelIdeal.τ).loc Cert.KernelIdeal.main_arg5) : IVec Cert.ReferenceIdeal.S2x896 32)) = Cert.KernelIdeal.Hand.aT m c :=
  funext fun b => funext fun p => funext fun h => funext fun κ => Cert.ReferenceIdeal.Hand.rTurn_apply _ _ b p h κ

theorem codesK_agree (hx : x = m ((c.tc : Thread Cert.KernelIdeal.nD Cert.KernelIdeal.τ).loc Cert.KernelIdeal.main_arg0))
    (hs : s = m ((c.tc : Thread Cert.KernelIdeal.nD Cert.KernelIdeal.τ).loc Cert.KernelIdeal.main_arg2)) :
    Cert.ReferenceIdeal.Hand.rCodes (Cert.ReferenceIdeal.Hand.rTurn x ps) s sl ps = Cert.KernelIdeal.Hand.codesA m c (Cert.KernelIdeal.Hand.aT m c) (Cert.KernelIdeal.Hand.aSk m c) := by
  subst hx hs hsl hps
  refine funext fun (y : Cert.ReferenceIdeal.S8x80x64x128.Idx) => ?_
  refine (congrArg (Cert.ReferenceIdeal.Hand.rCodes _ _ _ _) (eq_ix4 y)).trans ?_
  refine (Cert.ReferenceIdeal.Hand.rCodes_apply _ _ _ _ (y 0) (y 1) (y 2) (y 3)).trans ?_
  exact congrArg (fun X => outCode X (Cert.KernelIdeal.Hand.aSk m c) (Cert.KernelIdeal.Hand.aW m c) (Cert.KernelIdeal.Hand.aP m c) (y 0) (y 1) (y 2) (y 3)) (turned m c)

theorem scalesK_agree (hx : x = m ((c.tc : Thread Cert.KernelIdeal.nD Cert.KernelIdeal.τ).loc Cert.KernelIdeal.main_arg0))
    (hs : s = m ((c.tc : Thread Cert.KernelIdeal.nD Cert.KernelIdeal.τ).loc Cert.KernelIdeal.main_arg2)) :
    Cert.ReferenceIdeal.Hand.rScales (Cert.ReferenceIdeal.Hand.rTurn x ps) s sl ps = Cert.KernelIdeal.Hand.scalesA m c (Cert.KernelIdeal.Hand.aT m c) (Cert.KernelIdeal.Hand.aSk m c) := by
  subst hx hs hsl hps
  refine funext fun (y : Cert.ReferenceIdeal.S8x80x4x128.Idx) => ?_
  refine (congrArg (Cert.ReferenceIdeal.Hand.rScales _ _ _ _) (eq_ix4 y)).trans ?_
  refine (Cert.ReferenceIdeal.Hand.rScales_apply _ _ _ _ (y 0) (y 1) (y 2) (y 3)).trans ?_
  exact congrArg (fun X => outScale X (Cert.KernelIdeal.Hand.aSk m c) (Cert.KernelIdeal.Hand.aW m c) (Cert.KernelIdeal.Hand.aP m c) (y 0) (y 1) (y 2) (y 3)) (turned m c)

end

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Frame
public import proofs.«01_k».proof.Proof.K.Frame
public import proofs.«01_k».proof.Proof.Agree
public import Idealize.ShloMosaic.Adequacy
public import Idealize.ShloMosaic.Init
public import Idealize.ShloMosaic.Lib.Bf16Pair

@[expose] public section

noncomputable section

namespace Cert.Proof

open Idealize.ShloMosaic Idealize.SL.Sem

/-- The reference declares no semaphore, so its counters are zero at the end as at the start. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2.2.2,
      Idealize.ShloMosaic.sem_eq_zero_of_no_sems (by decide) r.2⟩)
    (Cert.ReferenceIdeal.Value.run m ρ)

theorem preserves : Cert.preserves_Kernel_KernelIdeal :=
  ⟨IdealRules.bf16_pack.statement _, IdealRules.bf16_pair.statement _ _, IdealRules.bf16_pair.statement _ _, IdealRules.bf16_pack.statement _,
    IdealRules.bf16_pair.statement _ _, IdealRules.bf16_pack.statement _⟩

/-- The idealized kernel and the reference end with the same codes and the same scales, of k and of v. -/
theorem agree : Cert.algebraic_KernelIdeal_ReferenceIdeal (hKernelIdeal := Cert.KernelIdeal.Gen.facts) (hReferenceIdeal := Cert.ReferenceIdeal.Gen.facts) := by
  intro m g m' g' _ he
  refine ⟨fun c => Cert.KernelIdeal.Hand.codesA m c (Cert.KernelIdeal.Hand.aT m c) (Cert.KernelIdeal.Hand.aSk m c), fun c => Cert.KernelIdeal.Hand.scalesA m c (Cert.KernelIdeal.Hand.aT m c) (Cert.KernelIdeal.Hand.aSk m c),
    fun c => Cert.KernelIdeal.Hand.codesA m c (Cert.KernelIdeal.Hand.aX m c) (Cert.KernelIdeal.Hand.aS m c), fun c => Cert.KernelIdeal.Hand.scalesA m c (Cert.KernelIdeal.Hand.aX m c) (Cert.KernelIdeal.Hand.aS m c), Cert.KernelIdeal.Hand.run_value m g, ?_⟩
  refine (θ_run Cert.ReferenceIdeal.defs _ _).mono (fun r h c => ?_) (Cert.ReferenceIdeal.Hand.run_stages m' g')
  obtain ⟨e0, e1, e2, e3, e4, e5⟩ := he c
  exact ⟨(h c).1.trans (codesK_agree m c _ _ _ _ e4 e5 e0 e2), (h c).2.1.trans (scalesK_agree m c _ _ _ _ e4 e5 e0 e2),
    (h c).2.2.1.trans (codes_agree m c _ _ _ _ e4 e5 e1 e3), (h c).2.2.2.1.trans (scales_agree m c _ _ _ _ e4 e5 e1 e3), (h c).2.2.2.2⟩

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, frame_r, preserves, agree⟩

end Cert.Proof

end
